-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_position_tables [hPre_position_tables : Cert.Pre_position_tables.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_position_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).1 = (fun _ => 1#1)
    ∧ (Cert.Pre_position_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.1 = (fun _ => 1#1)
    ∧ (Cert.Pre_position_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.1 = (fun _ => 1#1)
    ∧ (Cert.Pre_position_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.1 = (fun _ => 1#1)
    ∧ (Cert.Pre_position_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.1 = (fun _ => 1#1)
    ∧ (Cert.Pre_position_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.2.1 = (fun _ => 1#1)
    ∧ (Cert.Pre_position_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.2.2.1 = (fun _ => 1#1)
    ∧ (Cert.Pre_position_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.2.2.2.1 = (fun _ => 1#1)
    ∧ (Cert.Pre_position_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_position_tables [hPre_position_tables : Cert.Pre_position_tables.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_position_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).1 = (fun _ => 1#1)
    ∧ (Cert.Pre_position_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.1 = (fun _ => 1#1)
    ∧ (Cert.Pre_position_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.1 = (fun _ => 1#1)
    ∧ (Cert.Pre_position_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.1 = (fun _ => 1#1)
    ∧ (Cert.Pre_position_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.1 = (fun _ => 1#1)
    ∧ (Cert.Pre_position_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.2.1 = (fun _ => 1#1)
    ∧ (Cert.Pre_position_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.2.2.1 = (fun _ => 1#1)
    ∧ (Cert.Pre_position_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.2.2.2.1 = (fun _ => 1#1)
    ∧ (Cert.Pre_position_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Kernel3Ideal_pre_position_tables [hKernel3Ideal : Cert.Kernel3Ideal.Facts] [hPre_position_tables : Cert.Pre_position_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_position_tables m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Reference3Ideal_pre_position_tables [hReference3Ideal : Cert.Reference3Ideal.Facts] [hPre_position_tables : Cert.Pre_position_tables.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_position_tables m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v298) = v0 c
          ∧ r.2.mem ((c.tc : Thread Cert.ReferenceIdeal.nD Cert.ReferenceIdeal.τ).loc Cert.ReferenceIdeal.main_v300) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_3)) (v2 : (c : Dev Cert.Kernel2Ideal.nD) → Buf (Elt Ideal) ((c.tc : Thread Cert.Kernel2Ideal.nD Cert.Kernel2Ideal.τ).loc Cert.Kernel2Ideal.main_v22_4)) (v3 : (c : Dev Cert.Kernel2Ideal.nD) → Buf (Elt Ideal) ((c.tc : Thread Cert.Kernel2Ideal.nD Cert.Kernel2Ideal.τ).loc Cert.Kernel2Ideal.main_v22_5)) (v4 : (c : Dev Cert.Kernel2Ideal.nD) → Buf (Elt Ideal) ((c.tc : Thread Cert.Kernel2Ideal.nD Cert.Kernel2Ideal.τ).loc Cert.Kernel2Ideal.main_v22_6)) (v5 : (c : Dev Cert.Kernel2Ideal.nD) → Buf (Elt Ideal) ((c.tc : Thread Cert.Kernel2Ideal.nD Cert.Kernel2Ideal.τ).loc Cert.Kernel2Ideal.main_v22_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_3) = v1 c
          ∧ r.2.mem ((c.tc : Thread Cert.Kernel2Ideal.nD Cert.Kernel2Ideal.τ).loc Cert.Kernel2Ideal.main_v22_4) = v2 c
          ∧ r.2.mem ((c.tc : Thread Cert.Kernel2Ideal.nD Cert.Kernel2Ideal.τ).loc Cert.Kernel2Ideal.main_v22_5) = v3 c
          ∧ r.2.mem ((c.tc : Thread Cert.Kernel2Ideal.nD Cert.Kernel2Ideal.τ).loc Cert.Kernel2Ideal.main_v22_6) = v4 c
          ∧ r.2.mem ((c.tc : Thread Cert.Kernel2Ideal.nD Cert.Kernel2Ideal.τ).loc Cert.Kernel2Ideal.main_v22_7) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_v83) = v1 c
          ∧ r.2.mem ((c.tc : Thread Cert.Reference2Ideal.nD Cert.Reference2Ideal.τ).loc Cert.Reference2Ideal.main_v84) = v2 c
          ∧ r.2.mem ((c.tc : Thread Cert.Reference2Ideal.nD Cert.Reference2Ideal.τ).loc Cert.Reference2Ideal.main_v85) = v3 c
          ∧ r.2.mem ((c.tc : Thread Cert.Reference2Ideal.nD Cert.Reference2Ideal.τ).loc Cert.Reference2Ideal.main_v86) = v4 c
          ∧ r.2.mem ((c.tc : Thread Cert.Reference2Ideal.nD Cert.Reference2Ideal.τ).loc Cert.Reference2Ideal.main_v87) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_position_tables [hKernel3Ideal : Cert.Kernel3Ideal.Facts] [hReference3Ideal : Cert.Reference3Ideal.Facts] [hPre_position_tables : Cert.Pre_position_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_position_tables m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_position_tables : Cert.Pre_position_tables.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_position_tables (hKernel3Ideal := hKernel3Ideal) (hPre_position_tables := hPre_position_tables)
    ∧ quiescent_Reference3Ideal (hReference3Ideal := hReference3Ideal)
    ∧ quiescent_Reference3Ideal_pre_position_tables (hReference3Ideal := hReference3Ideal) (hPre_position_tables := hPre_position_tables)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_position_tables (hKernel3Ideal := hKernel3Ideal) (hReference3Ideal := hReference3Ideal) (hPre_position_tables := hPre_position_tables)
-- ==== Pre_finite_scores.lean ====
abbrev S8x2048x512 : Shape := ⟨3, ![8, 2048, 512]⟩
abbrev S8x2048x128 : Shape := ⟨3, ![8, 2048, 128]⟩
abbrev S8x256x128 : Shape := ⟨3, ![8, 256, 128]⟩
abbrev S8 : Shape := ⟨1, ![8]⟩
abbrev S8x2048x256 : Shape := ⟨3, ![8, 2048, 256]⟩
abbrev S31x256 : Shape := ⟨2, ![31, 256]⟩
abbrev S256 : Shape := ⟨1, ![256]⟩
abbrev S_ : Shape := ⟨0, ![]⟩

class Facts : Prop where
  bitsLt_bf16_f32 : FTy.bits .bf16 < FTy.bits .f32
  bcast_S_S8x2048x512 : S_.BroadcastsInDim S8x2048x512 (![] : Fin 0 → Fin S8x2048x512.rank)
  bcast_S_S8x2048x128 : S_.BroadcastsInDim S8x2048x128 (![] : Fin 0 → Fin S8x2048x128.rank)
  bcast_S_S8x256x128 : S_.BroadcastsInDim S8x256x128 (![] : Fin 0 → Fin S8x256x128.rank)
  bcast_S_S8 : S_.BroadcastsInDim S8 (![] : Fin 0 → Fin S8.rank)

variable [Facts]

def fn {F : FTy → Type} [FloatOps F] (main_arg0 : FVec F S8x2048x512 .bf16) (main_arg1 : FVec F S8x2048x128 .bf16) (main_arg2 : FVec F S8x2048x128 .bf16) (main_arg3 : FVec F S8x256x128 .bf16) (main_arg4 : FVec F S8x256x128 .bf16) (main_arg5 : FVec F S8 .f32) (main_arg6 : FVec F S8x2048x512 .bf16) (main_arg7 : FVec F S8x2048x256 .bf16) (main_arg8 : FVec F S31x256 .f32) (main_arg9 : FVec F S256 .f32) (main_arg10 : FVec F S256 .f32) (main_arg11 : FVec F S256 .f32) : IVec S8x2048x512 1 × IVec S8x2048x128 1 × IVec S8x256x128 1 × IVec S8 1 :=
  let main_v0 : FVec F S8x2048x512 .f32 := (extf .f32 · bitsLt_bf16_f32) main_arg0
  let main_v1 : FVec F S8x2048x512 .f32 := Host.absf main_v0
  let main_cst : FVec F S_ .f32 := constant S_ .f32 0x7F800000#32
  let main_v2 : FVec F S8x2048x512 .f32 := broadcastInDim S8x2048x512 ![] bcast_S_S8x2048x512 main_cst
  let main_v3 : IVec S8x2048x512 1 := cmpf .olt main_v1 main_v2
  let main_v4 : FVec F S8x2048x128 .f32 := (extf .f32 · bitsLt_bf16_f32) main_arg1
  let main_v5 : FVec F S8x2048x128 .f32 := Host.absf main_v4
  let main_cst_0 : FVec F S_ .f32 := constant S_ .f32 0x7F800000#32
  let main_v6 : FVec F S8x2048x128 .f32 := broadcastInDim S8x2048x128 ![] bcast_S_S8x2048x128 main_cst_0
  let main_v7 : IVec S8x2048x128 1 := cmpf .olt main_v5 main_v6
  let main_v8 : FVec F S8x256x128 .f32 := (extf .f32 · bitsLt_bf16_f32) main_arg3
  let main_v9 : FVec F S8x256x128 .f32 := Host.absf main_v8
  let main_cst_1 : FVec F S_ .f32 := constant S_ .f32 0x7F800000#32
  let main_v10 : FVec F S8x256x128 .f32 := broadcastInDim S8x256x128 ![] bcast_S_S8x256x128 main_cst_1
  let main_v11 : IVec S8x256x128 1 := cmpf .olt main_v9 main_v10
  let main_v12 : FVec F S8 .f32 := Host.absf main_arg5
  let main_cst_2 : FVec F S_ .f32 := constant S_ .f32 0x7F800000#32
  let main_v13 : FVec F S8 .f32 := broadcastInDim S8 ![] bcast_S_S8 main_cst_2
  let main_v14 : IVec S8 1 := cmpf .olt main_v12 main_v13
  (main_v3, main_v7, main_v11, main_v14)
-- ==== Pre_position_tables.lean ====
abbrev S8x2048x1024 : Shape := ⟨3, ![8, 2048, 1024]⟩
abbrev S8x2048x512 : Shape := ⟨3, ![8, 2048, 512]⟩
abbrev S8x2048x256 : Shape := ⟨3, ![8, 2048, 256]⟩
abbrev S2048x2048 : Shape := ⟨2, ![2048, 2048]⟩
abbrev S256x256 : Shape := ⟨2, ![256, 256]⟩
abbrev S256 : Shape := ⟨1, ![256]⟩
abbrev S2x1024x1024 : Shape := ⟨3, ![2, 1024, 1024]⟩
abbrev S16x1x3072 : Shape := ⟨3, ![16, 1, 3072]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

class Facts : Prop where
  slicesBy_S2048x2048_S1024x1024_0s2_0s1 : S2048x2048.SlicesBy (![0, 0] : Fin 2 → Nat) ![2, 1] S1024x1024
  slicesBy_S2048x2048_S1024x1024_1s2_0s1 : S2048x2048.SlicesBy (![1, 0] : Fin 2 → Nat) ![2, 1] S1024x1024
  slices_S2048x2048_S1x1024_1_0 : S2048x2048.Slices ![1, 0] S1x1024
  bitsLt_bf16_f32 : FTy.bits .bf16 < FTy.bits .f32
  bcast_S_S8x2048x512 : S_.BroadcastsInDim S8x2048x512 (![] : Fin 0 → Fin S8x2048x512.rank)
  bcast_S_S2048x2048 : S_.BroadcastsInDim S2048x2048 (![] : Fin 0 → Fin S2048x2048.rank)
  slicesBy_S2048x2048_S1024x1024_0s2_1024s1 : S2048x2048.SlicesBy (![0, 1024] : Fin 2 → Nat) ![2, 1] S1024x1024
  slicesBy_S2048x2048_S1024x1024_1s2_1024s1 : S2048x2048.SlicesBy (![1, 1024] : Fin 2 → Nat) ![2, 1] S1024x1024
  bcast_S1x1024_S1024x1024_0_1 : S1x1024.BroadcastsInDim S1024x1024 (![0, 1] : Fin 2 → Fin S1024x1024.rank)

variable [Facts]

def fn_part1 {F : FTy → Type} [FloatOps F] (main_arg7 : FVec F S2048x2048 .f32) (main_v0 : FVec F S1024x1024 .f32) (main_v1 : FVec F S1024x1024 .f32) (main_v2 : FVec F S1024x1024 .f32) (main_v3 : FVec F S1024x1024 .f32) (main_v4 : FVec F S1x1024 .f32) (main_v5 : FVec F S1x1024 .f32) (main_v9 : IVec S8x2048x512 1) (main_v12 : IVec S2048x2048 1) (main_v15 : IVec S2048x2048 1) (main_v17 : IVec S1024x1024 1) (main_v19 : IVec S1024x1024 1) (main_v20 : FVec F S1024x1024 .f32) : IVec S8x2048x512 1 × IVec S2048x2048 1 × IVec S2048x2048 1 × IVec S1024x1024 1 × IVec S1024x1024 1 × IVec S1024x1024 1 × IVec S1024x1024 1 × IVec S1024x1024 1 × IVec S1024x1024 1 :=
  let main_v21 : FVec F S1024x1024 .f32 := Host.negf main_v1
  let main_v22 : IVec S1024x1024 1 := cmpf .oeq main_v20 main_v21
  let main_v23 : FVec F S1024x1024 .f32 := (Host.slice S1024x1024 ![1, 1024] ![2, 1] · slicesBy_S2048x2048_S1024x1024_1s2_1024s1) main_arg7
  let main_v24 : FVec F S1024x1024 .f32 := Host.negf main_v3
  let main_v25 : IVec S1024x1024 1 := cmpf .oeq main_v23 main_v24
  let main_v26 : FVec F S1024x1024 .f32 := broadcastInDim S1024x1024 ![0, 1] bcast_S1x1024_S1024x1024_0_1 main_v4
  let main_v27 : FVec F S1024x1024 .f32 := mulf main_v0 main_v26
  let main_v28 : FVec F S1024x1024 .f32 := broadcastInDim S1024x1024 ![0, 1] bcast_S1x1024_S1024x1024_0_1 main_v5
  let main_v29 : FVec F S1024x1024 .f32 := mulf main_v2 main_v28
  let main_v30 : FVec F S1024x1024 .f32 := subf main_v27 main_v29
  let main_v31 : IVec S1024x1024 1 := cmpf .oeq main_v1 main_v30
  let main_v32 : FVec F S1024x1024 .f32 := broadcastInDim S1024x1024 ![0, 1] bcast_S1x1024_S1024x1024_0_1 main_v4
  let main_v33 : FVec F S1024x1024 .f32 := mulf main_v2 main_v32
  let main_v34 : FVec F S1024x1024 .f32 := broadcastInDim S1024x1024 ![0, 1] bcast_S1x1024_S1024x1024_0_1 main_v5
  let main_v35 : FVec F S1024x1024 .f32 := mulf main_v0 main_v34
  let main_v36 : FVec F S1024x1024 .f32 := addf main_v33 main_v35
  let main_v37 : IVec S1024x1024 1 := cmpf .oeq main_v3 main_v36
  (main_v9, main_v12, main_v15, main_v17, main_v19, main_v22, main_v25, main_v31, main_v37)

def fn {F : FTy → Type} [FloatOps F] (main_arg0 : FVec F S8x2048x1024 .f32) (main_arg1 : FVec F S8x2048x512 .bf16) (main_arg2 : FVec F S8x2048x256 .bf16) (main_arg3 : FVec F S8x2048x256 .bf16) (main_arg4 : FVec F S8x2048x512 .bf16) (main_arg5 : FVec F S8x2048x256 .bf16) (main_arg6 : FVec F S2048x2048 .f32) (main_arg7 : FVec F S2048x2048 .f32) (main_arg8 : FVec F S256x256 .f32) (main_arg9 : FVec F S256 .f32) (main_arg10 : FVec F S2x1024x1024 .f32) (main_arg11 : FVec F S16x1x3072 .f32) (main_arg12 : FVec F S1024 .f32) : IVec S8x2048x512 1 × IVec S2048x2048 1 × IVec S2048x2048 1 × IVec S1024x1024 1 × IVec S1024x1024 1 × IVec S1024x1024 1 × IVec S1024x1024 1 × IVec S1024x1024 1 × IVec S1024x1024 1 :=
  let main_v0 : FVec F S1024x1024 .f32 := (Host.slice S1024x1024 ![0, 0] ![2, 1] · slicesBy_S2048x2048_S1024x1024_0s2_0s1) main_arg6
  let main_v1 : FVec F S1024x1024 .f32 := (Host.slice S1024x1024 ![1, 0] ![2, 1] · slicesBy_S2048x2048_S1024x1024_1s2_0s1) main_arg6
  let main_v2 : FVec F S1024x1024 .f32 := (Host.slice S1024x1024 ![0, 0] ![2, 1] · slicesBy_S2048x2048_S1024x1024_0s2_0s1) main_arg7
  let main_v3 : FVec F S1024x1024 .f32 := (Host.slice S1024x1024 ![1, 0] ![2, 1] · slicesBy_S2048x2048_S1024x1024_1s2_0s1) main_arg7
  let main_v4 : FVec F S1x1024 .f32 := (extractStridedSlice S1x1024 ![1, 0] · slices_S2048x2048_S1x1024_1_0) main_arg6
  let main_v5 : FVec F S1x1024 .f32 := (extractStridedSlice S1x1024 ![1, 0] · slices_S2048x2048_S1x1024_1_0) main_arg7
  let main_v6 : FVec F S8x2048x512 .f32 := (extf .f32 · bitsLt_bf16_f32) main_arg4
  let main_v7 : FVec F S8x2048x512 .f32 := Host.absf main_v6
  let main_cst : FVec F S_ .f32 := constant S_ .f32 0x7F800000#32
  let main_v8 : FVec F S8x2048x512 .f32 := broadcastInDim S8x2048x512 ![] bcast_S_S8x2048x512 main_cst
  let main_v9 : IVec S8x2048x512 1 := cmpf .olt main_v7 main_v8
  let main_v10 : FVec F S2048x2048 .f32 := Host.absf main_arg6
  let main_cst_0 : FVec F S_ .f32 := constant S_ .f32 0x7F800000#32
  let main_v11 : FVec F S2048x2048 .f32 := broadcastInDim S2048x2048 ![] bcast_S_S2048x2048 main_cst_0
  let main_v12 : IVec S2048x2048 1 := cmpf .olt main_v10 main_v11
  let main_v13 : FVec F S2048x2048 .f32 := Host.absf main_arg7
  let main_cst_1 : FVec F S_ .f32 := constant S_ .f32 0x7F800000#32
  let main_v14 : FVec F S2048x2048 .f32 := broadcastInDim S2048x2048 ![] bcast_S_S2048x2048 main_cst_1
  let main_v15 : IVec S2048x2048 1 := cmpf .olt main_v13 main_v14
  let main_v16 : FVec F S1024x1024 .f32 := (Host.slice S1024x1024 ![0, 1024] ![2, 1] · slicesBy_S2048x2048_S1024x1024_0s2_1024s1) main_arg6
  let main_v17 : IVec S1024x1024 1 := cmpf .oeq main_v16 main_v0
  let main_v18 : FVec F S1024x1024 .f32 := (Host.slice S1024x1024 ![0, 1024] ![2, 1] · slicesBy_S2048x2048_S1024x1024_0s2_1024s1) main_arg7
  let main_v19 : IVec S1024x1024 1 := cmpf .oeq main_v18 main_v2
  let main_v20 : FVec F S1024x1024 .f32 := (Host.slice S1024x1024 ![1, 1024] ![2, 1] · slicesBy_S2048x2048_S1024x1024_1s2_1024s1) main_arg6
  fn_part1 (F := F) main_arg7 main_v0 main_v1 main_v2 main_v3 main_v4 main_v5 main_v9 main_v12 main_v15 main_v17 main_v19 main_v20
-- ==== Kernel.lean ====
abbrev S8x2048x512 : Shape := ⟨3, ![8, 2048, 512]⟩
abbrev S8x2048x128 : Shape := ⟨3, ![8, 2048, 128]⟩
abbrev S8x256x128 : Shape := ⟨3, ![8, 256, 128]⟩
abbrev S8 : Shape := ⟨1, ![8]⟩
abbrev S8x2048x256 : Shape := ⟨3, ![8, 2048, 256]⟩
abbrev S31x256 : Shape := ⟨2, ![31, 256]⟩
abbrev S256 : Shape := ⟨1, ![256]⟩
abbrev S8x128x2048 : Shape := ⟨3, ![8, 128, 2048]⟩
abbrev S_ : Shape := ⟨0, ![]⟩
abbrev S8x64x2048 : Shape := ⟨3, ![8, 64, 2048]⟩
abbrev S8x512x2048 : Shape := ⟨3, ![8, 512, 2048]⟩
abbrev S8x2048x64 : Shape := ⟨3, ![8, 2048, 64]⟩
abbrev S1x2048x128 : Shape := ⟨3, ![1, 2048, 128]⟩
abbrev S1x128x2048 : Shape := ⟨3, ![1, 128, 2048]⟩
abbrev S1x64x2048 : Shape := ⟨3, ![1, 64, 2048]⟩
abbrev S1x512x2048 : Shape := ⟨3, ![1, 512, 2048]⟩
abbrev S8x256x64 : Shape := ⟨3, ![8, 256, 64]⟩
abbrev S8x256x512 : Shape := ⟨3, ![8, 256, 512]⟩
abbrev S1x256 : Shape := ⟨2, ![1, 256]⟩
abbrev S3x128x384 : Shape := ⟨3, ![3, 128, 384]⟩
abbrev S1x1024x512 : Shape := ⟨3, ![1, 1024, 512]⟩
abbrev S1x2048x512 : Shape := ⟨3, ![1, 2048, 512]⟩
abbrev S1x512x256 : Shape := ⟨3, ![1, 512, 256]⟩
abbrev S1x256x512 : Shape := ⟨3, ![1, 256, 512]⟩
abbrev S1x2048x256 : Shape := ⟨3, ![1, 2048, 256]⟩
abbrev S1x1024x256 : Shape := ⟨3, ![1, 1024, 256]⟩
abbrev S2080x256 : Shape := ⟨2, ![2080, 256]⟩
abbrev S16x256 : Shape := ⟨2, ![16, 256]⟩
abbrev S2048x256 : Shape := ⟨2, ![2048, 256]⟩
abbrev S1x128x384 : Shape := ⟨3, ![1, 128, 384]⟩
abbrev S128x384 : Shape := ⟨2, ![128, 384]⟩
abbrev S256x384 : Shape := ⟨2, ![256, 384]⟩
abbrev S1x384x128 : Shape := ⟨3, ![1, 384, 128]⟩
abbrev S384x128 : Shape := ⟨2, ![384, 128]⟩
abbrev S1x128x256 : Shape := ⟨3, ![1, 128, 256]⟩
abbrev S128x256 : Shape := ⟨2, ![128, 256]⟩
abbrev S1x256x128 : Shape := ⟨3, ![1, 256, 128]⟩
abbrev S256x128 : Shape := ⟨2, ![256, 128]⟩
abbrev S1x128x128 : Shape := ⟨3, ![1, 128, 128]⟩
abbrev S128x128 : Shape := ⟨2, ![128, 128]⟩
abbrev S1 : Shape := ⟨1, ![1]⟩
abbrev S128x1 : Shape := ⟨2, ![128, 1]⟩
abbrev S256x1 : Shape := ⟨2, ![256, 1]⟩
abbrev S256x256 : Shape := ⟨2, ![256, 256]⟩
abbrev S1x128 : Shape := ⟨2, ![1, 128]⟩
abbrev S136x128 : Shape := ⟨2, ![136, 128]⟩
abbrev S384x256 : Shape := ⟨2, ![384, 256]⟩
abbrev S128 : Shape := ⟨1, ![128]⟩

abbrev nBuf : Space → Nat
  | .hbm => 58
  | .vmem => 24
  | .smem => 1
  | _ => 0

abbrev bufTy : (tb : Table) → Fin (tcTables nBuf tb) → BufTy
  | .hbm, ⟨0, _⟩ => ⟨S8x2048x512, .bf16⟩
  | .hbm, ⟨1, _⟩ => ⟨S8x2048x128, .bf16⟩
  | .hbm, ⟨2, _⟩ => ⟨S8x2048x128, .bf16⟩
  | .hbm, ⟨3, _⟩ => ⟨S8x256x128, .bf16⟩
  | .hbm, ⟨4, _⟩ => ⟨S8x256x128, .bf16⟩
  | .hbm, ⟨5, _⟩ => ⟨S8, .f32⟩
  | .hbm, ⟨6, _⟩ => ⟨S8x2048x512, .bf16⟩
  | .hbm, ⟨7, _⟩ => ⟨S8x2048x256, .bf16⟩
  | .hbm, ⟨8, _⟩ => ⟨S31x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S8x128x2048, .bf16⟩
  | .hbm, ⟨13, _⟩ => ⟨S_, .bf16⟩
  | .hbm, ⟨14, _⟩ => ⟨S8x64x2048, .bf16⟩
  | .hbm, ⟨15, _⟩ => ⟨S8x64x2048, .bf16⟩
  | .hbm, ⟨16, _⟩ => ⟨S8x64x2048, .bf16⟩
  | .hbm, ⟨17, _⟩ => ⟨S8x512x2048, .bf16⟩
  | .hbm, ⟨18, _⟩ => ⟨S_, .bf16⟩
  | .hbm, ⟨19, _⟩ => ⟨S8x2048x64, .bf16⟩
  | .hbm, ⟨20, _⟩ => ⟨S8x2048x64, .bf16⟩
  | .hbm, ⟨21, _⟩ => ⟨S8x2048x64, .bf16⟩
  | .hbm, ⟨22, _⟩ => ⟨S8x2048x512, .bf16⟩
  | .hbm, ⟨23, _⟩ => ⟨S1x2048x128, .bf16⟩
  | .hbm, ⟨24, _⟩ => ⟨S1x128x2048, .bf16⟩
  | .hbm, ⟨25, _⟩ => ⟨S_, .bf16⟩
  | .hbm, ⟨26, _⟩ => ⟨S1x64x2048, .bf16⟩
  | .hbm, ⟨27, _⟩ => ⟨S1x64x2048, .bf16⟩
  | .hbm, ⟨28, _⟩ => ⟨S1x64x2048, .bf16⟩
  | .hbm, ⟨29, _⟩ => ⟨S1x512x2048, .bf16⟩
  | .hbm, ⟨30, _⟩ => ⟨S_, .bf16⟩
  | .hbm, ⟨31, _⟩ => ⟨S8x256x64, .bf16⟩
  | .hbm, ⟨32, _⟩ => ⟨S8x256x64, .bf16⟩
  | .hbm, ⟨33, _⟩ => ⟨S8x256x64, .bf16⟩
  | .hbm, ⟨34, _⟩ => ⟨S8x256x512, .bf16⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S3x128x384, .i32⟩
  | .hbm, ⟨39, _⟩ => ⟨S3x128x384, .i32⟩
  | .hbm, ⟨40, _⟩ => ⟨S3x128x384, .i32⟩
  | .hbm, ⟨41, _⟩ => ⟨S_, .i32⟩
  | .hbm, ⟨42, _⟩ => ⟨S3x128x384, .i32⟩
  | .hbm, ⟨43, _⟩ => ⟨S3x128x384, .i32⟩
  | .hbm, ⟨44, _⟩ => ⟨S3x128x384, .i32⟩
  | .hbm, ⟨45, _⟩ => ⟨S3x128x384, .i32⟩
  | .hbm, ⟨46, _⟩ => ⟨S3x128x384, .i32⟩
  | .hbm, ⟨47, _⟩ => ⟨S_, .i32⟩
  | .hbm, ⟨48, _⟩ => ⟨S3x128x384, .i32⟩
  | .hbm, ⟨49, _⟩ => ⟨S3x128x384, .i1⟩
  | .hbm, ⟨50, _⟩ => ⟨S_, .f32⟩
  | .hbm, ⟨51, _⟩ => ⟨S_, .f32⟩
  | .hbm, ⟨52, _⟩ => ⟨S3x128x384, .f32⟩
  | .hbm, ⟨53, _⟩ => ⟨S3x128x384, .f32⟩
  | .hbm, ⟨54, _⟩ => ⟨S3x128x384, .f32⟩
  | .hbm, ⟨55, _⟩ => ⟨S3x128x384, .f32⟩
  | .hbm, ⟨56, _⟩ => ⟨S8x2048x512, .bf16⟩
  | .hbm, ⟨57, _⟩ => ⟨S8x2048x256, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x256, .bf16⟩
  | .local _ .vmem, ⟨7, _⟩ => ⟨S1x512x256, .bf16⟩
  | .local _ .vmem, ⟨8, _⟩ => ⟨S1x256x512, .bf16⟩
  | .local _ .vmem, ⟨9, _⟩ => ⟨S1x256x512, .bf16⟩
  | .local _ .vmem, ⟨10, _⟩ => ⟨S3x128x384, .f32⟩
  | .local _ .vmem, ⟨11, _⟩ => ⟨S1x1024x512, .bf16⟩
  | .local _ .vmem, ⟨12, _⟩ => ⟨S1x1024x512, .bf16⟩
  | .local _ .vmem, ⟨13, _⟩ => ⟨S1x2048x256, .bf16⟩
  | .local _ .vmem, ⟨14, _⟩ => ⟨S1x2048x256, .bf16⟩
  | .local _ .vmem, ⟨15, _⟩ => ⟨S31x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x1024x512, .bf16⟩
  | .local _ .vmem, ⟨20, _⟩ => ⟨S1x1024x512, .bf16⟩
  | .local _ .vmem, ⟨21, _⟩ => ⟨S1x1024x256, .bf16⟩
  | .local _ .vmem, ⟨22, _⟩ => ⟨S1x1024x256, .bf16⟩
  | .local _ .vmem, ⟨23, _⟩ => ⟨S2080x256, .f32⟩
  | .local _ .smem, ⟨0, _⟩ => ⟨S8, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_cst_5 : Ref sig .tc := ⟨.hbm, 51, rfl⟩
abbrev main_call0_v0 : Ref sig .tc := ⟨.hbm, 52, rfl⟩
abbrev main_call0_v1 : Ref sig .tc := ⟨.hbm, 53, rfl⟩
abbrev main_v32 : Ref sig .tc := ⟨.hbm, 54, rfl⟩
abbrev main_v33 : Ref sig .tc := ⟨.hbm, 55, rfl⟩
abbrev main_v34_0 : Ref sig .tc := ⟨.hbm, 56, rfl⟩
abbrev main_v34_1 : Ref sig .tc := ⟨.hbm, 57, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let c1664_i32 : BitVec 32 := 1664#32
  let c0_i32_2 : BitVec 32 := 0#32
  let arg1 : BitVec 32 := BitVec.ofNat 32 (i 1).val
  let c8_i32 : BitVec 32 := 8#32
  let v3 : BitVec 32 := Scalar.muli arg1 c8_i32
  let c0_i32_1 : BitVec 32 := 0#32
  let v4 : BitVec 32 := Scalar.addi v3 c0_i32_1
  let c1_i32 : BitVec 32 := 1#32
  let v5 : BitVec 32 := Scalar.subi v4 c1_i32
  let c128_i32 : BitVec 32 := 128#32
  let v6 : BitVec 32 := Scalar.muli v5 c128_i32
  let v7 : BitVec 32 := Scalar.maxsi c0_i32_2 v6
  let v8 : BitVec 32 := Scalar.minsi c1664_i32 v7
  v8
def k0_off1 (i : grid0.Coords) (c0_i32_1 : BitVec 32) : Fin 3 → Nat :=
  let arg1 : BitVec 32 := BitVec.ofNat 32 (i 1).val
  let c8_i32 : BitVec 32 := 8#32
  let v3 : BitVec 32 := Scalar.muli arg1 c8_i32
  let v4 : BitVec 32 := Scalar.addi v3 c0_i32_1
  let c0_i32_3 : BitVec 32 := 0#32
  let v10 : BitVec 1 := Scalar.cmpi .eq v4 c0_i32_3
  let c0_i32_5 : BitVec 32 := 0#32
  let c15_i32 : BitVec 32 := 15#32
  let v11 : BitVec 1 := Scalar.cmpi .eq v4 c15_i32
  let c2_i32 : BitVec 32 := 2#32
  let c1_i32_4 : BitVec 32 := 1#32
  let v12 : BitVec 32 := Scalar.select v11 c2_i32 c1_i32_4
  let v13 : BitVec 32 := Scalar.select v10 c0_i32_5 v12
  let v14 : Index := Scalar.indexCast v13
  let c0 : Index := 0#32
  let c0_6 : Index := 0#32
  ![v14.toNat, 0, 0]
def k0_off2 (i : grid0.Coords) (c0_i32_1 : BitVec 32) : Fin 3 → Nat :=
  let c0_7 : Index := 0#32
  let c0_8 : Index := 0#32
  let c1664_i32 : BitVec 32 := 1664#32
  let c0_i32_2 : BitVec 32 := 0#32
  let arg1 : BitVec 32 := BitVec.ofNat 32 (i 1).val
  let c8_i32 : BitVec 32 := 8#32
  let v3 : BitVec 32 := Scalar.muli arg1 c8_i32
  let v4 : BitVec 32 := Scalar.addi v3 c0_i32_1
  let c1_i32 : BitVec 32 := 1#32
  let v5 : BitVec 32 := Scalar.subi v4 c1_i32
  let c128_i32 : BitVec 32 := 128#32
  let v6 : BitVec 32 := Scalar.muli v5 c128_i32
  let v7 : BitVec 32 := Scalar.maxsi c0_i32_2 v6
  let v8 : BitVec 32 := Scalar.minsi c1664_i32 v7
  let v9 : BitVec 32 := v8
  let v20 : Index := Scalar.indexCast v9
  ![0, 0, v20.toNat]
def k0_off3 (i : grid0.Coords) (c0_i32_1 : BitVec 32) : Fin 3 → Nat :=
  let c0_9 : Index := 0#32
  let c1664_i32 : BitVec 32 := 1664#32
  let c0_i32_2 : BitVec 32 := 0#32
  let arg1 : BitVec 32 := BitVec.ofNat 32 (i 1).val
  let c8_i32 : BitVec 32 := 8#32
  let v3 : BitVec 32 := Scalar.muli arg1 c8_i32
  let v4 : BitVec 32 := Scalar.addi v3 c0_i32_1
  let c1_i32 : BitVec 32 := 1#32
  let v5 : BitVec 32 := Scalar.subi v4 c1_i32
  let c128_i32 : BitVec 32 := 128#32
  let v6 : BitVec 32 := Scalar.muli v5 c128_i32
  let v7 : BitVec 32 := Scalar.maxsi c0_i32_2 v6
  let v8 : BitVec 32 := Scalar.minsi c1664_i32 v7
  let v9 : BitVec 32 := v8
  let v23 : Index := Scalar.indexCast v9
  let c0_10 : Index := 0#32
  ![0, v23.toNat, 0]
def k0_off4 (i : grid0.Coords) (c0_i32_1 : BitVec 32) : Fin 3 → Nat :=
  let c0_17 : Index := 0#32
  let c128 : Index := 128#32
  let c1664_i32 : BitVec 32 := 1664#32
  let c0_i32_2 : BitVec 32 := 0#32
  let arg1 : BitVec 32 := BitVec.ofNat 32 (i 1).val
  let c8_i32 : BitVec 32 := 8#32
  let v3 : BitVec 32 := Scalar.muli arg1 c8_i32
  let v4 : BitVec 32 := Scalar.addi v3 c0_i32_1
  let c1_i32 : BitVec 32 := 1#32
  let v5 : BitVec 32 := Scalar.subi v4 c1_i32
  let c128_i32 : BitVec 32 := 128#32
  let v6 : BitVec 32 := Scalar.muli v5 c128_i32
  let v7 : BitVec 32 := Scalar.maxsi c0_i32_2 v6
  let v8 : BitVec 32 := Scalar.minsi c1664_i32 v7
  let v9 : BitVec 32 := v8
  let v30 : Index := Scalar.indexCast v9
  ![0, 128, v30.toNat]
def k0_off5 (i : grid0.Coords) (c0_i32_1 : BitVec 32) : Fin 3 → Nat :=
  let c0_18 : Index := 0#32
  let c1664_i32 : BitVec 32 := 1664#32
  let c0_i32_2 : BitVec 32 := 0#32
  let arg1 : BitVec 32 := BitVec.ofNat 32 (i 1).val
  let c8_i32 : BitVec 32 := 8#32
  let v3 : BitVec 32 := Scalar.muli arg1 c8_i32
  let v4 : BitVec 32 := Scalar.addi v3 c0_i32_1
  let c1_i32 : BitVec 32 := 1#32
  let v5 : BitVec 32 := Scalar.subi v4 c1_i32
  let c128_i32 : BitVec 32 := 128#32
  let v6 : BitVec 32 := Scalar.muli v5 c128_i32
  let v7 : BitVec 32 := Scalar.maxsi c0_i32_2 v6
  let v8 : BitVec 32 := Scalar.minsi c1664_i32 v7
  let v9 : BitVec 32 := v8
  let v33 : Index := Scalar.indexCast v9
  let c128_19 : Index := 128#32
  ![0, v33.toNat, 128]
def k0_off6 (i : grid0.Coords) (c0_i32_1 : BitVec 32) : Fin 3 → Nat :=
  let c0_37 : Index := 0#32
  let c256 : Index := 256#32
  let c1664_i32 : BitVec 32 := 1664#32
  let c0_i32_2 : BitVec 32 := 0#32
  let arg1 : BitVec 32 := BitVec.ofNat 32 (i 1).val
  let c8_i32 : BitVec 32 := 8#32
  let v3 : BitVec 32 := Scalar.muli arg1 c8_i32
  let v4 : BitVec 32 := Scalar.addi v3 c0_i32_1
  let c1_i32 : BitVec 32 := 1#32
  let v5 : BitVec 32 := Scalar.subi v4 c1_i32
  let c128_i32 : BitVec 32 := 128#32
  let v6 : BitVec 32 := Scalar.muli v5 c128_i32
  let v7 : BitVec 32 := Scalar.maxsi c0_i32_2 v6
  let v8 : BitVec 32 := Scalar.minsi c1664_i32 v7
  let v9 : BitVec 32 := v8
  let v59 : Index := Scalar.indexCast v9
  ![0, 256, v59.toNat]
def k0_off7 (i : grid0.Coords) (c0_i32_1 : BitVec 32) : Fin 3 → Nat :=
  let c0_38 : Index := 0#32
  let c1664_i32 : BitVec 32 := 1664#32
  let c0_i32_2 : BitVec 32 := 0#32
  let arg1 : BitVec 32 := BitVec.ofNat 32 (i 1).val
  let c8_i32 : BitVec 32 := 8#32
  let v3 : BitVec 32 := Scalar.muli arg1 c8_i32
  let v4 : BitVec 32 := Scalar.addi v3 c0_i32_1
  let c1_i32 : BitVec 32 := 1#32
  let v5 : BitVec 32 := Scalar.subi v4 c1_i32
  let c128_i32 : BitVec 32 := 128#32
  let v6 : BitVec 32 := Scalar.muli v5 c128_i32
  let v7 : BitVec 32 := Scalar.maxsi c0_i32_2 v6
  let v8 : BitVec 32 := Scalar.minsi c1664_i32 v7
  let v9 : BitVec 32 := v8
  let v62 : Index := Scalar.indexCast v9
  let c256_39 : Index := 256#32
  ![0, v62.toNat, 256]
def k0_off8 (i : grid0.Coords) (c0_i32_1 : BitVec 32) : Fin 3 → Nat :=
  let c0_46 : Index := 0#32
  let c384 : Index := 384#32
  let c1664_i32 : BitVec 32 := 1664#32
  let c0_i32_2 : BitVec 32 := 0#32
  let arg1 : BitVec 32 := BitVec.ofNat 32 (i 1).val
  let c8_i32 : BitVec 32 := 8#32
  let v3 : BitVec 32 := Scalar.muli arg1 c8_i32
  let v4 : BitVec 32 := Scalar.addi v3 c0_i32_1
  let c1_i32 : BitVec 32 := 1#32
  let v5 : BitVec 32 := Scalar.subi v4 c1_i32
  let c128_i32 : BitVec 32 := 128#32
  let v6 : BitVec 32 := Scalar.muli v5 c128_i32
  let v7 : BitVec 32 := Scalar.maxsi c0_i32_2 v6
  let v8 : BitVec 32 := Scalar.minsi c1664_i32 v7
  let v9 : BitVec 32 := v8
  let v69 : Index := Scalar.indexCast v9
  ![0, 384, v69.toNat]
def k0_off9 (i : grid0.Coords) (c0_i32_1 : BitVec 32) : Fin 3 → Nat :=
  let c0_47 : Index := 0#32
  let c1664_i32 : BitVec 32 := 1664#32
  let c0_i32_2 : BitVec 32 := 0#32
  let arg1 : BitVec 32 := BitVec.ofNat 32 (i 1).val
  let c8_i32 : BitVec 32 := 8#32
  let v3 : BitVec 32 := Scalar.muli arg1 c8_i32
  let v4 : BitVec 32 := Scalar.addi v3 c0_i32_1
  let c1_i32 : BitVec 32 := 1#32
  let v5 : BitVec 32 := Scalar.subi v4 c1_i32
  let c128_i32 : BitVec 32 := 128#32
  let v6 : BitVec 32 := Scalar.muli v5 c128_i32
  let v7 : BitVec 32 := Scalar.maxsi c0_i32_2 v6
  let v8 : BitVec 32 := Scalar.minsi c1664_i32 v7
  let v9 : BitVec 32 := v8
  let v72 : Index := Scalar.indexCast v9
  let c384_48 : Index := 384#32
  ![0, v72.toNat, 384]
def k0_mult2 (i : grid0.Coords) : BitVec 32 :=
  let c1664_i32_70 : BitVec 32 := 1664#32
  let c0_i32_69 : BitVec 32 := 0#32
  let arg1 : BitVec 32 := BitVec.ofNat 32 (i 1).val
  let c8_i32_65 : BitVec 32 := 8#32
  let v98 : BitVec 32 := Scalar.muli arg1 c8_i32_65
  let c1_i32_66 : BitVec 32 := 1#32
  let v99 : BitVec 32 := Scalar.addi v98 c1_i32_66
  let c1_i32_67 : BitVec 32 := 1#32
  let v100 : BitVec 32 := Scalar.subi v99 c1_i32_67
  let c128_i32_68 : BitVec 32 := 128#32
  let v101 : BitVec 32 := Scalar.muli v100 c128_i32_68
  let v102 : BitVec 32 := Scalar.maxsi c0_i32_69 v101
  let v103 : BitVec 32 := Scalar.minsi c1664_i32_70 v102
  v103
def k0_mult3 (i : grid0.Coords) : BitVec 32 :=
  let c1664_i32_152 : BitVec 32 := 1664#32
  let c0_i32_151 : BitVec 32 := 0#32
  let arg1 : BitVec 32 := BitVec.ofNat 32 (i 1).val
  let c8_i32_147 : BitVec 32 := 8#32
  let v193 : BitVec 32 := Scalar.muli arg1 c8_i32_147
  let c2_i32_148 : BitVec 32 := 2#32
  let v194 : BitVec 32 := Scalar.addi v193 c2_i32_148
  let c1_i32_149 : BitVec 32 := 1#32
  let v195 : BitVec 32 := Scalar.subi v194 c1_i32_149
  let c128_i32_150 : BitVec 32 := 128#32
  let v196 : BitVec 32 := Scalar.muli v195 c128_i32_150
  let v197 : BitVec 32 := Scalar.maxsi c0_i32_151 v196
  let v198 : BitVec 32 := Scalar.minsi c1664_i32_152 v197
  v198
def k0_mult4 (i : grid0.Coords) : BitVec 32 :=
  let c1664_i32_233 : BitVec 32 := 1664#32
  let c0_i32_232 : BitVec 32 := 0#32
  let arg1 : BitVec 32 := BitVec.ofNat 32 (i 1).val
  let c8_i32_229 : BitVec 32 := 8#32
  let v288 : BitVec 32 := Scalar.muli arg1 c8_i32_229
  let c3_i32 : BitVec 32 := 3#32
  let v289 : BitVec 32 := Scalar.addi v288 c3_i32
  let c1_i32_230 : BitVec 32 := 1#32
  let v290 : BitVec 32 := Scalar.subi v289 c1_i32_230
  let c128_i32_231 : BitVec 32 := 128#32
  let v291 : BitVec 32 := Scalar.muli v290 c128_i32_231
  let v292 : BitVec 32 := Scalar.maxsi c0_i32_232 v291
  let v293 : BitVec 32 := Scalar.minsi c1664_i32_233 v292
  v293
def k0_mult5 (i : grid0.Coords) : BitVec 32 :=
  let c1664_i32_314 : BitVec 32 := 1664#32
  let c0_i32_313 : BitVec 32 := 0#32
  let arg1 : BitVec 32 := BitVec.ofNat 32 (i 1).val
  let c8_i32_310 : BitVec 32 := 8#32
  let v383 : BitVec 32 := Scalar.muli arg1 c8_i32_310
  let c4_i32 : BitVec 32 := 4#32
  let v384 : BitVec 32 := Scalar.addi v383 c4_i32
  let c1_i32_311 : BitVec 32 := 1#32
  let v385 : BitVec 32 := Scalar.subi v384 c1_i32_311
  let c128_i32_312 : BitVec 32 := 128#32
  let v386 : BitVec 32 := Scalar.muli v385 c128_i32_312
  let v387 : BitVec 32 := Scalar.maxsi c0_i32_313 v386
  let v388 : BitVec 32 := Scalar.minsi c1664_i32_314 v387
  v388
def k0_mult6 (i : grid0.Coords) : BitVec 32 :=
  let c1664_i32_394 : BitVec 32 := 1664#32
  let c0_i32_393 : BitVec 32 := 0#32
  let arg1 : BitVec 32 := BitVec.ofNat 32 (i 1).val
  let c8_i32_390 : BitVec 32 := 8#32
  let v478 : BitVec 32 := Scalar.muli arg1 c8_i32_390
  let c5_i32 : BitVec 32 := 5#32
  let v479 : BitVec 32 := Scalar.addi v478 c5_i32
  let c1_i32_391 : BitVec 32 := 1#32
  let v480 : BitVec 32 := Scalar.subi v479 c1_i32_391
  let c128_i32_392 : BitVec 32 := 128#32
  let v481 : BitVec 32 := Scalar.muli v480 c128_i32_392
  let v482 : BitVec 32 := Scalar.maxsi c0_i32_393 v481
  let v483 : BitVec 32 := Scalar.minsi c1664_i32_394 v482
  v483
def k0_mult7 (i : grid0.Coords) : BitVec 32 :=
  let c1664_i32_474 : BitVec 32 := 1664#32
  let c0_i32_473 : BitVec 32 := 0#32
  let arg1 : BitVec 32 := BitVec.ofNat 32 (i 1).val
  let c8_i32_470 : BitVec 32 := 8#32
  let v573 : BitVec 32 := Scalar.muli arg1 c8_i32_470
  let c6_i32 : BitVec 32 := 6#32
  let v574 : BitVec 32 := Scalar.addi v573 c6_i32
  let c1_i32_471 : BitVec 32 := 1#32
  let v575 : BitVec 32 := Scalar.subi v574 c1_i32_471
  let c128_i32_472 : BitVec 32 := 128#32
  let v576 : BitVec 32 := Scalar.muli v575 c128_i32_472
  let v577 : BitVec 32 := Scalar.maxsi c0_i32_473 v576
  let v578 : BitVec 32 := Scalar.minsi c1664_i32_474 v577
  v578
def k0_mult8 (i : grid0.Coords) : BitVec 32 :=
  let c1664_i32_554 : BitVec 32 := 1664#32
  let c0_i32_553 : BitVec 32 := 0#32
  let arg1 : BitVec 32 := BitVec.ofNat 32 (i 1).val
  let c8_i32_550 : BitVec 32 := 8#32
  let v668 : BitVec 32 := Scalar.muli arg1 c8_i32_550
  let c7_i32 : BitVec 32 := 7#32
  let v669 : BitVec 32 := Scalar.addi v668 c7_i32
  let c1_i32_551 : BitVec 32 := 1#32
  let v670 : BitVec 32 := Scalar.subi v669 c1_i32_551
  let c128_i32_552 : BitVec 32 := 128#32
  let v671 : BitVec 32 := Scalar.muli v670 c128_i32_552
  let v672 : BitVec 32 := Scalar.maxsi c0_i32_553 v671
  let v673 : BitVec 32 := Scalar.minsi c1664_i32_554 v672
  v673
def k0_mult9 (i : grid0.Coords) : BitVec 32 :=
  let arg1 : BitVec 32 := BitVec.ofNat 32 (i 1).val
  let c1024_i32 : BitVec 32 := 1024#32
  let v763 : BitVec 32 := Scalar.muli arg1 c1024_i32
  v763
def k0_off10 (i : grid0.Coords) (c0_i32_648 : BitVec 32) (c0_i32_652 : BitVec 32) : Fin 2 → Nat :=
  let arg1 : BitVec 32 := BitVec.ofNat 32 (i 1).val
  let c1024_i32 : BitVec 32 := 1024#32
  let v763 : BitVec 32 := Scalar.muli arg1 c1024_i32
  let v764 : BitVec 32 := v763
  let v805 : BitVec 32 := Scalar.addi v764 c0_i32_648
  let v808 : BitVec 32 := Scalar.addi v805 c0_i32_652
  let v809 : Index := Scalar.indexCast v808
  let c0_653 : Index := 0#32
  ![v809.toNat, 0]
def k0_off11 (i : grid0.Coords) (c0_i32_757 : BitVec 32) (c0_i32_761 : BitVec 32) : Fin 2 → Nat :=
  let arg1 : BitVec 32 := BitVec.ofNat 32 (i 1).val
  let c1024_i32 : BitVec 32 := 1024#32
  let v763 : BitVec 32 := Scalar.muli arg1 c1024_i32
  let v764 : BitVec 32 := v763
  let v1100 : BitVec 32 := Scalar.addi v764 c0_i32_757
  let v1103 : BitVec 32 := Scalar.addi v1100 c0_i32_761
  let v1104 : Index := Scalar.indexCast v1103
  let c128_762 : Index := 128#32
  ![v1104.toNat, 128]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S3x128x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S31x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x2048x512 : Shape := ⟨3, ![8, 2048, 512]⟩
abbrev S8x2048x128 : Shape := ⟨3, ![8, 2048, 128]⟩
abbrev S8x256x128 : Shape := ⟨3, ![8, 256, 128]⟩
abbrev S8 : Shape := ⟨1, ![8]⟩
abbrev S8x2048x256 : Shape := ⟨3, ![8, 2048, 256]⟩
abbrev S31x256 : Shape := ⟨2, ![31, 256]⟩
abbrev S256 : Shape := ⟨1, ![256]⟩
abbrev S_ : Shape := ⟨0, ![]⟩
abbrev S8x2048x2x4x64 : Shape := ⟨5, ![8, 2048, 2, 4, 64]⟩
abbrev S8x2048x2x64 : Shape := ⟨4, ![8, 2048, 2, 64]⟩
abbrev S8x256x2x64 : Shape := ⟨4, ![8, 256, 2, 64]⟩
abbrev S8x2x2048x2048x4 : Shape := ⟨5, ![8, 2, 2048, 2048, 4]⟩
abbrev S8x2x4x2048x2048 : Shape := ⟨5, ![8, 2, 4, 2048, 2048]⟩
abbrev S2048x2048 : Shape := ⟨2, ![2048, 2048]⟩
abbrev S1x1x1x2048x2048 : Shape := ⟨5, ![1, 1, 1, 2048, 2048]⟩
abbrev S8x2x256x2048x4 : Shape := ⟨5, ![8, 2, 256, 2048, 4]⟩
abbrev S8x2x4x2048x256 : Shape := ⟨5, ![8, 2, 4, 2048, 256]⟩
abbrev S1x2x4x1x1 : Shape := ⟨5, ![1, 2, 4, 1, 1]⟩
abbrev S8x2x4x2048x1 : Shape := ⟨5, ![8, 2, 4, 2048, 1]⟩
abbrev S8x2x4x2048x2305 : Shape := ⟨5, ![8, 2, 4, 2048, 2305]⟩
abbrev S8x2x4x2048 : Shape := ⟨4, ![8, 2, 4, 2048]⟩
abbrev S8x2x64x4x2048 : Shape := ⟨5, ![8, 2, 64, 4, 2048]⟩
abbrev S8x2078x256 : Shape := ⟨3, ![8, 2078, 256]⟩
abbrev S1x256 : Shape := ⟨2, ![1, 256]⟩
abbrev S1x1x256 : Shape := ⟨3, ![1, 1, 256]⟩
abbrev S8x2048 : Shape := ⟨2, ![8, 2048]⟩
abbrev S8x2048x1 : Shape := ⟨3, ![8, 2048, 1]⟩

abbrev nBuf : Space → Nat
  | .hbm => 338
  | .vmem => 0
  | .smem => 0
  | _ => 0

abbrev hbmTy0_0 (i : Nat) : BufTy := match i % 128 with
  | 0 => ⟨S8x2048x512, .bf16⟩
  | 1 => ⟨S8x2048x128, .bf16⟩
  | 2 => ⟨S8x2048x128, .bf16⟩
  | 3 => ⟨S8x256x128, .bf16⟩
  | 4 => ⟨S8x256x128, .bf16⟩
  | 5 => ⟨S8, .f32⟩
  | 6 => ⟨S8x2048x512, .bf16⟩
  | 7 => ⟨S8x2048x256, .bf16⟩
  | 8 => ⟨S31x256, .f32⟩
  | 9 => ⟨S256, .f32⟩
  | 10 => ⟨S256, .f32⟩
  | 11 => ⟨S256, .f32⟩
  | 12 => ⟨S_, .f32⟩
  | 13 => ⟨S_, .f32⟩
  | 14 => ⟨S8x2048x512, .f32⟩
  | 15 => ⟨S8x2048x2x4x64, .f32⟩
  | 16 => ⟨S8x2048x128, .f32⟩
  | 17 => ⟨S8x2048x2x64, .f32⟩
  | 18 => ⟨S8x2048x128, .f32⟩
  | 19 => ⟨S8x2048x2x64, .f32⟩
  | 20 => ⟨S8x256x128, .f32⟩
  | 21 => ⟨S8x256x2x64, .f32⟩
  | 22 => ⟨S8x256x128, .f32⟩
  | 23 => ⟨S8x256x2x64, .f32⟩
  | 24 => ⟨S8x2x2048x2048x4, .f32⟩
  | 25 => ⟨S8x2x4x2048x2048, .f32⟩
  | 26 => ⟨S8x2x4x2048x2048, .f32⟩
  | 27 => ⟨S8x2x4x2048x2048, .f32⟩
  | 28 => ⟨S2048x2048, .i32⟩
  | 29 => ⟨S2048x2048, .i32⟩
  | 30 => ⟨S2048x2048, .i32⟩
  | 31 => ⟨S2048x2048, .i32⟩
  | 32 => ⟨S_, .i32⟩
  | 33 => ⟨S2048x2048, .i32⟩
  | 34 => ⟨S2048x2048, .i1⟩
  | 35 => ⟨S1x1x1x2048x2048, .i1⟩
  | 36 => ⟨S_, .f32⟩
  | 37 => ⟨S_, .f32⟩
  | 38 => ⟨S8x2x4x2048x2048, .i1⟩
  | 39 => ⟨S8x2x4x2048x2048, .f32⟩
  | 40 => ⟨S8x2x4x2048x2048, .f32⟩
  | 41 => ⟨S8x2x256x2048x4, .f32⟩
  | 42 => ⟨S8x2x4x2048x256, .f32⟩
  | 43 => ⟨S8x2x4x2048x256, .f32⟩
  | 44 => ⟨S8x2x4x2048x256, .f32⟩
  | 45 => ⟨S1x2x4x1x1, .f32⟩
  | 46 => ⟨S8x2x4x2048x1, .f32⟩
  | 47 => ⟨S8x2x4x2048x2305, .f32⟩
  | 48 => ⟨S_, .f32⟩
  | 49 => ⟨S8x2x4x2048, .f32⟩
  | 50 => ⟨S_, .f32⟩
  | 51 => ⟨S8x2x4x2048, .f32⟩
  | 52 => ⟨S8x2x4x2048, .f32⟩
  | 53 => ⟨S8x2x4x2048x1, .f32⟩
  | 54 => ⟨S8x2x4x2048x2305, .f32⟩
  | 55 => ⟨S8x2x4x2048x2305, .f32⟩
  | 56 => ⟨S8x2x4x2048x2305, .f32⟩
  | 57 => ⟨S_, .f32⟩
  | 58 => ⟨S8x2x4x2048, .f32⟩
  | 59 => ⟨S8x2x4x2048x1, .f32⟩
  | 60 => ⟨S8x2x4x2048x2305, .f32⟩
  | 61 => ⟨S8x2x4x2048x2305, .f32⟩
  | 62 => ⟨S8x2x4x2048x2048, .f32⟩
  | 63 => ⟨S8x2x4x2048x256, .f32⟩
  | 64 => ⟨S8x2x64x4x2048, .f32⟩
  | 65 => ⟨S8x2048x2x4x64, .f32⟩
  | 66 => ⟨S8x2x64x4x2048, .f32⟩
  | 67 => ⟨S8x2048x2x4x64, .f32⟩
  | 68 => ⟨S8x2048x2x4x64, .f32⟩
  | 69 => ⟨S8x2048x512, .f32⟩
  | 70 => ⟨S8x2048x512, .f32⟩
  | 71 => ⟨S8x2048x512, .f32⟩
  | 72 => ⟨S8x2048x256, .f32⟩
  | 73 => ⟨S_, .i32⟩
  | 74 => ⟨S_, .f32⟩
  | 75 => ⟨S8x2078x256, .f32⟩
  | 76 => ⟨S8x2048x256, .f32⟩
  | 77 => ⟨S1x256, .f32⟩
  | 78 => ⟨S256, .f32⟩
  | 79 => ⟨S1x1x256, .f32⟩
  | 80 => ⟨S8x2048x256, .f32⟩
  | 81 => ⟨S8x2048x256, .f32⟩
  | 82 => ⟨S_, .f32⟩
  | 83 => ⟨S8x2048x256, .f32⟩
  | 84 => ⟨S8x2048x256, .f32⟩
  | 85 => ⟨S8x2048x256, .f32⟩
  | 86 => ⟨S1x256, .f32⟩
  | 87 => ⟨S256, .f32⟩
  | 88 => ⟨S1x1x256, .f32⟩
  | 89 => ⟨S8x2048x256, .f32⟩
  | 90 => ⟨S8x2048x256, .f32⟩
  | 91 => ⟨S8x2048x256, .f32⟩
  | 92 => ⟨S8x2048x256, .f32⟩
  | 93 => ⟨S1x256, .f32⟩
  | 94 => ⟨S256, .f32⟩
  | 95 => ⟨S1x1x256, .f32⟩
  | 96 => ⟨S8x2048x256, .f32⟩
  | 97 => ⟨S8x2048x256, .f32⟩
  | 98 => ⟨S8x2048x256, .f32⟩
  | 99 => ⟨S8x2048x256, .f32⟩
  | 100 => ⟨S1x256, .f32⟩
  | 101 => ⟨S256, .f32⟩
  | 102 => ⟨S1x1x256, .f32⟩
  | 103 => ⟨S8x2048x256, .f32⟩
  | 104 => ⟨S8x2048x256, .f32⟩
  | 105 => ⟨S8x2048x256, .f32⟩
  | 106 => ⟨S8x2048x256, .f32⟩
  | 107 => ⟨S1x256, .f32⟩
  | 108 => ⟨S256, .f32⟩
  | 109 => ⟨S1x1x256, .f32⟩
  | 110 => ⟨S8x2048x256, .f32⟩
  | 111 => ⟨S8x2048x256, .f32⟩
  | 112 => ⟨S8x2048x256, .f32⟩
  | 113 => ⟨S8x2048x256, .f32⟩
  | 114 => ⟨S1x256, .f32⟩
  | 115 => ⟨S256, .f32⟩
  | 116 => ⟨S1x1x256, .f32⟩
  | 117 => ⟨S8x2048x256, .f32⟩
  | 118 => ⟨S8x2048x256, .f32⟩
  | 119 => ⟨S8x2048x256, .f32⟩
  | 120 => ⟨S8x2048x256, .f32⟩
  | 121 => ⟨S1x256, .f32⟩
  | 122 => ⟨S256, .f32⟩
  | 123 => ⟨S1x1x256, .f32⟩
  | 124 => ⟨S8x2048x256, .f32⟩
  | 125 => ⟨S8x2048x256, .f32⟩
  | 126 => ⟨S8x2048x256, .f32⟩
  | 127 => ⟨S8x2048x256, .f32⟩
  | _ => ⟨S8x2048x512, .bf16⟩

abbrev hbmTy0_1 (i : Nat) : BufTy := match i % 128 with
  | 0 => ⟨S1x256, .f32⟩
  | 1 => ⟨S256, .f32⟩
  | 2 => ⟨S1x1x256, .f32⟩
  | 3 => ⟨S8x2048x256, .f32⟩
  | 4 => ⟨S8x2048x256, .f32⟩
  | 5 => ⟨S8x2048x256, .f32⟩
  | 6 => ⟨S8x2048x256, .f32⟩
  | 7 => ⟨S1x256, .f32⟩
  | 8 => ⟨S256, .f32⟩
  | 9 => ⟨S1x1x256, .f32⟩
  | 10 => ⟨S8x2048x256, .f32⟩
  | 11 => ⟨S8x2048x256, .f32⟩
  | 12 => ⟨S8x2048x256, .f32⟩
  | 13 => ⟨S8x2048x256, .f32⟩
  | 14 => ⟨S1x256, .f32⟩
  | 15 => ⟨S256, .f32⟩
  | 16 => ⟨S1x1x256, .f32⟩
  | 17 => ⟨S8x2048x256, .f32⟩
  | 18 => ⟨S8x2048x256, .f32⟩
  | 19 => ⟨S8x2048x256, .f32⟩
  | 20 => ⟨S8x2048x256, .f32⟩
  | 21 => ⟨S1x256, .f32⟩
  | 22 => ⟨S256, .f32⟩
  | 23 => ⟨S1x1x256, .f32⟩
  | 24 => ⟨S8x2048x256, .f32⟩
  | 25 => ⟨S8x2048x256, .f32⟩
  | 26 => ⟨S8x2048x256, .f32⟩
  | 27 => ⟨S8x2048x256, .f32⟩
  | 28 => ⟨S1x256, .f32⟩
  | 29 => ⟨S256, .f32⟩
  | 30 => ⟨S1x1x256, .f32⟩
  | 31 => ⟨S8x2048x256, .f32⟩
  | 32 => ⟨S8x2048x256, .f32⟩
  | 33 => ⟨S8x2048x256, .f32⟩
  | 34 => ⟨S8x2048x256, .f32⟩
  | 35 => ⟨S1x256, .f32⟩
  | 36 => ⟨S256, .f32⟩
  | 37 => ⟨S1x1x256, .f32⟩
  | 38 => ⟨S8x2048x256, .f32⟩
  | 39 => ⟨S8x2048x256, .f32⟩
  | 40 => ⟨S8x2048x256, .f32⟩
  | 41 => ⟨S8x2048x256, .f32⟩
  | 42 => ⟨S1x256, .f32⟩
  | 43 => ⟨S256, .f32⟩
  | 44 => ⟨S1x1x256, .f32⟩
  | 45 => ⟨S8x2048x256, .f32⟩
  | 46 => ⟨S8x2048x256, .f32⟩
  | 47 => ⟨S8x2048x256, .f32⟩
  | 48 => ⟨S8x2048x256, .f32⟩
  | 49 => ⟨S1x256, .f32⟩
  | 50 => ⟨S256, .f32⟩
  | 51 => ⟨S1x1x256, .f32⟩
  | 52 => ⟨S8x2048x256, .f32⟩
  | 53 => ⟨S8x2048x256, .f32⟩
  | 54 => ⟨S8x2048x256, .f32⟩
  | 55 => ⟨S8x2048x256, .f32⟩
  | 56 => ⟨S1x256, .f32⟩
  | 57 => ⟨S256, .f32⟩
  | 58 => ⟨S1x1x256, .f32⟩
  | 59 => ⟨S8x2048x256, .f32⟩
  | 60 => ⟨S8x2048x256, .f32⟩
  | 61 => ⟨S8x2048x256, .f32⟩
  | 62 => ⟨S8x2048x256, .f32⟩
  | 63 => ⟨S1x256, .f32⟩
  | 64 => ⟨S256, .f32⟩
  | 65 => ⟨S1x1x256, .f32⟩
  | 66 => ⟨S8x2048x256, .f32⟩
  | 67 => ⟨S8x2048x256, .f32⟩
  | 68 => ⟨S8x2048x256, .f32⟩
  | 69 => ⟨S8x2048x256, .f32⟩
  | 70 => ⟨S1x256, .f32⟩
  | 71 => ⟨S256, .f32⟩
  | 72 => ⟨S1x1x256, .f32⟩
  | 73 => ⟨S8x2048x256, .f32⟩
  | 74 => ⟨S8x2048x256, .f32⟩
  | 75 => ⟨S8x2048x256, .f32⟩
  | 76 => ⟨S8x2048x256, .f32⟩
  | 77 => ⟨S1x256, .f32⟩
  | 78 => ⟨S256, .f32⟩
  | 79 => ⟨S1x1x256, .f32⟩
  | 80 => ⟨S8x2048x256, .f32⟩
  | 81 => ⟨S8x2048x256, .f32⟩
  | 82 => ⟨S8x2048x256, .f32⟩
  | 83 => ⟨S8x2048x256, .f32⟩
  | 84 => ⟨S1x256, .f32⟩
  | 85 => ⟨S256, .f32⟩
  | 86 => ⟨S1x1x256, .f32⟩
  | 87 => ⟨S8x2048x256, .f32⟩
  | 88 => ⟨S8x2048x256, .f32⟩
  | 89 => ⟨S8x2048x256, .f32⟩
  | 90 => ⟨S8x2048x256, .f32⟩
  | 91 => ⟨S1x256, .f32⟩
  | 92 => ⟨S256, .f32⟩
  | 93 => ⟨S1x1x256, .f32⟩
  | 94 => ⟨S8x2048x256, .f32⟩
  | 95 => ⟨S8x2048x256, .f32⟩
  | 96 => ⟨S8x2048x256, .f32⟩
  | 97 => ⟨S8x2048x256, .f32⟩
  | 98 => ⟨S1x256, .f32⟩
  | 99 => ⟨S256, .f32⟩
  | 100 => ⟨S1x1x256, .f32⟩
  | 101 => ⟨S8x2048x256, .f32⟩
  | 102 => ⟨S8x2048x256, .f32⟩
  | 103 => ⟨S8x2048x256, .f32⟩
  | 104 => ⟨S8x2048x256, .f32⟩
  | 105 => ⟨S1x256, .f32⟩
  | 106 => ⟨S256, .f32⟩
  | 107 => ⟨S1x1x256, .f32⟩
  | 108 => ⟨S8x2048x256, .f32⟩
  | 109 => ⟨S8x2048x256, .f32⟩
  | 110 => ⟨S8x2048x256, .f32⟩
  | 111 => ⟨S8x2048x256, .f32⟩
  | 112 => ⟨S1x256, .f32⟩
  | 113 => ⟨S256, .f32⟩
  | 114 => ⟨S1x1x256, .f32⟩
  | 115 => ⟨S8x2048x256, .f32⟩
  | 116 => ⟨S8x2048x256, .f32⟩
  | 117 => ⟨S8x2048x256, .f32⟩
  | 118 => ⟨S8x2048x256, .f32⟩
  | 119 => ⟨S1x256, .f32⟩
  | 120 => ⟨S256, .f32⟩
  | 121 => ⟨S1x1x256, .f32⟩
  | 122 => ⟨S8x2048x256, .f32⟩
  | 123 => ⟨S8x2048x256, .f32⟩
  | 124 => ⟨S8x2048x256, .f32⟩
  | 125 => ⟨S8x2048x256, .f32⟩
  | 126 => ⟨S1x256, .f32⟩
  | 127 => ⟨S256, .f32⟩
  | _ => ⟨S8x2048x512, .bf16⟩

abbrev hbmTy0_2 (i : Nat) : BufTy := match i % 128 with
  | 0 => ⟨S1x1x256, .f32⟩
  | 1 => ⟨S8x2048x256, .f32⟩
  | 2 => ⟨S8x2048x256, .f32⟩
  | 3 => ⟨S8x2048x256, .f32⟩
  | 4 => ⟨S8x2048x256, .f32⟩
  | 5 => ⟨S1x256, .f32⟩
  | 6 => ⟨S256, .f32⟩
  | 7 => ⟨S1x1x256, .f32⟩
  | 8 => ⟨S8x2048x256, .f32⟩
  | 9 => ⟨S8x2048x256, .f32⟩
  | 10 => ⟨S8x2048x256, .f32⟩
  | 11 => ⟨S8x2048x256, .f32⟩
  | 12 => ⟨S1x256, .f32⟩
  | 13 => ⟨S256, .f32⟩
  | 14 => ⟨S1x1x256, .f32⟩
  | 15 => ⟨S8x2048x256, .f32⟩
  | 16 => ⟨S8x2048x256, .f32⟩
  | 17 => ⟨S8x2048x256, .f32⟩
  | 18 => ⟨S8x2048x256, .f32⟩
  | 19 => ⟨S1x256, .f32⟩
  | 20 => ⟨S256, .f32⟩
  | 21 => ⟨S1x1x256, .f32⟩
  | 22 => ⟨S8x2048x256, .f32⟩
  | 23 => ⟨S8x2048x256, .f32⟩
  | 24 => ⟨S8x2048x256, .f32⟩
  | 25 => ⟨S8x2048x256, .f32⟩
  | 26 => ⟨S1x256, .f32⟩
  | 27 => ⟨S256, .f32⟩
  | 28 => ⟨S1x1x256, .f32⟩
  | 29 => ⟨S8x2048x256, .f32⟩
  | 30 => ⟨S8x2048x256, .f32⟩
  | 31 => ⟨S8x2048x256, .f32⟩
  | 32 => ⟨S8x2048x256, .f32⟩
  | 33 => ⟨S1x256, .f32⟩
  | 34 => ⟨S256, .f32⟩
  | 35 => ⟨S1x1x256, .f32⟩
  | 36 => ⟨S8x2048x256, .f32⟩
  | 37 => ⟨S8x2048x256, .f32⟩
  | 38 => ⟨S8x2048x256, .f32⟩
  | 39 => ⟨S1x1x256, .f32⟩
  | 40 => ⟨S8x2048x256, .f32⟩
  | 41 => ⟨S8x2048x256, .f32⟩
  | 42 => ⟨S_, .f32⟩
  | 43 => ⟨S8x2048, .f32⟩
  | 44 => ⟨S8x2048x1, .f32⟩
  | 45 => ⟨S_, .f32⟩
  | 46 => ⟨S8x2048x1, .f32⟩
  | 47 => ⟨S8x2048x1, .f32⟩
  | 48 => ⟨S8x2048x256, .f32⟩
  | 49 => ⟨S8x2048x256, .f32⟩
  | 50 => ⟨S8x2048x256, .f32⟩
  | 51 => ⟨S_, .f32⟩
  | 52 => ⟨S8x2048, .f32⟩
  | 53 => ⟨S8x2048x1, .f32⟩
  | 54 => ⟨S_, .f32⟩
  | 55 => ⟨S8x2048x1, .f32⟩
  | 56 => ⟨S8x2048x1, .f32⟩
  | 57 => ⟨S8x2048x256, .f32⟩
  | 58 => ⟨S8x2048x256, .f32⟩
  | 59 => ⟨S_, .f32⟩
  | 60 => ⟨S8x2048x1, .f32⟩
  | 61 => ⟨S8x2048x1, .f32⟩
  | 62 => ⟨S8x2048x1, .f32⟩
  | 63 => ⟨S8x2048x256, .f32⟩
  | 64 => ⟨S8x2048x256, .f32⟩
  | 65 => ⟨S1x1x256, .f32⟩
  | 66 => ⟨S8x2048x256, .f32⟩
  | 67 => ⟨S8x2048x256, .f32⟩
  | 68 => ⟨S1x1x256, .f32⟩
  | 69 => ⟨S8x2048x256, .f32⟩
  | 70 => ⟨S8x2048x256, .f32⟩
  | 71 => ⟨S8x2048x512, .bf16⟩
  | 72 => ⟨S8x2048x256, .f32⟩
  | 73 => ⟨S8x2048x256, .f32⟩
  | 74 => ⟨S_, .f32⟩
  | 75 => ⟨S8x2048x256, .f32⟩
  | 76 => ⟨S8x2048x256, .f32⟩
  | 77 => ⟨S_, .f32⟩
  | 78 => ⟨S8x2048x256, .f32⟩
  | 79 => ⟨S8x2048x256, .f32⟩
  | 80 => ⟨S8x2048x256, .f32⟩
  | 81 => ⟨S8x2048x256, .bf16⟩
  | _ => ⟨S8x2048x512, .bf16⟩

abbrev hbmTy (i : Nat) : BufTy := match i / 128 with
  | 0 => hbmTy0_0 i
  | 1 => hbmTy0_1 i
  | 2 => hbmTy0_2 i
  | _ => ⟨S8x2048x512, .bf16⟩

abbrev bufTy : (tb : Table) → Fin (tcTables nBuf tb) → BufTy
  | .hbm, ⟨i, _⟩ => hbmTy i
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_0 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_1 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_3 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_4 : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_5 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_v219 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_v225 : Ref sig .tc := ⟨.hbm, 249, rfl⟩
abbrev main_v226 : Ref sig .tc := ⟨.hbm, 250, rfl⟩
abbrev main_v227 : Ref sig .tc := ⟨.hbm, 251, rfl⟩
abbrev main_v228 : Ref sig .tc := ⟨.hbm, 252, rfl⟩
abbrev main_v229 : Ref sig .tc := ⟨.hbm, 253, rfl⟩
abbrev main_v230 : Ref sig .tc := ⟨.hbm, 254, rfl⟩
abbrev main_v231 : Ref sig .tc := ⟨.hbm, 255, rfl⟩
abbrev main_v232 : Ref sig .tc := ⟨.hbm, 256, rfl⟩
abbrev main_v233 : Ref sig .tc := ⟨.hbm, 257, rfl⟩
abbrev main_v234 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_v240 : Ref sig .tc := ⟨.hbm, 264, rfl⟩
abbrev main_v241 : Ref sig .tc := ⟨.hbm, 265, rfl⟩
abbrev main_v242 : Ref sig .tc := ⟨.hbm, 266, rfl⟩
abbrev main_v243 : Ref sig .tc := ⟨.hbm, 267, rfl⟩
abbrev main_v244 : Ref sig .tc := ⟨.hbm, 268, rfl⟩
abbrev main_v245 : Ref sig .tc := ⟨.hbm, 269, rfl⟩
abbrev main_v246 : Ref sig .tc := ⟨.hbm, 270, rfl⟩
abbrev main_v247 : Ref sig .tc := ⟨.hbm, 271, rfl⟩
abbrev main_v248 : Ref sig .tc := ⟨.hbm, 272, rfl⟩
abbrev main_v249 : Ref sig .tc := ⟨.hbm, 273, rfl⟩
abbrev main_v250 : Ref sig .tc := ⟨.hbm, 274, rfl⟩
abbrev main_v251 : Ref sig .tc := ⟨.hbm, 275, rfl⟩
abbrev main_v252 : Ref sig .tc := ⟨.hbm, 276, rfl⟩
abbrev main_v253 : Ref sig .tc := ⟨.hbm, 277, rfl⟩
abbrev main_v254 : Ref sig .tc := ⟨.hbm, 278, rfl⟩
abbrev main_v255 : Ref sig .tc := ⟨.hbm, 279, rfl⟩
abbrev main_v256 : Ref sig .tc := ⟨.hbm, 280, rfl⟩
abbrev main_v257 : Ref sig .tc := ⟨.hbm, 281, rfl⟩
abbrev main_v258 : Ref sig .tc := ⟨.hbm, 282, rfl⟩
abbrev main_v259 : Ref sig .tc := ⟨.hbm, 283, rfl⟩
abbrev main_v260 : Ref sig .tc := ⟨.hbm, 284, rfl⟩
abbrev main_v261 : Ref sig .tc := ⟨.hbm, 285, rfl⟩
abbrev main_v262 : Ref sig .tc := ⟨.hbm, 286, rfl⟩
abbrev main_v263 : Ref sig .tc := ⟨.hbm, 287, rfl⟩
abbrev main_v264 : Ref sig .tc := ⟨.hbm, 288, rfl⟩
abbrev main_v265 : Ref sig .tc := ⟨.hbm, 289, rfl⟩
abbrev main_v266 : Ref sig .tc := ⟨.hbm, 290, rfl⟩
abbrev main_v267 : Ref sig .tc := ⟨.hbm, 291, rfl⟩
abbrev main_v268 : Ref sig .tc := ⟨.hbm, 292, rfl⟩
abbrev main_v269 : Ref sig .tc := ⟨.hbm, 293, rfl⟩
abbrev main_v270 : Ref sig .tc := ⟨.hbm, 294, rfl⟩
abbrev main_v271 : Ref sig .tc := ⟨.hbm, 295, rfl⟩
abbrev main_v272 : Ref sig .tc := ⟨.hbm, 296, rfl⟩
abbrev main_v273 : Ref sig .tc := ⟨.hbm, 297, rfl⟩
abbrev main_cst_6 : Ref sig .tc := ⟨.hbm, 298, rfl⟩
abbrev main_v274 : Ref sig .tc := ⟨.hbm, 299, rfl⟩
abbrev main_v275 : Ref sig .tc := ⟨.hbm, 300, rfl⟩
abbrev main_cst_7 : Ref sig .tc := ⟨.hbm, 301, rfl⟩
abbrev main_v276 : Ref sig .tc := ⟨.hbm, 302, rfl⟩
abbrev main_v277 : Ref sig .tc := ⟨.hbm, 303, rfl⟩
abbrev main_v278 : Ref sig .tc := ⟨.hbm, 304, rfl⟩
abbrev main_v279 : Ref sig .tc := ⟨.hbm, 305, rfl⟩
abbrev main_v280 : Ref sig .tc := ⟨.hbm, 306, rfl⟩
abbrev main_cst_8 : Ref sig .tc := ⟨.hbm, 307, rfl⟩
abbrev main_v281 : Ref sig .tc := ⟨.hbm, 308, rfl⟩
abbrev main_v282 : Ref sig .tc := ⟨.hbm, 309, rfl⟩
abbrev main_cst_9 : Ref sig .tc := ⟨.hbm, 310, rfl⟩
abbrev main_v283 : Ref sig .tc := ⟨.hbm, 311, rfl⟩
abbrev main_v284 : Ref sig .tc := ⟨.hbm, 312, rfl⟩
abbrev main_v285 : Ref sig .tc := ⟨.hbm, 313, rfl⟩
abbrev main_v286 : Ref sig .tc := ⟨.hbm, 314, rfl⟩
abbrev main_cst_10 : Ref sig .tc := ⟨.hbm, 315, rfl⟩
abbrev main_v287 : Ref sig .tc := ⟨.hbm, 316, rfl⟩
abbrev main_v288 : Ref sig .tc := ⟨.hbm, 317, rfl⟩
abbrev main_v289 : Ref sig .tc := ⟨.hbm, 318, rfl⟩
abbrev main_v290 : Ref sig .tc := ⟨.hbm, 319, rfl⟩
abbrev main_v291 : Ref sig .tc := ⟨.hbm, 320, rfl⟩
abbrev main_v292 : Ref sig .tc := ⟨.hbm, 321, rfl⟩
abbrev main_v293 : Ref sig .tc := ⟨.hbm, 322, rfl⟩
abbrev main_v294 : Ref sig .tc := ⟨.hbm, 323, rfl⟩
abbrev main_v295 : Ref sig .tc := ⟨.hbm, 324, rfl⟩
abbrev main_v296 : Ref sig .tc := ⟨.hbm, 325, rfl⟩
abbrev main_v297 : Ref sig .tc := ⟨.hbm, 326, rfl⟩
abbrev main_v298 : Ref sig .tc := ⟨.hbm, 327, rfl⟩
abbrev main_call2_v0 : Ref sig .tc := ⟨.hbm, 328, rfl⟩
abbrev main_call2_v1 : Ref sig .tc := ⟨.hbm, 329, rfl⟩
abbrev main_call2_cst : Ref sig .tc := ⟨.hbm, 330, rfl⟩
abbrev main_call2_v2 : Ref sig .tc := ⟨.hbm, 331, rfl⟩
abbrev main_call2_v3 : Ref sig .tc := ⟨.hbm, 332, rfl⟩
abbrev main_call2_cst_0 : Ref sig .tc := ⟨.hbm, 333, rfl⟩
abbrev main_call2_v4 : Ref sig .tc := ⟨.hbm, 334, rfl⟩
abbrev main_call2_v5 : Ref sig .tc := ⟨.hbm, 335, rfl⟩
abbrev main_v299 : Ref sig .tc := ⟨.hbm, 336, rfl⟩
abbrev main_v300 : Ref sig .tc := ⟨.hbm, 337, rfl⟩

abbrev nD : Nat := 1
abbrev τ : Topo := Topo.v7x

variable {F : FTy → Type} [FloatOps F]
-- ==== Kernel2.lean ====
abbrev S8x2048x1024 : Shape := ⟨3, ![8, 2048, 1024]⟩
abbrev S16x1x3072 : Shape := ⟨3, ![16, 1, 3072]⟩
abbrev S1024 : Shape := ⟨1, ![1024]⟩
abbrev S2x1024x2560 : Shape := ⟨3, ![2, 1024, 2560]⟩
abbrev S2048x32 : Shape := ⟨2, ![2048, 32]⟩
abbrev S256x512 : Shape := ⟨2, ![256, 512]⟩
abbrev S_ : Shape := ⟨0, ![]⟩
abbrev S2048x16 : Shape := ⟨2, ![2048, 16]⟩
abbrev S2048x128 : Shape := ⟨2, ![2048, 128]⟩
abbrev S2048x768 : Shape := ⟨2, ![2048, 768]⟩
abbrev S1x1024 : Shape := ⟨2, ![1, 1024]⟩
abbrev S8x2048x512 : Shape := ⟨3, ![8, 2048, 512]⟩
abbrev S8x512x2048 : Shape := ⟨3, ![8, 512, 2048]⟩
abbrev S8x2048x256 : Shape := ⟨3, ![8, 2048, 256]⟩
abbrev S1x1024x1024 : Shape := ⟨3, ![1, 1024, 1024]⟩
abbrev S1x1x1024 : Shape := ⟨3, ![1, 1, 1024]⟩
abbrev S1x1024x2560 : Shape := ⟨3, ![1, 1024, 2560]⟩
abbrev S1024x768 : Shape := ⟨2, ![1024, 768]⟩
abbrev S1x1024x512 : Shape := ⟨3, ![1, 1024, 512]⟩
abbrev S1x512x1024 : Shape := ⟨3, ![1, 512, 1024]⟩
abbrev S1x1024x256 : Shape := ⟨3, ![1, 1024, 256]⟩
abbrev S1024x2560 : Shape := ⟨2, ![1024, 2560]⟩
abbrev S1024x1024 : Shape := ⟨2, ![1024, 1024]⟩
abbrev S1024x1 : Shape := ⟨2, ![1024, 1]⟩
abbrev S1024x128 : Shape := ⟨2, ![1024, 128]⟩
abbrev S1x1024x128 : Shape := ⟨3, ![1, 1024, 128]⟩
abbrev S128x1024 : Shape := ⟨2, ![128, 1024]⟩
abbrev S64x1024 : Shape := ⟨2, ![64, 1024]⟩
abbrev S1x128x1024 : Shape := ⟨3, ![1, 128, 1024]⟩
abbrev S1024x512 : Shape := ⟨2, ![1024, 512]⟩
abbrev S1024x256 : Shape := ⟨2, ![1024, 256]⟩

abbrev nBuf : Space → Nat
  | .hbm => 41
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S16x1x3072, .f32⟩
  | .hbm, ⟨2, _⟩ => ⟨S1024, .f32⟩
  | .hbm, ⟨3, _⟩ => ⟨S2x1024x2560, .f32⟩
  | .hbm, ⟨4, _⟩ => ⟨S2048x32, .f32⟩
  | .hbm, ⟨5, _⟩ => ⟨S2048x32, .f32⟩
  | .hbm, ⟨6, _⟩ => ⟨S256x512, .bf16⟩
  | .hbm, ⟨7, _⟩ => ⟨S_, .f32⟩
  | .hbm, ⟨8, _⟩ => ⟨S2048x16, .f32⟩
  | .hbm, ⟨9, _⟩ => ⟨S2048x16, .f32⟩
  | .hbm, ⟨10, _⟩ => ⟨S2048x16, .f32⟩
  | .hbm, ⟨11, _⟩ => ⟨S2048x16, .f32⟩
  | .hbm, ⟨12, _⟩ => ⟨S2048x16, .f32⟩
  | .hbm, ⟨13, _⟩ => ⟨S2048x128, .f32⟩
  | .hbm, ⟨14, _⟩ => ⟨S2048x16, .f32⟩
  | .hbm, ⟨15, _⟩ => ⟨S2048x16, .f32⟩
  | .hbm, ⟨16, _⟩ => ⟨S2048x16, .f32⟩
  | .hbm, ⟨17, _⟩ => ⟨S2048x16, .f32⟩
  | .hbm, ⟨18, _⟩ => ⟨S2048x128, .f32⟩
  | .hbm, ⟨19, _⟩ => ⟨S2048x16, .f32⟩
  | .hbm, ⟨20, _⟩ => ⟨S2048x16, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S_, .f32⟩
  | .hbm, ⟨26, _⟩ => ⟨S2048x128, .f32⟩
  | .hbm, ⟨27, _⟩ => ⟨S2048x128, .f32⟩
  | .hbm, ⟨28, _⟩ => ⟨S_, .f32⟩
  | .hbm, ⟨29, _⟩ => ⟨S2048x128, .f32⟩
  | .hbm, ⟨30, _⟩ => ⟨S2048x128, .f32⟩
  | .hbm, ⟨31, _⟩ => ⟨S2048x768, .f32⟩
  | .hbm, ⟨32, _⟩ => ⟨S1x1024, .f32⟩
  | .hbm, ⟨33, _⟩ => ⟨S8x2048x512, .bf16⟩
  | .hbm, ⟨34, _⟩ => ⟨S8x512x2048, .bf16⟩
  | .hbm, ⟨35, _⟩ => ⟨S8x2048x512, .bf16⟩
  | .hbm, ⟨36, _⟩ => ⟨S8x2048x512, .bf16⟩
  | .hbm, ⟨37, _⟩ => ⟨S8x2048x256, .bf16⟩
  | .hbm, ⟨38, _⟩ => ⟨S8x2048x512, .bf16⟩
  | .hbm, ⟨39, _⟩ => ⟨S8x2048x256, .bf16⟩
  | .hbm, ⟨40, _⟩ => ⟨S8x2048x256, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024x2560, .f32⟩
  | .local _ .vmem, ⟨8, _⟩ => ⟨S1024x768, .f32⟩
  | .local _ .vmem, ⟨9, _⟩ => ⟨S1024x768, .f32⟩
  | .local _ .vmem, ⟨10, _⟩ => ⟨S256x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x1024x256, .bf16⟩
  | .local _ .vmem, ⟨20, _⟩ => ⟨S1x1024x256, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x1024x256, .bf16⟩
  | .local _ .vmem, ⟨24, _⟩ => ⟨S1x1024x256, .bf16⟩
  | .local _ .vmem, ⟨25, _⟩ => ⟨S1x1024x256, .bf16⟩
  | .local _ .vmem, ⟨26, _⟩ => ⟨S1x1024x256, .bf16⟩
  | .local _ .vmem, ⟨27, _⟩ => ⟨S1024x2560, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_v22_3 : Ref sig .tc := ⟨.hbm, 36, rfl⟩
abbrev main_v22_4 : Ref sig .tc := ⟨.hbm, 37, rfl⟩
abbrev main_v22_5 : Ref sig .tc := ⟨.hbm, 38, rfl⟩
abbrev main_v22_6 : Ref sig .tc := ⟨.hbm, 39, rfl⟩
abbrev main_v22_7 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference2Ideal.lean ====
abbrev S8x2048x1024 : Shape := ⟨3, ![8, 2048, 1024]⟩
abbrev S16x1x3072 : Shape := ⟨3, ![16, 1, 3072]⟩
abbrev S1024 : Shape := ⟨1, ![1024]⟩
abbrev S2x1024x2560 : Shape := ⟨3, ![2, 1024, 2560]⟩
abbrev S2048x32 : Shape := ⟨2, ![2048, 32]⟩
abbrev S256x512 : Shape := ⟨2, ![256, 512]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2560 : Shape := ⟨3, ![1, 1024, 2560]⟩
abbrev S1024x2560 : Shape := ⟨2, ![1024, 2560]⟩
abbrev S8x2048x2560 : Shape := ⟨3, ![8, 2048, 2560]⟩
abbrev S8x2048x512 : Shape := ⟨3, ![8, 2048, 512]⟩
abbrev S8x2048x8x4x16 : Shape := ⟨5, ![8, 2048, 8, 4, 16]⟩
abbrev S1x2048x1x2x16 : Shape := ⟨5, ![1, 2048, 1, 2, 16]⟩
abbrev S8x2048x8x2x16 : Shape := ⟨5, ![8, 2048, 8, 2, 16]⟩
abbrev S8x2048x8x2x1x16 : Shape := ⟨6, ![8, 2048, 8, 2, 1, 16]⟩
abbrev S8x2048x8x2x2x16 : Shape := ⟨6, ![8, 2048, 8, 2, 2, 16]⟩
abbrev S8x2048x256 : Shape := ⟨3, ![8, 2048, 256]⟩

abbrev nBuf : Space → Nat
  | .hbm => 108
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x1x3072, .f32⟩
  | .hbm, ⟨2, _⟩ => ⟨S1024, .f32⟩
  | .hbm, ⟨3, _⟩ => ⟨S2x1024x2560, .f32⟩
  | .hbm, ⟨4, _⟩ => ⟨S2048x32, .f32⟩
  | .hbm, ⟨5, _⟩ => ⟨S2048x32, .f32⟩
  | .hbm, ⟨6, _⟩ => ⟨S256x512, .bf16⟩
  | .hbm, ⟨7, _⟩ => ⟨S8x1x1024, .f32⟩
  | .hbm, ⟨8, _⟩ => ⟨S8x1x1024, .f32⟩
  | .hbm, ⟨9, _⟩ => ⟨S8x2048x1024, .f32⟩
  | .hbm, ⟨10, _⟩ => ⟨S_, .f32⟩
  | .hbm, ⟨11, _⟩ => ⟨S8x2048, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S1x1024x2560, .f32⟩
  | .hbm, ⟨33, _⟩ => ⟨S1024x2560, .f32⟩
  | .hbm, ⟨34, _⟩ => ⟨S8x2048x2560, .f32⟩
  | .hbm, ⟨35, _⟩ => ⟨S8x2048x512, .f32⟩
  | .hbm, ⟨36, _⟩ => ⟨S8x2048x8x4x16, .f32⟩
  | .hbm, ⟨37, _⟩ => ⟨S1x2048x1x2x16, .f32⟩
  | .hbm, ⟨38, _⟩ => ⟨S1x2048x1x2x16, .f32⟩
  | .hbm, ⟨39, _⟩ => ⟨S8x2048x8x2x16, .f32⟩
  | .hbm, ⟨40, _⟩ => ⟨S8x2048x8x2x16, .f32⟩
  | .hbm, ⟨41, _⟩ => ⟨S8x2048x8x2x16, .f32⟩
  | .hbm, ⟨42, _⟩ => ⟨S8x2048x8x2x16, .f32⟩
  | .hbm, ⟨43, _⟩ => ⟨S8x2048x8x2x16, .f32⟩
  | .hbm, ⟨44, _⟩ => ⟨S8x2048x8x2x16, .f32⟩
  | .hbm, ⟨45, _⟩ => ⟨S8x2048x8x2x16, .f32⟩
  | .hbm, ⟨46, _⟩ => ⟨S8x2048x8x2x16, .f32⟩
  | .hbm, ⟨47, _⟩ => ⟨S8x2048x8x2x16, .f32⟩
  | .hbm, ⟨48, _⟩ => ⟨S8x2048x8x2x16, .f32⟩
  | .hbm, ⟨49, _⟩ => ⟨S8x2048x8x2x16, .f32⟩
  | .hbm, ⟨50, _⟩ => ⟨S8x2048x8x2x16, .f32⟩
  | .hbm, ⟨51, _⟩ => ⟨S8x2048x8x2x1x16, .f32⟩
  | .hbm, ⟨52, _⟩ => ⟨S8x2048x8x2x1x16, .f32⟩
  | .hbm, ⟨53, _⟩ => ⟨S8x2048x8x2x2x16, .f32⟩
  | .hbm, ⟨54, _⟩ => ⟨S8x2048x512, .f32⟩
  | .hbm, ⟨55, _⟩ => ⟨S_, .f32⟩
  | .hbm, ⟨56, _⟩ => ⟨S8x2048x512, .f32⟩
  | .hbm, ⟨57, _⟩ => ⟨S8x2048x512, .f32⟩
  | .hbm, ⟨58, _⟩ => ⟨S8x2048x512, .f32⟩
  | .hbm, ⟨59, _⟩ => ⟨S8x2048x512, .f32⟩
  | .hbm, ⟨60, _⟩ => ⟨S8x2048x512, .f32⟩
  | .hbm, ⟨61, _⟩ => ⟨S_, .f32⟩
  | .hbm, ⟨62, _⟩ => ⟨S8x2048x512, .f32⟩
  | .hbm, ⟨63, _⟩ => ⟨S8x2048x512, .f32⟩
  | .hbm, ⟨64, _⟩ => ⟨S_, .f32⟩
  | .hbm, ⟨65, _⟩ => ⟨S8x2048x512, .f32⟩
  | .hbm, ⟨66, _⟩ => ⟨S8x2048x512, .f32⟩
  | .hbm, ⟨67, _⟩ => ⟨S8x2048x512, .f32⟩
  | .hbm, ⟨68, _⟩ => ⟨S8x2048x256, .f32⟩
  | .hbm, ⟨69, _⟩ => ⟨S8x2048x256, .f32⟩
  | .hbm, ⟨70, _⟩ => ⟨S8x2048x256, .f32⟩
  | .hbm, ⟨71, _⟩ => ⟨S8x2048x256, .f32⟩
  | .hbm, ⟨72, _⟩ => ⟨S_, .f32⟩
  | .hbm, ⟨73, _⟩ => ⟨S8x2048x256, .f32⟩
  | .hbm, ⟨74, _⟩ => ⟨S8x2048x256, .f32⟩
  | .hbm, ⟨75, _⟩ => ⟨S_, .f32⟩
  | .hbm, ⟨76, _⟩ => ⟨S8x2048x256, .f32⟩
  | .hbm, ⟨77, _⟩ => ⟨S8x2048x256, .f32⟩
  | .hbm, ⟨78, _⟩ => ⟨S8x2048x256, .f32⟩
  | .hbm, ⟨79, _⟩ => ⟨S8x2048x256, .f32⟩
  | .hbm, ⟨80, _⟩ => ⟨S8x2048x256, .f32⟩
  | .hbm, ⟨81, _⟩ => ⟨S8x2048x256, .f32⟩
  | .hbm, ⟨82, _⟩ => ⟨S_, .f32⟩
  | .hbm, ⟨83, _⟩ => ⟨S8x2048x256, .f32⟩
  | .hbm, ⟨84, _⟩ => ⟨S8x2048x256, .f32⟩
  | .hbm, ⟨85, _⟩ => ⟨S_, .f32⟩
  | .hbm, ⟨86, _⟩ => ⟨S8x2048x256, .f32⟩
  | .hbm, ⟨87, _⟩ => ⟨S8x2048x256, .f32⟩
  | .hbm, ⟨88, _⟩ => ⟨S8x2048x256, .f32⟩
  | .hbm, ⟨89, _⟩ => ⟨S8x2048x256, .f32⟩
  | .hbm, ⟨90, _⟩ => ⟨S256x512, .f32⟩
  | .hbm, ⟨91, _⟩ => ⟨S8x2048x512, .f32⟩
  | .hbm, ⟨92, _⟩ => ⟨S8x2048x256, .f32⟩
  | .hbm, ⟨93, _⟩ => ⟨S8x2048x256, .f32⟩
  | .hbm, ⟨94, _⟩ => ⟨S8x2048x256, .f32⟩
  | .hbm, ⟨95, _⟩ => ⟨S_, .f32⟩
  | .hbm, ⟨96, _⟩ => ⟨S8x2048x256, .f32⟩
  | .hbm, ⟨97, _⟩ => ⟨S8x2048x256, .f32⟩
  | .hbm, ⟨98, _⟩ => ⟨S_, .f32⟩
  | .hbm, ⟨99, _⟩ => ⟨S8x2048x256, .f32⟩
  | .hbm, ⟨100, _⟩ => ⟨S8x2048x256, .f32⟩
  | .hbm, ⟨101, _⟩ => ⟨S8x2048x256, .f32⟩
  | .hbm, ⟨102, _⟩ => ⟨S8x2048x512, .bf16⟩
  | .hbm, ⟨103, _⟩ => ⟨S8x2048x512, .bf16⟩
  | .hbm, ⟨104, _⟩ => ⟨S8x2048x256, .bf16⟩
  | .hbm, ⟨105, _⟩ => ⟨S8x2048x512, .bf16⟩
  | .hbm, ⟨106, _⟩ => ⟨S8x2048x256, .bf16⟩
  | .hbm, ⟨107, _⟩ => ⟨S8x2048x256, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_4 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_6 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_cst_8 : Ref sig .tc := ⟨.hbm, 82, rfl⟩
abbrev main_v66 : Ref sig .tc := ⟨.hbm, 83, rfl⟩
abbrev main_v67 : Ref sig .tc := ⟨.hbm, 84, rfl⟩
abbrev main_cst_9 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_10 : Ref sig .tc := ⟨.hbm, 95, rfl⟩
abbrev main_v77 : Ref sig .tc := ⟨.hbm, 96, rfl⟩
abbrev main_v78 : Ref sig .tc := ⟨.hbm, 97, rfl⟩
abbrev main_cst_11 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x512 : Shape := ⟨3, ![8, 2048, 512]⟩
abbrev S8x2048x256 : Shape := ⟨3, ![8, 2048, 256]⟩
abbrev S2048x2048 : Shape := ⟨2, ![2048, 2048]⟩
abbrev S256x256 : Shape := ⟨2, ![256, 256]⟩
abbrev S256 : Shape := ⟨1, ![256]⟩
abbrev S2x1024x1024 : Shape := ⟨3, ![2, 1024, 1024]⟩
abbrev S16x1x3072 : Shape := ⟨3, ![16, 1, 3072]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩
abbrev S1024x256 : Shape := ⟨2, ![1024, 256]⟩
abbrev S1x256 : Shape := ⟨2, ![1, 256]⟩
abbrev S1x1024x1024 : Shape := ⟨3, ![1, 1024, 1024]⟩
abbrev S1x1024x512 : Shape := ⟨3, ![1, 1024, 512]⟩
abbrev S1x1024x256 : Shape := ⟨3, ![1, 1024, 256]⟩
abbrev S1x2048x512 : Shape := ⟨3, ![1, 2048, 512]⟩
abbrev S1x1x1024 : Shape := ⟨3, ![1, 1, 1024]⟩
abbrev S1024x512 : Shape := ⟨2, ![1024, 512]⟩
abbrev S2x1024x128 : Shape := ⟨3, ![2, 1024, 128]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S1x512x128 : Shape := ⟨3, ![1, 512, 128]⟩
abbrev S1x1024x128 : Shape := ⟨3, ![1, 1024, 128]⟩
abbrev S1024x128 : Shape := ⟨2, ![1024, 128]⟩
abbrev S1024x768 : Shape := ⟨2, ![1024, 768]⟩
abbrev S768x1024 : Shape := ⟨2, ![768, 1024]⟩
abbrev S256x1024 : Shape := ⟨2, ![256, 1024]⟩

abbrev nBuf : Space → Nat
  | .hbm => 29
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x256, .bf16⟩
  | .hbm, ⟨3, _⟩ => ⟨S8x2048x256, .bf16⟩
  | .hbm, ⟨4, _⟩ => ⟨S8x2048x512, .bf16⟩
  | .hbm, ⟨5, _⟩ => ⟨S8x2048x256, .bf16⟩
  | .hbm, ⟨6, _⟩ => ⟨S2048x2048, .f32⟩
  | .hbm, ⟨7, _⟩ => ⟨S2048x2048, .f32⟩
  | .hbm, ⟨8, _⟩ => ⟨S256x256, .f32⟩
  | .hbm, ⟨9, _⟩ => ⟨S256, .f32⟩
  | .hbm, ⟨10, _⟩ => ⟨S2x1024x1024, .f32⟩
  | .hbm, ⟨11, _⟩ => ⟨S16x1x3072, .f32⟩
  | .hbm, ⟨12, _⟩ => ⟨S1024, .f32⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S1024, .f32⟩
  | .hbm, ⟨19, _⟩ => ⟨S1024x1, .f32⟩
  | .hbm, ⟨20, _⟩ => ⟨S1024x256, .f32⟩
  | .hbm, ⟨21, _⟩ => ⟨S1x1024, .f32⟩
  | .hbm, ⟨22, _⟩ => ⟨S1024, .f32⟩
  | .hbm, ⟨23, _⟩ => ⟨S1024x1, .f32⟩
  | .hbm, ⟨24, _⟩ => ⟨S1024x256, .f32⟩
  | .hbm, ⟨25, _⟩ => ⟨S256x256, .bf16⟩
  | .hbm, ⟨26, _⟩ => ⟨S1x256, .f32⟩
  | .hbm, ⟨27, _⟩ => ⟨S1x1024, .f32⟩
  | .hbm, ⟨28, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x1024x256, .bf16⟩
  | .local _ .vmem, ⟨11, _⟩ => ⟨S1x1024x256, .bf16⟩
  | .local _ .vmem, ⟨12, _⟩ => ⟨S1024x1024, .bf16⟩
  | .local _ .vmem, ⟨13, _⟩ => ⟨S1024x1024, .bf16⟩
  | .local _ .vmem, ⟨14, _⟩ => ⟨S1024x256, .f32⟩
  | .local _ .vmem, ⟨15, _⟩ => ⟨S1024x256, .f32⟩
  | .local _ .vmem, ⟨16, _⟩ => ⟨S256x256, .bf16⟩
  | .local _ .vmem, ⟨17, _⟩ => ⟨S1x256, .f32⟩
  | .local _ .vmem, ⟨18, _⟩ => ⟨S1x1024x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1024, .f32⟩
  | .local _ .vmem, ⟨22, _⟩ => ⟨S1x1024x1024, .f32⟩
  | .local _ .vmem, ⟨23, _⟩ => ⟨S1x1024x1024, .f32⟩
  | .local _ .vmem, ⟨24, _⟩ => ⟨S1024x512, .bf16⟩
  | .local _ .vmem, ⟨25, _⟩ => ⟨S1024x512, .bf16⟩
  | .local _ .vmem, ⟨26, _⟩ => ⟨S2x1024x128, .f32⟩
  | .local _ .vmem, ⟨27, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let arg1 : BitVec 32 := BitVec.ofNat 32 (i 1).val
  let c512_i32 : BitVec 32 := 512#32
  let v8 : BitVec 32 := Scalar.muli arg1 c512_i32
  v8
def k0_off1 (i : grid0.Coords) : Fin 2 → Nat :=
  let arg1 : BitVec 32 := BitVec.ofNat 32 (i 1).val
  let c512_i32 : BitVec 32 := 512#32
  let v8 : BitVec 32 := Scalar.muli arg1 c512_i32
  let v9 : BitVec 32 := v8
  let v10 : Index := Scalar.indexCast v9
  let c0 : Index := 0#32
  ![v10.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference3Ideal.lean ====
abbrev S8x2048x1024 : Shape := ⟨3, ![8, 2048, 1024]⟩
abbrev S8x2048x512 : Shape := ⟨3, ![8, 2048, 512]⟩
abbrev S8x2048x256 : Shape := ⟨3, ![8, 2048, 256]⟩
abbrev S2048x2048 : Shape := ⟨2, ![2048, 2048]⟩
abbrev S256x256 : Shape := ⟨2, ![256, 256]⟩
abbrev S256 : Shape := ⟨1, ![256]⟩
abbrev S2x1024x1024 : Shape := ⟨3, ![2, 1024, 1024]⟩
abbrev S16x1x3072 : Shape := ⟨3, ![16, 1, 3072]⟩
abbrev S1024 : Shape := ⟨1, ![1024]⟩
abbrev S8x256x2048 : Shape := ⟨3, ![8, 256, 2048]⟩
abbrev S1x1x256 : Shape := ⟨3, ![1, 1, 256]⟩
abbrev S8x1x1024 : Shape := ⟨3, ![8, 1, 1024]⟩
abbrev S1x1024x1024 : Shape := ⟨3, ![1, 1024, 1024]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x256, .bf16⟩
  | .hbm, ⟨3, _⟩ => ⟨S8x2048x256, .bf16⟩
  | .hbm, ⟨4, _⟩ => ⟨S8x2048x512, .bf16⟩
  | .hbm, ⟨5, _⟩ => ⟨S8x2048x256, .bf16⟩
  | .hbm, ⟨6, _⟩ => ⟨S2048x2048, .f32⟩
  | .hbm, ⟨7, _⟩ => ⟨S2048x2048, .f32⟩
  | .hbm, ⟨8, _⟩ => ⟨S256x256, .f32⟩
  | .hbm, ⟨9, _⟩ => ⟨S256, .f32⟩
  | .hbm, ⟨10, _⟩ => ⟨S2x1024x1024, .f32⟩
  | .hbm, ⟨11, _⟩ => ⟨S16x1x3072, .f32⟩
  | .hbm, ⟨12, _⟩ => ⟨S1024, .f32⟩
  | .hbm, ⟨13, _⟩ => ⟨S8x2048x256, .bf16⟩
  | .hbm, ⟨14, _⟩ => ⟨S8x2048x256, .f32⟩
  | .hbm, ⟨15, _⟩ => ⟨S8x256x2048, .f32⟩
  | .hbm, ⟨16, _⟩ => ⟨S8x2048x256, .f32⟩
  | .hbm, ⟨17, _⟩ => ⟨S8x2048x256, .bf16⟩
  | .hbm, ⟨18, _⟩ => ⟨S8x2048x256, .f32⟩
  | .hbm, ⟨19, _⟩ => ⟨S8x256x2048, .f32⟩
  | .hbm, ⟨20, _⟩ => ⟨S8x2048x256, .f32⟩
  | .hbm, ⟨21, _⟩ => ⟨S8x2048x256, .f32⟩
  | .hbm, ⟨22, _⟩ => ⟨S8x2048x256, .f32⟩
  | .hbm, ⟨23, _⟩ => ⟨S1x1x256, .f32⟩
  | .hbm, ⟨24, _⟩ => ⟨S8x2048x256, .f32⟩
  | .hbm, ⟨25, _⟩ => ⟨S8x2048x256, .f32⟩
  | .hbm, ⟨26, _⟩ => ⟨S8x2048x256, .f32⟩
  | .hbm, ⟨27, _⟩ => ⟨S8x2048x256, .f32⟩
  | .hbm, ⟨28, _⟩ => ⟨S8x2048x512, .f32⟩
  | .hbm, ⟨29, _⟩ => ⟨S8x2048x256, .f32⟩
  | .hbm, ⟨30, _⟩ => ⟨S8x2048x256, .f32⟩
  | .hbm, ⟨31, _⟩ => ⟨S8x2048x256, .f32⟩
  | .hbm, ⟨32, _⟩ => ⟨S8x2048x1024, .f32⟩
  | .hbm, ⟨33, _⟩ => ⟨S8x1x1024, .f32⟩
  | .hbm, ⟨34, _⟩ => ⟨S1x1024x1024, .f32⟩
  | .hbm, ⟨35, _⟩ => ⟨S1024x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S_, .f32⟩
  | .hbm, ⟨45, _⟩ => ⟨S8x2048x1, .f32⟩
  | .hbm, ⟨46, _⟩ => ⟨S8x2048x1, .f32⟩
  | .hbm, ⟨47, _⟩ => ⟨S_, .f32⟩
  | .hbm, ⟨48, _⟩ => ⟨S8x2048x1, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S1x1x1024, .f32⟩
  | .hbm, ⟨54, _⟩ => ⟨S8x2048x1024, .f32⟩
  | .hbm, ⟨55, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_v29 : Ref sig .tc := ⟨.hbm, 43, rfl⟩
abbrev main_cst_0 : Ref sig .tc := ⟨.hbm, 44, rfl⟩
abbrev main_v30 : Ref sig .tc := ⟨.hbm, 45, rfl⟩
abbrev main_v31 : Ref sig .tc := ⟨.hbm, 46, rfl⟩
abbrev main_cst_1 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Proof.Attn.Kernel.lean ====
/- The kernel's body in its own operations, once for all its blocks: one chain of the attention over a pair of head
   halves, the block it stores, one lane tile of the convolution and the block that is stored of it. -/
module

public import proofs.«01_k».proof.Proof.Gen.KernelIdeal.Skeleton
public import Idealize.ShloMosaic.Lib.Pipeline.FrameBody

@[expose] public section

set_option maxRecDepth 16384

noncomputable section

namespace Cert.KernelIdeal.Attn

open Cert.KernelIdeal Cert.KernelIdeal.Gen Idealize.ShloMosaic

variable {F : FTy → Type} [FloatOps F] [Named F]

/-! ## The attention -/

/-- The mask's bias, once for each of the two query halves. -/
def bias2 (b : Vec F S1x128x384 .f32) : FVec F S256x384 .f32 :=
  have v : FVec F S128x384 .f32 := mulf (shapeCast S128x384 b shapeCasts_S1x128x384_S128x384) (broadcast S128x384 (Named.named κ "mask" 0xF149F2CA#32))
  concatenate S256x384 0 [⟨S128x384, v⟩, ⟨S128x384, v⟩] concatenates_S128x384_S128x384_S256x384_d0

/-- The two query halves, one above the other. -/
def qPair (qa qb : Vec F S1x128x128 .bf16) : FVec F S256x128 .bf16 :=
  concatenate S256x128 0 [⟨S128x128, shapeCast S128x128 qa shapeCasts_S1x128x128_S128x128⟩, ⟨S128x128, shapeCast S128x128 qb shapeCasts_S1x128x128_S128x128⟩]
    concatenates_S128x128_S128x128_S256x128_d0

/-- The two halves' sinks in base two. -/
def sinkCol (sa sb : Elt F .f32) : FVec F S256x1 .f32 :=
  concatenate S256x1 0 [⟨S128x1, broadcast S128x1 (Scalar.mulf sa (Named.named κ "log2e" 0x3FB8AA3B#32))⟩,
    ⟨S128x1, broadcast S128x1 (Scalar.mulf sb (Named.named κ "log2e" 0x3FB8AA3B#32))⟩] concatenates_S128x1_S128x1_S256x1_d0

/-- The scores against the window's keys, masked. -/
def scoresL (b : Vec F S1x128x384 .f32) (k : Vec F S1x128x384 .bf16) (q : FVec F S256x128 .bf16) : FVec F S256x384 .f32 :=
  addf (matmul dot_S256x128_S128x384_S256x384_1_0_0_1_n_n none q (shapeCast S128x384 k shapeCasts_S1x128x384_S128x384) (constant S256x384 .f32 0x00000000#32)) (bias2 b)

/-- The scores against the context keys. -/
def scoresC (kc : Vec F S1x128x256 .bf16) (q : FVec F S256x128 .bf16) : FVec F S256x256 .f32 :=
  matmul dot_S256x128_S128x256_S256x256_1_0_0_1_n_n none q (shapeCast S128x256 kc shapeCasts_S1x128x256_S128x256) (constant S256x256 .f32 0x00000000#32)

/-- The largest score of each row, the sink among them. -/
def rowMax (z : FVec F S256x1 .f32) (sl : FVec F S256x384 .f32) (sc : FVec F S256x256 .f32) : FVec F S256x1 .f32 :=
  maximumf (maximumf z (shapeCast S256x1 (multiReduction .maximumf [1] S256 sl 0xFF800000#32 reduces_S256x384_S256 (.inl rfl) rfl) shapeCasts_S256_S256x1))
    (shapeCast S256x1 (multiReduction .maximumf [1] S256 sc 0xFF800000#32 reduces_S256x256_S256 (.inl rfl) rfl) shapeCasts_S256_S256x1)

/-- The window's weights, not normalised. -/
def expL (m : FVec F S256x1 .f32) (sl : FVec F S256x384 .f32) : FVec F S256x384 .bf16 :=
  truncf .bf16 (exp2 (subf sl (broadcastTo S256x384 m broadcasts_S256x1_S256x384))) bitsLt_bf16_f32

/-- The context's weights, not normalised. -/
def expC (m : FVec F S256x1 .f32) (sc : FVec F S256x256 .f32) : FVec F S256x256 .bf16 :=
  truncf .bf16 (exp2 (subf sc (broadcastTo S256x256 m broadcasts_S256x1_S256x256))) bitsLt_bf16_f32

/-- The weighted values beside the sums of the weights. -/
def sums (v : Vec F S1x384x128 .bf16) (vc : Vec F S1x256x128 .bf16) (pl : FVec F S256x384 .bf16) (pc : FVec F S256x256 .bf16) : FVec F S256x256 .f32 :=
  addf (matmul dot_S256x384_S384x256_S256x256_1_0_0_1_n_n none pl
      (concatenate S384x256 1 [⟨S384x128, shapeCast S384x128 v shapeCasts_S1x384x128_S384x128⟩, ⟨S384x128, broadcast S384x128 (Scalar.ofBits .bf16 0x3F80#16)⟩] concatenates_S384x128_S384x128_S384x256_d1)
      (constant S256x256 .f32 0x00000000#32))
    (matmul dot_S256x256_S256x256_S256x256_1_0_0_1_n_n none pc
      (concatenate S256x256 1 [⟨S256x128, shapeCast S256x128 vc shapeCasts_S1x256x128_S256x128⟩, ⟨S256x128, broadcast S256x128 (Scalar.ofBits .bf16 0x3F80#16)⟩] concatenates_S256x128_S256x128_S256x256_d1)
      (constant S256x256 .f32 0x00000000#32))

/-- The values over the whole weight, the sink's included. -/
def ratio (r : FVec F S256x256 .f32) (x : FVec F S256x1 .f32) : FVec F S256x128 .f32 :=
  divf (extractStridedSlice S256x128 ![0, 0] r slices_S256x256_o0_0_S256x128)
    (addf (extractStridedSlice S256x128 ![0, 128] r slices_S256x256_o0_128_S256x128) (broadcastTo S256x128 x broadcasts_S256x1_S256x128))

/-- One chain: from what it loads to the attention of both query halves. -/
def chain (b : Vec F S1x128x384 .f32) (k : Vec F S1x128x384 .bf16) (v : Vec F S1x384x128 .bf16) (kc : Vec F S1x128x256 .bf16)
    (vc : Vec F S1x256x128 .bf16) (qa qb : Vec F S1x128x128 .bf16) (sa sb : Elt F .f32) : FVec F S256x128 .f32 :=
  ratio (sums v vc (expL (rowMax (sinkCol sa sb) (scoresL b k (qPair qa qb)) (scoresC kc (qPair qa qb))) (scoresL b k (qPair qa qb)))
      (expC (rowMax (sinkCol sa sb) (scoresL b k (qPair qa qb)) (scoresC kc (qPair qa qb))) (scoresC kc (qPair qa qb))))
    (exp2 (subf (sinkCol sa sb) (rowMax (sinkCol sa sb) (scoresL b k (qPair qa qb)) (scoresC kc (qPair qa qb)))))

/-- A half of the rows, gated, as it is stored. -/
def stored (off : Fin 2 → ℕ) (h : S256x128.Slices off S128x128) (o : FVec F S256x128 .f32) (g : Vec F S1x128x128 .bf16) : FVec F S1x128x128 .bf16 :=
  shapeCast S1x128x128 (truncf .bf16 (mulf (extractStridedSlice S128x128 off o h)
    (extf .f32 (shapeCast S128x128 g shapeCasts_S1x128x128_S128x128) bitsLt_bf16_f32)) bitsLt_bf16_f32) shapeCasts_S128x128_S1x128x128

theorem half_slices (hf : Fin 2) : S256x128.Slices ![128 * hf.val, 0] S128x128 :=
  ⟨rfl, fun a => match a with
    | ⟨0, _⟩ => by show 128 * hf.val + 128 ≤ 256; omega
    | ⟨1, _⟩ => by show 0 + 128 ≤ 128; omega⟩

/-! ## Where a chain loads from -/

variable (i : grid0.Coords)

/-- The first row of the keys' window of query block `sb`. -/
def start (sb : Fin 8) : ℕ := k0_off2 i (BitVec.ofNat 32 sb.val) 2

theorem start_le (sb : Fin 8) : start i sb + 384 ≤ 2048 := k0_off2_inb i sb 2

abbrev rBias (sb : Fin 8) : Rect S3x128x384 := Rect.unit (k0_off1 i (BitVec.ofNat 32 sb.val)) S1x128x384.size (k0_off1_inb i sb)

abbrev rK (sb : Fin 8) (r : Fin 4) : Rect S1x512x2048 := Rect.unit ![0, 128 * r.val, start i sb] S1x128x384.size (fun a => match a with
  | ⟨0, _⟩ => by show 0 + 1 ≤ 1; omega
  | ⟨1, _⟩ => by show 128 * r.val + 128 ≤ 512; omega
  | ⟨2, _⟩ => start_le i sb)

abbrev rV (sb : Fin 8) (r : Fin 4) : Rect S1x2048x512 := Rect.unit ![0, start i sb, 128 * r.val] S1x384x128.size (fun a => match a with
  | ⟨0, _⟩ => by show 0 + 1 ≤ 1; omega
  | ⟨1, _⟩ => start_le i sb
  | ⟨2, _⟩ => by show 128 * r.val + 128 ≤ 512; omega)

abbrev rKc (r : Fin 4) : Rect S1x512x256 := Rect.unit ![0, 128 * r.val, 0] S1x128x256.size (fun a => match a with
  | ⟨0, _⟩ => by show 0 + 1 ≤ 1; omega
  | ⟨1, _⟩ => by show 128 * r.val + 128 ≤ 512; omega
  | ⟨2, _⟩ => by show 0 + 256 ≤ 256; omega)

abbrev rVc (r : Fin 4) : Rect S1x256x512 := Rect.unit ![0, 0, 128 * r.val] S1x256x128.size (fun a => match a with
  | ⟨0, _⟩ => by show 0 + 1 ≤ 1; omega
  | ⟨1, _⟩ => by show 0 + 256 ≤ 256; omega
  | ⟨2, _⟩ => by show 128 * r.val + 128 ≤ 512; omega)

/-- The query, gate and result block of query block `sb` and lane block `c`. -/
abbrev rQ (sb : Fin 8) (c : Fin 4) : Rect S1x1024x512 := Rect.unit ![0, 128 * sb.val, 128 * c.val] S1x128x128.size (fun a => match a with
  | ⟨0, _⟩ => by show 0 + 1 ≤ 1; omega
  | ⟨1, _⟩ => by show 128 * sb.val + 128 ≤ 1024; omega
  | ⟨2, _⟩ => by show 128 * c.val + 128 ≤ 512; omega)

abbrev rS (h : Fin 8) : Rect S8 := Rect.unit ![h.val] S1.size (fun a => match a with
  | ⟨0, _⟩ => by show h.val + 1 ≤ 8; omega)

/-- A pair of lane blocks by the key head. -/
abbrev lane (kvh hf : Fin 2) : Fin 4 := ⟨2 * kvh.val + hf.val, by omega⟩
/-- The head of a half and a parity. -/
abbrev head (kvh hf e : Fin 2) : Fin 8 := ⟨4 * kvh.val + 2 * hf.val + e.val, by omega⟩

variable (X0 : Vec F S8 .f32) (X1 : Vec F S1x1024x512 .bf16) (X2 : Vec F S1x512x2048 .bf16) (X3 : Vec F S1x2048x512 .bf16)
  (X4 : Vec F S1x512x256 .bf16) (X5 : Vec F S1x256x512 .bf16) (X6 : Vec F S3x128x384 .f32) (X7 : Vec F S1x1024x512 .bf16)

/-- The chain of query block `sb`, key head `kvh` and parity `e`, on the arrays it loads from. -/
def chainAt (sb : Fin 8) (kvh e : Fin 2) : FVec F S256x128 .f32 :=
  chain (View.ld X6 (rBias i sb)) (View.ld X2 (rK i sb (lane kvh e))) (View.ld X3 (rV i sb (lane kvh e))) (View.ld X4 (rKc (lane kvh e)))
    (View.ld X5 (rVc (lane kvh e))) (View.ld X1 (rQ sb (lane kvh 0))) (View.ld X1 (rQ sb (lane kvh 1)))
    (View.ld X0 (rS (head kvh 0 e)) (Shape.Idx.first (s := S1) (by decide))) (View.ld X0 (rS (head kvh 1 e)) (Shape.Idx.first (s := S1) (by decide)))

/-- What is stored at query block `sb` and lane block `lane kvh hf`. -/
def piece (sb : Fin 8) (kvh hf : Fin 2) : View.Piece (Elt F) S1x1024x512 .bf16 :=
  ⟨rQ sb (lane kvh hf), stored ![128 * hf.val, 0] (half_slices hf)
    (addf (chainAt i X0 X1 X2 X3 X4 X5 X6 sb kvh 0) (chainAt i X0 X1 X2 X3 X4 X5 X6 sb kvh 1)) (View.ld X7 (rQ sb (lane kvh hf)))⟩

/-- All the stores into the attention's block, last first. -/
def pieces : List (View.Piece (Elt F) S1x1024x512 .bf16) :=
  [7, 6, 5, 4, 3, 2, 1, 0].flatMap fun sb => [piece i X0 X1 X2 X3 X4 X5 X6 X7 sb 1 1, piece i X0 X1 X2 X3 X4 X5 X6 X7 sb 1 0,
    piece i X0 X1 X2 X3 X4 X5 X6 X7 sb 0 1, piece i X0 X1 X2 X3 X4 X5 X6 X7 sb 0 0]

/-! ## The convolution -/

/-- One tap over 136 rows: the rows times the tap's weights. -/
def tap (P : Fin 4 → Vec F S136x128 .f32) (W : Fin 31 → Vec F S1x128 .f32) (j : Fin 31) : FVec F S136x128 .f32 :=
  mulf (P ⟨j.val / 8, by omega⟩) (broadcastTo S136x128 (addf (W j) (broadcast S1x128 (Scalar.ofBits .f32 0x00000000#32))) broadcasts_S1x128_S136x128)

/-- The four taps that are `r` past a multiple of eight. -/
def phase (P : Fin 4 → Vec F S136x128 .f32) (W : Fin 31 → Vec F S1x128 .f32) (r : Fin 7) : FVec F S136x128 .f32 :=
  addf (addf (addf (tap P W ⟨r.val, by omega⟩) (tap P W ⟨8 + r.val, by omega⟩)) (tap P W ⟨16 + r.val, by omega⟩)) (tap P W ⟨24 + r.val, by omega⟩)

/-- The rows from `r + 1` on, by a rotation. -/
def rolled (P : Fin 4 → Vec F S136x128 .f32) (W : Fin 31 → Vec F S1x128 .f32) (r : Fin 7) : FVec F S128x128 .f32 :=
  extractStridedSlice S128x128 ![0, 0] (dynamicRotate 0 (BitVec.ofNat 32 (135 - r.val)) none (phase P W r) rotates_S136x128_d0) slices_S136x128_o0_0_S128x128

/-- The three taps that are seven past a multiple of eight, from row 8 on. -/
def last (P : Fin 4 → Vec F S136x128 .f32) (W : Fin 31 → Vec F S1x128 .f32) : FVec F S128x128 .f32 :=
  extractStridedSlice S128x128 ![8, 0] (addf (addf (tap P W 7) (tap P W 15)) (tap P W 23)) slices_S136x128_o8_0_S128x128

/-- All the taps of 128 rows in one lane tile. -/
def tile (P : Fin 4 → Vec F S136x128 .f32) (W : Fin 31 → Vec F S1x128 .f32) : FVec F S128x128 .f32 :=
  addf (addf (addf (addf (addf (addf (addf (rolled P W 0) (rolled P W 1)) (rolled P W 2)) (rolled P W 3)) (rolled P W 4)) (rolled P W 5)) (rolled P W 6)) (last P W)

/-- The two lane tiles side by side, plus the bias. -/
def biased (t0 t1 : FVec F S128x128 .f32) (b : Vec F S1x256 .f32) : FVec F S128x256 .f32 :=
  addf (concatenate S128x256 1 [⟨S128x128, t0⟩, ⟨S128x128, t1⟩] concatenates_S128x128_S128x128_S128x256_d1)
    (broadcastTo S128x256 (shapeCast S1x256 b shapeCasts_S1x256_S1x256) broadcasts_S1x256_S128x256)

/-- The mean of each row. -/
def rowMean (y : FVec F S128x256 .f32) : FVec F S128x1 .f32 :=
  divf (shapeCast S128x1 (multiReduction .add [1] S128 y 0x00000000#32 reduces_S128x256_S128 (.inl rfl) rfl) shapeCasts_S128_S128x1)
    (broadcast S128x1 (Scalar.ofBits .f32 0x43800000#32))

/-- Each row less its mean. -/
def centred (y : FVec F S128x256 .f32) : FVec F S128x256 .f32 := subf y (broadcastTo S128x256 (rowMean y) broadcasts_S128x1_S128x256)

/-- The layer norm. -/
def normed (y : FVec F S128x256 .f32) (lg lb : Vec F S1x256 .f32) : FVec F S128x256 .f32 :=
  addf (mulf (mulf (centred y) (broadcastTo S128x256 (rsqrt (addf (rowMean (mulf (centred y) (centred y))) (broadcast S128x1 (Scalar.ofBits .f32 0x358637BD#32)))) broadcasts_S128x1_S128x256))
      (broadcastTo S128x256 (shapeCast S1x256 lg shapeCasts_S1x256_S1x256) broadcasts_S1x256_S128x256))
    (broadcastTo S128x256 (shapeCast S1x256 lb shapeCasts_S1x256_S1x256) broadcasts_S1x256_S128x256)

/-- Layer norm and swish, as stored. -/
def finish (y : FVec F S128x256 .f32) (lg lb : Vec F S1x256 .f32) : FVec F S1x128x256 .bf16 :=
  shapeCast S1x128x256 (truncf .bf16 (mulf (normed y lg lb) (logistic (normed y lg lb))) bitsLt_bf16_f32) shapeCasts_S128x256_S1x128x256

abbrev rP0 (sb : Fin 8) (a : Fin 4) : Rect S2080x256 :=
  Rect.unit (k0_off10 i (BitVec.ofNat 32 (128 * sb.val)) (BitVec.ofNat 32 (8 * a.val))) S136x128.size (k0_off10_inb i sb a)
abbrev rP1 (sb : Fin 8) (a : Fin 4) : Rect S2080x256 :=
  Rect.unit (k0_off11 i (BitVec.ofNat 32 (128 * sb.val)) (BitVec.ofNat 32 (8 * a.val))) S136x128.size (k0_off11_inb i sb a)

abbrev rW (lt : Fin 2) (j : Fin 31) : Rect S31x256 := Rect.unit ![j.val, 128 * lt.val] S1x128.size (fun a => match a with
  | ⟨0, _⟩ => by show j.val + 1 ≤ 31; omega
  | ⟨1, _⟩ => by show 128 * lt.val + 128 ≤ 256; omega)

abbrev rRow : Rect S1x256 := Rect.unit ![0, 0] S1x256.size (fun a => match a with
  | ⟨0, _⟩ => by show 0 + 1 ≤ 1; omega
  | ⟨1, _⟩ => by show 0 + 256 ≤ 256; omega)

abbrev rOut (sb : Fin 8) : Rect S1x1024x256 := Rect.unit ![0, 128 * sb.val, 0] S1x128x256.size (fun a => match a with
  | ⟨0, _⟩ => by show 0 + 1 ≤ 1; omega
  | ⟨1, _⟩ => by show 128 * sb.val + 128 ≤ 1024; omega
  | ⟨2, _⟩ => by show 0 + 256 ≤ 256; omega)

variable (XP : Vec F S2080x256 .f32) (X9 : Vec F S31x256 .f32) (X10 X11 X12 : Vec F S1x256 .f32)

/-- The two lane tiles of query block `sb`, on the padded signal and the weights. -/
def tile0 (sb : Fin 8) : FVec F S128x128 .f32 := tile (fun a => View.ld XP (rP0 i sb a)) (fun j => View.ld X9 (rW 0 j))
def tile1 (sb : Fin 8) : FVec F S128x128 .f32 := tile (fun a => View.ld XP (rP1 i sb a)) (fun j => View.ld X9 (rW 1 j))

/-- What is stored of the convolution at query block `sb`. -/
def pieceC (sb : Fin 8) : View.Piece (Elt F) S1x1024x256 .bf16 :=
  ⟨rOut sb, finish (biased (tile0 i XP X9 sb) (tile1 i XP X9 sb) (View.ld X10 rRow)) (View.ld X11 rRow) (View.ld X12 rRow)⟩

/-- All the stores into the convolution's block, last first. -/
def piecesC : List (View.Piece (Elt F) S1x1024x256 .bf16) :=
  [7, 6, 5, 4, 3, 2, 1, 0].map (pieceC i XP X9 X10 X11 X12)

/-! ## The padded signal -/

abbrev rTop : Rect S2080x256 := Rect.unit ![0, 0] S16x256.size (fun a => match a with
  | ⟨0, _⟩ => by show 0 + 16 ≤ 2080; omega
  | ⟨1, _⟩ => by show 0 + 256 ≤ 256; omega)
abbrev rMid : Rect S2080x256 := Rect.unit ![16, 0] S2048x256.size (fun a => match a with
  | ⟨0, _⟩ => by show 16 + 2048 ≤ 2080; omega
  | ⟨1, _⟩ => by show 0 + 256 ≤ 256; omega)
abbrev rEnd : Rect S2080x256 := Rect.unit ![2064, 0] S16x256.size (fun a => match a with
  | ⟨0, _⟩ => by show 2064 + 16 ≤ 2080; omega
  | ⟨1, _⟩ => by show 0 + 256 ≤ 256; omega)
abbrev rAll : Rect S1x2048x256 := Rect.unit ![0, 0, 0] S1x2048x256.size (fun a => match a with
  | ⟨0, _⟩ => by show 0 + 1 ≤ 1; omega
  | ⟨1, _⟩ => by show 0 + 2048 ≤ 2048; omega
  | ⟨2, _⟩ => by show 0 + 256 ≤ 256; omega)

/-- Sixteen rows of zeros. -/
def zeros16 : FVec F S16x256 .f32 := shapeCast S16x256 (broadcast S16x256 (Scalar.ofBits .f32 0x00000000#32)) shapeCasts_S16x256_S16x256

/-- The signal, widened. -/
def signal (u : Vec F S1x2048x256 .bf16) : FVec F S2048x256 .f32 :=
  shapeCast S2048x256 (extf .f32 (shapeCast S2048x256 u shapeCasts_S1x2048x256_S2048x256) bitsLt_bf16_f32) shapeCasts_S2048x256_S2048x256

/-- The stores that fill the padded signal, last first. -/
def piecesP (X8 : Vec F S1x2048x256 .bf16) : List (View.Piece (Elt F) S2080x256 .f32) :=
  [⟨rMid, signal (View.ld X8 rAll)⟩, ⟨rEnd, zeros16⟩, ⟨rTop, zeros16⟩]

end Cert.KernelIdeal.Attn

end
-- ==== Proof.Attn.Pieces.lean ====
/- The stores the body is found to make, case by case, are the lists written in the kernel's own operations. -/
module

public import proofs.«01_k».proof.Proof.Gen.KernelIdeal.Value
public import proofs.«01_k».proof.Proof.Attn.Kernel
public import Idealize.ShloMosaic.Lib.Pipeline.ValueKit
public import Idealize.ShloMosaic.Lib.Pipeline.ReadBack

@[expose] public section

set_option maxRecDepth 16384

noncomputable section

namespace Cert.KernelIdeal.Attn

open Cert.KernelIdeal Cert.KernelIdeal.Gen Idealize.ShloMosaic Idealize.ShloMosaic.TcCoe Idealize.ShloMosaic.Tactic

variable {F : FTy → Type} [FloatOps F] [Named F]

/-- Where the padded signal is filled: the stores into the attention's block. -/
theorem pieces_A (c : Dev nD) (i : grid0.Coords) (arg2 : Memref sig .tc .smem S8 .f32) (harg2 : arg2.IsWhole) (arg3 : Memref sig .tc .vmem S1x1024x512 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S1x512x256 .bf16) (harg6 : arg6.IsWhole) (arg7 : Memref sig .tc .vmem S1x256x512 .bf16) (harg7 : arg7.IsWhole) (arg8 : Memref sig .tc .vmem S3x128x384 .f32) (harg8 : arg8.IsWhole) (arg9 : Memref sig .tc .vmem S1x1024x512 .bf16) (harg9 : arg9.IsWhole) (arg10 : Memref sig .tc .vmem S1x2048x256 .bf16) (harg10 : arg10.IsWhole) (arg11 : Memref sig .tc .vmem S31x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x1024x512 .bf16) (harg15 : arg15.IsWhole) (arg16 : Memref sig .tc .vmem S1x1024x256 .bf16) (harg16 : arg16.IsWhole) (arg17 : Memref sig .tc .vmem S2080x256 .f32) (harg17 : arg17.IsWhole) (hc0 : cond0_0 i)
    (x0 : Vec F S8 .f32) (x1 : Vec F S1x1024x512 .bf16) (x2 : Vec F S1x512x2048 .bf16) (x3 : Vec F S1x2048x512 .bf16) (x4 : Vec F S1x512x256 .bf16) (x5 : Vec F S1x256x512 .bf16) (x6 : Vec F S3x128x384 .f32) (x7 : Vec F S1x1024x512 .bf16) (x8 : Vec F S1x2048x256 .bf16) (x9 : Vec F S31x256 .f32) (x10 : Vec F S1x256 .f32) (x11 : Vec F S1x256 .f32) (x12 : Vec F S1x256 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12).1
      = pieces i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) := by
  sl_kernel_rfl

/-- Where the padded signal is filled: the stores that fill it. -/
theorem scratch_A (c : Dev nD) (i : grid0.Coords) (arg2 : Memref sig .tc .smem S8 .f32) (harg2 : arg2.IsWhole) (arg3 : Memref sig .tc .vmem S1x1024x512 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S1x512x256 .bf16) (harg6 : arg6.IsWhole) (arg7 : Memref sig .tc .vmem S1x256x512 .bf16) (harg7 : arg7.IsWhole) (arg8 : Memref sig .tc .vmem S3x128x384 .f32) (harg8 : arg8.IsWhole) (arg9 : Memref sig .tc .vmem S1x1024x512 .bf16) (harg9 : arg9.IsWhole) (arg10 : Memref sig .tc .vmem S1x2048x256 .bf16) (harg10 : arg10.IsWhole) (arg11 : Memref sig .tc .vmem S31x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x1024x512 .bf16) (harg15 : arg15.IsWhole) (arg16 : Memref sig .tc .vmem S1x1024x256 .bf16) (harg16 : arg16.IsWhole) (arg17 : Memref sig .tc .vmem S2080x256 .f32) (harg17 : arg17.IsWhole) (hc0 : cond0_0 i)
    (x0 : Vec F S8 .f32) (x1 : Vec F S1x1024x512 .bf16) (x2 : Vec F S1x512x2048 .bf16) (x3 : Vec F S1x2048x512 .bf16) (x4 : Vec F S1x512x256 .bf16) (x5 : Vec F S1x256x512 .bf16) (x6 : Vec F S3x128x384 .f32) (x7 : Vec F S1x1024x512 .bf16) (x8 : Vec F S1x2048x256 .bf16) (x9 : Vec F S31x256 .f32) (x10 : Vec F S1x256 .f32) (x11 : Vec F S1x256 .f32) (x12 : Vec F S1x256 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12).2.2.1
      = piecesP (arg10.view.read (Elt F) (harg10.unread x8)) := by
  sl_kernel_rfl

/-- Where the padded signal is filled: the stores into the convolution's block. -/
theorem conv_A (c : Dev nD) (i : grid0.Coords) (arg2 : Memref sig .tc .smem S8 .f32) (harg2 : arg2.IsWhole) (arg3 : Memref sig .tc .vmem S1x1024x512 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S1x512x256 .bf16) (harg6 : arg6.IsWhole) (arg7 : Memref sig .tc .vmem S1x256x512 .bf16) (harg7 : arg7.IsWhole) (arg8 : Memref sig .tc .vmem S3x128x384 .f32) (harg8 : arg8.IsWhole) (arg9 : Memref sig .tc .vmem S1x1024x512 .bf16) (harg9 : arg9.IsWhole) (arg10 : Memref sig .tc .vmem S1x2048x256 .bf16) (harg10 : arg10.IsWhole) (arg11 : Memref sig .tc .vmem S31x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x1024x512 .bf16) (harg15 : arg15.IsWhole) (arg16 : Memref sig .tc .vmem S1x1024x256 .bf16) (harg16 : arg16.IsWhole) (arg17 : Memref sig .tc .vmem S2080x256 .f32) (harg17 : arg17.IsWhole) (hc0 : cond0_0 i)
    (x0 : Vec F S8 .f32) (x1 : Vec F S1x1024x512 .bf16) (x2 : Vec F S1x512x2048 .bf16) (x3 : Vec F S1x2048x512 .bf16) (x4 : Vec F S1x512x256 .bf16) (x5 : Vec F S1x256x512 .bf16) (x6 : Vec F S3x128x384 .f32) (x7 : Vec F S1x1024x512 .bf16) (x8 : Vec F S1x2048x256 .bf16) (x9 : Vec F S31x256 .f32) (x10 : Vec F S1x256 .f32) (x11 : Vec F S1x256 .f32) (x12 : Vec F S1x256 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12).2.1
      = piecesC i (arg17.view.read (Elt F) (arg17.view.writes (Elt F) arg17.view.junk (piecesP (arg10.view.read (Elt F) (harg10.unread x8))))) (arg11.view.read (Elt F) (harg11.unread x9)) (arg12.view.read (Elt F) (harg12.unread x10)) (arg13.view.read (Elt F) (harg13.unread x11)) (arg14.view.read (Elt F) (harg14.unread x12)) := by
  sl_kernel_rfl

/-- Where the padded signal is carried: the stores into the attention's block. -/
theorem pieces_B (c : Dev nD) (i : grid0.Coords) (arg2 : Memref sig .tc .smem S8 .f32) (harg2 : arg2.IsWhole) (arg3 : Memref sig .tc .vmem S1x1024x512 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S1x512x256 .bf16) (harg6 : arg6.IsWhole) (arg7 : Memref sig .tc .vmem S1x256x512 .bf16) (harg7 : arg7.IsWhole) (arg8 : Memref sig .tc .vmem S3x128x384 .f32) (harg8 : arg8.IsWhole) (arg9 : Memref sig .tc .vmem S1x1024x512 .bf16) (harg9 : arg9.IsWhole) (arg10 : Memref sig .tc .vmem S1x2048x256 .bf16) (harg10 : arg10.IsWhole) (arg11 : Memref sig .tc .vmem S31x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x1024x512 .bf16) (harg15 : arg15.IsWhole) (arg16 : Memref sig .tc .vmem S1x1024x256 .bf16) (harg16 : arg16.IsWhole) (arg17 : Memref sig .tc .vmem S2080x256 .f32) (harg17 : arg17.IsWhole) (hc0 : ¬cond0_0 i)
    (x0 : Vec F S8 .f32) (x1 : Vec F S1x1024x512 .bf16) (x2 : Vec F S1x512x2048 .bf16) (x3 : Vec F S1x2048x512 .bf16) (x4 : Vec F S1x512x256 .bf16) (x5 : Vec F S1x256x512 .bf16) (x6 : Vec F S3x128x384 .f32) (x7 : Vec F S1x1024x512 .bf16) (x8 : Vec F S1x2048x256 .bf16) (x9 : Vec F S31x256 .f32) (x10 : Vec F S1x256 .f32) (x11 : Vec F S1x256 .f32) (x12 : Vec F S1x256 .f32) (xs0 : Vec F S2080x256 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xs0).1
      = pieces i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) (arg7.view.read (Elt F) (harg7.unread x5)) (arg8.view.read (Elt F) (harg8.unread x6)) (arg9.view.read (Elt F) (harg9.unread x7)) := by
  sl_kernel_rfl

/-- Where the padded signal is carried: the stores into the convolution's block. -/
theorem conv_B (c : Dev nD) (i : grid0.Coords) (arg2 : Memref sig .tc .smem S8 .f32) (harg2 : arg2.IsWhole) (arg3 : Memref sig .tc .vmem S1x1024x512 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S1x512x256 .bf16) (harg6 : arg6.IsWhole) (arg7 : Memref sig .tc .vmem S1x256x512 .bf16) (harg7 : arg7.IsWhole) (arg8 : Memref sig .tc .vmem S3x128x384 .f32) (harg8 : arg8.IsWhole) (arg9 : Memref sig .tc .vmem S1x1024x512 .bf16) (harg9 : arg9.IsWhole) (arg10 : Memref sig .tc .vmem S1x2048x256 .bf16) (harg10 : arg10.IsWhole) (arg11 : Memref sig .tc .vmem S31x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x1024x512 .bf16) (harg15 : arg15.IsWhole) (arg16 : Memref sig .tc .vmem S1x1024x256 .bf16) (harg16 : arg16.IsWhole) (arg17 : Memref sig .tc .vmem S2080x256 .f32) (harg17 : arg17.IsWhole) (hc0 : ¬cond0_0 i)
    (x0 : Vec F S8 .f32) (x1 : Vec F S1x1024x512 .bf16) (x2 : Vec F S1x512x2048 .bf16) (x3 : Vec F S1x2048x512 .bf16) (x4 : Vec F S1x512x256 .bf16) (x5 : Vec F S1x256x512 .bf16) (x6 : Vec F S3x128x384 .f32) (x7 : Vec F S1x1024x512 .bf16) (x8 : Vec F S1x2048x256 .bf16) (x9 : Vec F S31x256 .f32) (x10 : Vec F S1x256 .f32) (x11 : Vec F S1x256 .f32) (x12 : Vec F S1x256 .f32) (xs0 : Vec F S2080x256 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xs0).2.1
      = piecesC i (arg17.view.read (Elt F) (harg17.unread xs0)) (arg11.view.read (Elt F) (harg11.unread x9)) (arg12.view.read (Elt F) (harg12.unread x10)) (arg13.view.read (Elt F) (harg13.unread x11)) (arg14.view.read (Elt F) (harg14.unread x12)) := by
  sl_kernel_rfl

end Cert.KernelIdeal.Attn

end
-- ==== Proof.Attn.Outs.lean ====
/- What each case of the body leaves in the output blocks and in the carried padded signal: the stores over the blocks themselves. -/
module

public import proofs.«01_k».proof.Proof.Attn.Pieces
public import Idealize.ShloMosaic.Lib.Pipeline.ValueKit
public import Idealize.ShloMosaic.Lib.Pipeline.ReadBack

@[expose] public section

set_option maxRecDepth 16384

noncomputable section

namespace Cert.KernelIdeal.Attn

open Cert.KernelIdeal Cert.KernelIdeal.Gen Idealize.ShloMosaic Idealize.ShloMosaic.TcCoe Idealize.ShloMosaic.Tactic

variable {F : FTy → Type} [FloatOps F] [Named F]

/-- Where the padded signal is filled: the attention's block. -/
theorem outA_13 (c : Dev nD) (i : grid0.Coords) (arg2 : Memref sig .tc .smem S8 .f32) (harg2 : arg2.IsWhole) (arg3 : Memref sig .tc .vmem S1x1024x512 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S1x512x256 .bf16) (harg6 : arg6.IsWhole) (arg7 : Memref sig .tc .vmem S1x256x512 .bf16) (harg7 : arg7.IsWhole) (arg8 : Memref sig .tc .vmem S3x128x384 .f32) (harg8 : arg8.IsWhole) (arg9 : Memref sig .tc .vmem S1x1024x512 .bf16) (harg9 : arg9.IsWhole) (arg10 : Memref sig .tc .vmem S1x2048x256 .bf16) (harg10 : arg10.IsWhole) (arg11 : Memref sig .tc .vmem S31x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x1024x512 .bf16) (harg15 : arg15.IsWhole) (arg16 : Memref sig .tc .vmem S1x1024x256 .bf16) (harg16 : arg16.IsWhole) (arg17 : Memref sig .tc .vmem S2080x256 .f32) (harg17 : arg17.IsWhole) (hc0 : cond0_0 i)
    (x0 : Vec F S8 .f32) (x1 : Vec F S1x1024x512 .bf16) (x2 : Vec F S1x512x2048 .bf16) (x3 : Vec F S1x2048x512 .bf16) (x4 : Vec F S1x512x256 .bf16) (x5 : Vec F S1x256x512 .bf16) (x6 : Vec F S3x128x384 .f32) (x7 : Vec F S1x1024x512 .bf16) (x8 : Vec F S1x2048x256 .bf16) (x9 : Vec F S31x256 .f32) (x10 : Vec F S1x256 .f32) (x11 : Vec F S1x256 .f32) (x12 : Vec F S1x256 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12
      = View.canon (pieces i x0 x1 x2 x3 x4 x5 x6 x7) := by
  unfold out0_A_13
  rw [View.read_writes_junk_eq_canon, pieces_A]
  simp only [Memref.IsWhole.read_unread, View.read_writes_junk_eq_canon]

/-- Where the padded signal is filled: the convolution's block. -/
theorem outA_14 (c : Dev nD) (i : grid0.Coords) (arg2 : Memref sig .tc .smem S8 .f32) (harg2 : arg2.IsWhole) (arg3 : Memref sig .tc .vmem S1x1024x512 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S1x512x256 .bf16) (harg6 : arg6.IsWhole) (arg7 : Memref sig .tc .vmem S1x256x512 .bf16) (harg7 : arg7.IsWhole) (arg8 : Memref sig .tc .vmem S3x128x384 .f32) (harg8 : arg8.IsWhole) (arg9 : Memref sig .tc .vmem S1x1024x512 .bf16) (harg9 : arg9.IsWhole) (arg10 : Memref sig .tc .vmem S1x2048x256 .bf16) (harg10 : arg10.IsWhole) (arg11 : Memref sig .tc .vmem S31x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x1024x512 .bf16) (harg15 : arg15.IsWhole) (arg16 : Memref sig .tc .vmem S1x1024x256 .bf16) (harg16 : arg16.IsWhole) (arg17 : Memref sig .tc .vmem S2080x256 .f32) (harg17 : arg17.IsWhole) (hc0 : cond0_0 i)
    (x0 : Vec F S8 .f32) (x1 : Vec F S1x1024x512 .bf16) (x2 : Vec F S1x512x2048 .bf16) (x3 : Vec F S1x2048x512 .bf16) (x4 : Vec F S1x512x256 .bf16) (x5 : Vec F S1x256x512 .bf16) (x6 : Vec F S3x128x384 .f32) (x7 : Vec F S1x1024x512 .bf16) (x8 : Vec F S1x2048x256 .bf16) (x9 : Vec F S31x256 .f32) (x10 : Vec F S1x256 .f32) (x11 : Vec F S1x256 .f32) (x12 : Vec F S1x256 .f32) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12
      = View.canon (piecesC i (View.canon (piecesP x8)) x9 x10 x11 x12) := by
  unfold out0_A_14
  rw [View.read_writes_junk_eq_canon, conv_A]
  simp only [Memref.IsWhole.read_unread, View.read_writes_junk_eq_canon]

/-- Where the padded signal is filled: the padded signal. -/
theorem soutA (c : Dev nD) (i : grid0.Coords) (arg2 : Memref sig .tc .smem S8 .f32) (harg2 : arg2.IsWhole) (arg3 : Memref sig .tc .vmem S1x1024x512 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S1x512x256 .bf16) (harg6 : arg6.IsWhole) (arg7 : Memref sig .tc .vmem S1x256x512 .bf16) (harg7 : arg7.IsWhole) (arg8 : Memref sig .tc .vmem S3x128x384 .f32) (harg8 : arg8.IsWhole) (arg9 : Memref sig .tc .vmem S1x1024x512 .bf16) (harg9 : arg9.IsWhole) (arg10 : Memref sig .tc .vmem S1x2048x256 .bf16) (harg10 : arg10.IsWhole) (arg11 : Memref sig .tc .vmem S31x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x1024x512 .bf16) (harg15 : arg15.IsWhole) (arg16 : Memref sig .tc .vmem S1x1024x256 .bf16) (harg16 : arg16.IsWhole) (arg17 : Memref sig .tc .vmem S2080x256 .f32) (harg17 : arg17.IsWhole) (hc0 : cond0_0 i)
    (x0 : Vec F S8 .f32) (x1 : Vec F S1x1024x512 .bf16) (x2 : Vec F S1x512x2048 .bf16) (x3 : Vec F S1x2048x512 .bf16) (x4 : Vec F S1x512x256 .bf16) (x5 : Vec F S1x256x512 .bf16) (x6 : Vec F S3x128x384 .f32) (x7 : Vec F S1x1024x512 .bf16) (x8 : Vec F S1x2048x256 .bf16) (x9 : Vec F S31x256 .f32) (x10 : Vec F S1x256 .f32) (x11 : Vec F S1x256 .f32) (x12 : Vec F S1x256 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12
      = View.canon (piecesP x8) := by
  unfold sout0_A_0
  rw [View.read_writes_junk_eq_canon, scratch_A]
  simp only [Memref.IsWhole.read_unread, View.read_writes_junk_eq_canon]

/-- Where the padded signal is carried: the attention's block. -/
theorem outB_13 (c : Dev nD) (i : grid0.Coords) (arg2 : Memref sig .tc .smem S8 .f32) (harg2 : arg2.IsWhole) (arg3 : Memref sig .tc .vmem S1x1024x512 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S1x512x256 .bf16) (harg6 : arg6.IsWhole) (arg7 : Memref sig .tc .vmem S1x256x512 .bf16) (harg7 : arg7.IsWhole) (arg8 : Memref sig .tc .vmem S3x128x384 .f32) (harg8 : arg8.IsWhole) (arg9 : Memref sig .tc .vmem S1x1024x512 .bf16) (harg9 : arg9.IsWhole) (arg10 : Memref sig .tc .vmem S1x2048x256 .bf16) (harg10 : arg10.IsWhole) (arg11 : Memref sig .tc .vmem S31x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x1024x512 .bf16) (harg15 : arg15.IsWhole) (arg16 : Memref sig .tc .vmem S1x1024x256 .bf16) (harg16 : arg16.IsWhole) (arg17 : Memref sig .tc .vmem S2080x256 .f32) (harg17 : arg17.IsWhole) (hc0 : ¬cond0_0 i)
    (x0 : Vec F S8 .f32) (x1 : Vec F S1x1024x512 .bf16) (x2 : Vec F S1x512x2048 .bf16) (x3 : Vec F S1x2048x512 .bf16) (x4 : Vec F S1x512x256 .bf16) (x5 : Vec F S1x256x512 .bf16) (x6 : Vec F S3x128x384 .f32) (x7 : Vec F S1x1024x512 .bf16) (x8 : Vec F S1x2048x256 .bf16) (x9 : Vec F S31x256 .f32) (x10 : Vec F S1x256 .f32) (x11 : Vec F S1x256 .f32) (x12 : Vec F S1x256 .f32) (xs0 : Vec F S2080x256 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xs0
      = View.canon (pieces i x0 x1 x2 x3 x4 x5 x6 x7) := by
  unfold out0_B_13
  rw [View.read_writes_junk_eq_canon, pieces_B]
  simp only [Memref.IsWhole.read_unread, View.read_writes_junk_eq_canon]

/-- Where the padded signal is carried: the convolution's block. -/
theorem outB_14 (c : Dev nD) (i : grid0.Coords) (arg2 : Memref sig .tc .smem S8 .f32) (harg2 : arg2.IsWhole) (arg3 : Memref sig .tc .vmem S1x1024x512 .bf16) (harg3 : arg3.IsWhole) (arg4 : Memref sig .tc .vmem S1x512x2048 .bf16) (harg4 : arg4.IsWhole) (arg5 : Memref sig .tc .vmem S1x2048x512 .bf16) (harg5 : arg5.IsWhole) (arg6 : Memref sig .tc .vmem S1x512x256 .bf16) (harg6 : arg6.IsWhole) (arg7 : Memref sig .tc .vmem S1x256x512 .bf16) (harg7 : arg7.IsWhole) (arg8 : Memref sig .tc .vmem S3x128x384 .f32) (harg8 : arg8.IsWhole) (arg9 : Memref sig .tc .vmem S1x1024x512 .bf16) (harg9 : arg9.IsWhole) (arg10 : Memref sig .tc .vmem S1x2048x256 .bf16) (harg10 : arg10.IsWhole) (arg11 : Memref sig .tc .vmem S31x256 .f32) (harg11 : arg11.IsWhole) (arg12 : Memref sig .tc .vmem S1x256 .f32) (harg12 : arg12.IsWhole) (arg13 : Memref sig .tc .vmem S1x256 .f32) (harg13 : arg13.IsWhole) (arg14 : Memref sig .tc .vmem S1x256 .f32) (harg14 : arg14.IsWhole) (arg15 : Memref sig .tc .vmem S1x1024x512 .bf16) (harg15 : arg15.IsWhole) (arg16 : Memref sig .tc .vmem S1x1024x256 .bf16) (harg16 : arg16.IsWhole) (arg17 : Memref sig .tc .vmem S2080x256 .f32) (harg17 : arg17.IsWhole) (hc0 : ¬cond0_0 i)
    (x0 : Vec F S8 .f32) (x1 : Vec F S1x1024x512 .bf16) (x2 : Vec F S1x512x2048 .bf16) (x3 : Vec F S1x2048x512 .bf16) (x4 : Vec F S1x512x256 .bf16) (x5 : Vec F S1x256x512 .bf16) (x6 : Vec F S3x128x384 .f32) (x7 : Vec F S1x1024x512 .bf16) (x8 : Vec F S1x2048x256 .bf16) (x9 : Vec F S31x256 .f32) (x10 : Vec F S1x256 .f32) (x11 : Vec F S1x256 .f32) (x12 : Vec F S1x256 .f32) (xs0 : Vec F S2080x256 .f32) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 x12 xs0
      = View.canon (piecesC i xs0 x9 x10 x11 x12) := by
  unfold out0_B_14
  rw [View.read_writes_junk_eq_canon, conv_B]
  simp only [Memref.IsWhole.read_unread, View.read_writes_junk_eq_canon]

end Cert.KernelIdeal.Attn

end
-- ==== Proof.Attn.Softmax.lean ====
/- Softmax weights over the extended reals: one row of attention scores, unshifted and unscaled,
   and the two ways of computing it — with a subtracted maximum in base two and one division at
   the end, or with a subtracted maximum in base e and every weight divided — agree with it. -/
module

public import Idealize.ShloMosaic.PureOps.Ideal
public import Mathlib.Analysis.SpecialFunctions.Pow.Real

@[expose] public section

noncomputable section

namespace Cert.Attn

open Idealize.ShloMosaic

/-- A sum of extended reals times a nonnegative real is the sum of the products. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- A sum of real numbers, read in the extended reals. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The base-two exponential is the exponential of the argument times the logarithm of two. -/
theorem exp2_coe (x : ℝ) : Ideal.exp2 (x : EReal) = ((Real.exp (x * Real.log 2) : ℝ) : EReal) := by
  show ((Real.rpow 2 x : ℝ) : EReal) = _
  congr 1
  rw [mul_comm]
  exact Real.rpow_def_of_pos two_pos x

/-- The weight of a score: its exponential in base two, nothing where the key is out of reach. -/
def wt (b : Prop) [Decidable b] (t : ℝ) : ℝ := if b then Real.exp (t * Real.log 2) else 0

theorem wt_nonneg (b : Prop) [Decidable b] (t : ℝ) : 0 ≤ wt b t := by
  unfold wt; split
  · exact (Real.exp_pos _).le
  · exact le_rfl

/-- A score in base two: the inner product, minus infinity where the key is out of reach. -/
def sc2 (b : Prop) [Decidable b] (t : ℝ) : EReal := if b then (t : EReal) else ⊥

/-- A score in base e. -/
def sce (b : Prop) [Decidable b] (t : ℝ) : EReal := if b then ((t * Real.log 2 : ℝ) : EReal) else ⊥

/-- Subtracting a real from a base-two score scales its weight. -/
theorem exp2_sc2_sub (b : Prop) [Decidable b] (t m : ℝ) :
    Ideal.exp2 (sc2 b t - (m : EReal)) = ((wt b t * Real.exp (-(m * Real.log 2)) : ℝ) : EReal) := by
  unfold sc2 wt
  split
  · rw [← EReal.coe_sub, exp2_coe, ← Real.exp_add]; congr 2; ring
  · rw [EReal.bot_sub, zero_mul, EReal.coe_zero]; rfl

/-- Subtracting a real from a base-e score scales its weight. -/
theorem exp_sce_sub (b : Prop) [Decidable b] (t m : ℝ) :
    Ideal.exp (sce b t - (m : EReal)) = ((wt b t * Real.exp (-m) : ℝ) : EReal) := by
  unfold sce wt
  split
  · rw [← EReal.coe_sub]
    show ((Real.exp _ : ℝ) : EReal) = _
    rw [← Real.exp_add]; congr 2
  · rw [EReal.bot_sub, zero_mul, EReal.coe_zero]; rfl

/-- The maximum of scores that are real or minus infinity, with one real among them, is real. -/
theorem max_real (x y : EReal) (hx : x ≠ ⊥) (hx' : x ≠ ⊤) (hy : y ≠ ⊤) : ∃ m : ℝ, max x y = (m : EReal) := by
  have h1 : max x y ≠ ⊤ := by
    rcases le_total x y with h | h
    · rwa [max_eq_right h]
    · rwa [max_eq_left h]
  have h2 : max x y ≠ ⊥ := fun h => hx (le_bot_iff.mp (h ▸ le_max_left x y))
  exact ⟨_, (EReal.coe_toReal h1 h2).symm⟩

/-- A running maximum from minus infinity of values none of which is plus infinity is not plus infinity. -/
theorem fold_max_ne_top {ι : Type} (s : Finset ι) (f : ι → EReal) (hf : ∀ i, f i ≠ ⊤) :
    s.fold max ⊥ f ≠ ⊤ := by
  classical
  induction s using Finset.induction_on with
  | empty => simp
  | insert a s ha ih =>
    rw [Finset.fold_insert ha]
    rcases le_total (f a) (s.fold max ⊥ f) with h | h
    · rwa [max_eq_right h]
    · rw [max_eq_left h]; exact hf a

/-- A running maximum is at least each of its values. -/
theorem le_fold_max' {ι : Type} (s : Finset ι) (f : ι → EReal) (i : ι) (hi : i ∈ s) :
    f i ≤ s.fold max ⊥ f := by
  classical
  induction s using Finset.induction_on with
  | empty => simp at hi
  | insert a s ha ih =>
    rw [Finset.fold_insert ha]
    rcases Finset.mem_insert.mp hi with rfl | h
    · exact le_max_left _ _
    · exact (ih h).trans (le_max_right _ _)

theorem sc2_ne_top (b : Prop) [Decidable b] (t : ℝ) : sc2 b t ≠ ⊤ := by
  unfold sc2; split
  · exact EReal.coe_ne_top _
  · exact bot_ne_top

theorem sce_ne_top (b : Prop) [Decidable b] (t : ℝ) : sce b t ≠ ⊤ := by
  unfold sce; split
  · exact EReal.coe_ne_top _
  · exact bot_ne_top

variable {K L : Type} [Fintype K] [Fintype L]

/-- The total weight of a row: of its keys `K` (those in reach `b`), of its context keys `L` and of the sink. -/
def total (b : K → Prop) [∀ k, Decidable (b k)] (t : K → ℝ) (t' : L → ℝ) (z : ℝ) : ℝ :=
  (∑ k, wt (b k) (t k)) + (∑ l, wt True (t' l)) + Real.exp z

theorem total_pos (b : K → Prop) [∀ k, Decidable (b k)] (t : K → ℝ) (t' : L → ℝ) (z : ℝ) : 0 < total b t t' z :=
  add_pos_of_nonneg_of_pos (add_nonneg (Finset.sum_nonneg fun _ _ => wt_nonneg _ _)
    (Finset.sum_nonneg fun _ _ => wt_nonneg _ _)) (Real.exp_pos z)

/-- One element of a row of attention: the weighted sum of the values over the total weight. -/
def attn (b : K → Prop) [∀ k, Decidable (b k)] (t : K → ℝ) (t' : L → ℝ) (z : ℝ) (v : K → EReal) (v' : L → EReal) : EReal :=
  ((∑ k, (wt (b k) (t k) : EReal) * v k) + ∑ l, (wt True (t' l) : EReal) * v' l) * ((1 / total b t t' z : ℝ) : EReal)

/-- The base-two row with any real subtracted and one division is the row. -/
theorem base2_row (b : K → Prop) [∀ k, Decidable (b k)] (t : K → ℝ) (t' : L → ℝ) (z m : ℝ) (v : K → EReal) (v' : L → EReal) :
    Ideal.div ((∑ k, Ideal.exp2 (sc2 (b k) (t k) - (m : EReal)) * v k)
        + ∑ l, Ideal.exp2 (sc2 True (t' l) - (m : EReal)) * v' l)
      (((∑ k, Ideal.exp2 (sc2 (b k) (t k) - (m : EReal)) * 1)
        + ∑ l, Ideal.exp2 (sc2 True (t' l) - (m : EReal)) * 1)
        + Ideal.exp2 (((z * (Real.log 2)⁻¹ : ℝ) : EReal) - (m : EReal)))
      = attn b t t' z v v' := by
  set c : ℝ := Real.exp (-(m * Real.log 2)) with hc
  have hc0 : 0 < c := Real.exp_pos _
  have hl : Real.log 2 ≠ 0 := (Real.log_pos one_lt_two).ne'
  have hz : Ideal.exp2 (((z * (Real.log 2)⁻¹ : ℝ) : EReal) - (m : EReal)) = ((Real.exp z * c : ℝ) : EReal) := by
    rw [← EReal.coe_sub, exp2_coe, hc, ← Real.exp_add]; congr 2; field_simp; ring
  have hD : ((∑ k, Ideal.exp2 (sc2 (b k) (t k) - (m : EReal)) * 1)
        + ∑ l, Ideal.exp2 (sc2 True (t' l) - (m : EReal)) * 1)
        + Ideal.exp2 (((z * (Real.log 2)⁻¹ : ℝ) : EReal) - (m : EReal)) = ((total b t t' z * c : ℝ) : EReal) := by
    rw [hz]
    simp only [exp2_sc2_sub, mul_one, ← hc]
    rw [← coe_sum, ← coe_sum, ← EReal.coe_add, ← EReal.coe_add, ← Finset.sum_mul, ← Finset.sum_mul]
    congr 1; unfold total; ring
  have hN : (∑ k, Ideal.exp2 (sc2 (b k) (t k) - (m : EReal)) * v k)
        + ∑ l, Ideal.exp2 (sc2 True (t' l) - (m : EReal)) * v' l
      = ((∑ k, (wt (b k) (t k) : EReal) * v k) + ∑ l, (wt True (t' l) : EReal) * v' l) * (c : EReal) := by
    rw [EReal.right_distrib_of_nonneg_of_ne_top (by exact_mod_cast hc0.le) (EReal.coe_ne_top c),
      sum_mul_real _ _ _ hc0.le, sum_mul_real _ _ _ hc0.le]
    simp only [exp2_sc2_sub, ← hc, EReal.coe_mul, mul_right_comm]
  have hT := total_pos b t t' z
  rw [hD, hN, Ideal.div_coe (by positivity)]
  unfold attn
  rw [mul_assoc, ← EReal.coe_mul]
  congr 2
  field_simp

/-- The base-e row with any real subtracted and each weight divided is the row. -/
theorem basee_row (b : K → Prop) [∀ k, Decidable (b k)] (t : K → ℝ) (t' : L → ℝ) (z m : ℝ) (v : K → EReal) (v' : L → EReal) (Z : EReal)
    (hZ : Z = (∑ k, Ideal.exp (sce (b k) (t k) - (m : EReal))) + (∑ l, Ideal.exp (sce True (t' l) - (m : EReal)))
      + Ideal.exp ((z : EReal) - (m : EReal))) :
    (∑ k, Ideal.div (Ideal.exp (sce (b k) (t k) - (m : EReal))) Z * v k)
        + ∑ l, Ideal.div (Ideal.exp (sce True (t' l) - (m : EReal))) Z * v' l
      = attn b t t' z v v' := by
  set c : ℝ := Real.exp (-m) with hc
  have hc0 : 0 < c := Real.exp_pos _
  have hz : Ideal.exp ((z : EReal) - (m : EReal)) = ((Real.exp z * c : ℝ) : EReal) := by
    rw [← EReal.coe_sub]
    show ((Real.exp _ : ℝ) : EReal) = _
    rw [hc, ← Real.exp_add]; congr 2
  have hD : Z = ((total b t t' z * c : ℝ) : EReal) := by
    rw [hZ, hz]
    simp only [exp_sce_sub, ← hc]
    rw [← coe_sum, ← coe_sum, ← EReal.coe_add, ← EReal.coe_add, ← Finset.sum_mul, ← Finset.sum_mul]
    congr 1; unfold total; ring
  have hT := total_pos b t t' z
  have hp (b : Prop) [Decidable b] (s : ℝ) (x : EReal) (T : ℝ) (hT : 0 < T) :
      Ideal.div (Ideal.exp (sce b s - (m : EReal))) ((T * c : ℝ) : EReal) * x
        = (wt b s : EReal) * x * ((1 / T : ℝ) : EReal) := by
    rw [Ideal.div_coe (by positivity), exp_sce_sub, ← hc, ← EReal.coe_mul, mul_right_comm (wt b s : EReal), ← EReal.coe_mul]
    congr 2
    field_simp
  rw [hD]
  simp only [hp _ _ _ _ hT]
  unfold attn
  rw [EReal.right_distrib_of_nonneg_of_ne_top (by exact_mod_cast (by positivity : 0 ≤ 1 / total b t t' z)) (EReal.coe_ne_top _),
    sum_mul_real _ _ _ (by positivity), sum_mul_real _ _ _ (by positivity)]

/-- A row over all keys, of which only those in a window are in reach, is the row over the window. -/
theorem attn_window {J : Type} [Fintype J] (w : K → J) (hw : Function.Injective w) (b : J → Prop) [∀ j, Decidable (b j)]
    (hb : ∀ j, b j → ∃ k, w k = j) (t : J → ℝ) (t' : L → ℝ) (z : ℝ) (v : J → EReal) (v' : L → EReal) :
    attn b t t' z v v' = attn (fun k => b (w k)) (fun k => t (w k)) t' z (fun k => v (w k)) v' := by
  classical
  have hout : ∀ j, (∀ k, w k ≠ j) → wt (b j) (t j) = 0 := fun j hj => by
    unfold wt
    rw [if_neg]
    intro h
    obtain ⟨k, hk⟩ := hb j h
    exact hj k hk
  have e1 : ∑ j, wt (b j) (t j) = ∑ k, wt (b (w k)) (t (w k)) := by
    rw [← Finset.sum_image (f := fun j => wt (b j) (t j)) (s := Finset.univ) (g := w) (fun _ _ _ _ h => hw h)]
    refine (Finset.sum_subset (Finset.subset_univ _) fun j _ hj => hout j fun k hk => hj ?_).symm
    exact Finset.mem_image.mpr ⟨k, Finset.mem_univ k, hk⟩
  have e2 : ∑ j, (wt (b j) (t j) : EReal) * v j = ∑ k, (wt (b (w k)) (t (w k)) : EReal) * v (w k) := by
    rw [← Finset.sum_image (f := fun j => (wt (b j) (t j) : EReal) * v j) (s := Finset.univ) (g := w) (fun _ _ _ _ h => hw h)]
    refine (Finset.sum_subset (Finset.subset_univ _) fun j _ hj => ?_).symm
    rw [hout j fun k hk => hj (Finset.mem_image.mpr ⟨k, Finset.mem_univ k, hk⟩), EReal.coe_zero, zero_mul]
  unfold attn total
  rw [e1, e2]

/-- A row of zero values is zero. -/
theorem attn_zero (b : K → Prop) [∀ k, Decidable (b k)] (t : K → ℝ) (t' : L → ℝ) (z : ℝ) :
    attn b t t' z (fun _ => 0) (fun _ => 0) = 0 := by
  unfold attn; simp

end Cert.Attn

end
-- ==== Proof.Attn.Spec.lean ====
/- What the call computes, written over plain functions of coordinates and without any tiling: the windowed attention
   of one output element, and the depthwise convolution with its layer norm and swish. -/
module

public import proofs.«01_k».proof.Proof.Attn.Softmax
public import Idealize.ShloMosaic.Lib.Pointwise.Index

@[expose] public section

noncomputable section

namespace Cert.Attn

open Idealize.ShloMosaic

/-- Key `j` is in reach of query `s`: at most 128 positions apart. -/
def Near (s j : ℕ) : Prop := s ≤ j + 128 ∧ j ≤ s + 128

instance (s j : ℕ) : Decidable (Near s j) := inferInstanceAs (Decidable (_ ∧ _))

/-- The channel of a query row that head `h` uses as its lane `d`. -/
abbrev qch (h : Fin 8) (d : Fin 64) : Fin 512 := ⟨64 * h.val + d.val, by omega⟩

/-- The channel of a key or value row that head `h` uses as its lane `d`: four heads share one of the two key heads. -/
abbrev kch (h : Fin 8) (d : Fin 64) : Fin 128 := ⟨64 * (h.val / 4) + d.val, by omega⟩

/-- The head and the lane of an output channel. -/
abbrev headOf (c : Fin 512) : Fin 8 := ⟨c.val / 64, by omega⟩
abbrev laneOf (c : Fin 512) : Fin 64 := ⟨c.val % 64, by omega⟩

/-- The score of a query row against a key row in head `h`, as a real number. -/
def score (q : Fin 512 → EReal) (k : Fin 128 → EReal) (h : Fin 8) : ℝ :=
  ∑ d : Fin 64, (q (qch h d)).toReal * (k (kch h d)).toReal

/-- Output channel `c` of the attention of query row `s`: softmax over the keys in reach, the context keys and the
    sink of the channel's head; weighted values; times the gate. -/
def attOut (q : Fin 512 → EReal) (k v : Fin 2048 → Fin 128 → EReal) (kc vc : Fin 256 → Fin 128 → EReal)
    (sink : Fin 8 → EReal) (g : EReal) (s : Fin 2048) (c : Fin 512) : EReal :=
  attn (fun j : Fin 2048 => Near s.val j.val) (fun j => score q (k j) (headOf c)) (fun l => score q (kc l) (headOf c))
    (sink (headOf c)).toReal (fun j => v j (kch (headOf c) (laneOf c))) (fun l => vc l (kch (headOf c) (laneOf c))) * g

/-- A signal of 2048 elements with zeros before and after: element `p` is the signal's `p - 15`. -/
def padded (u : Fin 2048 → EReal) (p : ℕ) : EReal := if h : 15 ≤ p ∧ p < 2063 then u ⟨p - 15, by omega⟩ else 0

/-- The centred convolution with 31 taps at position `t`. -/
def conv (u : Fin 2048 → EReal) (w : Fin 31 → EReal) (t : ℕ) : EReal := ∑ j : Fin 31, padded u (t + j.val) * w j

/-- The mean of a row of 256 channels. -/
def mean (y : Fin 256 → EReal) : EReal := Ideal.div (∑ c, y c) (Ideal.ofBits .f32 0x43800000#32)

/-- Layer norm of a row of 256 channels, then swish. -/
def normSwish (y lg lb : Fin 256 → EReal) (c : Fin 256) : EReal :=
  let z := (y c - mean y) * Ideal.rsqrt (mean (fun c => (y c - mean y) * (y c - mean y)) + Ideal.ofBits .f32 0x358637BD#32)
    * lg c + lb c
  z * Ideal.logistic z

/-- Output channel `c` at position `t` of the convolution path. -/
def convOut (u : Fin 2048 → Fin 256 → EReal) (w : Fin 31 → Fin 256 → EReal) (b lg lb : Fin 256 → EReal) (t : ℕ) (c : Fin 256) : EReal :=
  normSwish (fun c => conv (fun t => u t c) (fun j => w j c) t + b c) lg lb c

/-! ## Indices by their coordinates -/

theorem ext3 {n0 n1 n2 : ℕ} {i j : (⟨3, ![n0, n1, n2]⟩ : Shape).Idx} (h0 : (i 0).val = (j 0).val) (h1 : (i 1).val = (j 1).val)
    (h2 : (i 2).val = (j 2).val) : i = j :=
  funext fun a => Fin.ext (match a with | ⟨0, _⟩ => h0 | ⟨1, _⟩ => h1 | ⟨2, _⟩ => h2)

theorem ext2 {n0 n1 : ℕ} {i j : (⟨2, ![n0, n1]⟩ : Shape).Idx} (h0 : (i 0).val = (j 0).val) (h1 : (i 1).val = (j 1).val) : i = j :=
  funext fun a => Fin.ext (match a with | ⟨0, _⟩ => h0 | ⟨1, _⟩ => h1)

theorem ext4 {n0 n1 n2 n3 : ℕ} {i j : (⟨4, ![n0, n1, n2, n3]⟩ : Shape).Idx} (h0 : (i 0).val = (j 0).val) (h1 : (i 1).val = (j 1).val)
    (h2 : (i 2).val = (j 2).val) (h3 : (i 3).val = (j 3).val) : i = j :=
  funext fun a => Fin.ext (match a with | ⟨0, _⟩ => h0 | ⟨1, _⟩ => h1 | ⟨2, _⟩ => h2 | ⟨3, _⟩ => h3)

theorem ext5 {n0 n1 n2 n3 n4 : ℕ} {i j : (⟨5, ![n0, n1, n2, n3, n4]⟩ : Shape).Idx} (h0 : (i 0).val = (j 0).val) (h1 : (i 1).val = (j 1).val)
    (h2 : (i 2).val = (j 2).val) (h3 : (i 3).val = (j 3).val) (h4 : (i 4).val = (j 4).val) : i = j :=
  funext fun a => Fin.ext (match a with | ⟨0, _⟩ => h0 | ⟨1, _⟩ => h1 | ⟨2, _⟩ => h2 | ⟨3, _⟩ => h3 | ⟨4, _⟩ => h4)

end Cert.Attn

end
-- ==== Proof.Attn.Words.lean ====
/- The constants' words and the mask's comparison, read. -/
module

public import proofs.«01_k».proof.Proof.Attn.Spec
public import Idealize.ShloMosaic.PureOps.Ideal.Laws

@[expose] public section

noncomputable section

namespace Cert.Attn

open Idealize.ShloMosaic

theorem word_ninf : Ideal.ofBits .f32 0xFF800000#32 = (⊥ : EReal) := by
  simp [Ideal.ofBits, Ideal.ieee, -EReal.coe_mul]

theorem word_two : Ideal.ofBits .f32 0x40000000#32 = ((2 : ℝ) : EReal) := by
  simp [Ideal.ofBits, Ideal.ieee, -EReal.coe_mul]; norm_num

theorem word_one : Ideal.ofBits .f32 0x3F800000#32 = (1 : EReal) := by
  simp [Ideal.ofBits, Ideal.ieee, -EReal.coe_mul]; norm_num

theorem word_one16 : Ideal.ofBits .bf16 0x3F80#16 = (1 : EReal) := by
  simp [Ideal.ofBits, Ideal.ieee, -EReal.coe_mul]; norm_num

theorem word_zero : Ideal.ofBits .f32 0x00000000#32 = (0 : EReal) := by
  simp [Ideal.ofBits, Ideal.ieee, -EReal.coe_mul]

theorem word_zero16 : Ideal.ofBits .bf16 0x0000#16 = (0 : EReal) := by
  simp [Ideal.ofBits, Ideal.ieee, -EReal.coe_mul]

/-- The magnitude of a word compared with 128, over the integer it holds. -/
theorem band_word (x : BitVec 32) (a : ℤ) (hx : x.toInt = a) (ha : -2 ^ 31 < a) :
    IntOp.cmpi .sle (IntOp.absi x) 128#32 = if -128 ≤ a ∧ a ≤ 128 then 1#1 else 0#1 := by
  have h : (IntOp.absi x).toInt = |a| := by
    unfold IntOp.absi
    rw [BitVec.msb_eq_toInt, hx]
    by_cases h0 : a < 0
    · rw [decide_eq_true h0, if_pos rfl, BitVec.toInt_neg, hx, abs_of_neg h0]
      have := BitVec.toInt_lt (x := x)
      exact Int.bmod_eq_of_le (by omega) (by omega)
    · rw [decide_eq_false h0, if_neg (by simp), hx, abs_of_nonneg (by omega)]
  show BitVec.ofBool ((IntOp.absi x).sle 128#32) = _
  rw [BitVec.sle_eq_decide, h]
  have e : (128#32 : BitVec 32).toInt = 128 := by decide
  rw [e]
  by_cases h1 : -128 ≤ a ∧ a ≤ 128
  · rw [if_pos h1, decide_eq_true (abs_le.mpr h1)]; rfl
  · rw [if_neg h1, decide_eq_false (fun h => h1 (abs_le.mp h))]; rfl

end Cert.Attn

end
-- ==== Proof.Attn.KernelAttn.lean ====
/- One chain of the kernel's attention read at an index: a row of scores against the window and against the context gives
   one element of a row of attention. -/
module

public import proofs.«01_k».proof.Proof.Attn.Words
public import proofs.«01_k».proof.Proof.Attn.Kernel
public import Idealize.ShloMosaic.Lib.KernelVsHost
public import Idealize.ShloMosaic.Lib.MatmulPlain
public import Idealize.ShloMosaic.Lib.ValueLayout
public import Idealize.ShloMosaic.Lib.ValueLayoutCasts

@[expose] public section

set_option maxRecDepth 16384

noncomputable section

namespace Cert.KernelIdeal.Attn

open Cert.KernelIdeal Cert.KernelIdeal.Gen Cert.Attn Idealize.ShloMosaic

/-- A column repeated along a row reads the column. -/
theorem column_at {a b : ℕ} (v : (⟨2, ![a, 1]⟩ : Shape).Idx → EReal) (h : (⟨2, ![a, 1]⟩ : Shape).Broadcasts ⟨2, ![a, b]⟩)
    (p : Fin a) (c : Fin b) : broadcastTo ⟨2, ![a, b]⟩ v h (ix2 p c) = v (ix2 p 0) := by
  refine broadcastTo_apply v h (ix2 p c) (ix2 p 0) fun ax => ?_
  match ax with
  | ⟨0, _⟩ =>
    show p.val = if a = 1 then 0 else p.val
    split
    · have := p.isLt; omega
    · rfl
  | ⟨1, _⟩ => rfl

/-- Row `x` of a pair of blocks, one above the other. -/
theorem above_at {n : ℕ} (u v : (⟨2, ![128, n]⟩ : Shape).Idx → EReal)
    (h : Shape.Concatenates [⟨2, ![128, n]⟩, ⟨2, ![128, n]⟩] ⟨2, ![256, n]⟩ 0) (hf : Fin 2) (i : Fin 128) (c : Fin n) :
    concatenate ⟨2, ![256, n]⟩ 0 [⟨⟨2, ![128, n]⟩, u⟩, ⟨⟨2, ![128, n]⟩, v⟩] h (ix2 ⟨128 * hf.val + i.val, by omega⟩ c)
      = (if hf = 0 then u else v) (ix2 i c) := by
  match hf with
  | 0 =>
    refine concatenate_pair_apply_left (t := ⟨2, ![256, n]⟩) 0 u v h _ rfl (ix2 i c) fun b => ?_
    match b with
    | ⟨0, _⟩ => show i.val = 128 * 0 + i.val; omega
    | ⟨1, _⟩ => rfl
  | 1 =>
    refine concatenate_pair_apply_right (t := ⟨2, ![256, n]⟩) 0 u v h _ rfl rfl (ix2 i c) (fun b hb => ?_) ?_
    · match b with
      | ⟨0, _⟩ => exact absurd rfl hb
      | ⟨1, _⟩ => rfl
    · show i.val + 128 = 128 * 1 + i.val; omega

/-- Lane `128 * e + d` of a pair of blocks side by side. -/
theorem beside_at {n : ℕ} (u v : (⟨2, ![n, 128]⟩ : Shape).Idx → EReal)
    (h : Shape.Concatenates [⟨2, ![n, 128]⟩, ⟨2, ![n, 128]⟩] ⟨2, ![n, 256]⟩ 1) (e : Fin 2) (i : Fin n) (d : Fin 128) :
    concatenate ⟨2, ![n, 256]⟩ 1 [⟨⟨2, ![n, 128]⟩, u⟩, ⟨⟨2, ![n, 128]⟩, v⟩] h (ix2 i ⟨128 * e.val + d.val, by omega⟩)
      = (if e = 0 then u else v) (ix2 i d) := by
  match e with
  | 0 =>
    refine concatenate_pair_apply_left (t := ⟨2, ![n, 256]⟩) 1 u v h _ rfl (ix2 i d) fun b => ?_
    match b with
    | ⟨0, _⟩ => rfl
    | ⟨1, _⟩ => show d.val = 128 * 0 + d.val; omega
  | 1 =>
    refine concatenate_pair_apply_right (t := ⟨2, ![n, 256]⟩) 1 u v h _ rfl rfl (ix2 i d) (fun b hb => ?_) ?_
    · match b with
      | ⟨0, _⟩ => rfl
      | ⟨1, _⟩ => exact absurd rfl hb
    · show d.val + 128 = 128 * 1 + d.val; omega

/-- A product into zero, at an index. -/
theorem product_at {m k n : ℕ} {φ : FTy} (d : DotDims ⟨2, ![m, k]⟩ ⟨2, ![k, n]⟩ ⟨2, ![m, n]⟩) (hd : d = DotDims.plain m k n)
    (x : FVec Ideal ⟨2, ![m, k]⟩ φ) (y : FVec Ideal ⟨2, ![k, n]⟩ φ) (r : Fin m) (c : Fin n) :
    matmul d none x y (constant (F := Ideal) ⟨2, ![m, n]⟩ .f32 0x00000000#32) (ix2 r c) = ∑ j : Fin k, x (ix2 r j) * y (ix2 j c) := by
  subst hd
  refine (Ideal.matmul_plain_apply none x y _ r c).trans ?_
  have e : constant (F := Ideal) (⟨2, ![m, n]⟩ : Shape) .f32 0x00000000#32 (ix2 r c) = (0 : EReal) := word_zero
  exact (congrArg (· + _) e).trans (zero_add _)

/-- The rows of a pair of query blocks. -/
theorem qPair_at (qa qb : Vec Ideal S1x128x128 .bf16) (hf : Fin 2) (i : Fin 128) (c : Fin 128) :
    qPair qa qb (ix2 ⟨128 * hf.val + i.val, by omega⟩ c) = (if hf = 0 then qa else qb) (ix3 0 i c) := by
  unfold qPair
  refine (above_at _ _ _ hf i c).trans ?_
  split
  · exact ValueIdx.shapeCast_1ab_ab_apply _ _ i c
  · exact ValueIdx.shapeCast_1ab_ab_apply _ _ i c

/-- The mask's bias at an index. -/
theorem bias2_at (b : Vec Ideal S1x128x384 .f32) (hf : Fin 2) (i : Fin 128) (c : Fin 384) :
    bias2 b (ix2 ⟨128 * hf.val + i.val, by omega⟩ c) = b (ix3 0 i c) * (⊥ : EReal) := by
  have e : (Named.named κ "mask" 0xF149F2CA#32 : Ideal .f32) = (⊥ : EReal) := IdealRules.named_const.ideal_named_scalar _ _ _ _ rfl
  unfold bias2
  refine (above_at _ _ _ hf i c).trans ?_
  rw [ite_self]
  exact congrArg₂ (· * ·) (ValueIdx.shapeCast_1ab_ab_apply _ _ i c) e

/-- The sinks in base two at an index. -/
theorem sinkCol_at (sa sb : Elt Ideal .f32) (hf : Fin 2) (i : Fin 128) :
    sinkCol sa sb (ix2 ⟨128 * hf.val + i.val, by omega⟩ 0) = (if hf = 0 then sa else sb : EReal) * (((Real.log 2)⁻¹ : ℝ) : EReal) := by
  have e : (Named.named κ "log2e" 0x3FB8AA3B#32 : Ideal .f32) = (((Real.log 2)⁻¹ : ℝ) : EReal) :=
    IdealRules.named_const.ideal_named_scalar _ _ _ _ rfl
  unfold sinkCol
  refine (above_at _ _ _ hf i 0).trans ?_
  split
  · exact congrArg (sa * ·) e
  · exact congrArg (sb * ·) e

theorem scoresL_at (b : Vec Ideal S1x128x384 .f32) (k : Vec Ideal S1x128x384 .bf16) (qa qb : Vec Ideal S1x128x128 .bf16)
    (hf : Fin 2) (i : Fin 128) (c : Fin 384) :
    scoresL b k (qPair qa qb) (ix2 ⟨128 * hf.val + i.val, by omega⟩ c)
      = (∑ j : Fin 128, (if hf = 0 then qa else qb) (ix3 0 i j) * k (ix3 0 j c) : EReal) + b (ix3 0 i c) * (⊥ : EReal) := by
  unfold scoresL
  refine congrArg₂ (· + ·) ((product_at _ rfl _ _ _ c).trans (Finset.sum_congr rfl fun j _ => ?_)) (bias2_at b hf i c)
  exact congrArg₂ (· * ·) (qPair_at qa qb hf i j) (ValueIdx.shapeCast_1ab_ab_apply _ _ j c)

theorem scoresC_at (kc : Vec Ideal S1x128x256 .bf16) (qa qb : Vec Ideal S1x128x128 .bf16) (hf : Fin 2) (i : Fin 128) (c : Fin 256) :
    scoresC kc (qPair qa qb) (ix2 ⟨128 * hf.val + i.val, by omega⟩ c)
      = (∑ j : Fin 128, (if hf = 0 then qa else qb) (ix3 0 i j) * kc (ix3 0 j c) : EReal) := by
  unfold scoresC
  refine (product_at _ rfl _ _ _ c).trans (Finset.sum_congr rfl fun j _ => ?_)
  exact congrArg₂ (· * ·) (qPair_at qa qb hf i j) (ValueIdx.shapeCast_1ab_ab_apply _ _ j c)

/-- The largest of a row of scores is not infinite. -/
theorem fold_at {n : ℕ} (s : FVec Ideal ⟨2, ![256, n]⟩ .f32) (h : (⟨2, ![256, n]⟩ : Shape).Reduces [1] S256) (x : Fin 256)
    (hs : ∀ c : Fin n, s (ix2 x c) ≠ (⊤ : EReal)) :
    shapeCast S256x1 (multiReduction (F := Ideal) .maximumf [1] S256 s 0xFF800000#32 h (.inl rfl) rfl) shapeCasts_S256_S256x1 (ix2 x 0) ≠ (⊤ : EReal) := by
  have e : shapeCast S256x1 (multiReduction (F := Ideal) .maximumf [1] S256 s 0xFF800000#32 h (.inl rfl) rfl) shapeCasts_S256_S256x1 (ix2 x 0)
      = (Finset.univ : Finset (Fin n)).fold max (⊥ : EReal) (fun c => s (ix2 x c)) := by
    refine (ValueIdx.shapeCast_a_a1_apply _ shapeCasts_S256_S256x1 x 0).trans ?_
    refine (Ideal.multiReduction_maximumf_single (a := (1 : Fin 2)) s _ h (.inl rfl) rfl (ix1 x)).trans ?_
    refine congrArg₂ (fun (z : EReal) f => (Finset.univ : Finset (Fin n)).fold max z f) word_ninf (funext fun c => congrArg s ?_)
    exact ext2 rfl rfl
  rw [e]
  exact fold_max_ne_top _ _ hs

/-- The largest score of a row, the sink among them, is a real number where the sink is. -/
theorem rowMax_real (z : FVec Ideal S256x1 .f32) (sl : FVec Ideal S256x384 .f32) (sc : FVec Ideal S256x256 .f32) (x : Fin 256)
    (hz : ∃ r : ℝ, z (ix2 x 0) = (r : EReal)) (hl : ∀ c : Fin 384, sl (ix2 x c) ≠ (⊤ : EReal)) (hc : ∀ c : Fin 256, sc (ix2 x c) ≠ (⊤ : EReal)) :
    ∃ m : ℝ, rowMax z sl sc (ix2 x 0) = (m : EReal) := by
  obtain ⟨r, hr⟩ := hz
  obtain ⟨m1, h1⟩ := max_real (z (ix2 x 0)) _ (hr ▸ EReal.coe_ne_bot r) (hr ▸ EReal.coe_ne_top r) (fold_at sl reduces_S256x384_S256 x hl)
  obtain ⟨m2, h2⟩ := max_real (m1 : EReal) _ (EReal.coe_ne_bot m1) (EReal.coe_ne_top m1) (fold_at sc reduces_S256x256_S256 x hc)
  exact ⟨m2, (congrArg (max · _) h1).trans h2⟩

theorem sums_at (v : Vec Ideal S1x384x128 .bf16) (vc : Vec Ideal S1x256x128 .bf16) (pl : FVec Ideal S256x384 .bf16) (pc : FVec Ideal S256x256 .bf16)
    (x : Fin 256) (e : Fin 2) (d : Fin 128) :
    sums v vc pl pc (ix2 x ⟨128 * e.val + d.val, by omega⟩)
      = ((∑ k : Fin 384, pl (ix2 x k) * (if e = 0 then v (ix3 0 k d) else (1 : EReal)) : EReal)
        + ∑ l : Fin 256, pc (ix2 x l) * (if e = 0 then vc (ix3 0 l d) else (1 : EReal)) : EReal) := by
  unfold sums
  refine congrArg₂ (· + ·) ((product_at _ rfl _ _ _ _).trans (Finset.sum_congr rfl fun k _ => congrArg (_ * ·) ?_))
    ((product_at _ rfl _ _ _ _).trans (Finset.sum_congr rfl fun k _ => congrArg (_ * ·) ?_))
  · refine (beside_at _ _ _ e k d).trans ?_
    split
    · exact ValueIdx.shapeCast_1ab_ab_apply _ _ k d
    · exact word_one16
  · refine (beside_at _ _ _ e k d).trans ?_
    split
    · exact ValueIdx.shapeCast_1ab_ab_apply _ _ k d
    · exact word_one16

/-- A chain whose row of scores is known is an element of a row of attention. -/
theorem chain_at (b : Vec Ideal S1x128x384 .f32) (k : Vec Ideal S1x128x384 .bf16) (v : Vec Ideal S1x384x128 .bf16) (kc : Vec Ideal S1x128x256 .bf16)
    (vc : Vec Ideal S1x256x128 .bf16) (qa qb : Vec Ideal S1x128x128 .bf16) (sa sb : Elt Ideal .f32) (x : Fin 256) (d : Fin 128)
    (B : Fin 384 → Prop) [∀ c, Decidable (B c)] (T : Fin 384 → ℝ) (T' : Fin 256 → ℝ) (z : ℝ)
    (hl : ∀ c, scoresL b k (qPair qa qb) (ix2 x c) = sc2 (B c) (T c)) (hc : ∀ c, scoresC kc (qPair qa qb) (ix2 x c) = sc2 True (T' c))
    (hz : sinkCol sa sb (ix2 x 0) = ((z * (Real.log 2)⁻¹ : ℝ) : EReal)) :
    chain b k v kc vc qa qb sa sb (ix2 x d) = attn B T T' z (fun c => v (ix3 0 c d)) (fun c => vc (ix3 0 c d)) := by
  obtain ⟨m, hm⟩ := rowMax_real (sinkCol sa sb) (scoresL b k (qPair qa qb)) (scoresC kc (qPair qa qb)) x ⟨_, hz⟩
    (fun c => by rw [hl]; exact sc2_ne_top _ _) (fun c => by rw [hc]; exact sc2_ne_top _ _)
  rw [← base2_row B T T' z m]
  unfold chain ratio
  have el : ∀ c, expL (rowMax (sinkCol sa sb) (scoresL b k (qPair qa qb)) (scoresC kc (qPair qa qb))) (scoresL b k (qPair qa qb)) (ix2 x c)
      = Ideal.exp2 (sc2 (B c) (T c) - (m : EReal)) := fun c =>
    congrArg Ideal.exp2 (congrArg₂ (fun a b : EReal => a - b) (hl c) ((column_at _ _ x c).trans hm))
  have ec : ∀ c, expC (rowMax (sinkCol sa sb) (scoresL b k (qPair qa qb)) (scoresC kc (qPair qa qb))) (scoresC kc (qPair qa qb)) (ix2 x c)
      = Ideal.exp2 (sc2 True (T' c) - (m : EReal)) := fun c =>
    congrArg Ideal.exp2 (congrArg₂ (fun a b : EReal => a - b) (hc c) ((column_at _ _ x c).trans hm))
  refine congrArg₂ Ideal.div ?_ (congrArg₂ (fun a b : EReal => a + b) ?_ ?_)
  · refine (extractStridedSlice_apply _ _ _ (ix2 x d) (ix2 x ⟨128 * (0 : Fin 2).val + d.val, by have := d.isLt; show 128 * 0 + d.val < 256; omega⟩) (fun a => match a with
      | ⟨0, _⟩ => by show x.val = 0 + x.val; omega
      | ⟨1, _⟩ => by show 128 * 0 + d.val = 0 + d.val; omega)).trans ?_
    refine (sums_at _ _ _ _ x 0 d).trans ?_
    simp only [el, ec, if_true]
  · refine (extractStridedSlice_apply _ _ _ (ix2 x d) (ix2 x ⟨128 * (1 : Fin 2).val + d.val, by have := d.isLt; show 128 * 1 + d.val < 256; omega⟩) (fun a => match a with
      | ⟨0, _⟩ => by show x.val = 0 + x.val; omega
      | ⟨1, _⟩ => by show 128 * 1 + d.val = 128 + d.val; omega)).trans ?_
    refine (sums_at _ _ _ _ x 1 d).trans ?_
    simp only [el, ec, if_neg (show ¬ (1 : Fin 2) = 0 by decide)]
  · refine (column_at _ _ x d).trans ?_
    exact congrArg Ideal.exp2 (congrArg₂ (fun a b : EReal => a - b) hz hm)

end Cert.KernelIdeal.Attn

end
-- ==== Proof.Attn.RefAttn.lean ====
/- The reference's attention read at an index: with finite queries, keys and sinks its first result is `attOut`. -/
module

public import proofs.«01_k».proof.Proof.Attn.Words
public import proofs.«01_k».proof.Proof.Gen.ReferenceIdeal.Read

@[expose] public section

set_option maxRecDepth 16384

noncomputable section

namespace Cert.ReferenceIdeal.Attn

open Cert.ReferenceIdeal Cert.ReferenceIdeal.Gen Cert.ReferenceIdeal.Read Cert.Attn Idealize.ShloMosaic

/-- A head by its key head and its place among the four heads that share it. -/
abbrev hd (h : Fin 2) (g : Fin 4) : Fin 8 := ⟨4 * h.val + g.val, by omega⟩

/-- An array none of whose elements is infinite. -/
def Finite {s : Shape} (x : s.Idx → EReal) : Prop := ∀ i, x i = ((x i).toReal : EReal)

variable (x0 : (⟨S8x2048x512, .bf16⟩ : BufTy).Contents (Elt Ideal)) (x1 x2 : (⟨S8x2048x128, .bf16⟩ : BufTy).Contents (Elt Ideal))
  (x3 x4 : (⟨S8x256x128, .bf16⟩ : BufTy).Contents (Elt Ideal)) (x5 : (⟨S8, .f32⟩ : BufTy).Contents (Elt Ideal))
  (x6 : (⟨S8x2048x512, .bf16⟩ : BufTy).Contents (Elt Ideal))

/-- Row `s` of batch entry `b`, by channel. -/
abbrev row {n0 n1 n2 : ℕ} (x : (⟨3, ![n0, n1, n2]⟩ : Shape).Idx → EReal) (b : Fin n0) (s : Fin n1) : Fin n2 → EReal := fun c => x (ix3 b s c)

theorem v2_at (b : Fin 8) (s : Fin 2048) (h : Fin 2) (g : Fin 4) (d : Fin 64) :
    val_main_v2 (F := Ideal) x0 (ix5 b s h g d) = x0 (ix3 b s (qch (hd h g) d)) := by
  rw [val_main_v2_apply, val_main_v1_apply]
  refine congrArg x0 (ext3 ?_ ?_ ?_)
  · show ((((b.val * 2048 + s.val) * 2 + h.val) * 4 + g.val) * 64 + d.val) / 1048576 = b.val; omega
  · show ((((b.val * 2048 + s.val) * 2 + h.val) * 4 + g.val) * 64 + d.val) / 512 % 2048 = s.val; omega
  · show ((((b.val * 2048 + s.val) * 2 + h.val) * 4 + g.val) * 64 + d.val) % 512 = 64 * (4 * h.val + g.val) + d.val; omega

theorem v4_at (b : Fin 8) (s : Fin 2048) (h : Fin 2) (g : Fin 4) (d : Fin 64) :
    val_main_v4 (F := Ideal) x1 (ix4 b s h d) = x1 (ix3 b s (kch (hd h g) d)) := by
  rw [val_main_v4_apply, val_main_v3_apply]
  refine congrArg x1 (ext3 ?_ ?_ ?_)
  · show (((b.val * 2048 + s.val) * 2 + h.val) * 64 + d.val) / 262144 = b.val; omega
  · show (((b.val * 2048 + s.val) * 2 + h.val) * 64 + d.val) / 128 % 2048 = s.val; omega
  · show (((b.val * 2048 + s.val) * 2 + h.val) * 64 + d.val) % 128 = 64 * ((4 * h.val + g.val) / 4) + d.val; omega

theorem v6_at (b : Fin 8) (s : Fin 2048) (h : Fin 2) (g : Fin 4) (d : Fin 64) :
    val_main_v6 (F := Ideal) x2 (ix4 b s h d) = x2 (ix3 b s (kch (hd h g) d)) := by
  rw [val_main_v6_apply, val_main_v5_apply]
  refine congrArg x2 (ext3 ?_ ?_ ?_)
  · show (((b.val * 2048 + s.val) * 2 + h.val) * 64 + d.val) / 262144 = b.val; omega
  · show (((b.val * 2048 + s.val) * 2 + h.val) * 64 + d.val) / 128 % 2048 = s.val; omega
  · show (((b.val * 2048 + s.val) * 2 + h.val) * 64 + d.val) % 128 = 64 * ((4 * h.val + g.val) / 4) + d.val; omega

theorem v8_at (b : Fin 8) (l : Fin 256) (h : Fin 2) (g : Fin 4) (d : Fin 64) :
    val_main_v8 (F := Ideal) x3 (ix4 b l h d) = x3 (ix3 b l (kch (hd h g) d)) := by
  rw [val_main_v8_apply, val_main_v7_apply]
  refine congrArg x3 (ext3 ?_ ?_ ?_)
  · show (((b.val * 256 + l.val) * 2 + h.val) * 64 + d.val) / 32768 = b.val; omega
  · show (((b.val * 256 + l.val) * 2 + h.val) * 64 + d.val) / 128 % 256 = l.val; omega
  · show (((b.val * 256 + l.val) * 2 + h.val) * 64 + d.val) % 128 = 64 * ((4 * h.val + g.val) / 4) + d.val; omega

theorem v10_at (b : Fin 8) (l : Fin 256) (h : Fin 2) (g : Fin 4) (d : Fin 64) :
    val_main_v10 (F := Ideal) x4 (ix4 b l h d) = x4 (ix3 b l (kch (hd h g) d)) := by
  rw [val_main_v10_apply, val_main_v9_apply]
  refine congrArg x4 (ext3 ?_ ?_ ?_)
  · show (((b.val * 256 + l.val) * 2 + h.val) * 64 + d.val) / 32768 = b.val; omega
  · show (((b.val * 256 + l.val) * 2 + h.val) * 64 + d.val) / 128 % 256 = l.val; omega
  · show (((b.val * 256 + l.val) * 2 + h.val) * 64 + d.val) % 128 = 64 * ((4 * h.val + g.val) / 4) + d.val; omega

/-- The reference's scale is the logarithm of two. -/
theorem ln2 (i : S_.Idx) : val_main_v0 (F := Ideal) i = ((Real.log 2 : ℝ) : EReal) := by
  show Ideal.log (Ideal.ofBits .f32 0x40000000#32) = _
  rw [word_two]
  show (if (2 : ℝ) ≤ 0 then (⊥ : EReal) else ((Real.log 2 : ℝ) : EReal)) = _
  rw [if_neg (by norm_num)]

/-- The inner product of a finite query row with a finite key row is the score. -/
theorem dot_score (q : Fin 512 → EReal) (k : Fin 128 → EReal) (hq : ∀ c, q c = ((q c).toReal : EReal)) (hk : ∀ c, k c = ((k c).toReal : EReal)) (h : Fin 8) :
    (∑ d : Fin 64, k (kch h d) * q (qch h d)) = ((score q k h : ℝ) : EReal) := by
  unfold score
  rw [coe_sum]
  refine Finset.sum_congr rfl fun d _ => ?_
  rw [hq (qch h d), hk (kch h d), ← EReal.coe_mul, mul_comm, EReal.toReal_coe, EReal.toReal_coe]

variable (hq : Finite x0) (hk : Finite x1) (hc : Finite x3) (hs : Finite x5)

include hq hk in
/-- A local score, in base e and before the mask. -/
theorem v14_at (b : Fin 8) (h : Fin 2) (g : Fin 4) (s j : Fin 2048) :
    val_main_v14 (F := Ideal) x0 x1 (ix5 b h g s j) = ((score (row x0 b s) (row x1 b j) (hd h g) * Real.log 2 : ℝ) : EReal) := by
  rw [val_main_v14_apply, val_main_v12_apply, val_main_v13_apply, ln2, val_main_v11_apply, EReal.coe_mul,
    ← dot_score _ _ (fun c => hq _) (fun c => hk _)]
  refine congrArg (· * ((Real.log 2 : ℝ) : EReal)) (Finset.sum_congr rfl fun d _ => ?_)
  refine congrArg₂ (· * ·) ?_ ?_
  · rw [← v4_at x1 b j h g d]; exact congrArg _ (ext4 rfl rfl rfl rfl)
  · rw [← v2_at x0 b s h g d]; exact congrArg _ (ext5 rfl rfl rfl rfl rfl)

include hq hc in
/-- A context score, in base e. -/
theorem v26_at (b : Fin 8) (h : Fin 2) (g : Fin 4) (s : Fin 2048) (l : Fin 256) :
    val_main_v26 (F := Ideal) x0 x3 (ix5 b h g s l) = sce True (score (row x0 b s) (row x3 b l) (hd h g)) := by
  rw [val_main_v26_apply, val_main_v24_apply, val_main_v25_apply, ln2, val_main_v23_apply, sce, if_pos trivial, EReal.coe_mul,
    ← dot_score _ _ (fun c => hq _) (fun c => hc _)]
  refine congrArg (· * ((Real.log 2 : ℝ) : EReal)) (Finset.sum_congr rfl fun d _ => ?_)
  refine congrArg₂ (· * ·) ?_ ?_
  · rw [← v8_at x3 b l h g d]; exact congrArg _ (ext4 rfl rfl rfl rfl)
  · rw [← v2_at x0 b s h g d]; exact congrArg _ (ext5 rfl rfl rfl rfl rfl)

/-- The mask's word: the distance of two positions, at most 128. -/
theorem band (s j : Fin 2048) : val_main_v20 (F := Ideal) (ix2 s j) = if Near s.val j.val then 1#1 else 0#1 := by
  rw [val_main_v20_apply]
  show IntOp.cmpi .sle (IntOp.absi (IntOp.subi (BitVec.ofNat 32 s.val) (BitVec.ofNat 32 j.val))) 128#32 = _
  have hs := s.isLt
  have hj := j.isLt
  have e : (IntOp.subi (BitVec.ofNat 32 s.val) (BitVec.ofNat 32 j.val)).toInt = (s.val : ℤ) - j.val := by
    show (BitVec.ofNat 32 s.val - BitVec.ofNat 32 j.val).toInt = _
    rw [BitVec.toInt_sub, BitVec.toInt_ofNat', BitVec.toInt_ofNat', Int.bmod_eq_of_le (n := (s.val : ℤ)) (by omega) (by omega),
      Int.bmod_eq_of_le (n := (j.val : ℤ)) (by omega) (by omega), Int.bmod_eq_of_le (by omega) (by omega)]
  rw [band_word _ _ e (by omega)]
  refine if_congr ?_ rfl rfl
  unfold Near
  omega

include hq hk in
/-- A masked local score, in base e. -/
theorem v22_at (b : Fin 8) (h : Fin 2) (g : Fin 4) (s j : Fin 2048) :
    val_main_v22 (F := Ideal) x0 x1 (ix5 b h g s j) = sce (Near s.val j.val) (score (row x0 b s) (row x1 b j) (hd h g)) := by
  rw [val_main_v22_apply, v14_at x0 x1 hq hk, val_main_call0_v1_apply, val_main_v21_apply, val_main_call0_v2_apply]
  have e : idx_main_v21 (idx_main_call0_v1 (ix5 b h g s j)) = ix2 s j := ext2 rfl rfl
  rw [e, band]
  have hb : val_main_call0_v0 (F := Ideal) (idx_main_call0_v2 (ix5 b h g s j)) = (⊥ : EReal) := by
    show Ideal.ofBits .f32 0xFF800000#32 = ⊥
    exact word_ninf
  rw [hb]
  unfold sce
  by_cases hn : Near s.val j.val
  · rw [if_pos hn, if_pos hn]; rfl
  · rw [if_neg hn, if_neg hn]; rfl

include hs in
theorem v28_at (b : Fin 8) (h : Fin 2) (g : Fin 4) (s : Fin 2048) :
    val_main_v28 (F := Ideal) x5 (ix5 b h g s 0) = ((x5 (ix1 (hd h g))).toReal : EReal) := by
  rw [val_main_v28_apply, val_main_v27_apply, ← hs]
  refine congrArg x5 (funext fun a => Fin.ext (match a with | ⟨0, _⟩ => ?_))
  show (((0 * 2 + h.val) * 4 + g.val) * 1 + 0) * 1 + 0 = 4 * h.val + g.val
  omega

/-! ## The row: local scores, context scores, the sink -/

/-- The places of the row's three parts. -/
abbrev locAt (j : Fin 2048) : Fin 2305 := ⟨j.val, by omega⟩
abbrev ctxAt (l : Fin 256) : Fin 2305 := ⟨2048 + l.val, by omega⟩
abbrev sinkAt : Fin 2305 := ⟨2304, by omega⟩

theorem row_cases (k : Fin 2305) : (∃ j, k = locAt j) ∨ (∃ l, k = ctxAt l) ∨ k = sinkAt := by
  by_cases h : k.val < 2048
  · exact Or.inl ⟨⟨k.val, h⟩, rfl⟩
  · by_cases h' : k.val < 2304
    · exact Or.inr (Or.inl ⟨⟨k.val - 2048, by omega⟩, Fin.ext (by show k.val = 2048 + (k.val - 2048); omega)⟩)
    · exact Or.inr (Or.inr (Fin.ext (by show k.val = 2304; omega)))

theorem sum_row (f : Fin 2305 → EReal) : ∑ k, f k = (∑ j, f (locAt j)) + (∑ l, f (ctxAt l)) + f sinkAt := by
  rw [Fin.sum_univ_castSucc (n := 2304) f]
  rw [Fin.sum_univ_add (a := 2048) (b := 256) (fun i => f (Fin.castSucc i))]
  rfl

include hq hk in
theorem v29_loc (b : Fin 8) (h : Fin 2) (g : Fin 4) (s j : Fin 2048) :
    val_main_v29 (F := Ideal) x0 x1 x3 x5 (ix5 b h g s (locAt j)) = sce (Near s.val j.val) (score (row x0 b s) (row x1 b j) (hd h g)) := by
  rw [← v22_at x0 x1 hq hk]
  unfold val_main_v29
  exact concatenate_apply_piece (t := S8x2x4x2048x2305) 4 _ _ _ 0 (by show 0 < 3; decide) S8x2x4x2048x2048 (val_main_v22 (F := Ideal) x0 x1) rfl rfl 0 rfl (ix5 b h g s j)
    (fun a ha => match a, ha with | ⟨0, _⟩, _ => rfl | ⟨1, _⟩, _ => rfl | ⟨2, _⟩, _ => rfl | ⟨3, _⟩, _ => rfl | ⟨4, _⟩, ha => absurd rfl ha)
    (Nat.zero_add _)

include hq hc in
theorem v29_ctx (b : Fin 8) (h : Fin 2) (g : Fin 4) (s : Fin 2048) (l : Fin 256) :
    val_main_v29 (F := Ideal) x0 x1 x3 x5 (ix5 b h g s (ctxAt l)) = sce True (score (row x0 b s) (row x3 b l) (hd h g)) := by
  rw [← v26_at x0 x3 hq hc]
  unfold val_main_v29
  exact concatenate_apply_piece (t := S8x2x4x2048x2305) 4 _ _ _ 1 (by show 1 < 3; decide) S8x2x4x2048x256 (val_main_v26 (F := Ideal) x0 x3) rfl rfl 2048 rfl (ix5 b h g s l)
    (fun a ha => match a, ha with | ⟨0, _⟩, _ => rfl | ⟨1, _⟩, _ => rfl | ⟨2, _⟩, _ => rfl | ⟨3, _⟩, _ => rfl | ⟨4, _⟩, ha => absurd rfl ha)
    rfl

include hs in
theorem v29_sink (b : Fin 8) (h : Fin 2) (g : Fin 4) (s : Fin 2048) :
    val_main_v29 (F := Ideal) x0 x1 x3 x5 (ix5 b h g s sinkAt) = ((x5 (ix1 (hd h g))).toReal : EReal) := by
  rw [← v28_at x5 hs b h g s]
  unfold val_main_v29
  exact concatenate_apply_piece (t := S8x2x4x2048x2305) 4 _ _ _ 2 (by show 2 < 3; decide) S8x2x4x2048x1 (val_main_v28 (F := Ideal) x5) rfl rfl 2304 rfl (ix5 b h g s 0)
    (fun a ha => match a, ha with | ⟨0, _⟩, _ => rfl | ⟨1, _⟩, _ => rfl | ⟨2, _⟩, _ => rfl | ⟨3, _⟩, _ => rfl | ⟨4, _⟩, ha => absurd rfl ha)
    rfl

include hq hk hc hs in
/-- What the reference subtracts from a row of scores is a real number. -/
theorem v32_real (b : Fin 8) (h : Fin 2) (g : Fin 4) (s : Fin 2048) :
    ∃ m : ℝ, val_main_v32 (F := Ideal) x0 x1 x3 x5 (ix4 b h g s) = (m : EReal) := by
  have hr : S8x2x4x2048x2305.Reduces [4] S8x2x4x2048 := by decide
  have e0 : val_main_v31 (F := Ideal) (ix4 b h g s) = ⊥ := by rw [val_main_v31_apply]; exact word_ninf
  have hl : ∀ k : Fin 2305, hr.lift (ix4 b h g s) k = ix5 b h g s k := fun k => ext5 rfl rfl rfl rfl rfl
  have e1 : val_main_v30 (F := Ideal) x0 x1 x3 x5 (ix4 b h g s)
      = (Finset.univ : Finset (Fin 2305)).fold max ⊥ (fun k => val_main_v29 (F := Ideal) x0 x1 x3 x5 (ix5 b h g s k)) := by
    unfold val_main_v30
    refine (Host.reduce_eq_fold_single (FloatOps.maximumf (F := Ideal) (φ := .f32)) _ _ _ hr _ _).trans ?_
    have ei : val_main_cst_1 (F := Ideal) (Shape.Idx.first h_S_) = (⊥ : EReal) := word_ninf
    rw [ei]
    refine congrArg (fun f => (Finset.univ : Finset (Fin 2305)).fold max (⊥ : EReal) f) (funext fun k => ?_)
    exact congrArg (val_main_v29 (F := Ideal) x0 x1 x3 x5) (hl k)
  have ht : val_main_v30 (F := Ideal) x0 x1 x3 x5 (ix4 b h g s) ≠ ⊤ := by
    rw [e1]
    refine fold_max_ne_top _ _ fun k => ?_
    rcases row_cases k with ⟨j, rfl⟩ | ⟨l, rfl⟩ | rfl
    · rw [v29_loc x0 x1 x3 x5 hq hk]; exact sce_ne_top _ _
    · rw [v29_ctx x0 x1 x3 x5 hq hc]; exact sce_ne_top _ _
    · rw [v29_sink x0 x1 x3 x5 hs]; exact EReal.coe_ne_top _
  have hb : val_main_v30 (F := Ideal) x0 x1 x3 x5 (ix4 b h g s) ≠ ⊥ := by
    rw [e1]
    intro hbot
    have := le_fold_max' Finset.univ (fun k => val_main_v29 (F := Ideal) x0 x1 x3 x5 (ix5 b h g s k)) sinkAt (Finset.mem_univ _)
    rw [hbot, v29_sink x0 x1 x3 x5 hs] at this
    exact EReal.coe_ne_bot _ (le_bot_iff.mp this)
  rw [val_main_v32_apply, e0]
  obtain ⟨m, hm⟩ := max_real _ ⊥ hb ht bot_ne_top
  exact ⟨m, (max_comm _ _).trans hm⟩

/-- The numerator of a weight. -/
theorem v36_at (b : Fin 8) (h : Fin 2) (g : Fin 4) (s : Fin 2048) (k : Fin 2305) :
    val_main_v36 (F := Ideal) x0 x1 x3 x5 (ix5 b h g s k)
      = Ideal.exp (val_main_v29 (F := Ideal) x0 x1 x3 x5 (ix5 b h g s k) - val_main_v32 (F := Ideal) x0 x1 x3 x5 (ix4 b h g s)) := by
  rw [val_main_v36_apply, val_main_v35_apply, val_main_v34_apply, val_main_v33_apply]
  have e : idx_main_v33 (idx_main_v34 (ix5 b h g s k)) = ix4 b h g s := ext4 rfl rfl rfl rfl
  rw [e]
  rfl

/-- The denominator of a row's weights. -/
theorem v37_at (b : Fin 8) (h : Fin 2) (g : Fin 4) (s : Fin 2048) :
    val_main_v37 (F := Ideal) x0 x1 x3 x5 (ix4 b h g s) = ∑ k : Fin 2305, val_main_v36 (F := Ideal) x0 x1 x3 x5 (ix5 b h g s k) := by
  rw [val_main_v37_apply]
  have e : val_main_cst_3 (F := Ideal) (Shape.Idx.first h_S_) = (0 : EReal) := word_zero
  rw [e, zero_add]
  exact Finset.sum_congr rfl fun k _ => congrArg _ (ext5 rfl rfl rfl rfl rfl)

theorem v40_at (b : Fin 8) (h : Fin 2) (g : Fin 4) (s : Fin 2048) (k : Fin 2305) :
    val_main_v40 (F := Ideal) x0 x1 x3 x5 (ix5 b h g s k)
      = Ideal.div (val_main_v36 (F := Ideal) x0 x1 x3 x5 (ix5 b h g s k)) (val_main_v37 (F := Ideal) x0 x1 x3 x5 (ix4 b h g s)) := by
  rw [val_main_v40_apply, val_main_v39_apply, val_main_v38_apply]
  have e : idx_main_v38 (idx_main_v39 (ix5 b h g s k)) = ix4 b h g s := ext4 rfl rfl rfl rfl
  rw [e]
  rfl

include hq hk hc hs in
/-- The weighted values of a query row in one head and lane. -/
theorem v47_at (b : Fin 8) (s : Fin 2048) (h : Fin 2) (g : Fin 4) (d : Fin 64) :
    val_main_v47 (F := Ideal) x0 x1 x2 x3 x4 x5 (ix5 b s h g d)
      = attn (fun j : Fin 2048 => Near s.val j.val) (fun j => score (row x0 b s) (row x1 b j) (hd h g))
          (fun l => score (row x0 b s) (row x3 b l) (hd h g)) (x5 (ix1 (hd h g))).toReal
          (fun j => x2 (ix3 b j (kch (hd h g) d))) (fun l => x4 (ix3 b l (kch (hd h g) d))) := by
  obtain ⟨m, hm⟩ := v32_real x0 x1 x3 x5 hq hk hc hs b h g s
  have eloc : ∀ j, val_main_v36 (F := Ideal) x0 x1 x3 x5 (ix5 b h g s (locAt j))
      = Ideal.exp (sce (Near s.val j.val) (score (row x0 b s) (row x1 b j) (hd h g)) - (m : EReal)) := fun j => by
    rw [v36_at, hm, v29_loc x0 x1 x3 x5 hq hk]
  have ectx : ∀ l, val_main_v36 (F := Ideal) x0 x1 x3 x5 (ix5 b h g s (ctxAt l))
      = Ideal.exp (sce True (score (row x0 b s) (row x3 b l) (hd h g)) - (m : EReal)) := fun l => by
    rw [v36_at, hm, v29_ctx x0 x1 x3 x5 hq hc]
  have esink : val_main_v36 (F := Ideal) x0 x1 x3 x5 (ix5 b h g s sinkAt)
      = Ideal.exp (((x5 (ix1 (hd h g))).toReal : EReal) - (m : EReal)) := by
    rw [v36_at, hm, v29_sink x0 x1 x3 x5 hs]
  rw [← basee_row (fun j : Fin 2048 => Near s.val j.val) (fun j => score (row x0 b s) (row x1 b j) (hd h g))
      (fun l => score (row x0 b s) (row x3 b l) (hd h g)) (x5 (ix1 (hd h g))).toReal m _ _
      (val_main_v37 (F := Ideal) x0 x1 x3 x5 (ix4 b h g s))
      (by rw [v37_at, sum_row, esink]; simp only [eloc, ectx])]
  rw [val_main_v47_apply, val_main_v44_apply, val_main_v46_apply, val_main_v43_apply, val_main_v45_apply]
  refine congrArg₂ (· + ·) (Finset.sum_congr rfl fun j _ => ?_) (Finset.sum_congr rfl fun l _ => ?_)
  · rw [val_main_v41_apply, mul_comm]
    refine congrArg₂ (· * ·) ?_ ?_
    · have e : idx_main_v41 (ridx_main_v43 (idx_main_v44 (ix5 b s h g d)) j) = ix5 b h g s (locAt j) := ext5 rfl rfl rfl rfl rfl
      rw [e, v40_at, eloc]
    · have e : lidx_main_v43 (idx_main_v44 (ix5 b s h g d)) j = ix4 b j h d := ext4 rfl rfl rfl rfl
      rw [e, v6_at x2 b j h g d]
  · rw [val_main_v42_apply, mul_comm]
    refine congrArg₂ (· * ·) ?_ ?_
    · have e : idx_main_v42 (ridx_main_v45 (idx_main_v46 (ix5 b s h g d)) l) = ix5 b h g s (ctxAt l) := ext5 rfl rfl rfl rfl rfl
      rw [e, v40_at, ectx]
    · have e : lidx_main_v45 (idx_main_v46 (ix5 b s h g d)) l = ix4 b l h d := ext4 rfl rfl rfl rfl
      rw [e, v10_at x4 b l h g d]

include hq hk hc hs in
/-- **The reference's first result**: the attention of each query row, by output channel. -/
theorem v298_at (b : Fin 8) (s : Fin 2048) (c : Fin 512) :
    val_main_v298 (F := Ideal) x0 x1 x2 x3 x4 x5 x6 (ix3 b s c)
      = attOut (row x0 b s) (row x1 b) (row x2 b) (row x3 b) (row x4 b) (fun h => x5 (ix1 h)) (x6 (ix3 b s c)) s c := by
  rw [val_main_v298_apply, val_main_v50_apply, val_main_v49_apply, val_main_v48_apply]
  have hc' := c.isLt
  have e : idx_main_v48 (ix3 b s c) = ix5 b s ⟨c.val / 256, by omega⟩ ⟨c.val / 64 % 4, by omega⟩ ⟨c.val % 64, by omega⟩ := by
    refine ext5 ?_ ?_ ?_ ?_ ?_
    · show ((b.val * 2048 + s.val) * 512 + c.val) / 1048576 = b.val; omega
    · show ((b.val * 2048 + s.val) * 512 + c.val) / 512 % 2048 = s.val; omega
    · show ((b.val * 2048 + s.val) * 512 + c.val) / 256 % 2 = c.val / 256; omega
    · show ((b.val * 2048 + s.val) * 512 + c.val) / 64 % 4 = c.val / 64 % 4; omega
    · show ((b.val * 2048 + s.val) * 512 + c.val) % 64 = c.val % 64; omega
  have eh : hd ⟨c.val / 256, by omega⟩ ⟨c.val / 64 % 4, by omega⟩ = headOf c :=
    Fin.ext (by show 4 * (c.val / 256) + c.val / 64 % 4 = c.val / 64; omega)
  rw [e, v47_at x0 x1 x2 x3 x4 x5 hq hk hc hs, eh]
  rfl

end Cert.ReferenceIdeal.Attn

end
-- ==== Proof.Attn.KernelPoint.lean ====
/- One grid point's attention: on blocks that hold the queries, the keys and values padded to two lanes' width, the table
   and the gate, the stored block is the attention of its query rows. -/
module

public import proofs.«01_k».proof.Proof.Attn.KernelAttn
public import proofs.«01_k».proof.Proof.Attn.RefAttn

@[expose] public section

set_option maxRecDepth 16384

noncomputable section

namespace Cert.KernelIdeal.Attn

open Cert.KernelIdeal Cert.KernelIdeal.Gen Cert.Attn Idealize.ShloMosaic

/-- The place of a window among the three kinds: first, inner, last. -/
def kind (n : ℕ) : ℕ := if n = 0 then 0 else if n = 15 then 2 else 1

/-- Where a window starts. -/
def from_ (n : ℕ) : ℕ := if n = 0 then 0 else if n = 15 then 1664 else 128 * (n - 1)

theorem start_eq : ∀ (i : grid0.Coords) (sb : Fin 8), start i sb = from_ (8 * (i 1).val + sb.val) := by
  unfold start; decide +kernel

theorem kind_eq : ∀ (i : grid0.Coords) (sb : Fin 8),
    k0_off1 i (BitVec.ofNat 32 sb.val) 0 = kind (8 * (i 1).val + sb.val) ∧ k0_off1 i (BitVec.ofNat 32 sb.val) 1 = 0
      ∧ k0_off1 i (BitVec.ofNat 32 sb.val) 2 = 0 := by
  decide +kernel

/-- A row of 128 lanes against one that is nothing outside half `e`. -/
theorem half_sum (f : Fin 128 → EReal) (g : Fin 64 → EReal) (e : Fin 2) :
    (∑ x : Fin 128, f x * (if x.val / 64 = e.val then g ⟨x.val % 64, by omega⟩ else 0))
      = ∑ d : Fin 64, f ⟨64 * e.val + d.val, by omega⟩ * g d := by
  refine (Fin.sum_univ_add (M := EReal) (a := 64) (b := 64) _).trans ?_
  have lo : ∀ d : Fin 64, (Fin.castAdd 64 d).val = d.val := fun d => rfl
  have hi : ∀ d : Fin 64, (Fin.natAdd 64 d).val = 64 + d.val := fun d => rfl
  match e with
  | 0 =>
    refine Eq.trans (congrArg₂ (fun a b : EReal => a + b) (Finset.sum_congr rfl fun d _ => ?_) (Finset.sum_eq_zero fun d _ => ?_)) (add_zero _)
    · rw [if_pos (by rw [lo]; show d.val / 64 = 0; omega)]
      refine congrArg₂ (· * ·) (congrArg f (Fin.ext ?_)) (congrArg g (Fin.ext ?_))
      · show d.val = 64 * 0 + d.val; omega
      · show d.val % 64 = d.val; omega
    · rw [if_neg (by rw [hi]; show ¬ (64 + d.val) / 64 = 0; omega), mul_zero]
  | 1 =>
    refine Eq.trans (congrArg₂ (fun a b : EReal => a + b) (Finset.sum_eq_zero fun d _ => ?_) (Finset.sum_congr rfl fun d _ => ?_)) (zero_add _)
    · rw [if_neg (by rw [lo]; show ¬ d.val / 64 = 1; omega), mul_zero]
    · rw [if_pos (by rw [hi]; show (64 + d.val) / 64 = 1; omega)]
      refine congrArg₂ (· * ·) (congrArg f (Fin.ext ?_)) (congrArg g (Fin.ext ?_))
      · show 64 + d.val = 64 * 1 + d.val; omega
      · show (64 + d.val) % 64 = d.val; omega

/-- An array whose lane blocks of 128 hold, in half `e` of block `2 kvh + e`, the 64 channels of key head `kvh`. -/
def Padded {n : ℕ} (k : Fin n → Fin 128 → EReal) (X : Fin 512 → Fin n → EReal) : Prop :=
  ∀ (kvh e : Fin 2) (x : Fin 128) (t : Fin n), X ⟨128 * (2 * kvh.val + e.val) + x.val, by omega⟩ t
    = if x.val / 64 = e.val then k t ⟨64 * kvh.val + x.val % 64, by omega⟩ else 0

/-- What a grid point finds in its blocks. -/
structure Blocks (i : grid0.Coords) (X0 : Vec Ideal S8 .f32) (X1 : Vec Ideal S1x1024x512 .bf16) (X2 : Vec Ideal S1x512x2048 .bf16)
    (X3 : Vec Ideal S1x2048x512 .bf16) (X4 : Vec Ideal S1x512x256 .bf16) (X5 : Vec Ideal S1x256x512 .bf16) (X6 : Vec Ideal S3x128x384 .f32)
    (X7 : Vec Ideal S1x1024x512 .bf16) (q : Fin 2048 → Fin 512 → EReal) (k v : Fin 2048 → Fin 128 → EReal)
    (kc vc : Fin 256 → Fin 128 → EReal) (sink : Fin 8 → EReal) (g : Fin 2048 → Fin 512 → EReal) : Prop where
  sink_at : ∀ h, X0 (ix1 h) = sink h
  q_at : ∀ (r : Fin 1024) (c : Fin 512) (h : 1024 * (i 1).val + r.val < 2048), X1 (ix3 0 r c) = q ⟨1024 * (i 1).val + r.val, h⟩ c
  k_at : Padded k fun c t => X2 (ix3 0 c t)
  v_at : Padded v fun c t => X3 (ix3 0 t c)
  kc_at : Padded kc fun c t => X4 (ix3 0 c t)
  vc_at : Padded vc fun c t => X5 (ix3 0 t c)
  table_at : ∀ (a : Fin 3) (r : Fin 128) (c : Fin 384),
    X6 (ix3 a r c) = if Near (128 * a.val + r.val) c.val then (0 : EReal) else 1
  g_at : ∀ (r : Fin 1024) (c : Fin 512) (h : 1024 * (i 1).val + r.val < 2048), X7 (ix3 0 r c) = g ⟨1024 * (i 1).val + r.val, h⟩ c
  q_fin : ∀ s c, q s c = ((q s c).toReal : EReal)
  k_fin : ∀ s c, k s c = ((k s c).toReal : EReal)
  kc_fin : ∀ s c, kc s c = ((kc s c).toReal : EReal)
  sink_fin : ∀ h, sink h = ((sink h).toReal : EReal)

section

variable {i : grid0.Coords} {X0 : Vec Ideal S8 .f32} {X1 : Vec Ideal S1x1024x512 .bf16} {X2 : Vec Ideal S1x512x2048 .bf16}
    {X3 : Vec Ideal S1x2048x512 .bf16} {X4 : Vec Ideal S1x512x256 .bf16} {X5 : Vec Ideal S1x256x512 .bf16} {X6 : Vec Ideal S3x128x384 .f32}
    {X7 : Vec Ideal S1x1024x512 .bf16} {q : Fin 2048 → Fin 512 → EReal} {k v : Fin 2048 → Fin 128 → EReal}
    {kc vc : Fin 256 → Fin 128 → EReal} {sink : Fin 8 → EReal} {g : Fin 2048 → Fin 512 → EReal}
    (H : Blocks i X0 X1 X2 X3 X4 X5 X6 X7 q k v kc vc sink g)

/-- The row of the whole array that is row `r` of query block `sb`. -/
abbrev rowOf (i : grid0.Coords) (sb : Fin 8) (r : Fin 128) : Fin 2048 :=
  ⟨1024 * (i 1).val + (128 * sb.val + r.val), by have : (i 1).val < 2 := (i 1).isLt; omega⟩

/-- The channel that is lane `d` of lane block `c`. -/
abbrev chan (c : Fin 4) (d : Fin 128) : Fin 512 := ⟨128 * c.val + d.val, by omega⟩

/-- The row of the whole array that an index of the block is in. -/
abbrev rowAt (i : grid0.Coords) (y : S1x1024x512.Idx) : Fin 2048 :=
  ⟨1024 * (i 1).val + (y 1).val, by have : (i 1).val < 2 := (i 1).isLt; have : (y 1).val < 1024 := (y 1).isLt; omega⟩

/-- The attention of a grid point's query rows. -/
def attBlock (i : grid0.Coords) (q : Fin 2048 → Fin 512 → EReal) (k v : Fin 2048 → Fin 128 → EReal)
    (kc vc : Fin 256 → Fin 128 → EReal) (sink : Fin 8 → EReal) (g : Fin 2048 → Fin 512 → EReal) : Vec Ideal S1x1024x512 .bf16 :=
  fun y => attOut (q (rowAt i y)) k v kc vc sink (g (rowAt i y) (y 2)) (rowAt i y) (y 2)

include H

theorem ldQ (sb : Fin 8) (c : Fin 4) (r d : Fin 128) :
    View.ld X1 (rQ sb c) (ix3 0 r d) = q (rowOf i sb r) (chan c d) := by
  refine Eq.trans (congrArg X1 (ext3 ?_ ?_ ?_)) (H.q_at ⟨128 * sb.val + r.val, by omega⟩ (chan c d) (rowOf i sb r).isLt)
  · rfl
  · show 128 * sb.val + 1 * r.val = 128 * sb.val + r.val; omega
  · show 128 * c.val + 1 * d.val = 128 * c.val + d.val; omega

theorem ldG (sb : Fin 8) (c : Fin 4) (r d : Fin 128) :
    View.ld X7 (rQ sb c) (ix3 0 r d) = g (rowOf i sb r) (chan c d) := by
  refine Eq.trans (congrArg X7 (ext3 ?_ ?_ ?_)) (H.g_at ⟨128 * sb.val + r.val, by omega⟩ (chan c d) (rowOf i sb r).isLt)
  · rfl
  · show 128 * sb.val + 1 * r.val = 128 * sb.val + r.val; omega
  · show 128 * c.val + 1 * d.val = 128 * c.val + d.val; omega

/-- Key or value `c` of the window of query block `sb`. -/
abbrev keyOf (i : grid0.Coords) (sb : Fin 8) (c : Fin 384) : Fin 2048 := ⟨start i sb + c.val, by have := start_le i sb; omega⟩

theorem ldK (sb : Fin 8) (kvh e : Fin 2) (x : Fin 128) (c : Fin 384) :
    View.ld X2 (rK i sb (lane kvh e)) (ix3 0 x c)
      = if x.val / 64 = e.val then k (keyOf i sb c) ⟨64 * kvh.val + x.val % 64, by omega⟩ else 0 := by
  refine Eq.trans (congrArg X2 (ext3 ?_ ?_ ?_)) (H.k_at kvh e x (keyOf i sb c))
  · rfl
  · show 128 * (2 * kvh.val + e.val) + 1 * x.val = 128 * (2 * kvh.val + e.val) + x.val; omega
  · show start i sb + 1 * c.val = start i sb + c.val; omega

theorem ldV (sb : Fin 8) (kvh e : Fin 2) (x : Fin 128) (c : Fin 384) :
    View.ld X3 (rV i sb (lane kvh e)) (ix3 0 c x)
      = if x.val / 64 = e.val then v (keyOf i sb c) ⟨64 * kvh.val + x.val % 64, by omega⟩ else 0 := by
  refine Eq.trans (congrArg X3 (ext3 ?_ ?_ ?_)) (H.v_at kvh e x (keyOf i sb c))
  · rfl
  · show start i sb + 1 * c.val = start i sb + c.val; omega
  · show 128 * (2 * kvh.val + e.val) + 1 * x.val = 128 * (2 * kvh.val + e.val) + x.val; omega

theorem ldKc (kvh e : Fin 2) (x : Fin 128) (c : Fin 256) :
    View.ld X4 (rKc (lane kvh e)) (ix3 0 x c)
      = if x.val / 64 = e.val then kc c ⟨64 * kvh.val + x.val % 64, by omega⟩ else 0 := by
  refine Eq.trans (congrArg X4 (ext3 ?_ ?_ ?_)) (H.kc_at kvh e x c)
  · rfl
  · show 128 * (2 * kvh.val + e.val) + 1 * x.val = 128 * (2 * kvh.val + e.val) + x.val; omega
  · show 0 + 1 * c.val = c.val; omega

theorem ldVc (kvh e : Fin 2) (x : Fin 128) (c : Fin 256) :
    View.ld X5 (rVc (lane kvh e)) (ix3 0 c x)
      = if x.val / 64 = e.val then vc c ⟨64 * kvh.val + x.val % 64, by omega⟩ else 0 := by
  refine Eq.trans (congrArg X5 (ext3 ?_ ?_ ?_)) (H.vc_at kvh e x c)
  · rfl
  · show 0 + 1 * c.val = c.val; omega
  · show 128 * (2 * kvh.val + e.val) + 1 * x.val = 128 * (2 * kvh.val + e.val) + x.val; omega

theorem ldS (h : Fin 8) : View.ld X0 (rS h) (Shape.Idx.first (s := S1) (by decide)) = sink h := by
  refine Eq.trans (congrArg X0 (funext fun a => Fin.ext (match a with | ⟨0, _⟩ => ?_))) (H.sink_at h)
  show h.val + 1 * 0 = h.val; omega

/-- The table says which keys of the window are in reach. -/
theorem ldBias (sb : Fin 8) (r : Fin 128) (c : Fin 384) :
    View.ld X6 (rBias i sb) (ix3 0 r c) = if Near (rowOf i sb r).val (keyOf i sb c).val then (0 : EReal) else 1 := by
  obtain ⟨h0, h1, h2⟩ := kind_eq i sb
  have hi : (i 1).val < 2 := (i 1).isLt
  have hk : kind (8 * (i 1).val + sb.val) < 3 := by unfold kind; split <;> [omega; (split <;> omega)]
  refine Eq.trans (congrArg X6 (ext3 (j := ix3 ⟨_, hk⟩ r c) ?_ ?_ ?_)) ((H.table_at ⟨_, hk⟩ r c).trans ?_)
  · show k0_off1 i (BitVec.ofNat 32 sb.val) 0 + 1 * 0 = _; rw [h0]; rfl
  · show k0_off1 i (BitVec.ofNat 32 sb.val) 1 + 1 * r.val = r.val; rw [h1]; omega
  · show k0_off1 i (BitVec.ofNat 32 sb.val) 2 + 1 * c.val = c.val; rw [h2]; omega
  · refine if_congr ?_ rfl rfl
    show Near (128 * kind (8 * (i 1).val + sb.val) + r.val) c.val
      ↔ Near (1024 * (i 1).val + (128 * sb.val + r.val)) (start i sb + c.val)
    rw [start_eq]
    unfold Near kind from_
    have := c.isLt; have := r.isLt
    split
    · omega
    · split <;> omega

theorem pick_q (sb : Fin 8) (kvh hf : Fin 2) (r d : Fin 128) :
    (if hf = 0 then View.ld X1 (rQ sb (lane kvh 0)) else View.ld X1 (rQ sb (lane kvh 1))) (ix3 0 r d)
      = q (rowOf i sb r) (chan (lane kvh hf) d) := by
  match hf with
  | 0 => exact ldQ H sb (lane kvh 0) r d
  | 1 => exact ldQ H sb (lane kvh 1) r d

/-- A chain's score against the window: the head's score, nothing where the key is out of reach. -/
theorem scoreL_at (sb : Fin 8) (kvh hf e : Fin 2) (r : Fin 128) (c : Fin 384) :
    scoresL (View.ld X6 (rBias i sb)) (View.ld X2 (rK i sb (lane kvh e))) (qPair (View.ld X1 (rQ sb (lane kvh 0))) (View.ld X1 (rQ sb (lane kvh 1))))
        (ix2 ⟨128 * hf.val + r.val, by omega⟩ c)
      = sc2 (Near (rowOf i sb r).val (keyOf i sb c).val) (score (q (rowOf i sb r)) (k (keyOf i sb c)) (head kvh hf e)) := by
  refine (scoresL_at _ _ _ _ hf r c).trans ?_
  rw [ldBias H sb r c]
  have hs : (∑ j : Fin 128, (if hf = 0 then View.ld X1 (rQ sb (lane kvh 0)) else View.ld X1 (rQ sb (lane kvh 1))) (ix3 0 r j)
      * View.ld X2 (rK i sb (lane kvh e)) (ix3 0 j c) : EReal) = ((score (q (rowOf i sb r)) (k (keyOf i sb c)) (head kvh hf e) : ℝ) : EReal) := by
    rw [← Cert.ReferenceIdeal.Attn.dot_score _ _ (H.q_fin _) (H.k_fin _)]
    refine (Finset.sum_congr rfl fun j _ => congrArg₂ (· * ·) (pick_q H sb kvh hf r j) (ldK H sb kvh e j c)).trans ?_
    refine (half_sum (fun j => q (rowOf i sb r) (chan (lane kvh hf) j)) (fun d => k (keyOf i sb c) ⟨64 * kvh.val + d.val, by omega⟩) e).trans ?_
    refine Finset.sum_congr rfl fun d _ => ?_
    rw [mul_comm]
    refine congrArg₂ (· * ·) (congrArg _ (Fin.ext ?_)) (congrArg _ (Fin.ext ?_))
    · show 64 * kvh.val + d.val = 64 * ((4 * kvh.val + 2 * hf.val + e.val) / 4) + d.val; omega
    · show 128 * (2 * kvh.val + hf.val) + (64 * e.val + d.val) = 64 * (4 * kvh.val + 2 * hf.val + e.val) + d.val; omega
  refine (congrArg (· + _) hs).trans ?_
  unfold sc2
  split
  · rw [zero_mul, add_zero]
  · rw [one_mul, EReal.add_bot]

/-- A chain's score against the context. -/
theorem scoreC_at (sb : Fin 8) (kvh hf e : Fin 2) (r : Fin 128) (c : Fin 256) :
    scoresC (View.ld X4 (rKc (lane kvh e))) (qPair (View.ld X1 (rQ sb (lane kvh 0))) (View.ld X1 (rQ sb (lane kvh 1))))
        (ix2 ⟨128 * hf.val + r.val, by omega⟩ c)
      = sc2 True (score (q (rowOf i sb r)) (kc c) (head kvh hf e)) := by
  refine (scoresC_at _ _ _ hf r c).trans ?_
  unfold sc2
  rw [if_pos trivial, ← Cert.ReferenceIdeal.Attn.dot_score _ _ (H.q_fin _) (H.kc_fin _)]
  refine (Finset.sum_congr rfl fun j _ => congrArg₂ (· * ·) (pick_q H sb kvh hf r j) (ldKc H kvh e j c)).trans ?_
  refine (half_sum (fun j => q (rowOf i sb r) (chan (lane kvh hf) j)) (fun d => kc c ⟨64 * kvh.val + d.val, by omega⟩) e).trans ?_
  refine Finset.sum_congr rfl fun d _ => ?_
  rw [mul_comm]
  refine congrArg₂ (· * ·) (congrArg _ (Fin.ext ?_)) (congrArg _ (Fin.ext ?_))
  · show 64 * kvh.val + d.val = 64 * ((4 * kvh.val + 2 * hf.val + e.val) / 4) + d.val; omega
  · show 128 * (2 * kvh.val + hf.val) + (64 * e.val + d.val) = 64 * (4 * kvh.val + 2 * hf.val + e.val) + d.val; omega

/-- A chain at an index: the head's attention in its own half of the lanes, nothing in the other. -/
theorem chainAt_at (sb : Fin 8) (kvh hf e : Fin 2) (r d : Fin 128) :
    chainAt i X0 X1 X2 X3 X4 X5 X6 sb kvh e (ix2 ⟨128 * hf.val + r.val, by omega⟩ d)
      = if d.val / 64 = e.val then
          attn (fun j : Fin 2048 => Near (rowOf i sb r).val j.val) (fun j => score (q (rowOf i sb r)) (k j) (head kvh hf e))
            (fun l => score (q (rowOf i sb r)) (kc l) (head kvh hf e)) (sink (head kvh hf e)).toReal
            (fun j => v j ⟨64 * kvh.val + d.val % 64, by omega⟩) (fun l => vc l ⟨64 * kvh.val + d.val % 64, by omega⟩)
        else 0 := by
  unfold chainAt
  refine (chain_at _ _ _ _ _ _ _ _ _ _ d (fun c => Near (rowOf i sb r).val (keyOf i sb c).val)
    (fun c => score (q (rowOf i sb r)) (k (keyOf i sb c)) (head kvh hf e)) (fun l => score (q (rowOf i sb r)) (kc l) (head kvh hf e))
    (sink (head kvh hf e)).toReal (scoreL_at H sb kvh hf e r) (scoreC_at H sb kvh hf e r) ?_).trans ?_
  · refine (sinkCol_at _ _ hf r).trans ?_
    rw [EReal.coe_mul, ← H.sink_fin]
    refine congrArg (· * _) ?_
    match hf with
    | 0 => exact ldS H (head kvh 0 e)
    | 1 => exact ldS H (head kvh 1 e)
  · simp only [ldV H, ldVc H]
    split
    · refine Eq.symm ?_
      refine attn_window (fun c => keyOf i sb c) (fun a b hab => ?_) _ (fun j hj => ?_) _ _ _ _ _
      · have h := congrArg Fin.val hab
        exact Fin.ext (Nat.add_left_cancel h)
      · have hi : (i 1).val < 2 := (i 1).isLt
        have hj' := j.isLt
        have hs := start_eq i sb
        have hw : start i sb ≤ j.val ∧ j.val < start i sb + 384 := by
          rw [hs]
          obtain ⟨h1, h2⟩ := hj
          have h1' : 1024 * (i 1).val + (128 * sb.val + r.val) ≤ j.val + 128 := h1
          have h2' : j.val ≤ 1024 * (i 1).val + (128 * sb.val + r.val) + 128 := h2
          unfold from_
          have := r.isLt
          split
          · omega
          · split <;> omega
        exact ⟨⟨j.val - start i sb, by omega⟩, Fin.ext (by show start i sb + (j.val - start i sb) = j.val; omega)⟩
    · exact attn_zero _ _ _ _

/-- **What is stored**: the attention of the query row in the channel. -/
theorem piece_at (sb : Fin 8) (kvh hf : Fin 2) (r d : Fin 128) :
    stored ![128 * hf.val, 0] (half_slices hf) (addf (chainAt i X0 X1 X2 X3 X4 X5 X6 sb kvh 0) (chainAt i X0 X1 X2 X3 X4 X5 X6 sb kvh 1))
        (View.ld X7 (rQ sb (lane kvh hf))) (ix3 0 r d)
      = attOut (q (rowOf i sb r)) k v kc vc sink (g (rowOf i sb r) (chan (lane kvh hf) d)) (rowOf i sb r) (chan (lane kvh hf) d) := by
  unfold stored attOut
  refine (ValueIdx.shapeCast_ab_1ab_apply _ _ 0 r d).trans ?_
  refine congrArg₂ (fun a b : EReal => a * b) ?_ ((ValueIdx.shapeCast_1ab_ab_apply _ _ r d).trans (ldG H sb (lane kvh hf) r d))
  refine (extractStridedSlice_apply _ _ (half_slices hf) (ix2 r d) (ix2 ⟨128 * hf.val + r.val, by omega⟩ d) (fun a => match a with
    | ⟨0, _⟩ => rfl
    | ⟨1, _⟩ => by show d.val = 0 + d.val; omega)).trans ?_
  refine (congrArg₂ (fun a b : EReal => a + b) (chainAt_at H sb kvh hf 0 r d) (chainAt_at H sb kvh hf 1 r d)).trans ?_
  have ch : ∀ e : Fin 2, d.val / 64 = e.val → headOf (chan (lane kvh hf) d) = head kvh hf e := fun e he => Fin.ext (by
    show (128 * (2 * kvh.val + hf.val) + d.val) / 64 = 4 * kvh.val + 2 * hf.val + e.val
    omega)
  have ck : kch (headOf (chan (lane kvh hf) d)) (laneOf (chan (lane kvh hf) d)) = ⟨64 * kvh.val + d.val % 64, by omega⟩ := Fin.ext (by
    show 64 * ((128 * (2 * kvh.val + hf.val) + d.val) / 64 / 4) + (128 * (2 * kvh.val + hf.val) + d.val) % 64 = 64 * kvh.val + d.val % 64
    have := d.isLt
    omega)
  rw [ck]
  by_cases h0 : d.val / 64 = (0 : Fin 2).val
  · have h1 : ¬ d.val / 64 = (1 : Fin 2).val := by rw [h0]; decide
    rw [if_pos h0, if_neg h1, ch 0 h0, add_zero]
  · have h1 : d.val / 64 = (1 : Fin 2).val := by
      have h0' : ¬ d.val / 64 = 0 := h0
      show d.val / 64 = 1
      omega
    rw [if_neg h0, if_pos h1, ch 1 h1, zero_add]

/-- **The block of the attention**, at any of its indices, whatever the order of the stores. -/
theorem pieces_at (y : S1x1024x512.Idx) :
    View.canon (pieces i X0 X1 X2 X3 X4 X5 X6 X7) y = attBlock i q k v kc vc sink g y := by
  refine View.canon_apply_of_pieces (attBlock i q k v kc vc sink g) _ ?_ y ?_
  · have key : ∀ (sb : Fin 8) (kvh hf : Fin 2) (x : S1x128x128.Idx),
        (piece i X0 X1 X2 X3 X4 X5 X6 X7 sb kvh hf).2 x = attBlock i q k v kc vc sink g ((rQ sb (lane kvh hf)).emb x) := by
      intro sb kvh hf x
      have hx : x = ix3 0 (x 1) (x 2) := ext3 (Nat.lt_one_iff.mp (x 0).isLt) rfl rfl
      have e1 : rowAt i ((rQ sb (lane kvh hf)).emb x) = rowOf i sb (x 1) := Fin.ext (by
        show 1024 * (i 1).val + (128 * sb.val + 1 * (x 1).val) = 1024 * (i 1).val + (128 * sb.val + (x 1).val); omega)
      have e2 : (rQ sb (lane kvh hf)).emb x 2 = chan (lane kvh hf) (x 2) := Fin.ext (by
        show 128 * (2 * kvh.val + hf.val) + 1 * (x 2).val = 128 * (2 * kvh.val + hf.val) + (x 2).val; omega)
      unfold attBlock
      rw [e1, e2]
      exact (congrArg _ hx).trans (piece_at H sb kvh hf (x 1) (x 2))
    intro p hp
    unfold pieces at hp
    obtain ⟨sb, -, hp⟩ := List.mem_flatMap.mp hp
    simp only [List.mem_cons, List.not_mem_nil, or_false] at hp
    rcases hp with rfl | rfl | rfl | rfl
    · exact key sb 1 1
    · exact key sb 1 0
    · exact key sb 0 1
    · exact key sb 0 0
  · have h1 : (y 1).val < 1024 := (y 1).isLt
    have h2 : (y 2).val < 512 := (y 2).isLt
    have h0 : (y 0).val = 0 := Nat.lt_one_iff.mp (y 0).isLt
    refine ⟨piece i X0 X1 X2 X3 X4 X5 X6 X7 ⟨(y 1).val / 128, by omega⟩ ⟨(y 2).val / 256, by omega⟩ ⟨(y 2).val / 128 % 2, by omega⟩, ?_, ?_⟩
    · have all : ∀ (sb : Fin 8) (kvh hf : Fin 2), piece i X0 X1 X2 X3 X4 X5 X6 X7 sb kvh hf ∈ pieces i X0 X1 X2 X3 X4 X5 X6 X7 := by
        intro sb kvh hf
        unfold pieces
        refine List.mem_flatMap.mpr ⟨sb, (by revert sb; decide), ?_⟩
        match kvh, hf with
        | 1, 1 => simp
        | 1, 0 => simp
        | 0, 1 => simp
        | 0, 0 => simp
      exact all _ _ _
    · show y ∈ (rQ _ (lane _ _)).set
      rw [Rect.mem_set_unit]
      intro a
      match a with
      | ⟨0, _⟩ => exact ⟨Nat.zero_le _, by show (y 0).val < 0 + 1; omega⟩
      | ⟨1, _⟩ => exact ⟨by show 128 * ((y 1).val / 128) ≤ (y 1).val; omega, by show (y 1).val < 128 * ((y 1).val / 128) + 128; omega⟩
      | ⟨2, _⟩ => exact ⟨by show 128 * (2 * ((y 2).val / 256) + (y 2).val / 128 % 2) ≤ (y 2).val; omega,
          by show (y 2).val < 128 * (2 * ((y 2).val / 256) + (y 2).val / 128 % 2) + 128; omega⟩

end

end Cert.KernelIdeal.Attn

end
-- ==== Proof.Attn.HostArrays.lean ====
/- The arrays the host lays out before the kernel runs, at an index: keys and values padded to two lanes' width, the table
   of the band, and the rows given a leading axis. -/
module

public import proofs.«01_k».proof.Proof.Attn.KernelPoint
public import proofs.«01_k».proof.Proof.Gen.KernelIdeal.Frame.Runs
public import Idealize.ShloMosaic.Lib.Claim
public import Idealize.ShloMosaic.Lib.ValueLayout
public import Idealize.ShloMosaic.Lib.StableHlo.ReadAt

@[expose] public section

set_option maxRecDepth 16384

noncomputable section

namespace Cert.KernelIdeal.Attn

open Cert.KernelIdeal Cert.KernelIdeal.Gen Cert.Attn Idealize.ShloMosaic Idealize.ShloMosaic.TcCoe
open Cert.ReferenceIdeal.Attn (row)

/-- The eight pieces a padded array is made of. -/
def eight {α : Type} (x0 x1 z : α) : Fin 8 → α := ![x0, z, z, x0, x1, z, z, x1]

theorem eight_at {α : Type} (x0 x1 z : α) (kvh e h : Fin 2) :
    eight x0 x1 z ⟨2 * (2 * kvh.val + e.val) + h.val, by omega⟩ = if h = e then (if kvh = 0 then x0 else x1) else z := by
  fin_cases kvh <;> fin_cases e <;> fin_cases h <;> rfl

/-- Eight pieces joined along the middle axis are the padded rows. -/
theorem rows_padded {m n : ℕ} (x0 x1 z : (⟨3, ![m, 64, n]⟩ : Shape).Idx → EReal)
    (hc : Shape.Concatenates ((List.ofFn fun p : Fin 8 => (⟨⟨3, ![m, 64, n]⟩, eight x0 x1 z p⟩ : (s : Shape) × (s.Idx → EReal))).map (·.1)) ⟨3, ![m, 512, n]⟩ 1)
    (f : Fin 128 → EReal) (b : Fin m) (t : Fin n) (hz : ∀ x, z (ix3 b x t) = 0)
    (h0 : ∀ x : Fin 64, x0 (ix3 b x t) = f ⟨x.val, by omega⟩) (h1 : ∀ x : Fin 64, x1 (ix3 b x t) = f ⟨64 + x.val, by omega⟩)
    (kvh e : Fin 2) (x : Fin 128) :
    concatenate ⟨3, ![m, 512, n]⟩ 1 (List.ofFn fun p : Fin 8 => (⟨⟨3, ![m, 64, n]⟩, eight x0 x1 z p⟩ : (s : Shape) × (s.Idx → EReal))) hc
        (ix3 b ⟨128 * (2 * kvh.val + e.val) + x.val, by omega⟩ t)
      = if x.val / 64 = e.val then f ⟨64 * kvh.val + x.val % 64, by omega⟩ else 0 := by
  have hx : x.val / 64 < 2 := by omega
  rw [concatenate_ofFn_apply (t := ⟨3, ![m, 512, n]⟩) 1 (eight x0 x1 z) hc rfl 64 rfl (ix3 b ⟨128 * (2 * kvh.val + e.val) + x.val, by omega⟩ t)
    ⟨2 * (2 * kvh.val + e.val) + x.val / 64, by omega⟩ (by show (128 * (2 * kvh.val + e.val) + x.val) / 64 = 2 * (2 * kvh.val + e.val) + x.val / 64; omega)
    (ix3 b ⟨x.val % 64, Nat.mod_lt _ (by omega)⟩ t) (by show x.val % 64 = (128 * (2 * kvh.val + e.val) + x.val) % 64; omega)
    (fun a ha => match a, ha with | ⟨0, _⟩, _ => rfl | ⟨1, _⟩, ha => absurd rfl ha | ⟨2, _⟩, _ => rfl)]
  rw [eight_at x0 x1 z kvh e ⟨x.val / 64, hx⟩]
  by_cases he : x.val / 64 = e.val
  · rw [if_pos (Fin.ext he), if_pos he]
    by_cases hk : kvh = 0
    · subst hk; rw [if_pos rfl, h0]; exact congrArg f (Fin.ext (by show x.val % 64 = 64 * 0 + x.val % 64; omega))
    · have : kvh.val = 1 := by have := kvh.isLt; have : kvh.val ≠ 0 := fun h => hk (Fin.ext h); omega
      rw [if_neg hk, h1]; exact congrArg f (Fin.ext (by show 64 + x.val % 64 = 64 * kvh.val + x.val % 64; omega))
  · rw [if_neg (fun h => he (congrArg Fin.val h)), if_neg he, hz]

/-- Eight pieces joined along the last axis are the padded columns. -/
theorem columns_padded {m n : ℕ} (x0 x1 z : (⟨3, ![m, n, 64]⟩ : Shape).Idx → EReal)
    (hc : Shape.Concatenates ((List.ofFn fun p : Fin 8 => (⟨⟨3, ![m, n, 64]⟩, eight x0 x1 z p⟩ : (s : Shape) × (s.Idx → EReal))).map (·.1)) ⟨3, ![m, n, 512]⟩ 2)
    (f : Fin 128 → EReal) (b : Fin m) (t : Fin n) (hz : ∀ x, z (ix3 b t x) = 0)
    (h0 : ∀ x : Fin 64, x0 (ix3 b t x) = f ⟨x.val, by omega⟩) (h1 : ∀ x : Fin 64, x1 (ix3 b t x) = f ⟨64 + x.val, by omega⟩)
    (kvh e : Fin 2) (x : Fin 128) :
    concatenate ⟨3, ![m, n, 512]⟩ 2 (List.ofFn fun p : Fin 8 => (⟨⟨3, ![m, n, 64]⟩, eight x0 x1 z p⟩ : (s : Shape) × (s.Idx → EReal))) hc
        (ix3 b t ⟨128 * (2 * kvh.val + e.val) + x.val, by omega⟩)
      = if x.val / 64 = e.val then f ⟨64 * kvh.val + x.val % 64, by omega⟩ else 0 := by
  have hx : x.val / 64 < 2 := by omega
  rw [concatenate_ofFn_apply (t := ⟨3, ![m, n, 512]⟩) 2 (eight x0 x1 z) hc rfl 64 rfl (ix3 b t ⟨128 * (2 * kvh.val + e.val) + x.val, by omega⟩)
    ⟨2 * (2 * kvh.val + e.val) + x.val / 64, by omega⟩ (by show (128 * (2 * kvh.val + e.val) + x.val) / 64 = 2 * (2 * kvh.val + e.val) + x.val / 64; omega)
    (ix3 b t ⟨x.val % 64, Nat.mod_lt _ (by omega)⟩) (by show x.val % 64 = (128 * (2 * kvh.val + e.val) + x.val) % 64; omega)
    (fun a ha => match a, ha with | ⟨0, _⟩, _ => rfl | ⟨1, _⟩, _ => rfl | ⟨2, _⟩, ha => absurd rfl ha)]
  rw [eight_at x0 x1 z kvh e ⟨x.val / 64, hx⟩]
  by_cases he : x.val / 64 = e.val
  · rw [if_pos (Fin.ext he), if_pos he]
    by_cases hk : kvh = 0
    · subst hk; rw [if_pos rfl, h0]; exact congrArg f (Fin.ext (by show x.val % 64 = 64 * 0 + x.val % 64; omega))
    · have : kvh.val = 1 := by have := kvh.isLt; have : kvh.val ≠ 0 := fun h => hk (Fin.ext h); omega
      rw [if_neg hk, h1]; exact congrArg f (Fin.ext (by show 64 + x.val % 64 = 64 * kvh.val + x.val % 64; omega))
  · rw [if_neg (fun h => he (congrArg Fin.val h)), if_neg he, hz]

variable (m : (ℓ : Loc nD τ sig) → Buf (Elt Ideal) ℓ) (c : Dev nD)

/-- The keys as laid out for the kernel: eight pieces. -/
theorem V_v4 (hc) : V m c main_v4 = concatenate S8x512x2048 1
    (List.ofFn fun p : Fin 8 => (⟨S8x64x2048, eight (α := S8x64x2048.Idx → EReal)
      (extractStridedSlice S8x64x2048 ![0, 0, 0] (transpose S8x128x2048 [0, 2, 1] (m ((c : Thread nD τ).loc main_arg1)) transposes_S8x2048x128_S8x128x2048_0_2_1) slices_S8x128x2048_S8x64x2048_0_0_0)
      (extractStridedSlice S8x64x2048 ![0, 64, 0] (transpose S8x128x2048 [0, 2, 1] (m ((c : Thread nD τ).loc main_arg1)) transposes_S8x2048x128_S8x128x2048_0_2_1) slices_S8x128x2048_S8x64x2048_0_64_0)
      (broadcastInDim S8x64x2048 ![] bcast_S_S8x64x2048 (constant (F := Ideal) S_ .bf16 0x0000#16)) p⟩ : (s : Shape) × (s.Idx → EReal))) hc := by
  unfold V
  after_reads_simp
  rfl

/-- The values as laid out for the kernel: eight pieces. -/
theorem V_v8 (hc) : V m c main_v8 = concatenate S8x2048x512 2
    (List.ofFn fun p : Fin 8 => (⟨S8x2048x64, eight (α := S8x2048x64.Idx → EReal)
      (extractStridedSlice S8x2048x64 ![0, 0, 0] (m ((c : Thread nD τ).loc main_arg2)) slices_S8x2048x128_S8x2048x64_0_0_0)
      (extractStridedSlice S8x2048x64 ![0, 0, 64] (m ((c : Thread nD τ).loc main_arg2)) slices_S8x2048x128_S8x2048x64_0_0_64)
      (broadcastInDim S8x2048x64 ![] bcast_S_S8x2048x64 (constant (F := Ideal) S_ .bf16 0x0000#16)) p⟩ : (s : Shape) × (s.Idx → EReal))) hc := by
  unfold V
  after_reads_simp
  rfl

/-- The context keys as laid out for the kernel: eight pieces. -/
theorem V_v14 (hc) : V m c main_v14 = concatenate S1x512x2048 1
    (List.ofFn fun p : Fin 8 => (⟨S1x64x2048, eight (α := S1x64x2048.Idx → EReal)
      (extractStridedSlice S1x64x2048 ![0, 0, 0] (transpose S1x128x2048 [0, 2, 1] (shapeCast S1x2048x128 (m ((c : Thread nD τ).loc main_arg3)) shapeCasts_S8x256x128_S1x2048x128) transposes_S1x2048x128_S1x128x2048_0_2_1) slices_S1x128x2048_S1x64x2048_0_0_0)
      (extractStridedSlice S1x64x2048 ![0, 64, 0] (transpose S1x128x2048 [0, 2, 1] (shapeCast S1x2048x128 (m ((c : Thread nD τ).loc main_arg3)) shapeCasts_S8x256x128_S1x2048x128) transposes_S1x2048x128_S1x128x2048_0_2_1) slices_S1x128x2048_S1x64x2048_0_64_0)
      (broadcastInDim S1x64x2048 ![] bcast_S_S1x64x2048 (constant (F := Ideal) S_ .bf16 0x0000#16)) p⟩ : (s : Shape) × (s.Idx → EReal))) hc := by
  unfold V
  after_reads_simp
  rfl

/-- The context values as laid out for the kernel: eight pieces. -/
theorem V_v18 (hc) : V m c main_v18 = concatenate S8x256x512 2
    (List.ofFn fun p : Fin 8 => (⟨S8x256x64, eight (α := S8x256x64.Idx → EReal)
      (extractStridedSlice S8x256x64 ![0, 0, 0] (m ((c : Thread nD τ).loc main_arg4)) slices_S8x256x128_S8x256x64_0_0_0)
      (extractStridedSlice S8x256x64 ![0, 0, 64] (m ((c : Thread nD τ).loc main_arg4)) slices_S8x256x128_S8x256x64_0_0_64)
      (broadcastInDim S8x256x64 ![] bcast_S_S8x256x64 (constant (F := Ideal) S_ .bf16 0x0000#16)) p⟩ : (s : Shape) × (s.Idx → EReal))) hc := by
  unfold V
  after_reads_simp
  rfl

/-- The padded keys of a sequence. -/
theorem keys_at (b : Fin 8) :
    Padded (row (m ((c : Thread nD τ).loc main_arg1)) b) fun r (t : Fin 2048) => V m c main_v4 (ix3 b r t) := by
  intro kvh e x t
  beta_reduce
  rw [V_v4 m c concatenates_S8x64x2048_S8x64x2048_S8x64x2048_S8x64x2048_S8x64x2048_S8x64x2048_S8x64x2048_S8x64x2048_S8x512x2048_d1]
  refine rows_padded _ _ _ _ (fun ch => row (m ((c : Thread nD τ).loc main_arg1)) b t ch) b t ?_ ?_ ?_ kvh e x
  · intro x; exact word_zero16
  · intro x
    refine (extractStridedSlice_apply _ _ _ _ (ix3 b ⟨x.val, by omega⟩ t) ?_).trans ?_
    · intro a; fin_cases a <;> simp
    · exact ValueIdx.transpose_ix3_021_apply _ _ _ _ _
  · intro x
    refine (extractStridedSlice_apply _ _ _ _ (ix3 b ⟨64 + x.val, by omega⟩ t) ?_).trans ?_
    · intro a; fin_cases a <;> simp
    · exact ValueIdx.transpose_ix3_021_apply _ _ _ _ _

/-- The padded values of a sequence. -/
theorem values_at (b : Fin 8) :
    Padded (row (m ((c : Thread nD τ).loc main_arg2)) b) fun r (t : Fin 2048) => V m c main_v8 (ix3 b t r) := by
  intro kvh e x t
  beta_reduce
  rw [V_v8 m c concatenates_S8x2048x64_S8x2048x64_S8x2048x64_S8x2048x64_S8x2048x64_S8x2048x64_S8x2048x64_S8x2048x64_S8x2048x512_d2]
  refine columns_padded _ _ _ _ (fun ch => row (m ((c : Thread nD τ).loc main_arg2)) b t ch) b t ?_ ?_ ?_ kvh e x
  · intro x; exact word_zero16
  · intro x
    refine (extractStridedSlice_apply _ _ _ _ (ix3 b t ⟨x.val, by omega⟩) ?_).trans rfl
    intro a; fin_cases a <;> simp
  · intro x
    refine (extractStridedSlice_apply _ _ _ _ (ix3 b t ⟨64 + x.val, by omega⟩) ?_).trans rfl
    intro a; fin_cases a <;> simp

/-- The padded context keys of a sequence. -/
theorem keysCtx_at (b : Fin 8) :
    Padded (row (m ((c : Thread nD τ).loc main_arg3)) b) fun r (t : Fin 256) => V m c main_v14 (ix3 0 r ⟨256 * b.val + t.val, by omega⟩) := by
  intro kvh e x t
  beta_reduce
  rw [V_v14 m c concatenates_S1x64x2048_S1x64x2048_S1x64x2048_S1x64x2048_S1x64x2048_S1x64x2048_S1x64x2048_S1x64x2048_S1x512x2048_d1]
  have cast_at (ch : Fin 128) : shapeCast S1x2048x128 (m ((c : Thread nD τ).loc main_arg3)) shapeCasts_S8x256x128_S1x2048x128
      (ix3 0 ⟨256 * b.val + t.val, by omega⟩ ch) = row (m ((c : Thread nD τ).loc main_arg3)) b t ch := by
    refine shapeCast_apply _ _ _ (ix3 b t ch) ?_
    simp [Shape.rowMajor_val_three]
    omega
  refine rows_padded _ _ _ _ (fun ch => row (m ((c : Thread nD τ).loc main_arg3)) b t ch) 0 ⟨256 * b.val + t.val, by omega⟩ ?_ ?_ ?_ kvh e x
  · intro x; exact word_zero16
  · intro x
    refine (extractStridedSlice_apply _ _ _ _ (ix3 0 ⟨x.val, by omega⟩ ⟨256 * b.val + t.val, by omega⟩) ?_).trans ?_
    · intro a; fin_cases a <;> simp
    · exact (ValueIdx.transpose_ix3_021_apply _ _ _ _ _).trans (cast_at _)
  · intro x
    refine (extractStridedSlice_apply _ _ _ _ (ix3 0 ⟨64 + x.val, by omega⟩ ⟨256 * b.val + t.val, by omega⟩) ?_).trans ?_
    · intro a; fin_cases a <;> simp
    · exact (ValueIdx.transpose_ix3_021_apply _ _ _ _ _).trans (cast_at _)

/-- The padded context values of a sequence. -/
theorem valuesCtx_at (b : Fin 8) :
    Padded (row (m ((c : Thread nD τ).loc main_arg4)) b) fun r (t : Fin 256) => V m c main_v18 (ix3 b t r) := by
  intro kvh e x t
  beta_reduce
  rw [V_v18 m c concatenates_S8x256x64_S8x256x64_S8x256x64_S8x256x64_S8x256x64_S8x256x64_S8x256x64_S8x256x64_S8x256x512_d2]
  refine columns_padded _ _ _ _ (fun ch => row (m ((c : Thread nD τ).loc main_arg4)) b t ch) b t ?_ ?_ ?_ kvh e x
  · intro x; exact word_zero16
  · intro x
    refine (extractStridedSlice_apply _ _ _ _ (ix3 b t ⟨x.val, by omega⟩) ?_).trans rfl
    intro a; fin_cases a <;> simp
  · intro x
    refine (extractStridedSlice_apply _ _ _ _ (ix3 b t ⟨64 + x.val, by omega⟩) ?_).trans rfl
    intro a; fin_cases a <;> simp

/-- A small difference, read as a signed word. -/
theorem band_int (a : Fin 3) (r : Fin 128) (k : Fin 384) :
    (128#32 * BitVec.ofNat 32 a.val + BitVec.ofNat 32 r.val - BitVec.ofNat 32 k.val).toInt = 128 * (a.val : ℤ) + r.val - k.val := by
  have e : 128#32 * BitVec.ofNat 32 a.val + BitVec.ofNat 32 r.val = BitVec.ofNat 32 (128 * a.val + r.val) := by
    rw [BitVec.ofNat_add, BitVec.ofNat_mul]
  have small (n : ℕ) (h : n < 1024) : (BitVec.ofNat 32 n).toInt = n := by
    rw [BitVec.toInt_ofNat', Int.bmod_eq_of_le] <;> omega
  have hr := r.isLt; have hk := k.isLt; have ha := a.isLt
  rw [e, BitVec.toInt_sub, small _ (by omega), small _ (by omega), Int.bmod_eq_of_le] <;> push_cast <;> omega

/-- The band's table: zero within the band and one outside. -/
theorem band_at (a : Fin 3) (r : Fin 128) (k : Fin 384) :
    V m c main_v33 (ix3 a r k) = if Near (128 * a.val + r.val) k.val then (0 : EReal) else 1 := by
  have e : V m c main_v33 (ix3 a r k)
      = if IntOp.cmpi .sle (IntOp.absi (128#32 * BitVec.ofNat 32 a.val + BitVec.ofNat 32 r.val - BitVec.ofNat 32 k.val)) 128#32 = 1#1
        then Ideal.ofBits .f32 0x00000000#32 else Ideal.ofBits .f32 0x3F800000#32 := by
    unfold V
    after_reads_simp
    rfl
  rw [e, band_word _ _ (band_int a r k) (by omega), word_zero, word_one]
  by_cases h : Near (128 * a.val + r.val) k.val
  · have h' : -128 ≤ 128 * (a.val : ℤ) + r.val - k.val ∧ 128 * (a.val : ℤ) + r.val - k.val ≤ 128 := by unfold Near at h; omega
    rw [if_pos h', if_pos h, if_pos rfl]
  · have h' : ¬(-128 ≤ 128 * (a.val : ℤ) + r.val - k.val ∧ 128 * (a.val : ℤ) + r.val - k.val ≤ 128) := by unfold Near at h; omega
    rw [if_neg h', if_neg h, if_neg (by decide)]

/-- A row given a leading axis of one. -/
theorem bias_at (k : Fin 256) : V m c main_v19 (ix2 0 k) = m ((c : Thread nD τ).loc main_arg9) (ix1 k) := by
  unfold V
  after_reads_simp
  exact ValueIdx.shapeCast_a_1a_apply _ _ _ _

theorem scale_at (k : Fin 256) : V m c main_v20 (ix2 0 k) = m ((c : Thread nD τ).loc main_arg10) (ix1 k) := by
  unfold V
  after_reads_simp
  exact ValueIdx.shapeCast_a_1a_apply _ _ _ _

theorem shift_at (k : Fin 256) : V m c main_v21 (ix2 0 k) = m ((c : Thread nD τ).loc main_arg11) (ix1 k) := by
  unfold V
  after_reads_simp
  exact ValueIdx.shapeCast_a_1a_apply _ _ _ _

end Cert.KernelIdeal.Attn

end
-- ==== Proof.Attn.KernelConvPoint.lean ====
/- One grid point's convolution: on the padded signal and the weights, the stored block is the convolution with its layer
   norm and swish; and the padded signal is what the first point of each batch entry stores. -/
module

public import proofs.«01_k».proof.Proof.Attn.KernelAttn

@[expose] public section

set_option maxRecDepth 16384

noncomputable section

namespace Cert.KernelIdeal.Attn

open Cert.KernelIdeal Cert.KernelIdeal.Gen Cert.Attn Idealize.ShloMosaic

/-! ## One lane tile -/

section

variable (P : Fin 4 → Vec Ideal S136x128 .f32) (W : Fin 31 → Vec Ideal S1x128 .f32)

theorem tap_at (j : Fin 31) (x : Fin 136) (l : Fin 128) :
    tap P W j (ix2 x l) = (P ⟨j.val / 8, by omega⟩ (ix2 x l) * W j (ix2 0 l) : EReal) := by
  refine congrArg (_ * ·) ((ValueIdx.broadcastTo_1b_ab_apply _ _ x l).trans ?_)
  exact (congrArg (W j (ix2 0 l) + ·) word_zero).trans (add_zero _)

/-- Tap `j` of row `s`. -/
def term (s l : Fin 128) (j : Fin 31) : EReal := P ⟨j.val / 8, by omega⟩ (ix2 ⟨s.val + (j.val % 8 + 1), by omega⟩ l) * W j (ix2 0 l)

theorem phase_at (r : Fin 7) (s l : Fin 128) :
    phase P W r (ix2 ⟨s.val + (r.val + 1), by omega⟩ l) = term P W s l ⟨r.val, by omega⟩ + term P W s l ⟨8 + r.val, by omega⟩
      + term P W s l ⟨16 + r.val, by omega⟩ + term P W s l ⟨24 + r.val, by omega⟩ := by
  have h : ∀ (j : Fin 31), j.val % 8 = r.val → tap P W j (ix2 ⟨s.val + (r.val + 1), by omega⟩ l) = term P W s l j := fun j hj =>
    (tap_at P W j _ l).trans (congrArg (· * _) (congrArg _ (ext2 (by show s.val + (r.val + 1) = s.val + (j.val % 8 + 1); omega) rfl)))
  refine congrArg₂ (fun a b : EReal => a + b) (congrArg₂ (fun a b : EReal => a + b) (congrArg₂ (fun a b : EReal => a + b) (h _ ?_) (h _ ?_)) (h _ ?_)) (h _ ?_)
  · show r.val % 8 = r.val; omega
  · show (8 + r.val) % 8 = r.val; omega
  · show (16 + r.val) % 8 = r.val; omega
  · show (24 + r.val) % 8 = r.val; omega

theorem rolled_at (r : Fin 7) (s l : Fin 128) :
    rolled P W r (ix2 s l) = term P W s l ⟨r.val, by omega⟩ + term P W s l ⟨8 + r.val, by omega⟩
      + term P W s l ⟨16 + r.val, by omega⟩ + term P W s l ⟨24 + r.val, by omega⟩ := by
  unfold rolled
  refine (extractStridedSlice_apply _ _ _ (ix2 s l) (ix2 ⟨s.val, by omega⟩ l) (fun a => match a with
    | ⟨0, _⟩ => by show s.val = 0 + s.val; omega
    | ⟨1, _⟩ => by show l.val = 0 + l.val; omega)).trans ?_
  refine (dynamicRotate_apply _ _ _ _ _ (ix2 ⟨s.val + (r.val + 1), by omega⟩ l) (fun b => match b with
    | ⟨0, _⟩ => ?_
    | ⟨1, _⟩ => rfl)).trans (phase_at P W r s l)
  show s.val + (r.val + 1) = (s.val + 136 - (BitVec.ofNat 32 (135 - r.val)).toNat % 136) % 136
  rw [BitVec.toNat_ofNat]
  have := r.isLt; have := s.isLt
  omega

theorem last_at (s l : Fin 128) : last P W (ix2 s l) = term P W s l 7 + term P W s l 15 + term P W s l 23 := by
  have h : ∀ (j : Fin 31), j.val % 8 = 7 → tap P W j (ix2 ⟨8 + s.val, by omega⟩ l) = term P W s l j := fun j hj =>
    (tap_at P W j _ l).trans (congrArg (· * _) (congrArg _ (ext2 (by show 8 + s.val = s.val + (j.val % 8 + 1); omega) rfl)))
  unfold last
  refine (extractStridedSlice_apply _ _ _ (ix2 s l) (ix2 ⟨8 + s.val, by omega⟩ l) (fun a => match a with
    | ⟨0, _⟩ => rfl
    | ⟨1, _⟩ => by show l.val = 0 + l.val; omega)).trans ?_
  exact congrArg₂ (fun a b : EReal => a + b) (congrArg₂ (fun a b : EReal => a + b) (h 7 rfl) (h 15 rfl)) (h 23 rfl)

/-- The taps added up phase by phase are the taps added up. -/
theorem sum_phases (f : Fin 31 → EReal) :
    (f 0 + f 8 + f 16 + f 24) + (f 1 + f 9 + f 17 + f 25) + (f 2 + f 10 + f 18 + f 26) + (f 3 + f 11 + f 19 + f 27)
      + (f 4 + f 12 + f 20 + f 28) + (f 5 + f 13 + f 21 + f 29) + (f 6 + f 14 + f 22 + f 30) + (f 7 + f 15 + f 23) = ∑ j, f j := by
  have e : List.finRange 31 = [0, 1, 2, 3, 4, 5, 6, 7, 8, 9, 10, 11, 12, 13, 14, 15, 16, 17, 18, 19, 20, 21, 22, 23, 24, 25, 26, 27, 28, 29, 30] := by
    decide
  rw [← List.sum_ofFn, List.ofFn_eq_map, e]
  simp only [List.map_cons, List.map_nil, List.sum_cons, List.sum_nil]
  abel

/-- A lane tile at an index: the sum of its taps. -/
theorem tile_at (s l : Fin 128) : tile P W (ix2 s l) = ∑ j, term P W s l j := by
  unfold tile
  rw [ValueIdx.addf_apply, ValueIdx.addf_apply, ValueIdx.addf_apply, ValueIdx.addf_apply, ValueIdx.addf_apply, ValueIdx.addf_apply,
    ValueIdx.addf_apply, last_at, rolled_at, rolled_at, rolled_at, rolled_at, rolled_at, rolled_at, rolled_at]
  exact sum_phases (term P W s l)

end

/-! ## Layer norm and swish -/

section

variable (y : FVec Ideal S128x256 .f32) (lg lb : Vec Ideal S1x256 .f32)

/-- Row `s` of an array of 256 channels. -/
abbrev rowY (s : Fin 128) : Fin 256 → EReal := fun c => y (ix2 s c)

theorem rowMean_at (s : Fin 128) : rowMean y (ix2 s 0) = mean (rowY y s) := by
  unfold rowMean mean
  rw [ValueIdx.divf_apply]
  have e : shapeCast S128x1 (multiReduction (F := Ideal) .add [1] S128 y 0x00000000#32 reduces_S128x256_S128 (.inl rfl) rfl) shapeCasts_S128_S128x1 (ix2 s 0)
      = (∑ c, rowY y s c : EReal) := by
    refine (ValueIdx.shapeCast_a_a1_apply _ shapeCasts_S128_S128x1 s 0).trans ?_
    have h : multiReduction (F := Ideal) .add [1] S128 y 0x00000000#32 reduces_S128x256_S128 (.inl rfl) rfl (ix1 s)
        = ∑ k : Fin 256, y (reduces_S128x256_S128.lift (ix1 s) k) :=
      Ideal.multiReduction_add_single (s := S128x256) (t := S128) (a := 1) (φ := .f32) y 0x00000000#32 reduces_S128x256_S128 (.inl rfl) rfl (ix1 s)
    exact h.trans (Finset.sum_congr rfl fun c _ => congrArg y (ext2 rfl rfl))
  exact congrArg (fun a : EReal => Ideal.div a (Ideal.ofBits .f32 0x43800000#32)) e

theorem centred_at (s : Fin 128) (c : Fin 256) : centred y (ix2 s c) = y (ix2 s c) - mean (rowY y s) :=
  congrArg (y (ix2 s c) - ·) ((column_at _ _ s c).trans (rowMean_at y s))

theorem row_at (v : Vec Ideal S1x256 .f32) (s : Fin 128) (c : Fin 256) :
    broadcastTo S128x256 (shapeCast S1x256 v shapeCasts_S1x256_S1x256) broadcasts_S1x256_S128x256 (ix2 s c) = v (ix2 0 c) := by
  rw [shapeCast_self]
  exact ValueIdx.broadcastTo_1b_ab_apply _ _ s c

theorem normed_at (s : Fin 128) (c : Fin 256) :
    normed y lg lb (ix2 s c) = (y (ix2 s c) - mean (rowY y s))
      * Ideal.rsqrt (mean (fun c => (y (ix2 s c) - mean (rowY y s)) * (y (ix2 s c) - mean (rowY y s))) + Ideal.ofBits .f32 0x358637BD#32)
      * lg (ix2 0 c) + lb (ix2 0 c) := by
  unfold normed
  refine congrArg₂ (fun a b : EReal => a + b) (congrArg₂ (fun a b : EReal => a * b) (congrArg₂ (fun a b : EReal => a * b) (centred_at y s c) ?_)
    (row_at lg s c)) (row_at lb s c)
  refine (column_at _ _ s c).trans ?_
  refine congrArg Ideal.rsqrt (congrArg (fun a : EReal => a + _) ((rowMean_at _ s).trans (congrArg mean (funext fun c => ?_))))
  exact congrArg₂ (fun a b : EReal => a * b) (centred_at y s c) (centred_at y s c)

/-- The finished row at an index. -/
theorem finish_at (s : Fin 128) (c : Fin 256) :
    finish y lg lb (ix3 0 s c) = normSwish (rowY y s) (fun c => lg (ix2 0 c)) (fun c => lb (ix2 0 c)) c := by
  unfold finish
  refine (ValueIdx.shapeCast_ab_1ab_apply _ _ 0 s c).trans ?_
  exact congrArg₂ (fun a b : EReal => a * b) (normed_at y lg lb s c) (congrArg Ideal.logistic (normed_at y lg lb s c))

end

/-! ## The block -/

theorem off10_eq : ∀ (i : grid0.Coords) (sb : Fin 8) (a : Fin 4),
    k0_off10 i (BitVec.ofNat 32 (128 * sb.val)) (BitVec.ofNat 32 (8 * a.val)) 0 = 1024 * (i 1).val + 128 * sb.val + 8 * a.val
      ∧ k0_off10 i (BitVec.ofNat 32 (128 * sb.val)) (BitVec.ofNat 32 (8 * a.val)) 1 = 0 := by
  decide +kernel

theorem off11_eq : ∀ (i : grid0.Coords) (sb : Fin 8) (a : Fin 4),
    k0_off11 i (BitVec.ofNat 32 (128 * sb.val)) (BitVec.ofNat 32 (8 * a.val)) 0 = 1024 * (i 1).val + 128 * sb.val + 8 * a.val
      ∧ k0_off11 i (BitVec.ofNat 32 (128 * sb.val)) (BitVec.ofNat 32 (8 * a.val)) 1 = 128 := by
  decide +kernel

/-- What a grid point's convolution finds. -/
structure ConvBlocks (XP : Vec Ideal S2080x256 .f32) (X9 : Vec Ideal S31x256 .f32) (X10 X11 X12 : Vec Ideal S1x256 .f32)
    (u : Fin 2048 → Fin 256 → EReal) (w : Fin 31 → Fin 256 → EReal) (b lg lb : Fin 256 → EReal) : Prop where
  signal_at : ∀ (p : Fin 2080) (c : Fin 256), 1 ≤ p.val → XP (ix2 p c) = padded (fun t => u t c) (p.val - 1)
  w_at : ∀ j c, X9 (ix2 j c) = w j c
  b_at : ∀ c, X10 (ix2 0 c) = b c
  lg_at : ∀ c, X11 (ix2 0 c) = lg c
  lb_at : ∀ c, X12 (ix2 0 c) = lb c

/-- The convolution of a grid point's rows. -/
def convBlock (i : grid0.Coords) (u : Fin 2048 → Fin 256 → EReal) (w : Fin 31 → Fin 256 → EReal) (b lg lb : Fin 256 → EReal) :
    Vec Ideal S1x1024x256 .bf16 :=
  fun y => convOut u w b lg lb (1024 * (i 1).val + (y 1).val) (y 2)

section

variable {XP : Vec Ideal S2080x256 .f32} {X9 : Vec Ideal S31x256 .f32} {X10 X11 X12 : Vec Ideal S1x256 .f32}
    {u : Fin 2048 → Fin 256 → EReal} {w : Fin 31 → Fin 256 → EReal} {b lg lb : Fin 256 → EReal}
    (H : ConvBlocks XP X9 X10 X11 X12 u w b lg lb) (i : grid0.Coords)

include H

theorem ldW (lt : Fin 2) (j : Fin 31) (l : Fin 128) : View.ld X9 (rW lt j) (ix2 0 l) = w j ⟨128 * lt.val + l.val, by omega⟩ := by
  refine Eq.trans (congrArg X9 (ext2 ?_ ?_)) (H.w_at j ⟨128 * lt.val + l.val, by omega⟩)
  · show j.val + 1 * 0 = j.val; omega
  · show 128 * lt.val + 1 * l.val = 128 * lt.val + l.val; omega

theorem tile0_at (sb : Fin 8) (s l : Fin 128) :
    tile0 i XP X9 sb (ix2 s l) = conv (fun t => u t ⟨128 * (0 : Fin 2).val + l.val, by have := l.isLt; show 128 * 0 + l.val < 256; omega⟩)
      (fun j => w j ⟨128 * (0 : Fin 2).val + l.val, by have := l.isLt; show 128 * 0 + l.val < 256; omega⟩) (1024 * (i 1).val + (128 * sb.val + s.val)) := by
  have hi : (i 1).val < 2 := (i 1).isLt
  unfold tile0 conv
  refine (tile_at _ _ s l).trans (Finset.sum_congr rfl fun j _ => ?_)
  unfold term
  refine congrArg₂ (fun a b : EReal => a * b) ?_ (ldW H 0 j l)
  have hj := j.isLt
  obtain ⟨h0, h1⟩ := off10_eq i sb ⟨j.val / 8, by omega⟩
  refine Eq.trans (congrArg XP (ext2 (j := ix2 ⟨1024 * (i 1).val + (128 * sb.val + s.val) + j.val + 1, by omega⟩ ⟨128 * 0 + l.val, by omega⟩) ?_ ?_)) (H.signal_at _ _ ?_)
  · show k0_off10 i (BitVec.ofNat 32 (128 * sb.val)) (BitVec.ofNat 32 (8 * (j.val / 8))) 0 + 1 * (s.val + (j.val % 8 + 1)) = 1024 * (i 1).val + (128 * sb.val + s.val) + j.val + 1
    rw [h0]
    show 1024 * (i 1).val + 128 * sb.val + 8 * (j.val / 8) + 1 * (s.val + (j.val % 8 + 1)) = _
    omega
  · show k0_off10 i (BitVec.ofNat 32 (128 * sb.val)) (BitVec.ofNat 32 (8 * (j.val / 8))) 1 + 1 * l.val = 128 * 0 + l.val
    rw [h1]
    omega
  · show 1 ≤ 1024 * (i 1).val + (128 * sb.val + s.val) + j.val + 1
    omega

theorem tile1_at (sb : Fin 8) (s l : Fin 128) :
    tile1 i XP X9 sb (ix2 s l) = conv (fun t => u t ⟨128 * (1 : Fin 2).val + l.val, by have := l.isLt; show 128 * 1 + l.val < 256; omega⟩)
      (fun j => w j ⟨128 * (1 : Fin 2).val + l.val, by have := l.isLt; show 128 * 1 + l.val < 256; omega⟩) (1024 * (i 1).val + (128 * sb.val + s.val)) := by
  have hi : (i 1).val < 2 := (i 1).isLt
  unfold tile1 conv
  refine (tile_at _ _ s l).trans (Finset.sum_congr rfl fun j _ => ?_)
  unfold term
  refine congrArg₂ (fun a b : EReal => a * b) ?_ (ldW H 1 j l)
  have hj := j.isLt
  obtain ⟨h0, h1⟩ := off11_eq i sb ⟨j.val / 8, by omega⟩
  refine Eq.trans (congrArg XP (ext2 (j := ix2 ⟨1024 * (i 1).val + (128 * sb.val + s.val) + j.val + 1, by omega⟩ ⟨128 * 1 + l.val, by omega⟩) ?_ ?_)) (H.signal_at _ _ ?_)
  · show k0_off11 i (BitVec.ofNat 32 (128 * sb.val)) (BitVec.ofNat 32 (8 * (j.val / 8))) 0 + 1 * (s.val + (j.val % 8 + 1)) = 1024 * (i 1).val + (128 * sb.val + s.val) + j.val + 1
    rw [h0]
    show 1024 * (i 1).val + 128 * sb.val + 8 * (j.val / 8) + 1 * (s.val + (j.val % 8 + 1)) = _
    omega
  · show k0_off11 i (BitVec.ofNat 32 (128 * sb.val)) (BitVec.ofNat 32 (8 * (j.val / 8))) 1 + 1 * l.val = 128 * 1 + l.val
    rw [h1]
    omega
  · show 1 ≤ 1024 * (i 1).val + (128 * sb.val + s.val) + j.val + 1
    omega

/-- A channel of either lane tile, with the bias. -/
theorem biased_at (sb : Fin 8) (s : Fin 128) (lt : Fin 2) (l : Fin 128) :
    biased (tile0 i XP X9 sb) (tile1 i XP X9 sb) (View.ld X10 rRow) (ix2 s ⟨128 * lt.val + l.val, by omega⟩)
      = conv (fun t => u t ⟨128 * lt.val + l.val, by omega⟩) (fun j => w j ⟨128 * lt.val + l.val, by omega⟩) (1024 * (i 1).val + (128 * sb.val + s.val))
        + b ⟨128 * lt.val + l.val, by omega⟩ := by
  unfold biased
  refine congrArg₂ (fun a b : EReal => a + b) ((beside_at _ _ _ lt s l).trans ?_) ((row_at _ s _).trans ?_)
  · match lt with
    | 0 => exact tile0_at H i sb s l
    | 1 => exact tile1_at H i sb s l
  · refine Eq.trans (congrArg X10 (ext2 (j := ix2 0 ⟨128 * lt.val + l.val, by omega⟩) rfl ?_)) (H.b_at ⟨128 * lt.val + l.val, by omega⟩)
    show 0 + 1 * (128 * lt.val + l.val) = 128 * lt.val + l.val; omega

theorem biasedRow_at (sb : Fin 8) (s : Fin 128) :
    rowY (biased (tile0 i XP X9 sb) (tile1 i XP X9 sb) (View.ld X10 rRow)) s
      = fun c => conv (fun t => u t c) (fun j => w j c) (1024 * (i 1).val + (128 * sb.val + s.val)) + b c := by
  funext c
  have hc : c = ⟨128 * (⟨c.val / 128, by omega⟩ : Fin 2).val + (⟨c.val % 128, by omega⟩ : Fin 128).val, by show 128 * (c.val / 128) + c.val % 128 < 256; omega⟩ :=
    Fin.ext (by show c.val = 128 * (c.val / 128) + c.val % 128; omega)
  rw [hc]
  exact biased_at H i sb s _ _

/-- **What is stored of the convolution**. -/
theorem pieceC_at (sb : Fin 8) (x : S1x128x256.Idx) :
    (pieceC i XP X9 X10 X11 X12 sb).2 x = convBlock i u w b lg lb ((rOut sb).emb x) := by
  have hx : x = ix3 0 (x 1) (x 2) := ext3 (Nat.lt_one_iff.mp (x 0).isLt) rfl rfl
  refine (congrArg (finish (biased (tile0 i XP X9 sb) (tile1 i XP X9 sb) (View.ld X10 rRow)) (View.ld X11 rRow) (View.ld X12 rRow)) hx).trans ?_
  refine (finish_at _ _ _ (x 1) (x 2)).trans ?_
  rw [biasedRow_at H i sb (x 1)]
  unfold convBlock convOut
  have e1 : 1024 * (i 1).val + ((rOut sb).emb x 1).val = 1024 * (i 1).val + (128 * sb.val + (x 1).val) := by
    show 1024 * (i 1).val + (128 * sb.val + 1 * (x 1).val) = _; omega
  have e2 : (rOut sb).emb x 2 = x 2 := Fin.ext (by show 0 + 1 * (x 2).val = (x 2).val; omega)
  have eg : (fun c => View.ld X11 rRow (ix2 0 c)) = lg := funext fun c =>
    Eq.trans (congrArg X11 (ext2 (j := ix2 0 c) rfl (by show 0 + 1 * c.val = c.val; omega))) (H.lg_at c)
  have eb : (fun c => View.ld X12 rRow (ix2 0 c)) = lb := funext fun c =>
    Eq.trans (congrArg X12 (ext2 (j := ix2 0 c) rfl (by show 0 + 1 * c.val = c.val; omega))) (H.lb_at c)
  rw [e1, e2, eg, eb]

/-- **The block of the convolution**, at any of its indices, whatever the order of the stores. -/
theorem piecesC_at (y : S1x1024x256.Idx) :
    View.canon (piecesC i XP X9 X10 X11 X12) y = convBlock i u w b lg lb y := by
  refine View.canon_apply_of_pieces (convBlock i u w b lg lb) _ (fun p hp => ?_) y ?_
  · unfold piecesC at hp
    obtain ⟨sb, -, rfl⟩ := List.mem_map.mp hp
    exact pieceC_at H i sb
  · have h1 : (y 1).val < 1024 := (y 1).isLt
    have h2 : (y 2).val < 256 := (y 2).isLt
    have h0 : (y 0).val = 0 := Nat.lt_one_iff.mp (y 0).isLt
    have all : ∀ sb : Fin 8, sb ∈ ([7, 6, 5, 4, 3, 2, 1, 0] : List (Fin 8)) := by decide
    refine ⟨pieceC i XP X9 X10 X11 X12 ⟨(y 1).val / 128, by omega⟩, List.mem_map.mpr ⟨_, all _, rfl⟩, ?_⟩
    show y ∈ (rOut _).set
    rw [Rect.mem_set_unit]
    intro a
    match a with
    | ⟨0, _⟩ => exact ⟨Nat.zero_le _, by show (y 0).val < 0 + 1; omega⟩
    | ⟨1, _⟩ => exact ⟨by show 128 * ((y 1).val / 128) ≤ (y 1).val; omega, by show (y 1).val < 128 * ((y 1).val / 128) + 128; omega⟩
    | ⟨2, _⟩ => exact ⟨Nat.zero_le _, by show (y 2).val < 0 + 256; omega⟩

end

/-! ## The padded signal -/

/-- The padded signal, by row and channel. -/
def paddedBlock (X8 : Vec Ideal S1x2048x256 .bf16) : Vec Ideal S2080x256 .f32 :=
  fun y => if h : 16 ≤ (y 0).val ∧ (y 0).val < 2064 then X8 (ix3 0 ⟨(y 0).val - 16, by omega⟩ (y 1)) else (0 : EReal)

theorem zeros16_at (x : S16x256.Idx) : (zeros16 (F := Ideal)) x = (0 : EReal) := by
  unfold zeros16
  rw [shapeCast_self]
  exact word_zero

theorem signal_at (X8 : Vec Ideal S1x2048x256 .bf16) (t : Fin 2048) (c : Fin 256) : signal (View.ld X8 rAll) (ix2 t c) = X8 (ix3 0 t c) := by
  unfold signal
  rw [shapeCast_self]
  refine (ValueIdx.shapeCast_1ab_ab_apply (View.ld X8 rAll) shapeCasts_S1x2048x256_S2048x256 t c).trans (congrArg X8 (ext3 (j := ix3 0 t c) rfl ?_ ?_))
  · show 0 + 1 * t.val = t.val; omega
  · show 0 + 1 * c.val = c.val; omega

/-- **What the stores leave in the padded signal**. -/
theorem piecesP_at (X8 : Vec Ideal S1x2048x256 .bf16) (y : S2080x256.Idx) :
    View.canon (piecesP X8) y = paddedBlock X8 y := by
  refine View.canon_apply_of_pieces (paddedBlock X8) _ (fun p hp => ?_) y ?_
  · unfold piecesP at hp
    simp only [List.mem_cons, List.not_mem_nil, or_false] at hp
    rcases hp with rfl | rfl | rfl
    · intro (x : S2048x256.Idx)
      have h0 : (x 0).val < 2048 := (x 0).isLt
      refine (congrArg (signal (View.ld X8 rAll)) (ValueIdx.eq_ix2 x)).trans ((signal_at X8 (x 0) (x 1)).trans ?_)
      unfold paddedBlock
      have e : (rMid.emb x 0).val = 16 + (x 0).val := by show 16 + 1 * (x 0).val = _; omega
      rw [dif_pos (by rw [e]; omega)]
      refine congrArg X8 (ext3 rfl ?_ ?_)
      · show (x 0).val = (rMid.emb x 0).val - 16; rw [e]; omega
      · show (x 1).val = 0 + 1 * (x 1).val; omega
    · intro (x : S16x256.Idx)
      refine (zeros16_at x).trans ?_
      unfold paddedBlock
      rw [dif_neg]
      show ¬ (16 ≤ 2064 + 1 * (x 0).val ∧ 2064 + 1 * (x 0).val < 2064)
      omega
    · intro (x : S16x256.Idx)
      have h0 : (x 0).val < 16 := (x 0).isLt
      refine (zeros16_at x).trans ?_
      unfold paddedBlock
      rw [dif_neg]
      show ¬ (16 ≤ 0 + 1 * (x 0).val ∧ 0 + 1 * (x 0).val < 2064)
      omega
  · have h0 : (y 0).val < 2080 := (y 0).isLt
    have h1 : (y 1).val < 256 := (y 1).isLt
    unfold piecesP
    rcases Nat.lt_or_ge (y 0).val 16 with h | h
    · refine ⟨⟨rTop, zeros16 (F := Ideal)⟩, by simp, ?_⟩
      show y ∈ rTop.set
      rw [Rect.mem_set_unit]
      intro a
      match a with
      | ⟨0, _⟩ => exact ⟨Nat.zero_le _, by show (y 0).val < 0 + 16; omega⟩
      | ⟨1, _⟩ => exact ⟨Nat.zero_le _, by show (y 1).val < 0 + 256; omega⟩
    · rcases Nat.lt_or_ge (y 0).val 2064 with h' | h'
      · refine ⟨⟨rMid, signal (View.ld X8 rAll)⟩, by simp, ?_⟩
        show y ∈ rMid.set
        rw [Rect.mem_set_unit]
        intro a
        match a with
        | ⟨0, _⟩ => exact ⟨h, by show (y 0).val < 16 + 2048; omega⟩
        | ⟨1, _⟩ => exact ⟨Nat.zero_le _, by show (y 1).val < 0 + 256; omega⟩
      · refine ⟨⟨rEnd, zeros16 (F := Ideal)⟩, by simp, ?_⟩
        show y ∈ rEnd.set
        rw [Rect.mem_set_unit]
        intro a
        match a with
        | ⟨0, _⟩ => exact ⟨h', by show (y 0).val < 2064 + 16; omega⟩
        | ⟨1, _⟩ => exact ⟨Nat.zero_le _, by show (y 1).val < 0 + 256; omega⟩

/-- The padded signal holds the signal with zeros around it. -/
theorem paddedBlock_at (X8 : Vec Ideal S1x2048x256 .bf16) (u : Fin 2048 → Fin 256 → EReal) (hu : ∀ t c, X8 (ix3 0 t c) = u t c)
    (p : Fin 2080) (c : Fin 256) (hp : 1 ≤ p.val) : paddedBlock X8 (ix2 p c) = padded (fun t => u t c) (p.val - 1) := by
  unfold paddedBlock padded
  by_cases h : 16 ≤ p.val ∧ p.val < 2064
  · rw [dif_pos (show 16 ≤ (ix2 p c 0).val ∧ (ix2 p c 0).val < 2064 from h), dif_pos (by omega)]
    refine (hu _ _).trans (congrArg (u · c) (Fin.ext ?_))
    show p.val - 16 = p.val - 1 - 15; omega
  · rw [dif_neg (show ¬ (16 ≤ (ix2 p c 0).val ∧ (ix2 p c 0).val < 2064) from h), dif_neg (by omega)]

end Cert.KernelIdeal.Attn

end
-- ==== Proof.Attn.BlocksAt.lean ====
/- What the kernel finds in its blocks at a grid point: the rows of the sequence the point works on. -/
module

public import proofs.«01_k».proof.Proof.Attn.HostArrays
public import proofs.«01_k».proof.Proof.Attn.KernelConvPoint
public import Idealize.ShloMosaic.Lib.Pipeline.ValueKit

@[expose] public section

set_option maxRecDepth 16384

noncomputable section

namespace Cert.KernelIdeal.Attn

open Cert.KernelIdeal Cert.KernelIdeal.Gen Cert.Attn Idealize.ShloMosaic Idealize.ShloMosaic.TcCoe Idealize.ShloMosaic.Pipeline
open Cert.ReferenceIdeal.Attn (row Finite)

theorem coord0 : ∀ t : Fin cfg0.N, (grid0.coords t 0).val = t.val / 2 := (by decide +kernel : ∀ t : Fin grid0.N, _)
theorem coord1 : ∀ t : Fin cfg0.N, (grid0.coords t 1).val = t.val % 2 := (by decide +kernel : ∀ t : Fin grid0.N, _)

theorem index0 : ∀ t : Fin cfg0.N, win0_0.index t = ![0] := (by decide +kernel : ∀ t : Fin grid0.N, _)
theorem index1 : ∀ t : Fin cfg0.N, win0_1.index t = ![t.val / 2, t.val % 2, 0] := (by decide +kernel : ∀ t : Fin grid0.N, _)
theorem index2 : ∀ t : Fin cfg0.N, win0_2.index t = ![t.val / 2, 0, 0] := (by decide +kernel : ∀ t : Fin grid0.N, _)
theorem index3 : ∀ t : Fin cfg0.N, win0_3.index t = ![t.val / 2, 0, 0] := (by decide +kernel : ∀ t : Fin grid0.N, _)
theorem index4 : ∀ t : Fin cfg0.N, win0_4.index t = ![0, 0, t.val / 2] := (by decide +kernel : ∀ t : Fin grid0.N, _)
theorem index5 : ∀ t : Fin cfg0.N, win0_5.index t = ![t.val / 2, 0, 0] := (by decide +kernel : ∀ t : Fin grid0.N, _)
theorem index6 : ∀ t : Fin cfg0.N, win0_6.index t = ![0, 0, 0] := (by decide +kernel : ∀ t : Fin grid0.N, _)
theorem index7 : ∀ t : Fin cfg0.N, win0_7.index t = ![t.val / 2, t.val % 2, 0] := (by decide +kernel : ∀ t : Fin grid0.N, _)
theorem index8 : ∀ t : Fin cfg0.N, win0_8.index t = ![t.val / 2, 0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![0, 0] := (by decide +kernel : ∀ t : Fin grid0.N, _)

/-- The sequence a grid point works on. -/
def batch (t : Fin cfg0.N) : Fin 8 := ⟨t.val / 2, by have := t.isLt; have h : cfg0.N = 16 := N_0; omega⟩

variable (m : (ℓ : Loc nD τ sig) → Buf (Elt Ideal) ℓ) (c : Dev nD) (t : Fin cfg0.N)

theorem sink_block (h : Fin 8) :
    iblk m c 0 t (ix1 h) = m ((c : Thread nD τ).loc main_arg5) (ix1 h) := by
  rw [← V_main_arg5 m c]
  show V m c main_arg5 ((win0_0.blk t).view.emb (ix1 h)) = _
  refine congrArg (V m c main_arg5) ?_
  blk_ext [index0]

theorem q_block (r : Fin 1024) (k : Fin 512) (h : 1024 * (t.val % 2) + r.val < 2048) :
    iblk m c 1 t (ix3 0 r k) = m ((c : Thread nD τ).loc main_arg0) (ix3 (batch t) ⟨1024 * (t.val % 2) + r.val, h⟩ k) := by
  rw [← V_main_arg0 m c]
  show V m c main_arg0 ((win0_1.blk t).view.emb (ix3 0 r k)) = _
  refine congrArg (V m c main_arg0) ?_
  blk_ext [index1, batch]

theorem keys_block (r : Fin 512) (k : Fin 2048) :
    iblk m c 2 t (ix3 0 r k) = V m c main_v4 (ix3 (batch t) r k) := by
  show V m c main_v4 ((win0_2.blk t).view.emb (ix3 0 r k)) = _
  refine congrArg (V m c main_v4) ?_
  blk_ext [index2, batch]

theorem values_block (k : Fin 2048) (r : Fin 512) :
    iblk m c 3 t (ix3 0 k r) = V m c main_v8 (ix3 (batch t) k r) := by
  show V m c main_v8 ((win0_3.blk t).view.emb (ix3 0 k r)) = _
  refine congrArg (V m c main_v8) ?_
  blk_ext [index3, batch]

theorem keysCtx_block (r : Fin 512) (k : Fin 256) :
    iblk m c 4 t (ix3 0 r k) = V m c main_v14 (ix3 0 r ⟨256 * (batch t).val + k.val, by omega⟩) := by
  show V m c main_v14 ((win0_4.blk t).view.emb (ix3 0 r k)) = _
  refine congrArg (V m c main_v14) ?_
  blk_ext [index4, batch]

theorem valuesCtx_block (k : Fin 256) (r : Fin 512) :
    iblk m c 5 t (ix3 0 k r) = V m c main_v18 (ix3 (batch t) k r) := by
  show V m c main_v18 ((win0_5.blk t).view.emb (ix3 0 k r)) = _
  refine congrArg (V m c main_v18) ?_
  blk_ext [index5, batch]

theorem band_block (a : Fin 3) (r : Fin 128) (k : Fin 384) :
    iblk m c 6 t (ix3 a r k) = V m c main_v33 (ix3 a r k) := by
  show V m c main_v33 ((win0_6.blk t).view.emb (ix3 a r k)) = _
  refine congrArg (V m c main_v33) ?_
  blk_ext [index6]

theorem gate_block (r : Fin 1024) (k : Fin 512) (h : 1024 * (t.val % 2) + r.val < 2048) :
    iblk m c 7 t (ix3 0 r k) = m ((c : Thread nD τ).loc main_arg6) (ix3 (batch t) ⟨1024 * (t.val % 2) + r.val, h⟩ k) := by
  rw [← V_main_arg6 m c]
  show V m c main_arg6 ((win0_7.blk t).view.emb (ix3 0 r k)) = _
  refine congrArg (V m c main_arg6) ?_
  blk_ext [index7, batch]

theorem signal_block (r : Fin 2048) (k : Fin 256) :
    iblk m c 8 t (ix3 0 r k) = m ((c : Thread nD τ).loc main_arg7) (ix3 (batch t) r k) := by
  rw [← V_main_arg7 m c]
  show V m c main_arg7 ((win0_8.blk t).view.emb (ix3 0 r k)) = _
  refine congrArg (V m c main_arg7) ?_
  blk_ext [index8, batch]

theorem weights_block (j : Fin 31) (k : Fin 256) :
    iblk m c 9 t (ix2 j k) = m ((c : Thread nD τ).loc main_arg8) (ix2 j k) := by
  rw [← V_main_arg8 m c]
  show V m c main_arg8 ((win0_9.blk t).view.emb (ix2 j k)) = _
  refine congrArg (V m c main_arg8) ?_
  blk_ext [index9]

theorem bias_block (k : Fin 256) :
    iblk m c 10 t (ix2 0 k) = V m c main_v19 (ix2 0 k) := by
  show V m c main_v19 ((win0_10.blk t).view.emb (ix2 0 k)) = _
  refine congrArg (V m c main_v19) ?_
  blk_ext [index10]

theorem scale_block (k : Fin 256) :
    iblk m c 11 t (ix2 0 k) = V m c main_v20 (ix2 0 k) := by
  show V m c main_v20 ((win0_11.blk t).view.emb (ix2 0 k)) = _
  refine congrArg (V m c main_v20) ?_
  blk_ext [index11]

theorem shift_block (k : Fin 256) :
    iblk m c 12 t (ix2 0 k) = V m c main_v21 (ix2 0 k) := by
  show V m c main_v21 ((win0_12.blk t).view.emb (ix2 0 k)) = _
  refine congrArg (V m c main_v21) ?_
  blk_ext [index12]

/-- The blocks of the attention at a grid point, where the queries, the keys and the sinks are finite. -/
theorem blocks (hq : Finite (m ((c : Thread nD τ).loc main_arg0))) (hk : Finite (m ((c : Thread nD τ).loc main_arg1))) (hc : Finite (m ((c : Thread nD τ).loc main_arg3))) (hs : Finite (m ((c : Thread nD τ).loc main_arg5))) :
    Blocks (grid0.coords t) (iblk m c 0 t) (iblk m c 1 t) (iblk m c 2 t) (iblk m c 3 t) (iblk m c 4 t) (iblk m c 5 t) (iblk m c 6 t) (iblk m c 7 t)
      (row (m ((c : Thread nD τ).loc main_arg0)) (batch t)) (row (m ((c : Thread nD τ).loc main_arg1)) (batch t)) (row (m ((c : Thread nD τ).loc main_arg2)) (batch t)) (row (m ((c : Thread nD τ).loc main_arg3)) (batch t)) (row (m ((c : Thread nD τ).loc main_arg4)) (batch t))
      (fun h => (m ((c : Thread nD τ).loc main_arg5)) (ix1 h)) (row (m ((c : Thread nD τ).loc main_arg6)) (batch t)) where
  sink_at h := sink_block m c t h
  q_at r k h := by
    have e := coord1 t
    refine (q_block m c t r k (by omega)).trans ?_
    show _ = (m ((c : Thread nD τ).loc main_arg0)) (ix3 _ _ _)
    congr 2; exact Fin.ext (by show 1024 * (t.val % 2) + r.val = 1024 * (grid0.coords t 1).val + r.val; rw [e])
  k_at kvh e x k := (keys_block m c t _ k).trans (keys_at m c (batch t) kvh e x k)
  v_at kvh e x k := (values_block m c t k _).trans (values_at m c (batch t) kvh e x k)
  kc_at kvh e x k := (keysCtx_block m c t _ k).trans (keysCtx_at m c (batch t) kvh e x k)
  vc_at kvh e x k := (valuesCtx_block m c t k _).trans (valuesCtx_at m c (batch t) kvh e x k)
  table_at a r k := (band_block m c t a r k).trans (band_at m c a r k)
  g_at r k h := by
    have e := coord1 t
    refine (gate_block m c t r k (by omega)).trans ?_
    show _ = (m ((c : Thread nD τ).loc main_arg6)) (ix3 _ _ _)
    congr 2; exact Fin.ext (by show 1024 * (t.val % 2) + r.val = 1024 * (grid0.coords t 1).val + r.val; rw [e])
  q_fin s k := hq _
  k_fin s k := hk _
  kc_fin s k := hc _
  sink_fin h := hs _

/-- The blocks of the convolution at a grid point, over a scratch that holds the padded signal of its sequence. -/
theorem convBlocks (t' : Fin cfg0.N) (ht : batch t' = batch t) :
    ConvBlocks (paddedBlock (iblk m c 8 t')) (iblk m c 9 t) (iblk m c 10 t) (iblk m c 11 t) (iblk m c 12 t)
      (row (m ((c : Thread nD τ).loc main_arg7)) (batch t)) (fun j k => (m ((c : Thread nD τ).loc main_arg8)) (ix2 j k)) (fun k => (m ((c : Thread nD τ).loc main_arg9)) (ix1 k)) (fun k => (m ((c : Thread nD τ).loc main_arg10)) (ix1 k)) (fun k => (m ((c : Thread nD τ).loc main_arg11)) (ix1 k)) where
  signal_at p k hp := paddedBlock_at _ _ (fun s k => by rw [← ht]; exact signal_block m c t' s k) p k hp
  w_at j k := weights_block m c t j k
  b_at k := (bias_block m c t k).trans (bias_at m c k)
  lg_at k := (scale_block m c t k).trans (scale_at m c k)
  lb_at k := (shift_block m c t k).trans (shift_at m c k)

end Cert.KernelIdeal.Attn

end
-- ==== Proof.Attn.Final.lean ====
/- What the kernel leaves in its two results: the attention and the convolution of every sequence. -/
module

public import proofs.«01_k».proof.Proof.Attn.Outs
public import proofs.«01_k».proof.Proof.Attn.BlocksAt

@[expose] public section

set_option maxRecDepth 16384

noncomputable section

namespace Cert.KernelIdeal.Attn

open Cert.KernelIdeal Cert.KernelIdeal.Gen Cert.Attn Idealize.ShloMosaic Idealize.ShloMosaic.TcCoe
open Cert.ReferenceIdeal.Attn (row Finite)

variable (m : (ℓ : Loc nD τ sig) → Buf (Elt Ideal) ℓ) (c : Dev nD) (t : Fin cfg0.N)

/-- After a sequence's first point the scratch holds its padded signal. -/
theorem scratch_at (h0 : t.val % 2 = 0) : (outsAt0 m c t.val t.isLt).2.2 = paddedBlock (iblk m c 8 t) := by
  rw [outsAt0_A m c t h0]
  dsimp only
  rw [soutA]
  exact funext fun y => piecesP_at _ y

/-- The convolution's block after a point. -/
theorem conv_point (y : S1x1024x256.Idx) : (outsAt0 m c t.val t.isLt).2.1 y
    = convBlock (grid0.coords t) (row (m ((c : Thread nD τ).loc main_arg7)) (batch t)) (fun j k => (m ((c : Thread nD τ).loc main_arg8)) (ix2 j k)) (fun k => (m ((c : Thread nD τ).loc main_arg9)) (ix1 k)) (fun k => (m ((c : Thread nD τ).loc main_arg10)) (ix1 k)) (fun k => (m ((c : Thread nD τ).loc main_arg11)) (ix1 k)) y := by
  by_cases h0 : t.val % 2 = 0
  · rw [outsAt0_A m c t h0]
    dsimp only
    rw [outA_14, show View.canon (piecesP (iblk m c 8 t)) = paddedBlock (iblk m c 8 t) from funext fun y => piecesP_at _ y]
    exact piecesC_at (convBlocks m c t t rfl) _ y
  · have hp : (t.val - 1) % 2 = 0 := by omega
    have hlt : t.val - 1 < cfg0.N := lt_of_le_of_lt (Nat.sub_le _ _) t.isLt
    rw [outsAt0_B m c t h0]
    dsimp only
    rw [outB_14, scratch_at m c ⟨t.val - 1, hlt⟩ hp]
    exact piecesC_at (convBlocks m c t ⟨t.val - 1, hlt⟩ (Fin.ext (by show (t.val - 1) / 2 = t.val / 2; omega))) _ y

/-- The attention's block after a point. -/
theorem att_point (hq : Finite (m ((c : Thread nD τ).loc main_arg0))) (hk : Finite (m ((c : Thread nD τ).loc main_arg1))) (hc : Finite (m ((c : Thread nD τ).loc main_arg3))) (hs : Finite (m ((c : Thread nD τ).loc main_arg5))) (y : S1x1024x512.Idx) :
    (outsAt0 m c t.val t.isLt).1 y
      = attBlock (grid0.coords t) (row (m ((c : Thread nD τ).loc main_arg0)) (batch t)) (row (m ((c : Thread nD τ).loc main_arg1)) (batch t)) (row (m ((c : Thread nD τ).loc main_arg2)) (batch t)) (row (m ((c : Thread nD τ).loc main_arg3)) (batch t)) (row (m ((c : Thread nD τ).loc main_arg4)) (batch t))
          (fun h => (m ((c : Thread nD τ).loc main_arg5)) (ix1 h)) (row (m ((c : Thread nD τ).loc main_arg6)) (batch t)) y := by
  by_cases h0 : t.val % 2 = 0
  · rw [outsAt0_A m c t h0]
    dsimp only
    rw [outA_13]
    exact pieces_at (blocks m c t hq hk hc hs) y
  · rw [outsAt0_B m c t h0]
    dsimp only
    rw [outB_13]
    exact pieces_at (blocks m c t hq hk hc hs) y

theorem point_lt (b : Fin 8) (s : Fin 2048) : 2 * b.val + s.val / 1024 < cfg0.N := by
  have h : cfg0.N = 16 := N_0
  omega

/-- The attention the kernel ends with. -/
theorem att_at (hq : Finite (m ((c : Thread nD τ).loc main_arg0))) (hk : Finite (m ((c : Thread nD τ).loc main_arg1))) (hc : Finite (m ((c : Thread nD τ).loc main_arg3))) (hs : Finite (m ((c : Thread nD τ).loc main_arg5))) (b : Fin 8) (s : Fin 2048) (k : Fin 512) :
    Value.G13 m c (ix3 b s k)
      = attOut (row (m ((c : Thread nD τ).loc main_arg0)) b s) (row (m ((c : Thread nD τ).loc main_arg1)) b) (row (m ((c : Thread nD τ).loc main_arg2)) b) (row (m ((c : Thread nD τ).loc main_arg3)) b) (row (m ((c : Thread nD τ).loc main_arg4)) b) (fun h => (m ((c : Thread nD τ).loc main_arg5)) (ix1 h)) (row (m ((c : Thread nD τ).loc main_arg6)) b s k) s k := by
  have hp : Value.pt13Of (ix3 b s k) = 2 * b.val + s.val / 1024 := by
    show 2 * (b.val / 1 - 0) + 1 * (s.val / 1024 - 0) + 1 * (k.val / 512 - 0) = _
    omega
  have hlt := point_lt b s
  unfold Value.G13
  rw [dif_pos (hp ▸ hlt), Value.fold0_congr m c _ _ _ (by omega) hp, ← Value.outsAt0_sweep m c _ hlt]
  refine (att_point m c ⟨_, hlt⟩ hq hk hc hs _).trans ?_
  have eb : batch ⟨2 * b.val + s.val / 1024, hlt⟩ = b := Fin.ext (by show (2 * b.val + s.val / 1024) / 2 = b.val; omega)
  have es : rowAt (grid0.coords ⟨2 * b.val + s.val / 1024, hlt⟩) (Value.loc13Of (ix3 b s k)) = s := Fin.ext (by
    show 1024 * (grid0.coords ⟨2 * b.val + s.val / 1024, hlt⟩ 1).val + s.val % 1024 = s.val
    rw [coord1]; show 1024 * ((2 * b.val + s.val / 1024) % 2) + s.val % 1024 = s.val; omega)
  have ek : Value.loc13Of (ix3 b s k) 2 = k := Fin.ext (by show k.val % 512 = k.val; omega)
  unfold attBlock
  rw [eb, es, ek]

/-- The convolution the kernel ends with. -/
theorem conv_at (b : Fin 8) (s : Fin 2048) (k : Fin 256) :
    Value.G14 m c (ix3 b s k)
      = convOut (row (m ((c : Thread nD τ).loc main_arg7)) b) (fun j k => (m ((c : Thread nD τ).loc main_arg8)) (ix2 j k)) (fun k => (m ((c : Thread nD τ).loc main_arg9)) (ix1 k)) (fun k => (m ((c : Thread nD τ).loc main_arg10)) (ix1 k)) (fun k => (m ((c : Thread nD τ).loc main_arg11)) (ix1 k)) s.val k := by
  have hp : Value.pt14Of (ix3 b s k) = 2 * b.val + s.val / 1024 := by
    show 2 * (b.val / 1 - 0) + 1 * (s.val / 1024 - 0) + 1 * (k.val / 256 - 0) = _
    omega
  have hlt := point_lt b s
  unfold Value.G14
  rw [dif_pos (hp ▸ hlt), Value.fold0_congr m c _ _ _ (by omega) hp, ← Value.outsAt0_sweep m c _ hlt]
  refine (conv_point m c ⟨_, hlt⟩ _).trans ?_
  have eb : batch ⟨2 * b.val + s.val / 1024, hlt⟩ = b := Fin.ext (by show (2 * b.val + s.val / 1024) / 2 = b.val; omega)
  have es : 1024 * (grid0.coords ⟨2 * b.val + s.val / 1024, hlt⟩ 1).val + (Value.loc14Of (ix3 b s k) 1).val = s.val := by
    show 1024 * (grid0.coords ⟨2 * b.val + s.val / 1024, hlt⟩ 1).val + s.val % 1024 = s.val
    rw [coord1]; show 1024 * ((2 * b.val + s.val / 1024) % 2) + s.val % 1024 = s.val; omega
  have ek : Value.loc14Of (ix3 b s k) 2 = k := Fin.ext (by show k.val % 256 = k.val; omega)
  unfold convBlock
  rw [eb, es, ek]

end Cert.KernelIdeal.Attn

end
-- ==== Proof.Attn.FiniteArgs.lean ====
/- An array whose every element passes the finiteness test holds real numbers. -/
module

public import proofs.«01_k».proof.Proof.Gen.Pre_finite_scores
public import proofs.«01_k».proof.Proof.Attn.RefAttn

@[expose] public section

noncomputable section

namespace Cert.Attn

open Idealize.ShloMosaic

/-- The word of `+inf` reads as the greatest extended real. -/
theorem word_inf : Ideal.ofBits .f32 0x7F800000#32 = (⊤ : EReal) := by
  simp [Ideal.ofBits, Ideal.ieee, -EReal.coe_mul]

/-- A number whose absolute value is below `⊤` is real. -/
theorem real_of_abs_lt (x : EReal) (h : BitVec.ofBool (decide (max x (-x) < ⊤)) = 1#1) :
    x = ((x.toReal : ℝ) : EReal) := by
  have hlt : max x (-x) < ⊤ := by
    by_contra hn
    rw [decide_eq_false hn] at h
    exact absurd h (by decide)
  refine (EReal.coe_toReal ?_ ?_).symm
  · exact ne_top_of_lt ((le_max_left _ _).trans_lt hlt)
  · rintro rfl
    simp at hlt

/-- An f32 array that is below `+inf` in absolute value everywhere is finite. -/
theorem finite_of_test {s : Shape} (x : FVec Ideal s .f32) (hb : (⟨0, ![]⟩ : Shape).BroadcastsInDim s ![])
    (h : cmpf .olt (Host.absf x) (broadcastInDim s ![] hb (constant ⟨0, ![]⟩ .f32 0x7F800000#32)) = fun _ => 1#1) :
    Cert.ReferenceIdeal.Attn.Finite (s := s) x := by
  intro i
  refine real_of_abs_lt _ ?_
  have hi := congrFun h i
  rw [← word_inf]
  exact hi

end Cert.Attn

end
-- ==== Proof.Attn.RefConv.lean ====
/- The reference's second result read at an index: the convolution with its layer norm and swish is `convOut`. -/
module

public import proofs.«01_k».proof.Proof.Attn.RefAttn
public import Idealize.ShloMosaic.Lib.KernelVsHost

@[expose] public section

set_option maxRecDepth 16384

noncomputable section

namespace Cert.ReferenceIdeal.Attn

open Cert.ReferenceIdeal Cert.ReferenceIdeal.Gen Cert.ReferenceIdeal.Read Cert.Attn Idealize.ShloMosaic

variable (x7 : (⟨S8x2048x256, .bf16⟩ : BufTy).Contents (Elt Ideal)) (x8 : (⟨S31x256, .f32⟩ : BufTy).Contents (Elt Ideal))
  (x9 x10 x11 : (⟨S256, .f32⟩ : BufTy).Contents (Elt Ideal))

/-- The padded signal: fifteen zeros on either side. -/
theorem v52_at (b : Fin 8) (p : Fin 2078) (c : Fin 256) :
    val_main_v52 (F := Ideal) x7 (ix3 b p c) = padded (fun t => x7 (ix3 b t c)) p.val := by
  unfold val_main_v52 padded
  by_cases h : 15 ≤ p.val ∧ p.val < 2063
  · rw [dif_pos h]
    refine pad_apply_of_inside _ _ _ _ _ _ _ (ix3 b p c) (ix3 b ⟨p.val - 15, by omega⟩ c) (fun a => match a with
      | ⟨0, _⟩ => ?_
      | ⟨1, _⟩ => ?_
      | ⟨2, _⟩ => ?_)
    · show b.val = 0 + b.val * (0 + 1); omega
    · show p.val = 15 + (p.val - 15) * (0 + 1); omega
    · show c.val = 0 + c.val * (0 + 1); omega
  · rw [dif_neg h]
    refine (pad_apply_of_not_inside _ _ _ _ _ _ _ (ix3 b p c) 1 ?_).trans ?_
    · show ¬(15 ≤ p.val ∧ (p.val - 15) % (0 + 1) = 0 ∧ (p.val - 15) / (0 + 1) < 2048)
      omega
    · show ((((0#32 : BitVec 32).toInt : ℝ)) : EReal) = 0
      norm_num

theorem slice_signal (j : Fin 31) : S8x2078x256.Slices ![0, j.val, 0] S8x2048x256 :=
  ⟨rfl, fun a => match a with
    | ⟨0, _⟩ => by show 0 + 8 ≤ 8; omega
    | ⟨1, _⟩ => by show j.val + 2048 ≤ 2078; omega
    | ⟨2, _⟩ => by show 0 + 256 ≤ 256; omega⟩

theorem slice_weight (j : Fin 31) : S31x256.Slices ![j.val, 0] S1x256 :=
  ⟨rfl, fun a => match a with
    | ⟨0, _⟩ => by show j.val + 1 ≤ 31; omega
    | ⟨1, _⟩ => by show 0 + 256 ≤ 256; omega⟩

/-- Tap `j`: the signal from `j` on times the tap's weights. -/
def tap (j : Fin 31) : (⟨S8x2048x256, .f32⟩ : BufTy).Contents (Elt Ideal) :=
  mulf (F := Ideal) (φ := .f32) (extractStridedSlice S8x2048x256 ![0, j.val, 0] (val_main_v52 (F := Ideal) x7) (slice_signal j))
    (broadcastInDim S8x2048x256 ![0, 1, 2] bcast_S1x1x256_S8x2048x256_0_1_2
      (broadcastInDim S1x1x256 ![2] bcast_S256_S1x1x256_2
        (shapeCast S256 (extractStridedSlice S1x256 ![j.val, 0] x8 (slice_weight j)) shapeCasts_S1x256_S256)))

theorem tap_at (j : Fin 31) (b : Fin 8) (t : Fin 2048) (c : Fin 256) :
    tap x7 x8 j (ix3 b t c) = padded (fun t => x7 (ix3 b t c)) (t.val + j.val) * x8 (ix2 j c) := by
  unfold tap
  refine congrArg₂ (· * ·) ?_ ?_
  · refine (extractStridedSlice_apply _ _ (slice_signal j) (ix3 b t c) (ix3 b ⟨t.val + j.val, by omega⟩ c) (fun a => match a with
      | ⟨0, _⟩ => ?_
      | ⟨1, _⟩ => ?_
      | ⟨2, _⟩ => ?_)).trans (v52_at x7 b _ c)
    · show b.val = 0 + b.val; omega
    · show t.val + j.val = j.val + t.val; omega
    · show c.val = 0 + c.val; omega
  · refine (broadcastInDim_apply _ _ _ (ix3 b t c) (ix3 0 0 c) (fun a => match a with
      | ⟨0, _⟩ => rfl
      | ⟨1, _⟩ => rfl
      | ⟨2, _⟩ => rfl)).trans ?_
    refine (broadcastInDim_apply _ _ _ (ix3 0 0 c) (ix1 c) (fun a => match a with | ⟨0, _⟩ => rfl)).trans ?_
    refine (shapeCast_apply _ shapeCasts_S1x256_S256 (ix1 c) (ix2 0 c) ?_).trans ?_
    · rewrite [Shape.rowMajor_val_one, Shape.rowMajor_val_two]
      show 0 * 256 + c.val = c.val
      omega
    · exact extractStridedSlice_apply _ _ (slice_weight j) (ix2 0 c) (ix2 j c) (fun a => match a with
        | ⟨0, _⟩ => by show j.val = j.val + 0; omega
        | ⟨1, _⟩ => by show c.val = 0 + c.val; omega)

/-- Arrays added up one after another, at an index. -/
theorem foldl_add_apply {s : Shape} {ι : Type} (l : List ι) (a : s.Idx → EReal) (f : ι → s.Idx → EReal) (i : s.Idx) :
    l.foldl (fun a j => addf (F := Ideal) (φ := .f32) a (f j)) a i = a i + (l.map fun j => f j i).sum := by
  induction l generalizing a with
  | nil => simp
  | cons x l ih =>
    rw [List.foldl_cons, ih, List.map_cons, List.sum_cons, ← add_assoc]
    rfl

/-- The accumulated taps are the taps added up in order. -/
theorem v270_eq : val_main_v270 (F := Ideal) x7 x8
    = (List.finRange 31).foldl (fun a j => addf (F := Ideal) (φ := .f32) a (tap x7 x8 j)) (val_main_v59 (F := Ideal)) := by
  have e : List.finRange 31 = [0, 1, 2, 3, 4, 5, 6, 7, 8, 9, 10, 11, 12, 13, 14, 15, 16, 17, 18, 19, 20, 21, 22, 23, 24, 25, 26, 27, 28, 29, 30] := by
    decide
  rw [e]
  simp only [List.foldl_cons, List.foldl_nil]
  rfl

theorem v270_at (b : Fin 8) (t : Fin 2048) (c : Fin 256) :
    val_main_v270 (F := Ideal) x7 x8 (ix3 b t c) = conv (fun t => x7 (ix3 b t c)) (fun j => x8 (ix2 j c)) t.val := by
  rw [v270_eq, foldl_add_apply]
  have e : val_main_v59 (F := Ideal) (ix3 b t c) = (0 : EReal) := by rw [val_main_v59_apply]; exact word_zero
  rw [e, zero_add]
  unfold conv
  rw [← List.sum_ofFn, List.ofFn_eq_map]
  simp only [tap_at]

/-- The convolution and its bias. -/
abbrev yRow (b : Fin 8) (t : Fin 2048) : Fin 256 → EReal :=
  fun c => conv (fun t => x7 (ix3 b t c)) (fun j => x8 (ix2 j c)) t.val + x9 (ix1 c)

theorem v273_at (b : Fin 8) (t : Fin 2048) (c : Fin 256) :
    val_main_v273 (F := Ideal) x7 x8 x9 (ix3 b t c) = yRow x7 x8 x9 b t c := by
  rw [val_main_v273_apply, v270_at, val_main_v272_apply, val_main_v271_apply]
  exact congrArg (_ + ·) (congrArg x9 (funext fun a => Fin.ext (match a with | ⟨0, _⟩ => rfl)))

theorem v277_at (b : Fin 8) (t : Fin 2048) :
    val_main_v277 (F := Ideal) x7 x8 x9 (ix3 b t 0) = mean (yRow x7 x8 x9 b t) := by
  rw [val_main_v277_apply, val_main_v275_apply, val_main_v276_apply, val_main_v274_apply]
  have e : val_main_cst_6 (F := Ideal) (Shape.Idx.first h_S_) = (0 : EReal) := word_zero
  rw [e, zero_add]
  unfold mean
  refine congrArg₂ Ideal.div (Finset.sum_congr rfl fun k _ => ?_) rfl
  rw [← v273_at]
  exact congrArg _ (ext3 rfl rfl rfl)

theorem v279_at (b : Fin 8) (t : Fin 2048) (c : Fin 256) :
    val_main_v279 (F := Ideal) x7 x8 x9 (ix3 b t c) = yRow x7 x8 x9 b t c - mean (yRow x7 x8 x9 b t) := by
  rw [val_main_v279_apply, v273_at, val_main_v278_apply]
  have e : idx_main_v278 (ix3 b t c) = ix3 b t 0 := ext3 rfl rfl rfl
  rw [e, v277_at]
  rfl

theorem v284_at (b : Fin 8) (t : Fin 2048) :
    val_main_v284 (F := Ideal) x7 x8 x9 (ix3 b t 0) = mean (fun c => (yRow x7 x8 x9 b t c - mean (yRow x7 x8 x9 b t))
      * (yRow x7 x8 x9 b t c - mean (yRow x7 x8 x9 b t))) := by
  rw [val_main_v284_apply, val_main_v282_apply, val_main_v283_apply, val_main_v281_apply]
  have e : val_main_cst_8 (F := Ideal) (Shape.Idx.first h_S_) = (0 : EReal) := word_zero
  rw [e, zero_add, mean]
  refine congrArg₂ Ideal.div (Finset.sum_congr rfl fun k _ => ?_) rfl
  rw [val_main_v280_apply]
  have e2 : idx_main_v281 (idx_main_v282 (ix3 b t 0)) k = ix3 b t k := ext3 rfl rfl rfl
  rw [e2, v279_at]
  rfl

/-- **The reference's second result**: the convolution path. -/
theorem v300_at (b : Fin 8) (t : Fin 2048) (c : Fin 256) :
    val_main_v300 (F := Ideal) x7 x8 x9 x10 x11 (ix3 b t c)
      = convOut (row x7 b) (fun j c => x8 (ix2 j c)) (fun c => x9 (ix1 c)) (fun c => x10 (ix1 c)) (fun c => x11 (ix1 c)) t.val c := by
  have hz : val_main_v297 (F := Ideal) x7 x8 x9 x10 x11 (ix3 b t c)
      = (yRow x7 x8 x9 b t c - mean (yRow x7 x8 x9 b t))
        * Ideal.rsqrt (mean (fun c => (yRow x7 x8 x9 b t c - mean (yRow x7 x8 x9 b t)) * (yRow x7 x8 x9 b t c - mean (yRow x7 x8 x9 b t)))
          + Ideal.ofBits .f32 0x358637BD#32) * x10 (ix1 c) + x11 (ix1 c) := by
    rw [val_main_v297_apply, val_main_v294_apply, val_main_v291_apply, val_main_v286_apply, v273_at, val_main_v285_apply,
      val_main_v290_apply, val_main_v289_apply, val_main_v288_apply, val_main_v287_apply, val_main_v293_apply,
      val_main_v292_apply, val_main_v296_apply, val_main_v295_apply]
    have e1 : idx_main_v285 (ix3 b t c) = ix3 b t 0 := ext3 rfl rfl rfl
    have e2 : idx_main_v290 (ix3 b t c) = ix3 b t 0 := ext3 rfl rfl rfl
    have e3 : idx_main_v292 (idx_main_v293 (ix3 b t c)) = ix1 c := funext fun a => Fin.ext (match a with | ⟨0, _⟩ => rfl)
    have e4 : idx_main_v295 (idx_main_v296 (ix3 b t c)) = ix1 c := funext fun a => Fin.ext (match a with | ⟨0, _⟩ => rfl)
    rw [e1, e2, e3, e4, v277_at, v284_at]
    rfl
  rw [val_main_v300_apply, val_main_v299_apply, val_main_call2_v5_apply, val_main_call2_v4_apply, val_main_call2_v3_apply,
    val_main_call2_v2_apply, val_main_call2_v1_apply, val_main_call2_v0_apply, hz]
  have o1 : val_main_call2_cst (F := Ideal) (idx_main_call2_v2 (ix3 b t c)) = (1 : EReal) := word_one
  have o2 : val_main_call2_cst_0 (F := Ideal) (idx_main_call2_v4 (ix3 b t c)) = (1 : EReal) := word_one
  rw [o1, o2]
  rfl

end Cert.ReferenceIdeal.Attn

end
-- ==== Proof.Attn.Agree.lean ====
/- The kernel's two results are the reference's, argument for argument. -/
module

public import proofs.«01_k».proof.Defs
public import proofs.«01_k».proof.Proof.Attn.Final
public import proofs.«01_k».proof.Proof.Attn.FiniteArgs
public import proofs.«01_k».proof.Proof.Attn.RefConv

@[expose] public section

set_option maxRecDepth 16384

noncomputable section

namespace Cert.KernelIdeal.Attn

open Cert.KernelIdeal Cert.KernelIdeal.Gen Idealize.ShloMosaic Idealize.ShloMosaic.TcCoe Idealize.SL.Sem
open Cert.ReferenceIdeal.Read (val_main_v298 val_main_v300)

variable (m : (ℓ : Loc nD τ sig) → Buf (Elt Ideal) ℓ) (c : Dev nD)

/-- Two three-dimensional arrays are equal when they are so at every triple of coordinates. -/
theorem ext3 {α : Type} {a b d : ℕ} {f g : (⟨3, ![a, b, d]⟩ : Shape).Idx → α}
    (h : ∀ i j k, f (ix3 i j k) = g (ix3 i j k)) : f = g := by
  funext x
  have e : x = ix3 (x 0) (x 1) (x 2) := by
    funext k
    fin_cases k <;> rfl
  rw [e]
  exact h _ _ _

/-- Under the precondition the attention result is the reference's attention of the same arguments. -/
theorem att_agrees (hpre : Pre_KernelIdeal_finite_scores m) :
    Value.G13 m c = val_main_v298 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) := by
  have hq := Cert.Attn.finite_of_test _ _ (hpre c).1
  have hk := Cert.Attn.finite_of_test _ _ (hpre c).2.1
  have hc := Cert.Attn.finite_of_test _ _ (hpre c).2.2.1
  have hs := Cert.Attn.finite_of_test _ _ (hpre c).2.2.2
  exact ext3 fun b s k => (att_at m c hq hk hc hs b s k).trans
    (Cert.ReferenceIdeal.Attn.v298_at _ _ _ _ _ _ _ hq hk hc hs b s k).symm

/-- The convolution result is the reference's convolution of the same arguments, whatever they hold. -/
theorem conv_agrees :
    Value.G14 m c = val_main_v300 (F := Ideal) (m ((c : Thread nD τ).loc main_arg7)) (m ((c : Thread nD τ).loc main_arg8))
      (m ((c : Thread nD τ).loc main_arg9)) (m ((c : Thread nD τ).loc main_arg10)) (m ((c : Thread nD τ).loc main_arg11)) :=
  ext3 fun b s k => (conv_at m c b s k).trans (Cert.ReferenceIdeal.Attn.v300_at _ _ _ _ _ b s k).symm

end Cert.KernelIdeal.Attn

end
-- ==== Proof.InProj.Kernel.lean ====
/- The projection's grid point written in the kernel's own operations: the projected block, and what is stored from it
   into each result's block. -/
module

public import proofs.«01_k».proof.Proof.Gen.Kernel2Ideal.Skeleton
public import Idealize.ShloMosaic.Lib.Pipeline.FrameBody

@[expose] public section

noncomputable section

namespace Cert.Kernel2Ideal.InProj

open Cert.Kernel2Ideal Cert.Kernel2Ideal.Gen Idealize.ShloMosaic

variable {F : FTy → Type} [FloatOps F]

/-! ## The rectangles read and written -/

/-- A whole array of two axes. -/
abbrev all2 (a b : ℕ) : Rect ⟨2, ![a, b]⟩ := Rect.unit (s := ⟨2, ![a, b]⟩) ![0, 0] (⟨2, ![a, b]⟩ : Shape).size (fun k => match k with
  | ⟨0, _⟩ => by show 0 + a ≤ a; omega
  | ⟨1, _⟩ => by show 0 + b ≤ b; omega)

/-- A whole array of three axes. -/
abbrev all3 (a b d : ℕ) : Rect ⟨3, ![a, b, d]⟩ := Rect.unit (s := ⟨3, ![a, b, d]⟩) ![0, 0, 0] (⟨3, ![a, b, d]⟩ : Shape).size (fun k => match k with
  | ⟨0, _⟩ => by show 0 + a ≤ a; omega
  | ⟨1, _⟩ => by show 0 + b ≤ b; omega
  | ⟨2, _⟩ => by show 0 + d ≤ d; omega)

/-- Table `j` of the six side by side. -/
abbrev tableRect (j : Fin 6) : Rect S1024x768 := Rect.unit (s := S1024x768) ![0, 128 * j.val] S1024x128.size (fun k => match k with
  | ⟨0, _⟩ => by show 0 + 1024 ≤ 1024; omega
  | ⟨1, _⟩ => by show 128 * j.val + 128 ≤ 768; omega)

/-- Lane tile `j` of the queries' block. -/
abbrev tileRect (j : Fin 4) : Rect S1x1024x512 := Rect.unit (s := S1x1024x512) ![0, 0, 128 * j.val] S1x1024x128.size (fun k => match k with
  | ⟨0, _⟩ => by show 0 + 1 ≤ 1; omega
  | ⟨1, _⟩ => by show 0 + 1024 ≤ 1024; omega
  | ⟨2, _⟩ => by show 128 * j.val + 128 ≤ 512; omega)

theorem tile_slices (j : Fin 4) : S1024x2560.Slices ![0, 128 * j.val] S1024x128 :=
  ⟨rfl, fun a => match a with
    | ⟨0, _⟩ => by show 0 + 1024 ≤ 1024; omega
    | ⟨1, _⟩ => by show 128 * j.val + 128 ≤ 2560; omega⟩

/-! ## The projected block and the stores -/

variable (X0 : Vec F S1x1024x1024 .f32) (X1 X2 : Vec F S1x1x1024 .f32) (X3 : Vec F S1x1024 .f32) (W : Vec F S1024x2560 .bf16)

/-- The projected block, from the rows, the shift, the scale, the gain and the weights. -/
def projected : FVec F S1024x2560 .f32 :=
  k0_pay6 (View.ld X0 (all3 1 1024 1024)) (View.ld X3 (all2 1 1024)) (View.ld X2 (all3 1 1 1024)) (View.ld X1 (all3 1 1 1024))
    (View.ld W (all2 1024 2560))

/-- What fills the kept weights. -/
def weightPieces (X4 : Vec F S1x1024x2560 .f32) : List (View.Piece (Elt F) S1024x2560 .bf16) :=
  [⟨all2 1024 2560, k0_pay5 (View.ld X4 (all3 1 1024 2560))⟩]

variable (P : FVec F S1024x2560 .f32)

/-- The store of lane tile `j` of the queries. -/
def queryPiece (X5 : Vec F S1024x768 .f32) (j : Fin 4) : View.Piece (Elt F) S1x1024x512 .bf16 :=
  ⟨tileRect j, k0_pay8 (extractStridedSlice S1024x128 ![0, 128 * j.val] P (tile_slices j))
    (View.ld X5 (tableRect 0)) (View.ld X5 (tableRect 1)) (View.ld X5 (tableRect 2))⟩

def queryPieces (X5 : Vec F S1024x768 .f32) : List (View.Piece (Elt F) S1x1024x512 .bf16) :=
  [queryPiece P X5 3, queryPiece P X5 2, queryPiece P X5 1, queryPiece P X5 0]

def gattPieces : List (View.Piece (Elt F) S1x1024x512 .bf16) := [⟨all3 1 1024 512, k0_pay27 P⟩]
def gcvPieces : List (View.Piece (Elt F) S1x1024x256 .bf16) := [⟨all3 1 1024 256, k0_pay1 P⟩]
def abPieces (X6 : Vec F S256x512 .bf16) : List (View.Piece (Elt F) S1x1024x512 .bf16) :=
  [⟨all3 1 1024 512, k0_pay2 P (View.ld X6 (all2 256 512))⟩]
def gfPieces : List (View.Piece (Elt F) S1x1024x256 .bf16) := [⟨all3 1 1024 256, k0_pay3 P⟩]
def ucPieces : List (View.Piece (Elt F) S1x1024x256 .bf16) := [⟨all3 1 1024 256, k0_pay4 P⟩]

end Cert.Kernel2Ideal.InProj

end
-- ==== Proof.InProj.Outs.lean ====
/- The stores the body is found to make, where it fills the kept weights and where it finds them, are the lists written in the
   kernel's own operations; so what the body leaves in the blocks that are claimed is the same at every grid point. -/
module

public import proofs.«01_k».proof.Proof.Gen.Kernel2Ideal.Value
public import proofs.«01_k».proof.Proof.InProj.Kernel
public import Idealize.ShloMosaic.Lib.Pipeline.ValueKit
public import Idealize.ShloMosaic.Lib.Pipeline.ReadBack

@[expose] public section

set_option maxRecDepth 16384

noncomputable section

namespace Cert.Kernel2Ideal.InProj

open Cert.Kernel2Ideal Cert.Kernel2Ideal.Gen Idealize.ShloMosaic Idealize.ShloMosaic.TcCoe Idealize.ShloMosaic.Tactic

variable {F : FTy → Type} [FloatOps F]

/-- The stores into the claimed results' blocks: queries, attention's gate, convolution's gate, transform, spectral gate, and
    convolution's signal. -/
abbrev Stores (F : FTy → Type) [FloatOps F] : Type :=
  List (View.Piece (Elt F) S1x1024x512 .bf16) × List (View.Piece (Elt F) S1x1024x512 .bf16) × List (View.Piece (Elt F) S1x1024x256 .bf16)
    × List (View.Piece (Elt F) S1x1024x512 .bf16) × List (View.Piece (Elt F) S1x1024x256 .bf16) × List (View.Piece (Elt F) S1x1024x256 .bf16)

/-- The claimed results' blocks, in the same order. -/
abbrev Blocks (F : FTy → Type) [FloatOps F] : Type :=
  Vec F S1x1024x512 .bf16 × Vec F S1x1024x512 .bf16 × Vec F S1x1024x256 .bf16 × Vec F S1x1024x512 .bf16 × Vec F S1x1024x256 .bf16
    × Vec F S1x1024x256 .bf16

/-- The stores a projected block gives rise to. -/
def stores (P : FVec F S1024x2560 .f32) (X5 : Vec F S1024x768 .f32) (X6 : Vec F S256x512 .bf16) : Stores F :=
  (queryPieces P X5, gattPieces P, gcvPieces P, abPieces P X6, gfPieces P, ucPieces P)

/-- What stores that cover their blocks leave in them. -/
def left (L : Stores F) : Blocks F :=
  (View.canon L.1, View.canon L.2.1, View.canon L.2.2.1, View.canon L.2.2.2.1, View.canon L.2.2.2.2.1, View.canon L.2.2.2.2.2)

section

variable {c : Dev nD} {i : grid0.Coords} {arg2 : Memref sig .tc .vmem S1x1024x1024 .f32} {harg2 : arg2.IsWhole} {arg3 : Memref sig .tc .vmem S1x1x1024 .f32} {harg3 : arg3.IsWhole} {arg4 : Memref sig .tc .vmem S1x1x1024 .f32} {harg4 : arg4.IsWhole} {arg5 : Memref sig .tc .vmem S1x1024 .f32} {harg5 : arg5.IsWhole} {arg6 : Memref sig .tc .vmem S1x1024x2560 .f32} {harg6 : arg6.IsWhole} {arg7 : Memref sig .tc .vmem S1024x768 .f32} {harg7 : arg7.IsWhole} {arg8 : Memref sig .tc .vmem S256x512 .bf16} {harg8 : arg8.IsWhole} {arg9 : Memref sig .tc .vmem S1x1024x512 .bf16} {harg9 : arg9.IsWhole} {arg10 : Memref sig .tc .vmem S1x512x1024 .bf16} {harg10 : arg10.IsWhole} {arg11 : Memref sig .tc .vmem S1x1024x512 .bf16} {harg11 : arg11.IsWhole} {arg12 : Memref sig .tc .vmem S1x1024x512 .bf16} {harg12 : arg12.IsWhole} {arg13 : Memref sig .tc .vmem S1x1024x256 .bf16} {harg13 : arg13.IsWhole} {arg14 : Memref sig .tc .vmem S1x1024x512 .bf16} {harg14 : arg14.IsWhole} {arg15 : Memref sig .tc .vmem S1x1024x256 .bf16} {harg15 : arg15.IsWhole} {arg16 : Memref sig .tc .vmem S1x1024x256 .bf16} {harg16 : arg16.IsWhole} {arg17 : Memref sig .tc .vmem S1024x2560 .bf16} {harg17 : arg17.IsWhole}
  (x0 : Vec F S1x1024x1024 .f32) (x1 : Vec F S1x1x1024 .f32) (x2 : Vec F S1x1x1024 .f32) (x3 : Vec F S1x1024 .f32) (x4 : Vec F S1x1024x2560 .f32) (x5 : Vec F S1024x768 .f32) (x6 : Vec F S256x512 .bf16) (xs0 : Vec F S1024x2560 .bf16)

/-- Where the body fills the kept weights: its stores. -/
theorem stores_A (hc0 : cond0_0 i) :
    (fun r => (((r.1, r.2.2.2.1, r.2.2.2.2.1, r.2.2.2.2.2.1, r.2.2.2.2.2.2.1, r.2.2.2.2.2.2.2.1), r.2.2.2.2.2.2.2.2.1) : Stores F × List (View.Piece (Elt F) S1024x2560 .bf16)))
      (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6)
      = (stores (projected x0 x1 x2 x3 (View.canon (weightPieces x4))) x5 x6, weightPieces x4) := by
  refine Eq.trans (b := (stores (projected (arg2.view.read (Elt F) (harg2.unread x0)) (arg3.view.read (Elt F) (harg3.unread x1))
    (arg4.view.read (Elt F) (harg4.unread x2)) (arg5.view.read (Elt F) (harg5.unread x3))
    (arg17.view.read (Elt F) (arg17.view.writes (Elt F) arg17.view.junk (weightPieces (arg6.view.read (Elt F) (harg6.unread x4))))))
    (arg7.view.read (Elt F) (harg7.unread x5)) (arg8.view.read (Elt F) (harg8.unread x6)), weightPieces (arg6.view.read (Elt F) (harg6.unread x4)))) ?_ ?_
  · sl_kernel_rfl
  · simp only [Memref.IsWhole.read_unread, View.read_writes_junk_eq_canon]

/-- Where the body finds the kept weights: its stores. -/
theorem stores_B (hc0 : ¬cond0_0 i) :
    (fun r => ((r.1, r.2.2.2.1, r.2.2.2.2.1, r.2.2.2.2.2.1, r.2.2.2.2.2.2.1, r.2.2.2.2.2.2.2.1) : Stores F))
      (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 xs0)
      = stores (projected x0 x1 x2 x3 xs0) x5 x6 := by
  refine Eq.trans (b := stores (projected (arg2.view.read (Elt F) (harg2.unread x0)) (arg3.view.read (Elt F) (harg3.unread x1))
    (arg4.view.read (Elt F) (harg4.unread x2)) (arg5.view.read (Elt F) (harg5.unread x3)) (arg17.view.read (Elt F) (harg17.unread xs0)))
    (arg7.view.read (Elt F) (harg7.unread x5)) (arg8.view.read (Elt F) (harg8.unread x6))) ?_ ?_
  · sl_kernel_rfl
  · simp only [Memref.IsWhole.read_unread]

end

/-! ## After a grid point -/

/-- The claimed results' blocks out of what a point leaves. -/
def claimed (o : Vec F S1x1024x512 .bf16 × Vec F S1x512x1024 .bf16 × Vec F S1x1024x512 .bf16 × Vec F S1x1024x512 .bf16 × Vec F S1x1024x256 .bf16
    × Vec F S1x1024x512 .bf16 × Vec F S1x1024x256 .bf16 × Vec F S1x1024x256 .bf16 × Vec F S1024x2560 .bf16) : Blocks F :=
  (o.1, o.2.2.2.1, o.2.2.2.2.1, o.2.2.2.2.2.1, o.2.2.2.2.2.2.1, o.2.2.2.2.2.2.2.1)

variable (m : (ℓ : Loc nD τ sig) → Buf (Elt F) ℓ) (c : Dev nD)

theorem point_A (t : Fin cfg0.N) (h0 : t.val % 16 = 0) :
    claimed (outsAt0 m c t.val t.isLt) = left (stores (projected (iblk m c 0 t) (iblk m c 1 t) (iblk m c 2 t) (iblk m c 3 t)
      (View.canon (weightPieces (iblk m c 4 t)))) (iblk m c 5 t) (iblk m c 6 t))
    ∧ (outsAt0 m c t.val t.isLt).2.2.2.2.2.2.2.2 = View.canon (weightPieces (iblk m c 4 t)) := by
  have h := stores_A (c := c) (i := grid0.coords t) (harg2 := hs0_0 t) (harg3 := hs0_1 t) (harg4 := hs0_2 t) (harg5 := hs0_3 t) (harg6 := hs0_4 t) (harg7 := hs0_5 t) (harg8 := hs0_6 t) (harg9 := hs0_7 t) (harg10 := hs0_8 t) (harg11 := hs0_9 t) (harg12 := hs0_10 t) (harg13 := hs0_11 t) (harg14 := hs0_12 t) (harg15 := hs0_13 t) (harg16 := hs0_14 t) (harg17 := Memref.isWhole_whole cc0_scratch0)
    (iblk m c 0 t) (iblk m c 1 t) (iblk m c 2 t) (iblk m c 3 t) (iblk m c 4 t) (iblk m c 5 t) (iblk m c 6 t) ((hcond0_0 t).mpr h0)
  simp only [stores, Prod.mk.injEq] at h
  obtain ⟨⟨h7, h10, h11, h12, h13, h14⟩, hs⟩ := h
  rw [outsAt0_A m c t h0]
  unfold claimed left stores out0_A_7 out0_A_10 out0_A_11 out0_A_12 out0_A_13 out0_A_14 sout0_A_0
  simp only [View.read_writes_junk_eq_canon, h7, h10, h11, h12, h13, h14, hs, and_self]

theorem point_B (t : Fin cfg0.N) (h0 : ¬t.val % 16 = 0) :
    claimed (outsAt0 m c t.val t.isLt) = left (stores (projected (iblk m c 0 t) (iblk m c 1 t) (iblk m c 2 t) (iblk m c 3 t)
      (outsAt0 m c (t.val - 1) (Nat.lt_of_le_of_lt (Nat.sub_le _ _) t.isLt)).2.2.2.2.2.2.2.2) (iblk m c 5 t) (iblk m c 6 t)) := by
  have h := stores_B (c := c) (i := grid0.coords t) (harg2 := hs0_0 t) (harg3 := hs0_1 t) (harg4 := hs0_2 t) (harg5 := hs0_3 t) (harg6 := hs0_4 t) (harg7 := hs0_5 t) (harg8 := hs0_6 t) (harg9 := hs0_7 t) (harg10 := hs0_8 t) (harg11 := hs0_9 t) (harg12 := hs0_10 t) (harg13 := hs0_11 t) (harg14 := hs0_12 t) (harg15 := hs0_13 t) (harg16 := hs0_14 t) (harg17 := Memref.isWhole_whole cc0_scratch0)
    (iblk m c 0 t) (iblk m c 1 t) (iblk m c 2 t) (iblk m c 3 t) (iblk m c 4 t) (iblk m c 5 t) (iblk m c 6 t)
    (outsAt0 m c (t.val - 1) (Nat.lt_of_le_of_lt (Nat.sub_le _ _) t.isLt)).2.2.2.2.2.2.2.2 (fun h => h0 ((hcond0_0 t).mp h))
  simp only [stores, Prod.mk.injEq] at h
  obtain ⟨h7, h10, h11, h12, h13, h14⟩ := h
  rw [outsAt0_B m c t h0]
  unfold claimed left stores out0_B_7 out0_B_10 out0_B_11 out0_B_12 out0_B_13 out0_B_14
  simp only [View.read_writes_junk_eq_canon, h7, h10, h11, h12, h13, h14]

theorem kept_B (t : Fin cfg0.N) (h0 : ¬t.val % 16 = 0) :
    (outsAt0 m c t.val t.isLt).2.2.2.2.2.2.2.2 = (outsAt0 m c (t.val - 1) (Nat.lt_of_le_of_lt (Nat.sub_le _ _) t.isLt)).2.2.2.2.2.2.2.2 := by
  rw [outsAt0_B m c t h0]
  rfl

end Cert.Kernel2Ideal.InProj

end
-- ==== Proof.InProj.Spec.lean ====
/- What the projection computes, written over plain functions of coordinates and without any tiling: a normalised and
   modulated row times the weights, the rotary embedding of its query channels, and the gates. -/
module

public import Idealize.ShloMosaic.Lib.Pointwise.Index
public import Idealize.ShloMosaic.PureOps.Ideal.Laws

@[expose] public section

noncomputable section

namespace Cert.InProj

open Idealize.ShloMosaic

/-! ## Constants -/

theorem word_one : Ideal.ofBits .f32 0x3F800000#32 = (1 : EReal) := by
  simp [Ideal.ofBits, Ideal.ieee, -EReal.coe_mul]; norm_num

theorem word_zero : Ideal.ofBits .f32 0x00000000#32 = (0 : EReal) := by
  simp [Ideal.ofBits, Ideal.ieee, -EReal.coe_mul]

/-- The factor of the scores: the word of log₂ e / 8. -/
abbrev Q : EReal := Ideal.ofBits .f32 0x3E38AA3B#32

theorem Q_real : ∃ r : ℝ, 0 ≤ r ∧ Q = (r : EReal) := by
  refine ⟨_, ?_, by simp [Q, Ideal.ofBits, Ideal.ieee, -EReal.coe_mul]; rfl⟩
  positivity

theorem mul_Q_add (x y : EReal) : (x + y) * Q = x * Q + y * Q := by
  obtain ⟨r, hr, e⟩ := Q_real
  rw [e]
  exact EReal.right_distrib_of_nonneg_of_ne_top (EReal.coe_nonneg.mpr hr) (EReal.coe_ne_top r) x y

/-! ## The projected row -/

/-- The mean of the squares of a row of 1024 channels. -/
def meanSquare (x : Fin 1024 → EReal) : EReal := Ideal.div (∑ k, x k * x k) (Ideal.ofBits .f32 0x44800000#32)

/-- A row divided by the root of its mean square, scaled by the gain and the modulation, and shifted. -/
def hidden (x sh sc g : Fin 1024 → EReal) (k : Fin 1024) : EReal :=
  x k * Ideal.rsqrt (meanSquare x + Ideal.ofBits .f32 0x358637BD#32) * (g k * (1 + sc k)) + sh k

/-- Channel `e` of the projected row. -/
def proj (x sh sc g : Fin 1024 → EReal) (w : Fin 1024 → Fin 2560 → EReal) (e : Fin 2560) : EReal :=
  ∑ k, hidden x sh sc g k * w k e

/-- The projected row of position `s` of sequence `b`: the modulation's first third shifts, its second scales, and the weights
    are the first of the two. -/
def rowOf (x : (⟨3, ![8, 2048, 1024]⟩ : Shape).Idx → EReal) (md : (⟨3, ![16, 1, 3072]⟩ : Shape).Idx → EReal)
    (g : (⟨1, ![1024]⟩ : Shape).Idx → EReal) (w : (⟨3, ![2, 1024, 2560]⟩ : Shape).Idx → EReal) (b : Fin 8) (s : Fin 2048) : Fin 2560 → EReal :=
  proj (fun k => x (ix3 b s k)) (fun k => md (ix3 ⟨b.val, by omega⟩ 0 ⟨k.val, by omega⟩))
    (fun k => md (ix3 ⟨b.val, by omega⟩ 0 ⟨1024 + k.val, by omega⟩)) (fun k => g (ix1 k)) (fun k e => w (ix3 0 k e))

/-- The swish of an element. -/
def silu (x : EReal) : EReal := x * Ideal.logistic x

/-! ## The rotary embedding -/

/-- The angle of query channel `e`: sixteen for the grid row, sixteen for the grid column. -/
abbrev angle (e : ℕ) : Fin 32 := ⟨16 * (e / 32 % 2) + e % 16, by omega⟩

/-- Query channel `e` turned by its angle against the channel sixteen places from it, and scaled. -/
def rotary (p : Fin 2560 → EReal) (cs sn : Fin 32 → EReal) (e : Fin 512) : EReal :=
  if e.val % 32 < 16 then (p ⟨e.val, by omega⟩ * cs (angle e.val) - p ⟨e.val + 16, by omega⟩ * sn (angle e.val)) * Q
  else (p ⟨e.val - 16, by omega⟩ * sn (angle e.val) + p ⟨e.val, by omega⟩ * cs (angle e.val)) * Q

/-- What multiplies the channel sixteen places on, in lane `l`. -/
def sinOn (sn : Fin 32 → EReal) (l : ℕ) : EReal := if l % 32 < 16 then -sn (angle l) else 0

/-- What multiplies the channel sixteen places back, in lane `l`. -/
def sinBack (sn : Fin 32 → EReal) (l : ℕ) : EReal := if l % 32 < 16 then 0 else sn (angle l)

/-- The rotation as three products with scaled tables. -/
theorem rotary_of_tables (p : Fin 2560 → EReal) (cs sn : Fin 32 → EReal) (e : Fin 512) (l : ℕ) (hl : l % 64 = e.val % 64)
    (u v : EReal) (hu : e.val % 32 < 16 → u = p ⟨e.val + 16, by omega⟩) (hv : ¬e.val % 32 < 16 → v = p ⟨e.val - 16, by omega⟩) :
    p ⟨e.val, by omega⟩ * (cs (angle l) * Q) + u * (sinOn sn l * Q) + v * (sinBack sn l * Q) = rotary p cs sn e := by
  have ha : angle l = angle e.val := Fin.ext (by show 16 * (l / 32 % 2) + l % 16 = 16 * (e.val / 32 % 2) + e.val % 16; omega)
  have hm : l % 32 = e.val % 32 := by omega
  unfold sinOn sinBack rotary
  rw [ha, hm]
  by_cases h : e.val % 32 < 16
  · rw [if_pos h, if_pos h, if_pos h, hu h, sub_eq_add_neg, mul_Q_add, zero_mul, mul_zero, add_zero, ← mul_assoc, ← mul_assoc, mul_neg]
  · rw [if_neg h, if_neg h, if_neg h, hv h, mul_Q_add, zero_mul, mul_zero, add_zero, ← mul_assoc, ← mul_assoc, add_comm]

/-! ## Indices by their coordinates -/

theorem ext3 {n0 n1 n2 : ℕ} {i j : (⟨3, ![n0, n1, n2]⟩ : Shape).Idx} (h0 : (i 0).val = (j 0).val) (h1 : (i 1).val = (j 1).val)
    (h2 : (i 2).val = (j 2).val) : i = j :=
  funext fun a => Fin.ext (match a with | ⟨0, _⟩ => h0 | ⟨1, _⟩ => h1 | ⟨2, _⟩ => h2)

theorem ext2 {n0 n1 : ℕ} {i j : (⟨2, ![n0, n1]⟩ : Shape).Idx} (h0 : (i 0).val = (j 0).val) (h1 : (i 1).val = (j 1).val) : i = j :=
  funext fun a => Fin.ext (match a with | ⟨0, _⟩ => h0 | ⟨1, _⟩ => h1)

/-- Two three-dimensional arrays are equal when they are so at every triple of coordinates. -/
theorem arrays_ext {α : Type} {a b d : ℕ} {f g : (⟨3, ![a, b, d]⟩ : Shape).Idx → α}
    (h : ∀ i j k, f (ix3 i j k) = g (ix3 i j k)) : f = g := by
  funext x
  have e : x = ix3 (x 0) (x 1) (x 2) := ext3 rfl rfl rfl
  rw [e]
  exact h _ _ _

end Cert.InProj

end
-- ==== Proof.InProj.KernelPoint.lean ====
/- One grid point of the projection read at an index: the projected block is the projection of its rows, and every stored
   block is the function of those rows that the result is to hold. -/
module

public import proofs.«01_k».proof.Proof.InProj.Spec
public import proofs.«01_k».proof.Proof.InProj.Kernel
public import Idealize.ShloMosaic.Lib.KernelVsHost
public import Idealize.ShloMosaic.Lib.MatmulPlain
public import Idealize.ShloMosaic.Lib.ValueLayout
public import Idealize.ShloMosaic.Lib.ValueLayoutCasts
public import Idealize.ShloMosaic.Lib.Pipeline.ValueKit
public import Idealize.ShloMosaic.Lib.Pipeline.ReadBack

@[expose] public section

set_option maxRecDepth 16384

noncomputable section

namespace Cert.Kernel2Ideal.InProj

open Cert.Kernel2Ideal Cert.Kernel2Ideal.Gen Cert.InProj Idealize.ShloMosaic

/-! ## Arrays read whole, and stored whole -/

theorem ld_all2 {a b : ℕ} {φ : EltTy} (X : Vec Ideal ⟨2, ![a, b]⟩ φ) : View.ld X (all2 a b) = X :=
  funext fun x => congrArg X (ext2 (by show 0 + 1 * (x 0).val = (x 0).val; omega) (by show 0 + 1 * (x 1).val = (x 1).val; omega))

theorem ld_all3 {a b d : ℕ} {φ : EltTy} (X : Vec Ideal ⟨3, ![a, b, d]⟩ φ) : View.ld X (all3 a b d) = X :=
  funext fun x => congrArg X (ext3 (by show 0 + 1 * (x 0).val = (x 0).val; omega) (by show 0 + 1 * (x 1).val = (x 1).val; omega)
    (by show 0 + 1 * (x 2).val = (x 2).val; omega))

theorem canon_all3 {a b d : ℕ} {φ : EltTy} (v : Vec Ideal ⟨3, ![a, b, d]⟩ φ) :
    View.canon (Val := Elt Ideal) (s := ⟨3, ![a, b, d]⟩) (e := φ) [⟨all3 a b d, v⟩] = v := by
  funext y
  refine View.canon_apply_of_pieces v _ (fun p hp => ?_) y ⟨_, List.mem_singleton.mpr rfl, ?_⟩
  · rw [List.mem_singleton] at hp
    subst hp
    intro x
    exact congrArg v (ext3 (by show (x 0).val = 0 + 1 * (x 0).val; omega) (by show (x 1).val = 0 + 1 * (x 1).val; omega)
      (by show (x 2).val = 0 + 1 * (x 2).val; omega))
  · show y ∈ (all3 a b d).set
    rw [Rect.mem_set_unit]
    intro k
    match k with
    | ⟨0, _⟩ => exact ⟨Nat.zero_le _, by show (y 0).val < 0 + a; have : (y 0).val < a := (y 0).isLt; omega⟩
    | ⟨1, _⟩ => exact ⟨Nat.zero_le _, by show (y 1).val < 0 + b; have : (y 1).val < b := (y 1).isLt; omega⟩
    | ⟨2, _⟩ => exact ⟨Nat.zero_le _, by show (y 2).val < 0 + d; have : (y 2).val < d := (y 2).isLt; omega⟩

theorem canon_all2 {a b : ℕ} {φ : EltTy} (v : Vec Ideal ⟨2, ![a, b]⟩ φ) :
    View.canon (Val := Elt Ideal) (s := ⟨2, ![a, b]⟩) (e := φ) [⟨all2 a b, v⟩] = v := by
  funext y
  refine View.canon_apply_of_pieces v _ (fun p hp => ?_) y ⟨_, List.mem_singleton.mpr rfl, ?_⟩
  · rw [List.mem_singleton] at hp
    subst hp
    intro x
    exact congrArg v (ext2 (by show (x 0).val = 0 + 1 * (x 0).val; omega) (by show (x 1).val = 0 + 1 * (x 1).val; omega))
  · show y ∈ (all2 a b).set
    rw [Rect.mem_set_unit]
    intro k
    match k with
    | ⟨0, _⟩ => exact ⟨Nat.zero_le _, by show (y 0).val < 0 + a; have : (y 0).val < a := (y 0).isLt; omega⟩
    | ⟨1, _⟩ => exact ⟨Nat.zero_le _, by show (y 1).val < 0 + b; have : (y 1).val < b := (y 1).isLt; omega⟩

/-- The kept weights are the weights' block. -/
theorem weights_at (X4 : Vec Ideal S1x1024x2560 .f32) (k : Fin 1024) (e : Fin 2560) :
    View.canon (weightPieces X4) (ix2 k e) = X4 (ix3 0 k e) := by
  unfold weightPieces
  refine (congrFun (canon_all2 (a := 1024) (b := 2560) (φ := .bf16) _) (ix2 k e)).trans ?_
  unfold k0_pay5
  rw [ld_all3, shapeCast_self]
  exact ValueIdx.shapeCast_1ab_ab_apply X4 shapeCasts_S1x1024x2560_S1024x2560 k e

/-! ## The projected block -/

/-- A column repeated along a row reads the column. -/
theorem column_at {a b : ℕ} (v : (⟨2, ![a, 1]⟩ : Shape).Idx → EReal) (h : (⟨2, ![a, 1]⟩ : Shape).Broadcasts ⟨2, ![a, b]⟩)
    (p : Fin a) (c : Fin b) : broadcastTo ⟨2, ![a, b]⟩ v h (ix2 p c) = v (ix2 p 0) := by
  refine broadcastTo_apply v h (ix2 p c) (ix2 p 0) fun ax => ?_
  match ax with
  | ⟨0, _⟩ =>
    show p.val = if a = 1 then 0 else p.val
    split
    · have := p.isLt; omega
    · rfl
  | ⟨1, _⟩ => rfl

/-- A product into zero, at an index. -/
theorem product_at {m k n : ℕ} {φ : FTy} (d : DotDims ⟨2, ![m, k]⟩ ⟨2, ![k, n]⟩ ⟨2, ![m, n]⟩) (hd : d = DotDims.plain m k n)
    (x : FVec Ideal ⟨2, ![m, k]⟩ φ) (y : FVec Ideal ⟨2, ![k, n]⟩ φ) (r : Fin m) (c : Fin n) :
    matmul d none x y (constant (F := Ideal) ⟨2, ![m, n]⟩ .f32 0x00000000#32) (ix2 r c) = ∑ j : Fin k, x (ix2 r j) * y (ix2 j c) := by
  subst hd
  refine (Ideal.matmul_plain_apply none x y _ r c).trans ?_
  have e : constant (F := Ideal) (⟨2, ![m, n]⟩ : Shape) .f32 0x00000000#32 (ix2 r c) = (0 : EReal) := word_zero
  exact (congrArg (· + _) e).trans (zero_add _)

section

variable (X0 : Vec Ideal S1x1024x1024 .f32) (X1 X2 : Vec Ideal S1x1x1024 .f32) (X3 : Vec Ideal S1x1024 .f32) (W : Vec Ideal S1024x2560 .bf16)

/-- The projection of the rows of a block, by row and channel. -/
abbrev rowsProj (r : Fin 1024) : Fin 2560 → EReal :=
  proj (fun k => X0 (ix3 0 r k)) (fun k => X1 (ix3 0 0 k)) (fun k => X2 (ix3 0 0 k)) (fun k => X3 (ix2 0 k)) (fun k e => W (ix2 k e))

/-- The mean of the squares of a row of a block. -/
theorem meanSquare_at (v : FVec Ideal S1024x1024 .f32) (r : Fin 1024) :
    divf (shapeCast S1024x1 (multiReduction (F := Ideal) .add [1] S1024 (mulf v v) 0x00000000#32 reduces_S1024x1024_S1024 (.inl rfl) rfl) shapeCasts_S1024_S1024x1)
      (broadcast S1024x1 (Scalar.ofBits (F := Ideal) .f32 0x44800000#32)) (ix2 r 0) = meanSquare fun k => v (ix2 r k) := by
  unfold meanSquare
  rw [ValueIdx.divf_apply]
  refine congrArg (fun a : EReal => Ideal.div a (Ideal.ofBits .f32 0x44800000#32)) ?_
  refine (ValueIdx.shapeCast_a_a1_apply _ shapeCasts_S1024_S1024x1 r 0).trans ?_
  have h : multiReduction (F := Ideal) .add [1] S1024 (mulf v v) 0x00000000#32 reduces_S1024x1024_S1024 (.inl rfl) rfl (ix1 r)
      = ∑ k : Fin 1024, mulf v v (reduces_S1024x1024_S1024.lift (ix1 r) k) :=
    Ideal.multiReduction_add_single (s := S1024x1024) (t := S1024) (a := 1) (φ := .f32) (mulf v v) 0x00000000#32 reduces_S1024x1024_S1024 (.inl rfl) rfl (ix1 r)
  exact h.trans (Finset.sum_congr rfl fun c _ => congrArg (mulf v v) (ext2 rfl rfl))

theorem projected_at (r : Fin 1024) (e : Fin 2560) : projected X0 X1 X2 X3 W (ix2 r e) = rowsProj X0 X1 X2 X3 W r e := by
  unfold projected k0_pay6
  rw [ld_all3, ld_all2, ld_all3, ld_all3, ld_all2]
  refine (product_at _ rfl _ _ r e).trans ?_
  refine Finset.sum_congr rfl fun k _ => congrArg (· * _) ?_
  have ex : ∀ k, shapeCast S1024x1024 X0 shapeCasts_S1x1024x1024_S1024x1024 (ix2 r k) = X0 (ix3 0 r k) := fun k =>
    ValueIdx.shapeCast_1ab_ab_apply X0 shapeCasts_S1x1024x1024_S1024x1024 r k
  refine congrArg₂ (fun a b : EReal => a + b) (congrArg₂ (fun a b : EReal => a * b) (congrArg₂ (fun a b : EReal => a * b) (ex k) ?_) ?_) ?_
  · refine (column_at _ _ r k).trans (congrArg Ideal.rsqrt (congrArg (fun a : EReal => a + _) ?_))
    refine (meanSquare_at _ r).trans (congrArg meanSquare (funext ex))
  · refine (ValueIdx.broadcastTo_1b_ab_apply _ _ r k).trans ?_
    rw [shapeCast_self]
    refine congrArg₂ (fun a b : EReal => a * b) rfl (congrArg₂ (fun a b : EReal => a + b) word_one ?_)
    exact ValueIdx.shapeCast_1ab_ab_apply X2 shapeCasts_S1x1x1024_S1x1024 0 k
  · refine (ValueIdx.broadcastTo_1b_ab_apply _ _ r k).trans ?_
    exact ValueIdx.shapeCast_1ab_ab_apply X1 shapeCasts_S1x1x1024_S1x1024 0 k

end

/-! ## The stored blocks -/

section

variable (P : FVec Ideal S1024x2560 .f32)

/-- A run of channels of the projected block. -/
theorem channels_at {n : ℕ} (o : ℕ) (h : S1024x2560.Slices ![0, o] ⟨2, ![1024, n]⟩) (r : Fin 1024) (k : Fin n) (hk : o + k.val < 2560) :
    extractStridedSlice ⟨2, ![1024, n]⟩ ![0, o] P h (ix2 r k) = P (ix2 r ⟨o + k.val, hk⟩) :=
  extractStridedSlice_apply _ _ h (ix2 r k) (ix2 r ⟨o + k.val, hk⟩) (fun a => match a with
    | ⟨0, _⟩ => by show r.val = 0 + r.val; omega
    | ⟨1, _⟩ => rfl)

theorem gatt_at (r : Fin 1024) (k : Fin 512) : View.canon (gattPieces P) (ix3 0 r k) = silu (P (ix2 r ⟨768 + k.val, by omega⟩)) := by
  unfold gattPieces
  refine (congrFun (canon_all3 (a := 1) (b := 1024) (d := 512) (φ := .bf16) _) (ix3 0 r k)).trans ?_
  unfold k0_pay27
  refine (ValueIdx.shapeCast_ab_1ab_apply _ _ 0 r k).trans ?_
  exact congrArg silu (channels_at P 768 slices_S1024x2560_o0_768_S1024x512 r k _)

theorem gcv_at (r : Fin 1024) (k : Fin 256) : View.canon (gcvPieces P) (ix3 0 r k) = silu (P (ix2 r ⟨1792 + k.val, by omega⟩)) := by
  unfold gcvPieces
  refine (congrFun (canon_all3 (a := 1) (b := 1024) (d := 256) (φ := .bf16) _) (ix3 0 r k)).trans ?_
  unfold k0_pay1
  refine (ValueIdx.shapeCast_ab_1ab_apply _ _ 0 r k).trans ?_
  exact congrArg silu (channels_at P 1792 slices_S1024x2560_o0_1792_S1024x256 r k _)

theorem gf_at (r : Fin 1024) (k : Fin 256) : View.canon (gfPieces P) (ix3 0 r k) = silu (P (ix2 r ⟨2304 + k.val, by omega⟩)) := by
  unfold gfPieces
  refine (congrFun (canon_all3 (a := 1) (b := 1024) (d := 256) (φ := .bf16) _) (ix3 0 r k)).trans ?_
  unfold k0_pay3
  refine (ValueIdx.shapeCast_ab_1ab_apply _ _ 0 r k).trans ?_
  exact congrArg silu (channels_at P 2304 slices_S1024x2560_o0_2304_S1024x256 r k _)

theorem uc_at (r : Fin 1024) (k : Fin 256) : View.canon (ucPieces P) (ix3 0 r k)
    = P (ix2 r ⟨1280 + k.val, by omega⟩) * Ideal.logistic (P (ix2 r ⟨1536 + k.val, by omega⟩)) := by
  unfold ucPieces
  refine (congrFun (canon_all3 (a := 1) (b := 1024) (d := 256) (φ := .bf16) _) (ix3 0 r k)).trans ?_
  unfold k0_pay4
  refine (ValueIdx.shapeCast_ab_1ab_apply _ _ 0 r k).trans ?_
  exact congrArg₂ (fun a b : EReal => a * b) (channels_at P 1280 slices_S1024x2560_o0_1280_S1024x256 r k _)
    (congrArg Ideal.logistic (channels_at P 1536 slices_S1024x2560_o0_1536_S1024x256 r k _))

theorem ab_at (X6 : Vec Ideal S256x512 .bf16) (r : Fin 1024) (k : Fin 512) : View.canon (abPieces P X6) (ix3 0 r k)
    = ∑ j : Fin 256, P (ix2 r ⟨2048 + j.val, by omega⟩) * X6 (ix2 j k) := by
  unfold abPieces
  refine (congrFun (canon_all3 (a := 1) (b := 1024) (d := 512) (φ := .bf16) _) (ix3 0 r k)).trans ?_
  unfold k0_pay2
  refine (ValueIdx.shapeCast_ab_1ab_apply _ _ 0 r k).trans ?_
  rw [ld_all2]
  refine (product_at _ rfl _ _ r k).trans (Finset.sum_congr rfl fun j _ => congrArg (· * _) ?_)
  exact channels_at P 2048 slices_S1024x2560_o0_2048_S1024x256 r j _

/-- A tile turned along its lanes by `112` reads sixteen lanes on, by `16` sixteen lanes back. -/
theorem turned_at (v : FVec Ideal S1024x128 .f32) (n : ℕ) (hn : n < 128) (r : Fin 1024) (l l' : Fin 128) (hl : l'.val = (l.val + 128 - n) % 128) :
    dynamicRotate 1 (BitVec.ofNat 32 n) none v rotates_S1024x128_d1 (ix2 r l) = v (ix2 r l') := by
  refine dynamicRotate_apply _ _ _ _ _ (ix2 r l') (fun b => match b with
    | ⟨0, _⟩ => rfl
    | ⟨1, _⟩ => ?_)
  show l'.val = (l.val + 128 - (BitVec.ofNat 32 n).toNat % 128) % 128
  rw [BitVec.toNat_ofNat, hl]
  omega

/-- A lane tile turned with its three tables. -/
theorem rotated_at (v t0 t1 t2 : Vec Ideal S1024x128 .f32) (r : Fin 1024) (l : Fin 128) :
    k0_pay8 v t0 t1 t2 (ix3 0 r l) = (v (ix2 r l) * t0 (ix2 r l) + v (ix2 r ⟨(l.val + 16) % 128, by omega⟩) * t1 (ix2 r l)
      + v (ix2 r ⟨(l.val + 112) % 128, by omega⟩) * t2 (ix2 r l) : EReal) := by
  unfold k0_pay8
  refine (ValueIdx.shapeCast_ab_1ab_apply _ _ 0 r l).trans ?_
  rw [shapeCast_self, shapeCast_self, shapeCast_self]
  refine congrArg₂ (fun a b : EReal => a + b) (congrArg₂ (fun a b : EReal => a + b) rfl
    (congrArg (fun a : EReal => a * t1 (ix2 r l)) ?_)) (congrArg (fun a : EReal => a * t2 (ix2 r l)) ?_)
  · exact turned_at v 112 (by omega) r l ⟨(l.val + 16) % 128, by omega⟩ (by show (l.val + 16) % 128 = _; omega)
  · exact turned_at v 16 (by omega) r l ⟨(l.val + 112) % 128, by omega⟩ (by show (l.val + 112) % 128 = _; omega)

/-- A table of the six, read at an index. -/
theorem table_at (X5 : Vec Ideal S1024x768 .f32) (i : Fin 6) (r : Fin 1024) (l : Fin 128) :
    (View.ld X5 (tableRect i) : Vec Ideal S1024x128 .f32) (ix2 r l) = X5 (ix2 r ⟨128 * i.val + l.val, by omega⟩) :=
  congrArg X5 (ext2 (by show 0 + 1 * r.val = r.val; omega) (by show 128 * i.val + 1 * l.val = 128 * i.val + l.val; omega))

/-- A lane tile of the queries. -/
theorem queryTile_at (X5 : Vec Ideal S1024x768 .f32) (p : Fin 2560 → EReal) (cs sn : Fin 32 → EReal) (r : Fin 1024)
    (hp : ∀ e, P (ix2 r e) = p e)
    (h0 : ∀ l : Fin 128, X5 (ix2 r ⟨128 * 0 + l.val, by omega⟩) = (cs (angle l.val) * Q : EReal))
    (h1 : ∀ l : Fin 128, X5 (ix2 r ⟨128 * 1 + l.val, by omega⟩) = (sinOn sn l.val * Q : EReal))
    (h2 : ∀ l : Fin 128, X5 (ix2 r ⟨128 * 2 + l.val, by omega⟩) = (sinBack sn l.val * Q : EReal))
    (j : Fin 4) (l : Fin 128) :
    k0_pay8 (extractStridedSlice S1024x128 ![0, 128 * j.val] P (tile_slices j))
      (View.ld X5 (tableRect 0)) (View.ld X5 (tableRect 1)) (View.ld X5 (tableRect 2)) (ix3 0 r l)
      = rotary p cs sn ⟨128 * j.val + l.val, by omega⟩ := by
  have hs : ∀ l : Fin 128, extractStridedSlice S1024x128 ![0, 128 * j.val] P (tile_slices j) (ix2 r l) = p ⟨128 * j.val + l.val, by omega⟩ :=
    fun l => (channels_at P _ (tile_slices j) r l _).trans (hp _)
  refine Eq.trans ?_ (rotary_of_tables p cs sn ⟨128 * j.val + l.val, by omega⟩ l.val (by show l.val % 64 = (128 * j.val + l.val) % 64; omega)
    (p ⟨128 * j.val + (l.val + 16) % 128, by omega⟩) (p ⟨128 * j.val + (l.val + 112) % 128, by omega⟩)
    (fun h => congrArg p (Fin.ext ?_)) (fun h => congrArg p (Fin.ext ?_)))
  · refine (rotated_at _ _ _ _ r l).trans ?_
    exact congrArg₂ (fun a b : EReal => a + b) (congrArg₂ (fun a b : EReal => a + b)
      (congrArg₂ (fun a b : EReal => a * b) (hs l) ((table_at X5 0 r l).trans (h0 l)))
      (congrArg₂ (fun a b : EReal => a * b) (hs _) ((table_at X5 1 r l).trans (h1 l))))
      (congrArg₂ (fun a b : EReal => a * b) (hs _) ((table_at X5 2 r l).trans (h2 l)))
  · have h : (128 * j.val + l.val) % 32 < 16 := h
    show 128 * j.val + (l.val + 16) % 128 = 128 * j.val + l.val + 16
    omega
  · have h : ¬(128 * j.val + l.val) % 32 < 16 := h
    show 128 * j.val + (l.val + 112) % 128 = 128 * j.val + l.val - 16
    omega

/-- The queries' block. -/
theorem query_at (X5 : Vec Ideal S1024x768 .f32) (p : Fin 1024 → Fin 2560 → EReal) (cs sn : Fin 1024 → Fin 32 → EReal)
    (hp : ∀ r e, P (ix2 r e) = p r e)
    (h0 : ∀ r (l : Fin 128), X5 (ix2 r ⟨128 * 0 + l.val, by omega⟩) = (cs r (angle l.val) * Q : EReal))
    (h1 : ∀ r (l : Fin 128), X5 (ix2 r ⟨128 * 1 + l.val, by omega⟩) = (sinOn (sn r) l.val * Q : EReal))
    (h2 : ∀ r (l : Fin 128), X5 (ix2 r ⟨128 * 2 + l.val, by omega⟩) = (sinBack (sn r) l.val * Q : EReal))
    (y : S1x1024x512.Idx) :
    View.canon (queryPieces P X5) y = rotary (p (y 1)) (cs (y 1)) (sn (y 1)) (y 2) := by
  refine View.canon_apply_of_pieces (Val := Elt Ideal) (e := .bf16) (fun y : S1x1024x512.Idx => (rotary (p (y 1)) (cs (y 1)) (sn (y 1)) (y 2) : EReal)) _ ?_ y ?_
  · have key : ∀ (j : Fin 4) (x : S1x1024x128.Idx), (queryPiece P X5 j).2 x
        = rotary (p ((tileRect j).emb x 1)) (cs ((tileRect j).emb x 1)) (sn ((tileRect j).emb x 1)) ((tileRect j).emb x 2) := by
      intro j x
      have hx : x = ix3 0 (x 1) (x 2) := ext3 (Nat.lt_one_iff.mp (x 0).isLt) rfl rfl
      have e1 : (tileRect j).emb x 1 = x 1 := Fin.ext (by show 0 + 1 * (x 1).val = (x 1).val; omega)
      have h2' : (x 2).val < 128 := (x 2).isLt
      have e2 : (tileRect j).emb x 2 = (⟨128 * j.val + (x 2).val, by omega⟩ : Fin 512) := Fin.ext (by
        show 128 * j.val + 1 * (x 2).val = 128 * j.val + (x 2).val; omega)
      rw [e1, e2]
      exact (congrArg _ hx).trans (queryTile_at P X5 _ _ _ (x 1) (hp _) (h0 _) (h1 _) (h2 _) j (x 2))
    intro q hq
    unfold queryPieces at hq
    simp only [List.mem_cons, List.not_mem_nil, or_false] at hq
    rcases hq with rfl | rfl | rfl | rfl
    · exact key 3
    · exact key 2
    · exact key 1
    · exact key 0
  · have h0 : (y 0).val = 0 := Nat.lt_one_iff.mp (y 0).isLt
    have h1 : (y 1).val < 1024 := (y 1).isLt
    have h2 : (y 2).val < 512 := (y 2).isLt
    refine ⟨queryPiece P X5 ⟨(y 2).val / 128, by omega⟩, ?_, ?_⟩
    · have all : ∀ j : Fin 4, queryPiece P X5 j ∈ queryPieces P X5 := by
        intro j
        unfold queryPieces
        match j with
        | 0 => simp
        | 1 => simp
        | 2 => simp
        | 3 => simp
      exact all _
    · show y ∈ (tileRect _).set
      rw [Rect.mem_set_unit]
      intro a
      match a with
      | ⟨0, _⟩ => exact ⟨Nat.zero_le _, by show (y 0).val < 0 + 1; omega⟩
      | ⟨1, _⟩ => exact ⟨Nat.zero_le _, by show (y 1).val < 0 + 1024; omega⟩
      | ⟨2, _⟩ => exact ⟨by show 128 * ((y 2).val / 128) ≤ (y 2).val; omega, by show (y 2).val < 128 * ((y 2).val / 128) + 128; omega⟩

end

end Cert.Kernel2Ideal.InProj

end
-- ==== Proof.InProj.HostTable.lean ====
/- The rotary table the host lays out before the projection runs, at an index: the cosines, the sines against the channel sixteen
   places on and the sines against the channel sixteen places back, each times the scores' factor. -/
module

public import proofs.«01_k».proof.Proof.InProj.KernelPoint
public import proofs.«01_k».proof.Proof.Gen.Kernel2Ideal.Frame.Runs
public import Idealize.ShloMosaic.Lib.Claim
public import Idealize.ShloMosaic.Lib.ValueLayout
public import Idealize.ShloMosaic.Lib.StableHlo.ReadAt

@[expose] public section

set_option maxRecDepth 16384

noncomputable section

namespace Cert.Kernel2Ideal.InProj

open Cert.Kernel2Ideal Cert.Kernel2Ideal.Gen Cert.InProj Idealize.ShloMosaic Idealize.ShloMosaic.TcCoe

/-- Four arrays of sixteen lanes, laid side by side twice. -/
def lanes (x : Fin 4 → (⟨2, ![2048, 16]⟩ : Shape).Idx → EReal)
    (hc : Shape.Concatenates ((List.ofFn fun p : Fin 8 => (⟨S2048x16, x ⟨p.val % 4, by omega⟩⟩ : (s : Shape) × (s.Idx → EReal))).map (·.1)) S2048x128 1) :
    (⟨2, ![2048, 128]⟩ : Shape).Idx → EReal :=
  concatenate S2048x128 1 (List.ofFn fun p : Fin 8 => (⟨S2048x16, x ⟨p.val % 4, by omega⟩⟩ : (s : Shape) × (s.Idx → EReal))) hc

theorem lanes_at (x : Fin 4 → (⟨2, ![2048, 16]⟩ : Shape).Idx → EReal) (hc) (r : Fin 2048) (l : Fin 128) :
    lanes x hc (ix2 r l) = x ⟨l.val / 16 % 4, by omega⟩ (ix2 r ⟨l.val % 16, by omega⟩) :=
  concatenate_ofFn_apply (t := S2048x128) (s₁ := S2048x16) 1 (fun p : Fin 8 => x ⟨p.val % 4, by omega⟩) hc rfl 16 rfl (ix2 r l)
    ⟨l.val / 16, by omega⟩ rfl (ix2 r ⟨l.val % 16, by omega⟩) rfl
    (fun a ha => match a, ha with | ⟨0, _⟩, _ => rfl | ⟨1, _⟩, ha => absurd rfl ha)

/-- Six tables side by side. -/
def tables (x : Fin 6 → (⟨2, ![2048, 128]⟩ : Shape).Idx → EReal)
    (hc : Shape.Concatenates ((List.ofFn fun p : Fin 6 => (⟨S2048x128, x p⟩ : (s : Shape) × (s.Idx → EReal))).map (·.1)) S2048x768 1) :
    (⟨2, ![2048, 768]⟩ : Shape).Idx → EReal :=
  concatenate S2048x768 1 (List.ofFn fun p : Fin 6 => (⟨S2048x128, x p⟩ : (s : Shape) × (s.Idx → EReal))) hc

theorem tables_at (x : Fin 6 → (⟨2, ![2048, 128]⟩ : Shape).Idx → EReal) (hc) (r : Fin 2048) (i : Fin 6) (l : Fin 128) :
    tables x hc (ix2 r ⟨128 * i.val + l.val, by omega⟩) = x i (ix2 r l) :=
  concatenate_ofFn_apply (t := S2048x768) (s₁ := S2048x128) 1 x hc rfl 128 rfl (ix2 r ⟨128 * i.val + l.val, by omega⟩)
    i (by show (128 * i.val + l.val) / 128 = i.val; omega) (ix2 r l) (by show l.val = (128 * i.val + l.val) % 128; omega)
    (fun a ha => match a, ha with | ⟨0, _⟩, _ => rfl | ⟨1, _⟩, ha => absurd rfl ha)

variable (m : (ℓ : Loc nD τ sig) → Buf (Elt Ideal) ℓ) (c : Dev nD)

/-- The cosines, and the sines, of the angles of position `s`. -/
abbrev cosOf (s : Fin 2048) (a : Fin 32) : EReal := m ((c : Thread nD τ).loc main_arg4) (ix2 s a)
abbrev sinOf (s : Fin 2048) (a : Fin 32) : EReal := m ((c : Thread nD τ).loc main_arg5) (ix2 s a)

/-- A slab of sixteen columns as the host slices it, a slab of zeros, and the scores' factor everywhere. -/
abbrev slab0 (a : S2048x32.Idx → EReal) : (⟨2, ![2048, 16]⟩ : Shape).Idx → EReal := extractStridedSlice S2048x16 ![0, 0] a slices_S2048x32_S2048x16_0_0
abbrev slab1 (a : S2048x32.Idx → EReal) : (⟨2, ![2048, 16]⟩ : Shape).Idx → EReal := extractStridedSlice S2048x16 ![0, 16] a slices_S2048x32_S2048x16_0_16
abbrev blank : (⟨2, ![2048, 16]⟩ : Shape).Idx → EReal := broadcastInDim S2048x16 ![] bcast_S_S2048x16 (constant (F := Ideal) S_ .f32 0x00000000#32)

theorem slab0_at (a : S2048x32.Idx → EReal) (r : Fin 2048) (i : Fin 16) : slab0 a (ix2 r i) = a (ix2 r ⟨16 * 0 + i.val, by omega⟩) :=
  extractStridedSlice_apply _ _ _ (ix2 r i) _ (fun b => match b with
    | ⟨0, _⟩ => by show r.val = 0 + r.val; omega
    | ⟨1, _⟩ => rfl)

theorem slab1_at (a : S2048x32.Idx → EReal) (r : Fin 2048) (i : Fin 16) : slab1 a (ix2 r i) = a (ix2 r ⟨16 * 1 + i.val, by omega⟩) :=
  extractStridedSlice_apply _ _ _ (ix2 r i) _ (fun b => match b with
    | ⟨0, _⟩ => by show r.val = 0 + r.val; omega
    | ⟨1, _⟩ => rfl)

theorem blank_at (y : (⟨2, ![2048, 16]⟩ : Shape).Idx) : blank y = (0 : EReal) := word_zero

/-- The three tables' pieces. -/
def cosPieces : Fin 4 → (⟨2, ![2048, 16]⟩ : Shape).Idx → EReal :=
  ![slab0 (m ((c : Thread nD τ).loc main_arg4)), slab0 (m ((c : Thread nD τ).loc main_arg4)), slab1 (m ((c : Thread nD τ).loc main_arg4)), slab1 (m ((c : Thread nD τ).loc main_arg4))]
def onPieces : Fin 4 → (⟨2, ![2048, 16]⟩ : Shape).Idx → EReal :=
  ![fun y => -slab0 (m ((c : Thread nD τ).loc main_arg5)) y, blank, fun y => -slab1 (m ((c : Thread nD τ).loc main_arg5)) y, blank]
def backPieces : Fin 4 → (⟨2, ![2048, 16]⟩ : Shape).Idx → EReal :=
  ![blank, slab0 (m ((c : Thread nD τ).loc main_arg5)), blank, slab1 (m ((c : Thread nD τ).loc main_arg5))]

theorem quarter (l : Fin 128) : (l.val / 16 % 4 = 0 ∧ l.val / 32 % 2 = 0 ∧ l.val % 32 < 16) ∨ (l.val / 16 % 4 = 1 ∧ l.val / 32 % 2 = 0 ∧ ¬l.val % 32 < 16)
    ∨ (l.val / 16 % 4 = 2 ∧ l.val / 32 % 2 = 1 ∧ l.val % 32 < 16) ∨ (l.val / 16 % 4 = 3 ∧ l.val / 32 % 2 = 1 ∧ ¬l.val % 32 < 16) := by omega

theorem angle_half (l : Fin 128) (o : ℕ) (h : l.val / 32 % 2 = o) : angle l.val = ⟨16 * o + l.val % 16, by omega⟩ :=
  Fin.ext (by show 16 * (l.val / 32 % 2) + l.val % 16 = 16 * o + l.val % 16; omega)

theorem cosPieces_at (r : Fin 2048) (l : Fin 128) : cosPieces m c ⟨l.val / 16 % 4, by omega⟩ (ix2 r ⟨l.val % 16, by omega⟩) = cosOf m c r (angle l.val) := by
  have e (q : Fin 4) (h : l.val / 16 % 4 = q.val) : (⟨l.val / 16 % 4, by omega⟩ : Fin 4) = q := Fin.ext h
  rcases quarter l with ⟨h, ho, -⟩ | ⟨h, ho, -⟩ | ⟨h, ho, -⟩ | ⟨h, ho, -⟩
  · rw [e 0 h, angle_half l 0 ho]; exact slab0_at _ _ _
  · rw [e 1 h, angle_half l 0 ho]; exact slab0_at _ _ _
  · rw [e 2 h, angle_half l 1 ho]; exact slab1_at _ _ _
  · rw [e 3 h, angle_half l 1 ho]; exact slab1_at _ _ _

theorem onPieces_at (r : Fin 2048) (l : Fin 128) : onPieces m c ⟨l.val / 16 % 4, by omega⟩ (ix2 r ⟨l.val % 16, by omega⟩) = sinOn (sinOf m c r) l.val := by
  have e (q : Fin 4) (h : l.val / 16 % 4 = q.val) : (⟨l.val / 16 % 4, by omega⟩ : Fin 4) = q := Fin.ext h
  unfold sinOn
  rcases quarter l with ⟨h, ho, hl⟩ | ⟨h, ho, hl⟩ | ⟨h, ho, hl⟩ | ⟨h, ho, hl⟩
  · rw [e 0 h, angle_half l 0 ho, if_pos hl]; exact congrArg (fun a : EReal => -a) (slab0_at _ _ _)
  · rw [e 1 h, if_neg hl]; exact blank_at (ix2 r ⟨l.val % 16, by omega⟩)
  · rw [e 2 h, angle_half l 1 ho, if_pos hl]; exact congrArg (fun a : EReal => -a) (slab1_at _ _ _)
  · rw [e 3 h, if_neg hl]; exact blank_at (ix2 r ⟨l.val % 16, by omega⟩)

theorem backPieces_at (r : Fin 2048) (l : Fin 128) : backPieces m c ⟨l.val / 16 % 4, by omega⟩ (ix2 r ⟨l.val % 16, by omega⟩) = sinBack (sinOf m c r) l.val := by
  have e (q : Fin 4) (h : l.val / 16 % 4 = q.val) : (⟨l.val / 16 % 4, by omega⟩ : Fin 4) = q := Fin.ext h
  unfold sinBack
  rcases quarter l with ⟨h, ho, hl⟩ | ⟨h, ho, hl⟩ | ⟨h, ho, hl⟩ | ⟨h, ho, hl⟩
  · rw [e 0 h, if_pos hl]; exact blank_at (ix2 r ⟨l.val % 16, by omega⟩)
  · rw [e 1 h, angle_half l 0 ho, if_neg hl]; exact slab0_at _ _ _
  · rw [e 2 h, if_pos hl]; exact blank_at (ix2 r ⟨l.val % 16, by omega⟩)
  · rw [e 3 h, angle_half l 1 ho, if_neg hl]; exact slab1_at _ _ _

/-- The three tables of 128 lanes, and the six tables the host joins. -/
def cosTable : (⟨2, ![2048, 128]⟩ : Shape).Idx → EReal := lanes (cosPieces m c) concatenates_S2048x16_S2048x16_S2048x16_S2048x16_S2048x16_S2048x16_S2048x16_S2048x16_S2048x128_d1
def onTable : (⟨2, ![2048, 128]⟩ : Shape).Idx → EReal := lanes (onPieces m c) concatenates_S2048x16_S2048x16_S2048x16_S2048x16_S2048x16_S2048x16_S2048x16_S2048x16_S2048x128_d1
def backTable : (⟨2, ![2048, 128]⟩ : Shape).Idx → EReal := lanes (backPieces m c) concatenates_S2048x16_S2048x16_S2048x16_S2048x16_S2048x16_S2048x16_S2048x16_S2048x16_S2048x128_d1
def sixTables : Fin 6 → (⟨2, ![2048, 128]⟩ : Shape).Idx → EReal :=
  ![fun y => cosTable m c y * Q, fun y => onTable m c y * Q, fun y => backTable m c y * Q, cosTable m c, onTable m c, backTable m c]

theorem V_v20 : V m c main_v20 = tables (sixTables m c) concatenates_S2048x128_S2048x128_S2048x128_S2048x128_S2048x128_S2048x128_S2048x768_d1 := by
  unfold V
  after_reads_simp
  rfl

/-- The rotary table at table `i`, lane `l`. -/
theorem table_host (i : Fin 6) (r : Fin 2048) (l : Fin 128) :
    V m c main_v20 (ix2 r ⟨128 * i.val + l.val, by omega⟩) = sixTables m c i (ix2 r l) := by
  rw [V_v20]
  exact tables_at _ _ r i l

theorem cosTable_at (r : Fin 2048) (l : Fin 128) : cosTable m c (ix2 r l) = cosOf m c r (angle l.val) :=
  (lanes_at _ _ r l).trans (cosPieces_at m c r l)

theorem onTable_at (r : Fin 2048) (l : Fin 128) : onTable m c (ix2 r l) = sinOn (sinOf m c r) l.val :=
  (lanes_at _ _ r l).trans (onPieces_at m c r l)

theorem backTable_at (r : Fin 2048) (l : Fin 128) : backTable m c (ix2 r l) = sinBack (sinOf m c r) l.val :=
  (lanes_at _ _ r l).trans (backPieces_at m c r l)

/-- The gain given a leading axis of one. -/
theorem gain_at (k : Fin 1024) : V m c main_v21 (ix2 0 k) = m ((c : Thread nD τ).loc main_arg2) (ix1 k) := by
  unfold V
  after_reads_simp
  exact ValueIdx.shapeCast_a_1a_apply _ _ _ _

end Cert.Kernel2Ideal.InProj

end
-- ==== Proof.InProj.BlocksAt.lean ====
/- What the projection finds in its blocks at a grid point: the rows, the modulation, the gain, the weights and the tables the
   point works on. -/
module

public import proofs.«01_k».proof.Proof.InProj.HostTable
public import Idealize.ShloMosaic.Lib.Pipeline.ValueKit

@[expose] public section

set_option maxRecDepth 16384

noncomputable section

namespace Cert.Kernel2Ideal.InProj

open Cert.Kernel2Ideal Cert.Kernel2Ideal.Gen Cert.InProj Idealize.ShloMosaic Idealize.ShloMosaic.TcCoe Idealize.ShloMosaic.Pipeline

theorem index0 : ∀ t : Fin cfg0.N, win0_0.index t = ![t.val / 2, t.val % 2, 0] := (by decide +kernel : ∀ t : Fin grid0.N, _)
theorem index1 : ∀ t : Fin cfg0.N, win0_1.index t = ![t.val / 2, 0, 0] := (by decide +kernel : ∀ t : Fin grid0.N, _)
theorem index2 : ∀ t : Fin cfg0.N, win0_2.index t = ![t.val / 2, 0, 1] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![t.val % 2, 0] := (by decide +kernel : ∀ t : Fin grid0.N, _)
theorem index6 : ∀ t : Fin cfg0.N, win0_6.index t = ![0, 0] := (by decide +kernel : ∀ t : Fin grid0.N, _)

/-- The sequence a grid point works on, and the position of row `r` of its block. -/
def batch (t : Fin cfg0.N) : Fin 8 := ⟨t.val / 2, by have := t.isLt; have h : cfg0.N = 16 := N_0; omega⟩
def position (t : Fin cfg0.N) (r : Fin 1024) : Fin 2048 := ⟨1024 * (t.val % 2) + r.val, by omega⟩

variable (m : (ℓ : Loc nD τ sig) → Buf (Elt Ideal) ℓ) (c : Dev nD) (t : Fin cfg0.N)

theorem x_block (r k : Fin 1024) :
    iblk m c 0 t (ix3 0 r k) = m ((c : Thread nD τ).loc main_arg0) (ix3 (batch t) (position t r) k) := by
  rw [← V_main_arg0 m c]
  show V m c main_arg0 ((win0_0.blk t).view.emb (ix3 0 r k)) = _
  refine congrArg (V m c main_arg0) ?_
  blk_ext [index0, batch, position]

theorem shift_block (k : Fin 1024) :
    iblk m c 1 t (ix3 0 0 k) = m ((c : Thread nD τ).loc main_arg1) (ix3 ⟨(batch t).val, by omega⟩ 0 ⟨k.val, by omega⟩) := by
  rw [← V_main_arg1 m c]
  show V m c main_arg1 ((win0_1.blk t).view.emb (ix3 0 0 k)) = _
  refine congrArg (V m c main_arg1) ?_
  blk_ext [index1, batch]

theorem scale_block (k : Fin 1024) :
    iblk m c 2 t (ix3 0 0 k) = m ((c : Thread nD τ).loc main_arg1) (ix3 ⟨(batch t).val, by omega⟩ 0 ⟨1024 + k.val, by omega⟩) := by
  rw [← V_main_arg1 m c]
  show V m c main_arg1 ((win0_2.blk t).view.emb (ix3 0 0 k)) = _
  refine congrArg (V m c main_arg1) ?_
  blk_ext [index2, batch]

theorem gain_block (k : Fin 1024) :
    iblk m c 3 t (ix2 0 k) = m ((c : Thread nD τ).loc main_arg2) (ix1 k) := by
  refine Eq.trans ?_ (gain_at m c k)
  show V m c main_v21 ((win0_3.blk t).view.emb (ix2 0 k)) = _
  refine congrArg (V m c main_v21) ?_
  blk_ext [index3]

theorem weights_block (k : Fin 1024) (e : Fin 2560) :
    iblk m c 4 t (ix3 0 k e) = m ((c : Thread nD τ).loc main_arg3) (ix3 0 k e) := by
  rw [← V_main_arg3 m c]
  show V m c main_arg3 ((win0_4.blk t).view.emb (ix3 0 k e)) = _
  refine congrArg (V m c main_arg3) ?_
  blk_ext [index4]

theorem table_block (r : Fin 1024) (i : Fin 6) (l : Fin 128) :
    iblk m c 5 t (ix2 r ⟨128 * i.val + l.val, by omega⟩) = sixTables m c i (ix2 (position t r) l) := by
  refine Eq.trans ?_ (table_host m c i (position t r) l)
  show V m c main_v20 ((win0_5.blk t).view.emb (ix2 r ⟨128 * i.val + l.val, by omega⟩)) = _
  refine congrArg (V m c main_v20) ?_
  blk_ext [index5, position]

theorem dft_block (j : Fin 256) (k : Fin 512) :
    iblk m c 6 t (ix2 j k) = m ((c : Thread nD τ).loc main_arg6) (ix2 j k) := by
  rw [← V_main_arg6 m c]
  show V m c main_arg6 ((win0_6.blk t).view.emb (ix2 j k)) = _
  refine congrArg (V m c main_arg6) ?_
  blk_ext [index6]

end Cert.Kernel2Ideal.InProj

end
-- ==== Proof.InProj.PointsAt.lean ====
/- What a grid point leaves: the kept weights are the weights, and the claimed results' blocks come from the projected rows of the
   positions the point works on. -/
module

public import proofs.«01_k».proof.Proof.InProj.Outs
public import proofs.«01_k».proof.Proof.InProj.BlocksAt

@[expose] public section

set_option maxRecDepth 16384

noncomputable section

namespace Cert.Kernel2Ideal.InProj

open Cert.Kernel2Ideal Cert.Kernel2Ideal.Gen Cert.InProj Idealize.ShloMosaic Idealize.ShloMosaic.TcCoe

variable (m : (ℓ : Loc nD τ sig) → Buf (Elt Ideal) ℓ) (c : Dev nD)

/-- The projected row of a position, from the kernel's arguments. -/
abbrev projRow (b : Fin 8) (s : Fin 2048) : Fin 2560 → EReal :=
  rowOf (m ((c : Thread nD τ).loc main_arg0)) (m ((c : Thread nD τ).loc main_arg1)) (m ((c : Thread nD τ).loc main_arg2)) (m ((c : Thread nD τ).loc main_arg3)) b s

/-- The kept weights are the weights after every point. -/
theorem kept_at (n : ℕ) (hn : n < cfg0.N) (k : Fin 1024) (e : Fin 2560) :
    (outsAt0 m c n hn).2.2.2.2.2.2.2.2 (ix2 k e) = m ((c : Thread nD τ).loc main_arg3) (ix3 0 k e) := by
  have first (t : Fin cfg0.N) (h0 : t.val % 16 = 0) :
      (outsAt0 m c t.val t.isLt).2.2.2.2.2.2.2.2 (ix2 k e) = m ((c : Thread nD τ).loc main_arg3) (ix3 0 k e) :=
    (congrFun (point_A m c t h0).2 (ix2 k e)).trans ((weights_at _ k e).trans (weights_block m c t k e))
  induction n with
  | zero => exact first ⟨0, hn⟩ rfl
  | succ n ih =>
    by_cases h0 : (n + 1) % 16 = 0
    · exact first ⟨n + 1, hn⟩ h0
    · exact (congrFun (kept_B m c ⟨n + 1, hn⟩ h0) (ix2 k e)).trans (ih (Nat.lt_of_succ_lt hn))

/-- The projected block of a point, on weights that are the weights. -/
theorem projected_point (t : Fin cfg0.N) (W : Vec Ideal S1024x2560 .bf16)
    (hW : ∀ k e, W (ix2 k e) = m ((c : Thread nD τ).loc main_arg3) (ix3 0 k e)) (r : Fin 1024) (e : Fin 2560) :
    projected (iblk m c 0 t) (iblk m c 1 t) (iblk m c 2 t) (iblk m c 3 t) W (ix2 r e) = projRow m c (batch t) (position t r) e := by
  refine (projected_at _ _ _ _ _ r e).trans ?_
  unfold rowsProj projRow rowOf
  rw [show (fun k => iblk m c 0 t (ix3 0 r k)) = _ from funext fun k => x_block m c t r k,
    show (fun k => iblk m c 1 t (ix3 0 0 k)) = _ from funext fun k => shift_block m c t k,
    show (fun k => iblk m c 2 t (ix3 0 0 k)) = _ from funext fun k => scale_block m c t k,
    show (fun k => iblk m c 3 t (ix2 0 k)) = _ from funext fun k => gain_block m c t k,
    show (fun k e => W (ix2 k e)) = _ from funext fun k => funext fun e => hW k e]

/-- What a point leaves in the claimed results' blocks is what its projected block gives rise to. -/
theorem point_at (t : Fin cfg0.N) : ∃ P : FVec Ideal S1024x2560 .f32,
    claimed (outsAt0 m c t.val t.isLt) = left (stores P (iblk m c 5 t) (iblk m c 6 t))
    ∧ ∀ r e, P (ix2 r e) = projRow m c (batch t) (position t r) e := by
  by_cases h0 : t.val % 16 = 0
  · exact ⟨_, (point_A m c t h0).1, projected_point m c t _ fun k e => (weights_at _ k e).trans (weights_block m c t k e)⟩
  · exact ⟨_, point_B m c t h0, projected_point m c t _ fun k e => kept_at m c _ _ k e⟩

theorem point_lt (b : Fin 8) (s : Fin 2048) : 2 * b.val + s.val / 1024 < cfg0.N := by
  have h : cfg0.N = 16 := N_0
  omega

/-- The point whose blocks hold position `s` of sequence `b`. -/
abbrev pointOf (b : Fin 8) (s : Fin 2048) : Fin cfg0.N := ⟨2 * b.val + s.val / 1024, point_lt b s⟩

theorem batch_pointOf (b : Fin 8) (s : Fin 2048) : batch (pointOf b s) = b :=
  Fin.ext (by show (2 * b.val + s.val / 1024) / 2 = b.val; omega)

theorem position_pointOf (b : Fin 8) (s : Fin 2048) : position (pointOf b s) ⟨s.val % 1024, by omega⟩ = s :=
  Fin.ext (by show 1024 * ((2 * b.val + s.val / 1024) % 2) + s.val % 1024 = s.val; omega)

/-- The projected block of that point holds the position's row. -/
theorem row_at (b : Fin 8) (s : Fin 2048) : ∃ P : FVec Ideal S1024x2560 .f32,
    claimed (outsAt0 m c (2 * b.val + s.val / 1024) (point_lt b s)) = left (stores P (iblk m c 5 (pointOf b s)) (iblk m c 6 (pointOf b s)))
    ∧ ∀ e, P (ix2 ⟨s.val % 1024, by omega⟩ e) = projRow m c b s e := by
  obtain ⟨P, hc, hP⟩ := point_at m c (pointOf b s)
  refine ⟨P, hc, fun e => (hP _ e).trans ?_⟩
  rw [batch_pointOf, position_pointOf]

end Cert.Kernel2Ideal.InProj

end
-- ==== Proof.InProj.Final.lean ====
/- What the projection leaves in its claimed results: of every sequence and position, the queries, the gates, the transform and
   the convolution's signal. -/
module

public import proofs.«01_k».proof.Proof.InProj.PointsAt

@[expose] public section

set_option maxRecDepth 16384

noncomputable section

namespace Cert.Kernel2Ideal.InProj

open Cert.Kernel2Ideal Cert.Kernel2Ideal.Gen Cert.InProj Idealize.ShloMosaic Idealize.ShloMosaic.TcCoe

variable (m : (ℓ : Loc nD τ sig) → Buf (Elt Ideal) ℓ) (c : Dev nD)

/-! ## The results the kernel ends with -/

section

variable (b : Fin 8) (s : Fin 2048)

theorem query_final (k : Fin 512) : Value.G7 m c (ix3 b s k) = rotary (projRow m c b s) (cosOf m c s) (sinOf m c s) k := by
  have hp : Value.pt7Of (ix3 b s k) = 2 * b.val + s.val / 1024 := by
    show 2 * (b.val / 1 - 0) + 1 * (s.val / 1024 - 0) + 1 * (k.val / 512 - 0) = _
    omega
  have hl : Value.loc7Of (ix3 b s k) = ix3 0 ⟨s.val % 1024, by omega⟩ k := ext3 (Nat.mod_one _) rfl (Nat.mod_eq_of_lt k.isLt)
  have hlt := point_lt b s
  obtain ⟨P, hc, hP⟩ := point_at m c (pointOf b s)
  unfold Value.G7
  rw [dif_pos (hp ▸ hlt), Value.fold0_congr m c _ _ _ (by omega) hp, ← Value.outsAt0_sweep m c _ hlt, hl]
  have h := congrArg (fun o => o.1) hc
  dsimp only [claimed, left, stores] at h
  rw [h]
  refine (query_at P _ (fun r => projRow m c (batch (pointOf b s)) (position (pointOf b s) r)) (fun r => cosOf m c (position (pointOf b s) r))
    (fun r => sinOf m c (position (pointOf b s) r)) hP (fun r l => (table_block m c _ r 0 l).trans (congrArg (· * Q) (cosTable_at m c _ l)))
    (fun r l => (table_block m c _ r 1 l).trans (congrArg (· * Q) (onTable_at m c _ l)))
    (fun r l => (table_block m c _ r 2 l).trans (congrArg (· * Q) (backTable_at m c _ l))) _).trans ?_
  show rotary (projRow m c (batch (pointOf b s)) (position (pointOf b s) ⟨s.val % 1024, _⟩)) (cosOf m c (position (pointOf b s) ⟨s.val % 1024, _⟩))
    (sinOf m c (position (pointOf b s) ⟨s.val % 1024, _⟩)) k = _
  rw [batch_pointOf, position_pointOf]

theorem gatt_final (k : Fin 512) : Value.G10 m c (ix3 b s k) = silu (projRow m c b s ⟨768 + k.val, by omega⟩) := by
  have hp : Value.pt10Of (ix3 b s k) = 2 * b.val + s.val / 1024 := by
    show 2 * (b.val / 1 - 0) + 1 * (s.val / 1024 - 0) + 1 * (k.val / 512 - 0) = _
    omega
  have hl : Value.loc10Of (ix3 b s k) = ix3 0 ⟨s.val % 1024, by omega⟩ k := ext3 (Nat.mod_one _) rfl (Nat.mod_eq_of_lt k.isLt)
  have hlt := point_lt b s
  obtain ⟨P, hc, hP⟩ := row_at m c b s
  unfold Value.G10
  rw [dif_pos (hp ▸ hlt), Value.fold0_congr m c _ _ _ (by omega) hp, ← Value.outsAt0_sweep m c _ hlt, hl]
  have h := congrArg (fun o => o.2.1) hc
  dsimp only [claimed, left, stores] at h
  rw [h, gatt_at, hP]

theorem gcv_final (k : Fin 256) : Value.G11 m c (ix3 b s k) = silu (projRow m c b s ⟨1792 + k.val, by omega⟩) := by
  have hp : Value.pt11Of (ix3 b s k) = 2 * b.val + s.val / 1024 := by
    show 2 * (b.val / 1 - 0) + 1 * (s.val / 1024 - 0) + 1 * (k.val / 256 - 0) = _
    omega
  have hl : Value.loc11Of (ix3 b s k) = ix3 0 ⟨s.val % 1024, by omega⟩ k := ext3 (Nat.mod_one _) rfl (Nat.mod_eq_of_lt k.isLt)
  have hlt := point_lt b s
  obtain ⟨P, hc, hP⟩ := row_at m c b s
  unfold Value.G11
  rw [dif_pos (hp ▸ hlt), Value.fold0_congr m c _ _ _ (by omega) hp, ← Value.outsAt0_sweep m c _ hlt, hl]
  have h := congrArg (fun o => o.2.2.1) hc
  dsimp only [claimed, left, stores] at h
  rw [h, gcv_at, hP]

theorem ab_final (k : Fin 512) : Value.G12 m c (ix3 b s k)
    = ∑ j : Fin 256, projRow m c b s ⟨2048 + j.val, by omega⟩ * m ((c : Thread nD τ).loc main_arg6) (ix2 j k) := by
  have hp : Value.pt12Of (ix3 b s k) = 2 * b.val + s.val / 1024 := by
    show 2 * (b.val / 1 - 0) + 1 * (s.val / 1024 - 0) + 1 * (k.val / 512 - 0) = _
    omega
  have hl : Value.loc12Of (ix3 b s k) = ix3 0 ⟨s.val % 1024, by omega⟩ k := ext3 (Nat.mod_one _) rfl (Nat.mod_eq_of_lt k.isLt)
  have hlt := point_lt b s
  obtain ⟨P, hc, hP⟩ := row_at m c b s
  unfold Value.G12
  rw [dif_pos (hp ▸ hlt), Value.fold0_congr m c _ _ _ (by omega) hp, ← Value.outsAt0_sweep m c _ hlt, hl]
  have h := congrArg (fun o => o.2.2.2.1) hc
  dsimp only [claimed, left, stores] at h
  rw [h]
  refine (ab_at P _ _ k).trans ?_
  show @Eq EReal _ _
  refine Finset.sum_congr rfl fun j _ => ?_
  exact congrArg₂ (fun x y : EReal => x * y) (hP _) (dft_block m c _ j k)

theorem gf_final (k : Fin 256) : Value.G13 m c (ix3 b s k) = silu (projRow m c b s ⟨2304 + k.val, by omega⟩) := by
  have hp : Value.pt13Of (ix3 b s k) = 2 * b.val + s.val / 1024 := by
    show 2 * (b.val / 1 - 0) + 1 * (s.val / 1024 - 0) + 1 * (k.val / 256 - 0) = _
    omega
  have hl : Value.loc13Of (ix3 b s k) = ix3 0 ⟨s.val % 1024, by omega⟩ k := ext3 (Nat.mod_one _) rfl (Nat.mod_eq_of_lt k.isLt)
  have hlt := point_lt b s
  obtain ⟨P, hc, hP⟩ := row_at m c b s
  unfold Value.G13
  rw [dif_pos (hp ▸ hlt), Value.fold0_congr m c _ _ _ (by omega) hp, ← Value.outsAt0_sweep m c _ hlt, hl]
  have h := congrArg (fun o => o.2.2.2.2.1) hc
  dsimp only [claimed, left, stores] at h
  rw [h, gf_at, hP]

theorem uc_final (k : Fin 256) : Value.G14 m c (ix3 b s k)
    = projRow m c b s ⟨1280 + k.val, by omega⟩ * Ideal.logistic (projRow m c b s ⟨1536 + k.val, by omega⟩) := by
  have hp : Value.pt14Of (ix3 b s k) = 2 * b.val + s.val / 1024 := by
    show 2 * (b.val / 1 - 0) + 1 * (s.val / 1024 - 0) + 1 * (k.val / 256 - 0) = _
    omega
  have hl : Value.loc14Of (ix3 b s k) = ix3 0 ⟨s.val % 1024, by omega⟩ k := ext3 (Nat.mod_one _) rfl (Nat.mod_eq_of_lt k.isLt)
  have hlt := point_lt b s
  obtain ⟨P, hc, hP⟩ := row_at m c b s
  unfold Value.G14
  rw [dif_pos (hp ▸ hlt), Value.fold0_congr m c _ _ _ (by omega) hp, ← Value.outsAt0_sweep m c _ hlt, hl]
  have h := congrArg (fun o => o.2.2.2.2.2) hc
  dsimp only [claimed, left, stores] at h
  rw [h, uc_at, hP, hP]

end

end Cert.Kernel2Ideal.InProj

end
-- ==== Proof.InProj.RefProj.lean ====
/- The reference read at an index: its projected row, its gates and its turned queries are the specification's. -/
module

public import proofs.«01_k».proof.Proof.Gen.Reference2Ideal.Read
public import proofs.«01_k».proof.Proof.InProj.Spec
public import Idealize.ShloMosaic.Lib.ValueIdxRank6
public import Idealize.ShloMosaic.Lib.KernelVsHost

@[expose] public section

set_option maxRecDepth 16384

noncomputable section

namespace Cert.Reference2Ideal.InProj

open Cert.Reference2Ideal Cert.Reference2Ideal.Gen Cert.Reference2Ideal.Read Cert.InProj Idealize.ShloMosaic

variable (x0 : (⟨S8x2048x1024, .f32⟩ : BufTy).Contents (Elt Ideal)) (x1 : (⟨S16x1x3072, .f32⟩ : BufTy).Contents (Elt Ideal))
  (x2 : (⟨S1024, .f32⟩ : BufTy).Contents (Elt Ideal)) (x3 : (⟨S2x1024x2560, .f32⟩ : BufTy).Contents (Elt Ideal))
  (x4 x5 : (⟨S2048x32, .f32⟩ : BufTy).Contents (Elt Ideal)) (x6 : (⟨S256x512, .bf16⟩ : BufTy).Contents (Elt Ideal))

/-! ## The normalised row and its projection -/

theorem v6_at (b : Fin 8) (s : Fin 2048) : val_main_v6 (F := Ideal) x0 (ix3 b s 0) = meanSquare fun k => x0 (ix3 b s k) := by
  rw [val_main_v6_apply, val_main_v4_apply, val_main_v5_apply, val_main_v3_apply]
  have e : val_main_cst (F := Ideal) (Shape.Idx.first h_S_) = (0 : EReal) := word_zero
  rw [e, zero_add]
  have hi : ∀ k, idx_main_v3 (idx_main_v4 (ix3 b s 0)) k = ix3 b s k := fun k => ext3 rfl rfl rfl
  simp only [hi]
  rfl

theorem v20_at (b : Fin 8) (s : Fin 2048) (k : Fin 1024) : val_main_v20 (F := Ideal) x0 x1 x2 (ix3 b s k)
    = hidden (fun k => x0 (ix3 b s k)) (fun k => x1 (ix3 ⟨b.val, by omega⟩ 0 ⟨k.val, by omega⟩))
      (fun k => x1 (ix3 ⟨b.val, by omega⟩ 0 ⟨1024 + k.val, by omega⟩)) (fun k => x2 (ix1 k)) k := by
  rw [val_main_v20_apply, val_main_v18_apply, val_main_v14_apply, val_main_v11_apply, val_main_v10_apply, val_main_v9_apply,
    val_main_v8_apply, val_main_v7_apply, val_main_v13_apply, val_main_v12_apply, val_main_v17_apply, val_main_v16_apply,
    val_main_v15_apply, val_main_v1_apply, val_main_v19_apply, val_main_v0_apply]
  have h10 : idx_main_v10 (ix3 b s k) = ix3 b s 0 := ext3 rfl rfl rfl
  have h12 : idx_main_v12 (idx_main_v13 (ix3 b s k)) = ix1 k := funext fun a => Fin.ext (match a with | ⟨0, _⟩ => rfl)
  have h1 : idx_main_v1 (idx_main_v17 (ix3 b s k)) = ix3 ⟨b.val, by omega⟩ 0 ⟨1024 + k.val, by omega⟩ := ext3 rfl rfl rfl
  have h0 : idx_main_v0 (idx_main_v19 (ix3 b s k)) = ix3 ⟨b.val, by omega⟩ 0 ⟨k.val, by omega⟩ := ext3 rfl rfl rfl
  have hone : val_main_cst_2 (F := Ideal) (idx_main_v15 (idx_main_v17 (ix3 b s k))) = (1 : EReal) := word_one
  rw [h10, h12, h1, h0, hone, v6_at]
  exact congrArg (fun t : EReal => t + x1 (ix3 ⟨b.val, by omega⟩ 0 ⟨k.val, by omega⟩)) (mul_assoc (G := EReal) _ _ _)

/-- Channel `e` of the reference's projected row. -/
theorem v23_at (b : Fin 8) (s : Fin 2048) (e : Fin 2560) :
    val_main_v23 (F := Ideal) x0 x1 x2 x3 (ix3 b s e) = rowOf x0 x1 x2 x3 b s e := by
  rw [val_main_v23_apply]
  unfold rowOf proj
  refine Finset.sum_congr rfl fun k _ => ?_
  have hl : lidx_main_v23 (ix3 b s e) k = ix3 b s k := ext3 rfl rfl rfl
  have hr : idx_main_v21 (idx_main_v22 (ridx_main_v23 (ix3 b s e) k)) = ix3 0 k e := by
    refine ext3 rfl ?_ ?_
    · show (k.val * 2560 + e.val) / 2560 % 1024 = k.val
      omega
    · show (k.val * 2560 + e.val) % 2560 = e.val
      omega
  rw [hl, val_main_v22_apply, val_main_v21_apply, hr, v20_at]

/-! ## The gates -/

theorem gatt_ref (b : Fin 8) (s : Fin 2048) (k : Fin 512) :
    val_main_v83 (F := Ideal) x0 x1 x2 x3 (ix3 b s k) = silu (rowOf x0 x1 x2 x3 b s ⟨768 + k.val, by omega⟩) := by
  rw [val_main_v83_apply, val_main_v53_apply, val_main_v52_apply, val_main_v51_apply, val_main_v50_apply, val_main_v49_apply,
    val_main_v48_apply, val_main_v47_apply, val_main_v46_apply]
  have hi : idx_main_v46 (ix3 b s k) = ix3 b s ⟨768 + k.val, by omega⟩ := ext3 rfl rfl rfl
  have h4 : val_main_cst_4 (F := Ideal) (idx_main_v49 (ix3 b s k)) = (1 : EReal) := word_one
  have h5 : val_main_cst_5 (F := Ideal) (idx_main_v51 (ix3 b s k)) = (1 : EReal) := word_one
  rw [hi, v23_at, h4, h5]
  rfl

theorem gcv_ref (b : Fin 8) (s : Fin 2048) (k : Fin 256) :
    val_main_v84 (F := Ideal) x0 x1 x2 x3 (ix3 b s k) = silu (rowOf x0 x1 x2 x3 b s ⟨1792 + k.val, by omega⟩) := by
  rw [val_main_v84_apply, val_main_v70_apply, val_main_v69_apply, val_main_v68_apply, val_main_v67_apply, val_main_v66_apply,
    val_main_v65_apply, val_main_v64_apply, val_main_v63_apply]
  have hi : idx_main_v63 (ix3 b s k) = ix3 b s ⟨1792 + k.val, by omega⟩ := ext3 rfl rfl rfl
  have h8 : val_main_cst_8 (F := Ideal) (idx_main_v66 (ix3 b s k)) = (1 : EReal) := word_one
  have h9 : val_main_cst_9 (F := Ideal) (idx_main_v68 (ix3 b s k)) = (1 : EReal) := word_one
  rw [hi, v23_at, h8, h9]
  rfl

theorem gf_ref (b : Fin 8) (s : Fin 2048) (k : Fin 256) :
    val_main_v86 (F := Ideal) x0 x1 x2 x3 (ix3 b s k) = silu (rowOf x0 x1 x2 x3 b s ⟨2304 + k.val, by omega⟩) := by
  rw [val_main_v86_apply, val_main_v81_apply, val_main_v80_apply, val_main_v79_apply, val_main_v78_apply, val_main_v77_apply,
    val_main_v76_apply, val_main_v75_apply, val_main_v74_apply]
  have hi : idx_main_v74 (ix3 b s k) = ix3 b s ⟨2304 + k.val, by omega⟩ := ext3 rfl rfl rfl
  have h10 : val_main_cst_10 (F := Ideal) (idx_main_v77 (ix3 b s k)) = (1 : EReal) := word_one
  have h11 : val_main_cst_11 (F := Ideal) (idx_main_v79 (ix3 b s k)) = (1 : EReal) := word_one
  rw [hi, v23_at, h10, h11]
  rfl

theorem uc_ref (b : Fin 8) (s : Fin 2048) (k : Fin 256) : val_main_v87 (F := Ideal) x0 x1 x2 x3 (ix3 b s k)
    = rowOf x0 x1 x2 x3 b s ⟨1280 + k.val, by omega⟩ * Ideal.logistic (rowOf x0 x1 x2 x3 b s ⟨1536 + k.val, by omega⟩) := by
  rw [val_main_v87_apply, val_main_v62_apply, val_main_v61_apply, val_main_v60_apply, val_main_v59_apply, val_main_v58_apply,
    val_main_v57_apply, val_main_v56_apply, val_main_v55_apply, val_main_v54_apply]
  have hi : idx_main_v54 (ix3 b s k) = ix3 b s ⟨1280 + k.val, by omega⟩ := ext3 rfl rfl rfl
  have hj : idx_main_v55 (ix3 b s k) = ix3 b s ⟨1536 + k.val, by omega⟩ := ext3 rfl rfl rfl
  have h6 : val_main_cst_6 (F := Ideal) (idx_main_v58 (ix3 b s k)) = (1 : EReal) := word_one
  have h7 : val_main_cst_7 (F := Ideal) (idx_main_v60 (ix3 b s k)) = (1 : EReal) := word_one
  rw [hi, hj, v23_at, v23_at, h6, h7]
  rfl

theorem ab_ref (b : Fin 8) (s : Fin 2048) (k : Fin 512) : val_main_v85 (F := Ideal) x0 x1 x2 x3 x6 (ix3 b s k)
    = ∑ j : Fin 256, rowOf x0 x1 x2 x3 b s ⟨2048 + j.val, by omega⟩ * x6 (ix2 j k) := by
  rw [val_main_v85_apply, val_main_v73_apply]
  refine Finset.sum_congr rfl fun j _ => ?_
  have hl : idx_main_v71 (lidx_main_v73 (ix3 b s k) j) = ix3 b s ⟨2048 + j.val, by omega⟩ := ext3 rfl rfl rfl
  have hr : ridx_main_v73 (ix3 b s k) j = ix2 j k := ext2 rfl rfl
  rw [val_main_v71_apply, val_main_v72_apply, hl, hr, v23_at]
  rfl

/-! ## The queries -/

/-- Channel `l` of part `j` of head `h`, before the rotation. -/
theorem v25_at (b : Fin 8) (s : Fin 2048) (h : Fin 8) (j : Fin 4) (l : Fin 16) :
    val_main_v25 (F := Ideal) x0 x1 x2 x3 (ix5 b s h j l) = rowOf x0 x1 x2 x3 b s ⟨64 * h.val + 16 * j.val + l.val, by omega⟩ := by
  rw [val_main_v25_apply, val_main_v24_apply, ← v23_at]
  refine congrArg (val_main_v23 (F := Ideal) x0 x1 x2 x3) (ext3 ?_ ?_ ?_)
  · show ((((b.val * 2048 + s.val) * 8 + h.val) * 4 + j.val) * 16 + l.val) / 1048576 = b.val
    omega
  · show ((((b.val * 2048 + s.val) * 8 + h.val) * 4 + j.val) * 16 + l.val) / 512 % 2048 = s.val
    omega
  · show ((((b.val * 2048 + s.val) * 8 + h.val) * 4 + j.val) * 16 + l.val) % 512 = 64 * h.val + 16 * j.val + l.val
    omega

theorem v28_at (b : Fin 8) (s : Fin 2048) (h : Fin 8) (j : Fin 2) (l : Fin 16) :
    val_main_v28 (F := Ideal) x0 x1 x2 x3 (ix5 b s h j l) = rowOf x0 x1 x2 x3 b s ⟨64 * h.val + 16 * (2 * j.val) + l.val, by omega⟩ := by
  refine (congrArg (val_main_v25 (F := Ideal) x0 x1 x2 x3) (funext fun a => Fin.ext (match a with
    | ⟨0, _⟩ => ?_
    | ⟨1, _⟩ => ?_
    | ⟨2, _⟩ => ?_
    | ⟨3, _⟩ => ?_
    | ⟨4, _⟩ => ?_))).trans (v25_at x0 x1 x2 x3 b s h ⟨2 * j.val, by omega⟩ l)
  · show 0 + 1 * b.val = b.val; omega
  · show 0 + 1 * s.val = s.val; omega
  · show 0 + 1 * h.val = h.val; omega
  · show 0 + 2 * j.val = 2 * j.val; omega
  · show 0 + 1 * l.val = l.val; omega

theorem v29_at (b : Fin 8) (s : Fin 2048) (h : Fin 8) (j : Fin 2) (l : Fin 16) :
    val_main_v29 (F := Ideal) x0 x1 x2 x3 (ix5 b s h j l) = rowOf x0 x1 x2 x3 b s ⟨64 * h.val + 16 * (2 * j.val + 1) + l.val, by omega⟩ := by
  refine (congrArg (val_main_v25 (F := Ideal) x0 x1 x2 x3) (funext fun a => Fin.ext (match a with
    | ⟨0, _⟩ => ?_
    | ⟨1, _⟩ => ?_
    | ⟨2, _⟩ => ?_
    | ⟨3, _⟩ => ?_
    | ⟨4, _⟩ => ?_))).trans (v25_at x0 x1 x2 x3 b s h ⟨2 * j.val + 1, by omega⟩ l)
  · show 0 + 1 * b.val = b.val; omega
  · show 0 + 1 * s.val = s.val; omega
  · show 0 + 1 * h.val = h.val; omega
  · show 1 + 2 * j.val = 2 * j.val + 1; omega
  · show 0 + 1 * l.val = l.val; omega

theorem v26_at (s : Fin 2048) (j : Fin 2) (l : Fin 16) :
    val_main_v26 (F := Ideal) x4 (ix5 0 s 0 j l) = x4 (ix2 s ⟨16 * j.val + l.val, by omega⟩) := by
  rw [val_main_v26_apply]
  refine congrArg x4 (ext2 ?_ ?_)
  · show ((((0 * 2048 + s.val) * 1 + 0) * 2 + j.val) * 16 + l.val) / 32 = s.val
    omega
  · show ((((0 * 2048 + s.val) * 1 + 0) * 2 + j.val) * 16 + l.val) % 32 = 16 * j.val + l.val
    omega

theorem v27_at (s : Fin 2048) (j : Fin 2) (l : Fin 16) :
    val_main_v27 (F := Ideal) x5 (ix5 0 s 0 j l) = x5 (ix2 s ⟨16 * j.val + l.val, by omega⟩) := v26_at x5 s j l

/-- The first half of a rotated pair. -/
theorem v34_at (b : Fin 8) (s : Fin 2048) (h : Fin 8) (j : Fin 2) (l : Fin 16) :
    val_main_v34 (F := Ideal) x0 x1 x2 x3 x4 x5 (ix5 b s h j l)
      = rowOf x0 x1 x2 x3 b s ⟨64 * h.val + 16 * (2 * j.val) + l.val, by omega⟩ * x4 (ix2 s ⟨16 * j.val + l.val, by omega⟩)
        - rowOf x0 x1 x2 x3 b s ⟨64 * h.val + 16 * (2 * j.val + 1) + l.val, by omega⟩ * x5 (ix2 s ⟨16 * j.val + l.val, by omega⟩) := by
  rw [val_main_v34_apply, val_main_v31_apply, val_main_v33_apply, val_main_v30_apply, val_main_v32_apply, v28_at, v29_at]
  have hc : idx_main_v30 (ix5 b s h j l) = ix5 0 s 0 j l := funext fun a => Fin.ext (match a with
    | ⟨0, _⟩ => rfl | ⟨1, _⟩ => rfl | ⟨2, _⟩ => rfl | ⟨3, _⟩ => rfl | ⟨4, _⟩ => rfl)
  have hn : idx_main_v32 (ix5 b s h j l) = ix5 0 s 0 j l := hc
  rw [hc, hn, v26_at, v27_at]
  rfl

/-- The second half of a rotated pair. -/
theorem v39_at (b : Fin 8) (s : Fin 2048) (h : Fin 8) (j : Fin 2) (l : Fin 16) :
    val_main_v39 (F := Ideal) x0 x1 x2 x3 x4 x5 (ix5 b s h j l)
      = rowOf x0 x1 x2 x3 b s ⟨64 * h.val + 16 * (2 * j.val) + l.val, by omega⟩ * x5 (ix2 s ⟨16 * j.val + l.val, by omega⟩)
        + rowOf x0 x1 x2 x3 b s ⟨64 * h.val + 16 * (2 * j.val + 1) + l.val, by omega⟩ * x4 (ix2 s ⟨16 * j.val + l.val, by omega⟩) := by
  rw [val_main_v39_apply, val_main_v36_apply, val_main_v38_apply, val_main_v35_apply, val_main_v37_apply, v28_at, v29_at]
  have hn : idx_main_v35 (ix5 b s h j l) = ix5 0 s 0 j l := funext fun a => Fin.ext (match a with
    | ⟨0, _⟩ => rfl | ⟨1, _⟩ => rfl | ⟨2, _⟩ => rfl | ⟨3, _⟩ => rfl | ⟨4, _⟩ => rfl)
  have hc : idx_main_v37 (ix5 b s h j l) = ix5 0 s 0 j l := hn
  rw [hc, hn, v26_at, v27_at]
  rfl

/-- The pair stacked: its first half, then its second. -/
theorem v42_at (b : Fin 8) (s : Fin 2048) (h : Fin 8) (j : Fin 2) (p : Fin 2) (l : Fin 16) :
    val_main_v42 (F := Ideal) x0 x1 x2 x3 x4 x5 (ix6 b s h j p l)
      = if p.val = 0 then val_main_v34 (F := Ideal) x0 x1 x2 x3 x4 x5 (ix5 b s h j l)
        else val_main_v39 (F := Ideal) x0 x1 x2 x3 x4 x5 (ix5 b s h j l) := by
  unfold val_main_v42
  by_cases hp : p.val = 0
  · rw [if_pos hp]
    refine (concatenate_pair_apply_left (t := S8x2048x8x2x2x16) 4 (val_main_v40 (F := Ideal) x0 x1 x2 x3 x4 x5) _ _ (ix6 b s h j p l) rfl
      (ix6 b s h j 0 l) (fun a => match a with
      | ⟨0, _⟩ => rfl | ⟨1, _⟩ => rfl | ⟨2, _⟩ => rfl | ⟨3, _⟩ => rfl | ⟨4, _⟩ => hp.symm | ⟨5, _⟩ => rfl)).trans ?_
    rw [val_main_v40_apply]
    exact congrArg (val_main_v34 (F := Ideal) x0 x1 x2 x3 x4 x5) (funext fun a => Fin.ext (match a with
      | ⟨0, _⟩ => rfl | ⟨1, _⟩ => rfl | ⟨2, _⟩ => rfl | ⟨3, _⟩ => rfl | ⟨4, _⟩ => rfl))
  · rw [if_neg hp]
    have hp1 : 0 + 1 = p.val := by omega
    refine (concatenate_pair_apply_right (t := S8x2048x8x2x2x16) 4 (val_main_v40 (F := Ideal) x0 x1 x2 x3 x4 x5)
      (val_main_v41 (F := Ideal) x0 x1 x2 x3 x4 x5) _ (ix6 b s h j p l) rfl rfl (ix6 b s h j 0 l) (fun a => match a with
      | ⟨0, _⟩ => fun _ => rfl | ⟨1, _⟩ => fun _ => rfl | ⟨2, _⟩ => fun _ => rfl | ⟨3, _⟩ => fun _ => rfl
      | ⟨4, _⟩ => fun hn => absurd rfl hn | ⟨5, _⟩ => fun _ => rfl) hp1).trans ?_
    rw [val_main_v41_apply]
    exact congrArg (val_main_v39 (F := Ideal) x0 x1 x2 x3 x4 x5) (funext fun a => Fin.ext (match a with
      | ⟨0, _⟩ => rfl | ⟨1, _⟩ => rfl | ⟨2, _⟩ => rfl | ⟨3, _⟩ => rfl | ⟨4, _⟩ => rfl))

/-- The rotated and scaled query. -/
theorem q_ref (b : Fin 8) (s : Fin 2048) (k : Fin 512) : val_main_v82 (F := Ideal) x0 x1 x2 x3 x4 x5 (ix3 b s k)
    = rotary (rowOf x0 x1 x2 x3 b s) (fun l => x4 (ix2 s l)) (fun l => x5 (ix2 s l)) k := by
  have h43 : val_main_v43 (F := Ideal) x0 x1 x2 x3 x4 x5 (ix3 b s k) = val_main_v42 (F := Ideal) x0 x1 x2 x3 x4 x5
      (ix6 b s ⟨k.val / 64, by omega⟩ ⟨k.val / 32 % 2, by omega⟩ ⟨k.val / 16 % 2, by omega⟩ ⟨k.val % 16, by omega⟩) := by
    unfold val_main_v43
    refine shapeCast_apply _ shapeCasts_S8x2048x8x2x2x16_S8x2048x512 (ix3 b s k) _ ?_
    rewrite [Shape.rowMajor_val_three, Shape.rowMajor_val_six]
    show ((((b.val * 2048 + s.val) * 8 + k.val / 64) * 2 + k.val / 32 % 2) * 2 + k.val / 16 % 2) * 16 + k.val % 16
      = (b.val * 2048 + s.val) * 512 + k.val
    omega
  have hQ : val_main_v44 (F := Ideal) (ix3 b s k) = Q := by rw [val_main_v44_apply]; rfl
  have ha : (⟨16 * (k.val / 32 % 2) + k.val % 16, by omega⟩ : Fin 32) = angle k.val := rfl
  rw [val_main_v82_apply, val_main_v45_apply, h43, hQ, v42_at]
  unfold rotary
  by_cases h : k.val % 32 < 16
  · have e0 : (⟨64 * (k.val / 64) + 16 * (2 * (k.val / 32 % 2)) + k.val % 16, by omega⟩ : Fin 2560) = ⟨k.val, by omega⟩ :=
      Fin.ext (by show 64 * (k.val / 64) + 16 * (2 * (k.val / 32 % 2)) + k.val % 16 = k.val; omega)
    have e1 : (⟨64 * (k.val / 64) + 16 * (2 * (k.val / 32 % 2) + 1) + k.val % 16, by omega⟩ : Fin 2560) = ⟨k.val + 16, by omega⟩ :=
      Fin.ext (by show 64 * (k.val / 64) + 16 * (2 * (k.val / 32 % 2) + 1) + k.val % 16 = k.val + 16; omega)
    rw [if_pos (show k.val / 16 % 2 = 0 by omega), if_pos h, v34_at, ha, e0, e1]
    rfl
  · have e0 : (⟨64 * (k.val / 64) + 16 * (2 * (k.val / 32 % 2)) + k.val % 16, by omega⟩ : Fin 2560) = ⟨k.val - 16, by omega⟩ :=
      Fin.ext (by show 64 * (k.val / 64) + 16 * (2 * (k.val / 32 % 2)) + k.val % 16 = k.val - 16; omega)
    have e1 : (⟨64 * (k.val / 64) + 16 * (2 * (k.val / 32 % 2) + 1) + k.val % 16, by omega⟩ : Fin 2560) = ⟨k.val, by omega⟩ :=
      Fin.ext (by show 64 * (k.val / 64) + 16 * (2 * (k.val / 32 % 2) + 1) + k.val % 16 = k.val; omega)
    rw [if_neg (show ¬k.val / 16 % 2 = 0 by omega), if_neg h, v39_at, ha, e0, e1]
    rfl

end Cert.Reference2Ideal.InProj

end
-- ==== Proof.InProj.Agree.lean ====
/- The kernel's six results are the reference's, argument for argument. -/
module

public import proofs.«01_k».proof.Proof.InProj.Final
public import proofs.«01_k».proof.Proof.InProj.RefProj

@[expose] public section

set_option maxRecDepth 16384

noncomputable section

namespace Cert.Kernel2Ideal.InProj

open Cert.Kernel2Ideal Cert.Kernel2Ideal.Gen Cert.InProj Idealize.ShloMosaic Idealize.ShloMosaic.TcCoe
open Cert.Reference2Ideal.Read (val_main_v82 val_main_v83 val_main_v84 val_main_v85 val_main_v86 val_main_v87)
open Cert.Reference2Ideal.InProj (q_ref gatt_ref gcv_ref ab_ref gf_ref uc_ref)

variable (m : (ℓ : Loc nD τ sig) → Buf (Elt Ideal) ℓ) (c : Dev nD)

/-- The queries. -/
theorem query_agrees : Value.G7 m c = val_main_v82 (F := Ideal) (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) :=
  arrays_ext fun b s k => (query_final m c b s k).trans (q_ref _ _ _ _ _ _ b s k).symm

/-- The attention's gate. -/
theorem gatt_agrees : Value.G10 m c = val_main_v83 (F := Ideal) (m ((c : Thread nD τ).loc main_arg0))
    (m ((c : Thread nD τ).loc main_arg1)) (m ((c : Thread nD τ).loc main_arg2)) (m ((c : Thread nD τ).loc main_arg3)) :=
  arrays_ext fun b s k => (gatt_final m c b s k).trans (gatt_ref _ _ _ _ b s k).symm

/-- The convolution's gate. -/
theorem gcv_agrees : Value.G11 m c = val_main_v84 (F := Ideal) (m ((c : Thread nD τ).loc main_arg0))
    (m ((c : Thread nD τ).loc main_arg1)) (m ((c : Thread nD τ).loc main_arg2)) (m ((c : Thread nD τ).loc main_arg3)) :=
  arrays_ext fun b s k => (gcv_final m c b s k).trans (gcv_ref _ _ _ _ b s k).symm

/-- The transform of the Fourier channels. -/
theorem ab_agrees : Value.G12 m c = val_main_v85 (F := Ideal) (m ((c : Thread nD τ).loc main_arg0))
    (m ((c : Thread nD τ).loc main_arg1)) (m ((c : Thread nD τ).loc main_arg2)) (m ((c : Thread nD τ).loc main_arg3))
    (m ((c : Thread nD τ).loc main_arg6)) :=
  arrays_ext fun b s k => (ab_final m c b s k).trans (ab_ref _ _ _ _ _ b s k).symm

/-- The Fourier branch's gate. -/
theorem gf_agrees : Value.G13 m c = val_main_v86 (F := Ideal) (m ((c : Thread nD τ).loc main_arg0))
    (m ((c : Thread nD τ).loc main_arg1)) (m ((c : Thread nD τ).loc main_arg2)) (m ((c : Thread nD τ).loc main_arg3)) :=
  arrays_ext fun b s k => (gf_final m c b s k).trans (gf_ref _ _ _ _ b s k).symm

/-- The convolution's input. -/
theorem uc_agrees : Value.G14 m c = val_main_v87 (F := Ideal) (m ((c : Thread nD τ).loc main_arg0))
    (m ((c : Thread nD τ).loc main_arg1)) (m ((c : Thread nD τ).loc main_arg2)) (m ((c : Thread nD τ).loc main_arg3)) :=
  arrays_ext fun b s k => (uc_final m c b s k).trans (uc_ref _ _ _ _ b s k).symm

end Cert.Kernel2Ideal.InProj

end
-- ==== Proof.OutProj.Kernel.lean ====
/- The output projection's grid point written in the kernel's own operations: what fills the two folded halves of the spectral
   input and the kept weights, the rows of the Fourier branch, and the block stored. -/
module

public import proofs.«01_k».proof.Proof.Gen.Kernel3Ideal.Skeleton
public import Idealize.ShloMosaic.Lib.Pipeline.FrameBody

@[expose] public section

noncomputable section

namespace Cert.Kernel3Ideal.OutProj

open Cert.Kernel3Ideal Cert.Kernel3Ideal.Gen Idealize.ShloMosaic

variable {F : FTy → Type} [FloatOps F]

/-! ## The rectangles read and written -/

/-- Rows `o` on of an array of two axes, with all its columns. -/
abbrev rows2 (a b o n : ℕ) (h : o + n ≤ a) : Rect ⟨2, ![a, b]⟩ := Rect.unit (s := ⟨2, ![a, b]⟩) ![o, 0] (⟨2, ![n, b]⟩ : Shape).size (fun k => match k with
  | ⟨0, _⟩ => h
  | ⟨1, _⟩ => by show 0 + b ≤ b; omega)

/-- Columns `o` on of an array of two axes, with all its rows. -/
abbrev columns2 (a b o n : ℕ) (h : o + n ≤ b) : Rect ⟨2, ![a, b]⟩ := Rect.unit (s := ⟨2, ![a, b]⟩) ![0, o] (⟨2, ![a, n]⟩ : Shape).size (fun k => match k with
  | ⟨0, _⟩ => by show 0 + a ≤ a; omega
  | ⟨1, _⟩ => h)

/-- A whole array of two axes. -/
abbrev all2 (a b : ℕ) : Rect ⟨2, ![a, b]⟩ := rows2 a b 0 a (by omega)

/-- A whole array of three axes. -/
abbrev all3 (a b d : ℕ) : Rect ⟨3, ![a, b, d]⟩ := Rect.unit (s := ⟨3, ![a, b, d]⟩) ![0, 0, 0] (⟨3, ![a, b, d]⟩ : Shape).size (fun k => match k with
  | ⟨0, _⟩ => by show 0 + a ≤ a; omega
  | ⟨1, _⟩ => by show 0 + b ≤ b; omega
  | ⟨2, _⟩ => by show 0 + d ≤ d; omega)

/-- Half `j` of the positions of the spectral input. -/
abbrev halfRect (j : Fin 2) : Rect S1x2048x512 := Rect.unit (s := S1x2048x512) ![0, 1024 * j.val, 0] S1x1024x512.size (fun k => match k with
  | ⟨0, _⟩ => by show 0 + 1 ≤ 1; omega
  | ⟨1, _⟩ => by show 1024 * j.val + 1024 ≤ 2048; omega
  | ⟨2, _⟩ => by show 0 + 512 ≤ 512; omega)

/-- The tables' rows that a grid point multiplies by. -/
abbrev tableRect (i : grid0.Coords) : Rect S1024x1024 := Rect.unit (s := S1024x1024) (k0_off1 i) S512x1024.size (k0_off1_inb i)

/-- Every second row, from row `p`, of lane tile `l` of the interleaved rows. -/
abbrev stridedRect (l p : Fin 2) : Rect S2x1024x128 := ⟨⟨![l.val, p.val, 0], S1x512x128.size, ![1, 2, 1], fun k => match k with
  | ⟨0, _⟩ => .inr (by show l.val + 1 * (1 - 1) < 2; omega)
  | ⟨1, _⟩ => .inr (by show p.val + 2 * (512 - 1) < 1024; omega)
  | ⟨2, _⟩ => .inr (by show 0 + 1 * (128 - 1) < 128; omega)⟩, fun k => match k with
  | ⟨0, _⟩ => by show 0 < 1; omega
  | ⟨1, _⟩ => by show 0 < 2; omega
  | ⟨2, _⟩ => by show 0 < 1; omega⟩

/-- Lane tile `l` of the interleaved rows. -/
abbrev laneRect (l : Fin 2) : Rect S2x1024x128 := Rect.unit (s := S2x1024x128) ![l.val, 0, 0] S1x1024x128.size (fun k => match k with
  | ⟨0, _⟩ => by show l.val + 1 ≤ 2; omega
  | ⟨1, _⟩ => by show 0 + 1024 ≤ 1024; omega
  | ⟨2, _⟩ => by show 0 + 128 ≤ 128; omega)

/-! ## What fills the scratch -/

/-- The folded input that meets the cosines: the halves' sum, and their difference turned by the first row's angles. -/
def cosPieces (X4 : Vec F S1x2048x512 .bf16) (X8 X9 : Vec F S1024x256 .f32) : List (View.Piece (Elt F) S1024x512 .bf16) :=
  [⟨columns2 1024 512 256 256 (by omega), k0_pay10 (View.ld X4 (halfRect 0)) (View.ld X4 (halfRect 1)) (View.ld X8 (all2 1024 256)) (View.ld X9 (all2 1024 256))⟩,
   ⟨columns2 1024 512 0 256 (by omega), k0_pay9 (View.ld X4 (halfRect 0)) (View.ld X4 (halfRect 1))⟩]

/-- The folded input that meets the sines. -/
def sinPieces (X4 : Vec F S1x2048x512 .bf16) (X8 X9 : Vec F S1024x256 .f32) : List (View.Piece (Elt F) S1024x512 .bf16) :=
  [⟨columns2 1024 512 256 256 (by omega), k0_pay12 (View.ld X4 (halfRect 0)) (View.ld X4 (halfRect 1)) (View.ld X8 (all2 1024 256)) (View.ld X9 (all2 1024 256))⟩,
   ⟨columns2 1024 512 0 256 (by omega), k0_pay11 (View.ld X4 (halfRect 0)) (View.ld X4 (halfRect 1))⟩]

/-- What fills the kept weights. -/
def weightPieces (X12 : Vec F S1x1024x1024 .f32) : List (View.Piece (Elt F) S1024x1024 .bf16) :=
  [⟨all2 1024 1024, k0_pay13 (View.ld X12 (all3 1 1024 1024))⟩]

/-! ## The Fourier branch's rows and the block stored -/

section

variable (i : grid0.Coords) (X6 X7 : Vec F S1024x1024 .bf16) (X10 : Vec F S256x256 .bf16) (C S : Vec F S1024x512 .bf16)

/-- The transform's rows: in the left half the even positions', in the right half the odd positions'. -/
def spectrum : FVec F S512x512 .bf16 :=
  k0_pay14 (View.ld X6 (tableRect i)) (View.ld C (all2 1024 512)) (View.ld X7 (tableRect i)) (View.ld S (all2 1024 512))

/-- What fills the interleaved rows. -/
def rowPieces : List (View.Piece (Elt F) S2x1024x128 .f32) :=
  [⟨stridedRect 1 1, k0_pay21 (spectrum i X6 X7 C S) (View.ld X10 (all2 256 256))⟩,
   ⟨stridedRect 0 1, k0_pay20 (spectrum i X6 X7 C S) (View.ld X10 (all2 256 256))⟩,
   ⟨stridedRect 1 0, k0_pay18 (k0_pay17 (View.ld X6 (tableRect i)) (View.ld C (all2 1024 512)) (View.ld X7 (tableRect i)) (View.ld S (all2 1024 512)) (View.ld X10 (all2 256 256)))⟩,
   ⟨stridedRect 0 0, k0_pay16 (View.ld X6 (tableRect i)) (View.ld C (all2 1024 512)) (View.ld X7 (tableRect i)) (View.ld S (all2 1024 512)) (View.ld X10 (all2 256 256))⟩]

end

variable (X0 : Vec F S1x1024x1024 .f32) (X1 : Vec F S1x1024x512 .bf16) (X2 X3 X5 : Vec F S1x1024x256 .bf16) (X11 : Vec F S1x256 .f32)
  (X13 : Vec F S1x1x1024 .f32) (X14 : Vec F S1x1024 .f32) (R : Vec F S2x1024x128 .f32) (W : Vec F S1024x1024 .bf16)

/-- The block stored, from the interleaved rows and the kept weights. -/
def outPieces : List (View.Piece (Elt F) S1x1024x1024 .f32) :=
  [⟨all3 1 1024 1024, k0_pay24
    (k0_pay22 (View.ld R (laneRect 0)) (View.ld R (laneRect 1)) (View.ld X11 (all2 1 256)) (View.ld X5 (all3 1 1024 256)))
    (k0_pay23 (View.ld X2 (all3 1 1024 256))) (View.ld X3 (all3 1 1024 256)) (View.ld X1 (all3 1 1024 512))
    (View.ld W (rows2 1024 1024 0 768 (by omega))) (View.ld W (rows2 1024 1024 768 256 (by omega)))
    (View.ld X0 (all3 1 1024 1024)) (View.ld X13 (all3 1 1 1024)) (View.ld X14 (all2 1 1024))⟩]

end Cert.Kernel3Ideal.OutProj

end
-- ==== Proof.OutProj.Outs.lean ====
/- The stores the body is found to make at each kind of grid point are the lists written in the kernel's own operations: where
   a first sequence's first tile fills the kept weights, where a first tile folds its sequence's spectral input, and where a
   second tile finds both. -/
module

public import proofs.«01_k».proof.Proof.Gen.Kernel3Ideal.Value
public import proofs.«01_k».proof.Proof.OutProj.Kernel
public import Idealize.ShloMosaic.Lib.Pipeline.ValueKit
public import Idealize.ShloMosaic.Lib.Pipeline.ReadBack

@[expose] public section

set_option maxRecDepth 16384

noncomputable section

namespace Cert.Kernel3Ideal.OutProj

open Cert.Kernel3Ideal Cert.Kernel3Ideal.Gen Idealize.ShloMosaic Idealize.ShloMosaic.TcCoe Idealize.ShloMosaic.Tactic

variable {F : FTy → Type} [FloatOps F]

/-- The block stored, from the folded inputs and the kept weights. -/
abbrev stored (i : grid0.Coords) (x0 : Vec F S1x1024x1024 .f32) (x1 : Vec F S1x1024x512 .bf16) (x2 x3 x5 : Vec F S1x1024x256 .bf16)
    (x6 x7 : Vec F S1024x1024 .bf16) (x10 : Vec F S256x256 .bf16) (x11 : Vec F S1x256 .f32) (x13 : Vec F S1x1x1024 .f32) (x14 : Vec F S1x1024 .f32)
    (C S : Vec F S1024x512 .bf16) (W : Vec F S1024x1024 .bf16) : List (View.Piece (Elt F) S1x1024x1024 .f32) :=
  outPieces x0 x1 x2 x3 x5 x11 x13 x14 (View.canon (rowPieces i x6 x7 x10 C S)) W

section

variable {c : Dev nD} {i : grid0.Coords} {arg2 : Memref sig .tc .vmem S1x1024x1024 .f32} {harg2 : arg2.IsWhole} {arg3 : Memref sig .tc .vmem S1x1024x512 .bf16} {harg3 : arg3.IsWhole} {arg4 : Memref sig .tc .vmem S1x1024x256 .bf16} {harg4 : arg4.IsWhole} {arg5 : Memref sig .tc .vmem S1x1024x256 .bf16} {harg5 : arg5.IsWhole} {arg6 : Memref sig .tc .vmem S1x2048x512 .bf16} {harg6 : arg6.IsWhole} {arg7 : Memref sig .tc .vmem S1x1024x256 .bf16} {harg7 : arg7.IsWhole} {arg8 : Memref sig .tc .vmem S1024x1024 .bf16} {harg8 : arg8.IsWhole} {arg9 : Memref sig .tc .vmem S1024x1024 .bf16} {harg9 : arg9.IsWhole} {arg10 : Memref sig .tc .vmem S1024x256 .f32} {harg10 : arg10.IsWhole} {arg11 : Memref sig .tc .vmem S1024x256 .f32} {harg11 : arg11.IsWhole} {arg12 : Memref sig .tc .vmem S256x256 .bf16} {harg12 : arg12.IsWhole} {arg13 : Memref sig .tc .vmem S1x256 .f32} {harg13 : arg13.IsWhole} {arg14 : Memref sig .tc .vmem S1x1024x1024 .f32} {harg14 : arg14.IsWhole} {arg15 : Memref sig .tc .vmem S1x1x1024 .f32} {harg15 : arg15.IsWhole} {arg16 : Memref sig .tc .vmem S1x1024 .f32} {harg16 : arg16.IsWhole} {arg17 : Memref sig .tc .vmem S1x1024x1024 .f32} {harg17 : arg17.IsWhole} {arg18 : Memref sig .tc .vmem S1024x512 .bf16} {harg18 : arg18.IsWhole} {arg19 : Memref sig .tc .vmem S1024x512 .bf16} {harg19 : arg19.IsWhole} {arg20 : Memref sig .tc .vmem S2x1024x128 .f32} {harg20 : arg20.IsWhole} {arg21 : Memref sig .tc .vmem S1024x1024 .bf16} {harg21 : arg21.IsWhole}
  (x0 : Vec F S1x1024x1024 .f32) (x1 : Vec F S1x1024x512 .bf16) (x2 : Vec F S1x1024x256 .bf16) (x3 : Vec F S1x1024x256 .bf16) (x4 : Vec F S1x2048x512 .bf16) (x5 : Vec F S1x1024x256 .bf16) (x6 : Vec F S1024x1024 .bf16) (x7 : Vec F S1024x1024 .bf16) (x8 : Vec F S1024x256 .f32) (x9 : Vec F S1024x256 .f32) (x10 : Vec F S256x256 .bf16) (x11 : Vec F S1x256 .f32) (x12 : Vec F S1x1024x1024 .f32) (x13 : Vec F S1x1x1024 .f32) (x14 : Vec F S1x1024 .f32) (xs0 xs1 : Vec F S1024x512 .bf16) (xs3 : Vec F S1024x1024 .bf16)

/-- Where the body fills the kept weights and folds the spectral input: its stores. -/
theorem stores_A (hc0 : cond0_0 i) (hc1 : cond0_1 i) :
    (fun r => ((r.1, r.2.1, r.2.2.1, r.2.2.2.1) : List (View.Piece (Elt F) S1x1024x1024 .f32) × List (View.Piece (Elt F) S1024x512 .bf16) × List (View.Piece (Elt F) S1024x512 .bf16) × List (View.Piece (Elt F) S1024x1024 .bf16)))
      (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14)
      = (stored i x0 x1 x2 x3 x5 x6 x7 x10 x11 x13 x14 (View.canon (cosPieces x4 x8 x9)) (View.canon (sinPieces x4 x8 x9)) (View.canon (weightPieces x12)),
        cosPieces x4 x8 x9, sinPieces x4 x8 x9, weightPieces x12) := by
  refine Eq.trans (b := (outPieces (arg2.view.read (Elt F) (harg2.unread x0)) (arg3.view.read (Elt F) (harg3.unread x1)) (arg4.view.read (Elt F) (harg4.unread x2)) (arg5.view.read (Elt F) (harg5.unread x3)) (arg7.view.read (Elt F) (harg7.unread x5)) (arg13.view.read (Elt F) (harg13.unread x11)) (arg15.view.read (Elt F) (harg15.unread x13)) (arg16.view.read (Elt F) (harg16.unread x14))
      (arg20.view.read (Elt F) (arg20.view.writes (Elt F) arg20.view.junk (rowPieces i (arg8.view.read (Elt F) (harg8.unread x6)) (arg9.view.read (Elt F) (harg9.unread x7)) (arg12.view.read (Elt F) (harg12.unread x10))
        (arg18.view.read (Elt F) (arg18.view.writes (Elt F) arg18.view.junk (cosPieces (arg6.view.read (Elt F) (harg6.unread x4)) (arg10.view.read (Elt F) (harg10.unread x8)) (arg11.view.read (Elt F) (harg11.unread x9)))))
        (arg19.view.read (Elt F) (arg19.view.writes (Elt F) arg19.view.junk (sinPieces (arg6.view.read (Elt F) (harg6.unread x4)) (arg10.view.read (Elt F) (harg10.unread x8)) (arg11.view.read (Elt F) (harg11.unread x9))))))))
      (arg21.view.read (Elt F) (arg21.view.writes (Elt F) arg21.view.junk (weightPieces (arg14.view.read (Elt F) (harg14.unread x12))))),
    cosPieces (arg6.view.read (Elt F) (harg6.unread x4)) (arg10.view.read (Elt F) (harg10.unread x8)) (arg11.view.read (Elt F) (harg11.unread x9)), sinPieces (arg6.view.read (Elt F) (harg6.unread x4)) (arg10.view.read (Elt F) (harg10.unread x8)) (arg11.view.read (Elt F) (harg11.unread x9)), weightPieces (arg14.view.read (Elt F) (harg14.unread x12)))) ?_ ?_
  · sl_kernel_rfl
  · simp only [Memref.IsWhole.read_unread, View.read_writes_junk_eq_canon]

/-- Where the body finds everything: its stores. -/
theorem stores_B (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs3).1
      = stored i x0 x1 x2 x3 x5 x6 x7 x10 x11 x13 x14 xs0 xs1 xs3 := by
  refine Eq.trans (b := outPieces (arg2.view.read (Elt F) (harg2.unread x0)) (arg3.view.read (Elt F) (harg3.unread x1)) (arg4.view.read (Elt F) (harg4.unread x2)) (arg5.view.read (Elt F) (harg5.unread x3)) (arg7.view.read (Elt F) (harg7.unread x5)) (arg13.view.read (Elt F) (harg13.unread x11)) (arg15.view.read (Elt F) (harg15.unread x13)) (arg16.view.read (Elt F) (harg16.unread x14))
      (arg20.view.read (Elt F) (arg20.view.writes (Elt F) arg20.view.junk (rowPieces i (arg8.view.read (Elt F) (harg8.unread x6)) (arg9.view.read (Elt F) (harg9.unread x7)) (arg12.view.read (Elt F) (harg12.unread x10))
        (arg18.view.read (Elt F) (harg18.unread xs0)) (arg19.view.read (Elt F) (harg19.unread xs1)))))
      (arg21.view.read (Elt F) (harg21.unread xs3))) ?_ ?_
  · sl_kernel_rfl
  · simp only [Memref.IsWhole.read_unread, View.read_writes_junk_eq_canon]

/-- Where the body folds the spectral input and finds the kept weights: its stores. -/
theorem stores_C (hc0 : ¬cond0_0 i) (hc1 : cond0_1 i) :
    (fun r => ((r.1, r.2.1, r.2.2.1) : List (View.Piece (Elt F) S1x1024x1024 .f32) × List (View.Piece (Elt F) S1024x512 .bf16) × List (View.Piece (Elt F) S1024x512 .bf16)))
      (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs3)
      = (stored i x0 x1 x2 x3 x5 x6 x7 x10 x11 x13 x14 (View.canon (cosPieces x4 x8 x9)) (View.canon (sinPieces x4 x8 x9)) xs3,
        cosPieces x4 x8 x9, sinPieces x4 x8 x9) := by
  refine Eq.trans (b := (outPieces (arg2.view.read (Elt F) (harg2.unread x0)) (arg3.view.read (Elt F) (harg3.unread x1)) (arg4.view.read (Elt F) (harg4.unread x2)) (arg5.view.read (Elt F) (harg5.unread x3)) (arg7.view.read (Elt F) (harg7.unread x5)) (arg13.view.read (Elt F) (harg13.unread x11)) (arg15.view.read (Elt F) (harg15.unread x13)) (arg16.view.read (Elt F) (harg16.unread x14))
      (arg20.view.read (Elt F) (arg20.view.writes (Elt F) arg20.view.junk (rowPieces i (arg8.view.read (Elt F) (harg8.unread x6)) (arg9.view.read (Elt F) (harg9.unread x7)) (arg12.view.read (Elt F) (harg12.unread x10))
        (arg18.view.read (Elt F) (arg18.view.writes (Elt F) arg18.view.junk (cosPieces (arg6.view.read (Elt F) (harg6.unread x4)) (arg10.view.read (Elt F) (harg10.unread x8)) (arg11.view.read (Elt F) (harg11.unread x9)))))
        (arg19.view.read (Elt F) (arg19.view.writes (Elt F) arg19.view.junk (sinPieces (arg6.view.read (Elt F) (harg6.unread x4)) (arg10.view.read (Elt F) (harg10.unread x8)) (arg11.view.read (Elt F) (harg11.unread x9))))))))
      (arg21.view.read (Elt F) (harg21.unread xs3)),
    cosPieces (arg6.view.read (Elt F) (harg6.unread x4)) (arg10.view.read (Elt F) (harg10.unread x8)) (arg11.view.read (Elt F) (harg11.unread x9)), sinPieces (arg6.view.read (Elt F) (harg6.unread x4)) (arg10.view.read (Elt F) (harg10.unread x8)) (arg11.view.read (Elt F) (harg11.unread x9)))) ?_ ?_
  · sl_kernel_rfl
  · simp only [Memref.IsWhole.read_unread, View.read_writes_junk_eq_canon]

end

/-! ## After a grid point -/

variable (m : (ℓ : Loc nD τ sig) → Buf (Elt F) ℓ) (c : Dev nD)

/-- What the point before left. -/
abbrev prev (t : Fin cfg0.N) := outsAt0 m c (t.val - 1) (Nat.lt_of_le_of_lt (Nat.sub_le _ _) t.isLt)

/-- The block a point stores, from the folded inputs and the kept weights. -/
abbrev storedAt (t : Fin cfg0.N) (C S : Vec F S1024x512 .bf16) (W : Vec F S1024x1024 .bf16) : Vec F S1x1024x1024 .f32 :=
  View.canon (stored (grid0.coords t) (iblk m c 0 t) (iblk m c 1 t) (iblk m c 2 t) (iblk m c 3 t) (iblk m c 5 t) (iblk m c 6 t) (iblk m c 7 t)
    (iblk m c 10 t) (iblk m c 11 t) (iblk m c 13 t) (iblk m c 14 t) C S W)

/-- The folded inputs a point writes. -/
abbrev cosAt (t : Fin cfg0.N) : Vec F S1024x512 .bf16 := View.canon (cosPieces (iblk m c 4 t) (iblk m c 8 t) (iblk m c 9 t))
abbrev sinAt (t : Fin cfg0.N) : Vec F S1024x512 .bf16 := View.canon (sinPieces (iblk m c 4 t) (iblk m c 8 t) (iblk m c 9 t))
abbrev weightsAt (t : Fin cfg0.N) : Vec F S1024x1024 .bf16 := View.canon (weightPieces (iblk m c 12 t))

theorem point_A (t : Fin cfg0.N) (h0 : t.val % 16 = 0) (h1 : t.val % 2 = 0) :
    outsAt0 m c t.val t.isLt = (storedAt m c t (cosAt m c t) (sinAt m c t) (weightsAt m c t), cosAt m c t, sinAt m c t, weightsAt m c t) := by
  have h := stores_A (c := c) (i := grid0.coords t) (harg2 := hs0_0 t) (harg3 := hs0_1 t) (harg4 := hs0_2 t) (harg5 := hs0_3 t) (harg6 := hs0_4 t) (harg7 := hs0_5 t) (harg8 := hs0_6 t) (harg9 := hs0_7 t) (harg10 := hs0_8 t) (harg11 := hs0_9 t) (harg12 := hs0_10 t) (harg13 := hs0_11 t) (harg14 := hs0_12 t) (harg15 := hs0_13 t) (harg16 := hs0_14 t) (harg17 := hs0_15 t) (harg18 := Memref.isWhole_whole cc0_scratch0) (harg19 := Memref.isWhole_whole cc0_scratch1) (harg20 := Memref.isWhole_whole cc0_scratch2) (harg21 := Memref.isWhole_whole cc0_scratch3)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) ((hcond0_0 t).mpr h0) ((hcond0_1 t).mpr h1)
  have h15 := congrArg (fun p => p.1) h
  have hs0 := congrArg (fun p => p.2.1) h
  have hs1 := congrArg (fun p => p.2.2.1) h
  have hs3 := congrArg (fun p => p.2.2.2) h
  dsimp only at h15 hs0 hs1 hs3
  rw [outsAt0_A m c t h0 h1]
  unfold out0_A_15 sout0_A_0 sout0_A_1 sout0_A_3
  simp only [h15, hs0, hs1, hs3, View.read_writes_junk_eq_canon]

theorem point_B (t : Fin cfg0.N) (h0 : ¬t.val % 16 = 0) (h1 : ¬t.val % 2 = 0) :
    outsAt0 m c t.val t.isLt = (storedAt m c t (prev m c t).2.1 (prev m c t).2.2.1 (prev m c t).2.2.2, (prev m c t).2.1, (prev m c t).2.2.1, (prev m c t).2.2.2) := by
  have h := stores_B (c := c) (i := grid0.coords t) (harg2 := hs0_0 t) (harg3 := hs0_1 t) (harg4 := hs0_2 t) (harg5 := hs0_3 t) (harg6 := hs0_4 t) (harg7 := hs0_5 t) (harg8 := hs0_6 t) (harg9 := hs0_7 t) (harg10 := hs0_8 t) (harg11 := hs0_9 t) (harg12 := hs0_10 t) (harg13 := hs0_11 t) (harg14 := hs0_12 t) (harg15 := hs0_13 t) (harg16 := hs0_14 t) (harg17 := hs0_15 t) (harg18 := Memref.isWhole_whole cc0_scratch0) (harg19 := Memref.isWhole_whole cc0_scratch1) (harg20 := Memref.isWhole_whole cc0_scratch2) (harg21 := Memref.isWhole_whole cc0_scratch3)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (prev m c t).2.1 (prev m c t).2.2.1 (prev m c t).2.2.2 (fun h => h0 ((hcond0_0 t).mp h)) (fun h => h1 ((hcond0_1 t).mp h))
  rw [outsAt0_B m c t h0 h1]
  unfold out0_B_15 sout0_B_0 sout0_B_1 sout0_B_3
  rw [h]
  simp only [View.read_writes_junk_eq_canon]

theorem point_C (t : Fin cfg0.N) (h0 : ¬t.val % 16 = 0) (h1 : t.val % 2 = 0) :
    outsAt0 m c t.val t.isLt = (storedAt m c t (cosAt m c t) (sinAt m c t) (prev m c t).2.2.2, cosAt m c t, sinAt m c t, (prev m c t).2.2.2) := by
  have h := stores_C (c := c) (i := grid0.coords t) (harg2 := hs0_0 t) (harg3 := hs0_1 t) (harg4 := hs0_2 t) (harg5 := hs0_3 t) (harg6 := hs0_4 t) (harg7 := hs0_5 t) (harg8 := hs0_6 t) (harg9 := hs0_7 t) (harg10 := hs0_8 t) (harg11 := hs0_9 t) (harg12 := hs0_10 t) (harg13 := hs0_11 t) (harg14 := hs0_12 t) (harg15 := hs0_13 t) (harg16 := hs0_14 t) (harg17 := hs0_15 t) (harg18 := Memref.isWhole_whole cc0_scratch0) (harg19 := Memref.isWhole_whole cc0_scratch1) (harg20 := Memref.isWhole_whole cc0_scratch2) (harg21 := Memref.isWhole_whole cc0_scratch3)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (prev m c t).2.2.2 (fun h => h0 ((hcond0_0 t).mp h)) ((hcond0_1 t).mpr h1)
  have h15 := congrArg (fun p => p.1) h
  have hs0 := congrArg (fun p => p.2.1) h
  have hs1 := congrArg (fun p => p.2.2) h
  dsimp only at h15 hs0 hs1
  rw [outsAt0_C m c t h0 h1]
  unfold out0_C_15 sout0_C_0 sout0_C_1 sout0_C_3
  simp only [h15, hs0, hs1, View.read_writes_junk_eq_canon]

end Cert.Kernel3Ideal.OutProj

end
-- ==== Proof.OutProj.Spec.lean ====
/- What the output projection computes, written over plain functions of coordinates and without any tiling: the Fourier branch
   of a position as sums over all positions, and a row of mixed channels projected, gated, added to the layer's input and
   normalised. With the folding that halves the Fourier sums. -/
module

public import proofs.«01_k».proof.Proof.InProj.Spec

@[expose] public section

noncomputable section

namespace Cert.OutProj

open Cert.InProj Idealize.ShloMosaic

/-! ## A row of the result -/

/-- The mixed channels of a row: attention's 512, the gated convolution's 256, the Fourier branch's 256. -/
def channels (att : Fin 512 → EReal) (cv gcv fo : Fin 256 → EReal) (q : Fin 1024) : EReal :=
  if h : q.val < 512 then att ⟨q.val, h⟩
  else if h' : q.val < 768 then cv ⟨q.val - 512, by omega⟩ * gcv ⟨q.val - 512, by omega⟩
  else fo ⟨q.val - 768, by omega⟩

/-- A row's channels projected, gated and added to the layer's input. -/
def mixed (x z g : Fin 1024 → EReal) (w : Fin 1024 → Fin 1024 → EReal) (e : Fin 1024) : EReal := x e + g e * ∑ q, z q * w q e

/-- A row divided by the root of its mean square and scaled by the gain. -/
def normed (o fg : Fin 1024 → EReal) (e : Fin 1024) : EReal :=
  o e * Ideal.rsqrt (meanSquare o + Ideal.ofBits .f32 0x358637BD#32) * fg e

/-- The Fourier branch of a row, from its 256 transformed channels. -/
def fourier (y : Fin 256 → EReal) (wf : Fin 256 → Fin 256 → EReal) (bf gf : Fin 256 → EReal) (d : Fin 256) : EReal :=
  (∑ k, y k * wf k d + bf d) * gf d

/-- The real part of the transform along the positions: channel `k` against row `n` of the tables. -/
def transform (a b cs sn : Fin 2048 → EReal) : EReal := (∑ s, a s * cs s) - ∑ s, b s * sn s

/-- A sum of mixed channels, the first 768 apart from the last 256. -/
theorem sum_channels (f : Fin 1024 → EReal) :
    ∑ q, f q = (∑ q : Fin 768, f ⟨q.val, by omega⟩) + ∑ q : Fin 256, f ⟨768 + q.val, by omega⟩ :=
  Fin.sum_univ_add (a := 768) (b := 256) f

/-- A sum over the positions, the first half apart from the second. -/
theorem sum_halves {M : Type} [AddCommMonoid M] (f : Fin 2048 → M) :
    ∑ s, f s = (∑ s : Fin 1024, f ⟨s.val, by omega⟩) + ∑ s : Fin 1024, f ⟨1024 + s.val, by omega⟩ :=
  Fin.sum_univ_add (a := 1024) (b := 1024) f

/-! ## The folding -/

theorem coe_sum {n : ℕ} (f : Fin n → ℝ) : ((∑ i, f i : ℝ) : EReal) = ∑ i, (f i : EReal) := by
  induction n with
  | zero => simp
  | succ n ih => rw [Fin.sum_univ_castSucc, Fin.sum_univ_castSucc, EReal.coe_add, ih]

/-- A sum of products of two halves against a row that the half turn keeps or negates, folded. -/
theorem fold_real (a b cs sn : Fin 2048 → ℝ) (u : ℝ) (hc : ∀ s : Fin 1024, cs ⟨1024 + s.val, by omega⟩ = u * cs ⟨s.val, by omega⟩)
    (hs : ∀ s : Fin 1024, sn ⟨1024 + s.val, by omega⟩ = u * sn ⟨s.val, by omega⟩) :
    (∑ s, a s * cs s) - ∑ s, b s * sn s
      = ∑ s : Fin 1024, (cs ⟨s.val, by omega⟩ * (a ⟨s.val, by omega⟩ + u * a ⟨1024 + s.val, by omega⟩)
          - sn ⟨s.val, by omega⟩ * (b ⟨s.val, by omega⟩ + u * b ⟨1024 + s.val, by omega⟩)) := by
  rw [sum_halves, sum_halves, ← Finset.sum_add_distrib, ← Finset.sum_add_distrib, ← Finset.sum_sub_distrib]
  refine Finset.sum_congr rfl fun s _ => ?_
  rw [hc, hs]
  ring

variable {a b cs sn : Fin 2048 → EReal}

/-- An even row of the transform: its tables repeat after half the positions. -/
theorem transform_even (ha : ∀ s, ∃ r : ℝ, a s = r) (hb : ∀ s, ∃ r : ℝ, b s = r) (hcs : ∀ s, ∃ r : ℝ, cs s = r) (hsn : ∀ s, ∃ r : ℝ, sn s = r)
    (hc : ∀ s : Fin 1024, cs ⟨1024 + s.val, by omega⟩ = cs ⟨s.val, by omega⟩)
    (hs : ∀ s : Fin 1024, sn ⟨1024 + s.val, by omega⟩ = sn ⟨s.val, by omega⟩) :
    (∑ s : Fin 1024, cs ⟨s.val, by omega⟩ * (a ⟨s.val, by omega⟩ + a ⟨1024 + s.val, by omega⟩))
      - (∑ s : Fin 1024, sn ⟨s.val, by omega⟩ * (b ⟨s.val, by omega⟩ + b ⟨1024 + s.val, by omega⟩)) = transform a b cs sn := by
  choose a' ha using ha
  choose b' hb using hb
  choose c' hcs using hcs
  choose s' hsn using hsn
  have h := fold_real a' b' c' s' 1
    (fun s => by have := hc s; rw [hcs, hcs] at this; rw [one_mul]; exact EReal.coe_injective this)
    (fun s => by have := hs s; rw [hsn, hsn] at this; rw [one_mul]; exact EReal.coe_injective this)
  unfold transform
  simp only [ha, hb, hcs, hsn]
  simp only [← EReal.coe_add, ← EReal.coe_mul, ← coe_sum, ← EReal.coe_sub]
  rw [h, Finset.sum_sub_distrib]
  simp only [one_mul]

/-- An odd row of the transform: its tables are negated after half the positions, and they are those of the even row before it
    turned by the first row's angles. -/
theorem transform_odd {ce se c1 s1 : Fin 1024 → EReal}
    (ha : ∀ s, ∃ r : ℝ, a s = r) (hb : ∀ s, ∃ r : ℝ, b s = r) (hcs : ∀ s, ∃ r : ℝ, cs s = r) (hsn : ∀ s, ∃ r : ℝ, sn s = r)
    (hce : ∀ s, ∃ r : ℝ, ce s = r) (hse : ∀ s, ∃ r : ℝ, se s = r) (hc1 : ∀ s, ∃ r : ℝ, c1 s = r) (hs1 : ∀ s, ∃ r : ℝ, s1 s = r)
    (hc : ∀ s : Fin 1024, cs ⟨1024 + s.val, by omega⟩ = -cs ⟨s.val, by omega⟩)
    (hs : ∀ s : Fin 1024, sn ⟨1024 + s.val, by omega⟩ = -sn ⟨s.val, by omega⟩)
    (hco : ∀ s : Fin 1024, cs ⟨s.val, by omega⟩ = ce s * c1 s - se s * s1 s)
    (hso : ∀ s : Fin 1024, sn ⟨s.val, by omega⟩ = se s * c1 s + ce s * s1 s) :
    (∑ s : Fin 1024, ce s * (c1 s * (a ⟨s.val, by omega⟩ - a ⟨1024 + s.val, by omega⟩) - s1 s * (b ⟨s.val, by omega⟩ - b ⟨1024 + s.val, by omega⟩)))
      - (∑ s : Fin 1024, se s * (s1 s * (a ⟨s.val, by omega⟩ - a ⟨1024 + s.val, by omega⟩) + c1 s * (b ⟨s.val, by omega⟩ - b ⟨1024 + s.val, by omega⟩)))
      = transform a b cs sn := by
  choose a' ha using ha
  choose b' hb using hb
  choose c' hcs using hcs
  choose s' hsn using hsn
  choose ce' hce using hce
  choose se' hse using hse
  choose c1' hc1 using hc1
  choose s1' hs1 using hs1
  have h := fold_real a' b' c' s' (-1)
    (fun s => by have := hc s; rw [hcs, hcs, ← EReal.coe_neg] at this; rw [neg_one_mul]; exact EReal.coe_injective this)
    (fun s => by have := hs s; rw [hsn, hsn, ← EReal.coe_neg] at this; rw [neg_one_mul]; exact EReal.coe_injective this)
  have hco' : ∀ s : Fin 1024, c' ⟨s.val, by omega⟩ = ce' s * c1' s - se' s * s1' s := fun s => by
    have := hco s
    rw [hcs, hce, hc1, hse, hs1, ← EReal.coe_mul, ← EReal.coe_mul, ← EReal.coe_sub] at this
    exact EReal.coe_injective this
  have hso' : ∀ s : Fin 1024, s' ⟨s.val, by omega⟩ = se' s * c1' s + ce' s * s1' s := fun s => by
    have := hso s
    rw [hsn, hce, hc1, hse, hs1, ← EReal.coe_mul, ← EReal.coe_mul, ← EReal.coe_add] at this
    exact EReal.coe_injective this
  unfold transform
  simp only [ha, hb, hcs, hsn, hce, hse, hc1, hs1]
  simp only [← EReal.coe_add, ← EReal.coe_mul, ← coe_sum, ← EReal.coe_sub]
  rw [h, ← Finset.sum_sub_distrib]
  refine congrArg _ (Finset.sum_congr rfl fun s _ => ?_)
  rw [hco', hso']
  ring

/-! ## Over the arrays -/

/-- What the folding needs: finite spectral input and tables, the tables of even rows repeating after half the positions, those of
    odd rows negated there, and every odd row the even row before it turned by the first row's angles. -/
structure PositionTables (ab : (⟨3, ![8, 2048, 512]⟩ : Shape).Idx → EReal) (cs sn : (⟨2, ![2048, 2048]⟩ : Shape).Idx → EReal) : Prop where
  ab_real : ∀ i, ∃ r : ℝ, ab i = r
  cs_real : ∀ i, ∃ r : ℝ, cs i = r
  sn_real : ∀ i, ∃ r : ℝ, sn i = r
  cs_even : ∀ n s : Fin 1024, cs (ix2 ⟨2 * n.val, by omega⟩ ⟨1024 + s.val, by omega⟩) = cs (ix2 ⟨2 * n.val, by omega⟩ ⟨s.val, by omega⟩)
  sn_even : ∀ n s : Fin 1024, sn (ix2 ⟨2 * n.val, by omega⟩ ⟨1024 + s.val, by omega⟩) = sn (ix2 ⟨2 * n.val, by omega⟩ ⟨s.val, by omega⟩)
  cs_odd : ∀ n s : Fin 1024, cs (ix2 ⟨2 * n.val + 1, by omega⟩ ⟨1024 + s.val, by omega⟩) = -cs (ix2 ⟨2 * n.val + 1, by omega⟩ ⟨s.val, by omega⟩)
  sn_odd : ∀ n s : Fin 1024, sn (ix2 ⟨2 * n.val + 1, by omega⟩ ⟨1024 + s.val, by omega⟩) = -sn (ix2 ⟨2 * n.val + 1, by omega⟩ ⟨s.val, by omega⟩)
  cs_turn : ∀ n s : Fin 1024, cs (ix2 ⟨2 * n.val + 1, by omega⟩ ⟨s.val, by omega⟩)
    = cs (ix2 ⟨2 * n.val, by omega⟩ ⟨s.val, by omega⟩) * cs (ix2 1 ⟨s.val, by omega⟩) - sn (ix2 ⟨2 * n.val, by omega⟩ ⟨s.val, by omega⟩) * sn (ix2 1 ⟨s.val, by omega⟩)
  sn_turn : ∀ n s : Fin 1024, sn (ix2 ⟨2 * n.val + 1, by omega⟩ ⟨s.val, by omega⟩)
    = sn (ix2 ⟨2 * n.val, by omega⟩ ⟨s.val, by omega⟩) * cs (ix2 1 ⟨s.val, by omega⟩) + cs (ix2 ⟨2 * n.val, by omega⟩ ⟨s.val, by omega⟩) * sn (ix2 1 ⟨s.val, by omega⟩)

/-- Channel `k` of the transform at position `n` of sequence `b`. -/
def transformAt (ab : (⟨3, ![8, 2048, 512]⟩ : Shape).Idx → EReal) (cs sn : (⟨2, ![2048, 2048]⟩ : Shape).Idx → EReal) (b : Fin 8) (n : Fin 2048)
    (k : Fin 256) : EReal :=
  transform (fun s => ab (ix3 b s ⟨k.val, by omega⟩)) (fun s => ab (ix3 b s ⟨256 + k.val, by omega⟩)) (fun s => cs (ix2 n s)) (fun s => sn (ix2 n s))

/-- The result at position `s` of sequence `b`: the gate is the modulation's last third, and the weights are the second of the
    two. -/
def resultAt (x : (⟨3, ![8, 2048, 1024]⟩ : Shape).Idx → EReal) (att : (⟨3, ![8, 2048, 512]⟩ : Shape).Idx → EReal)
    (cv gcv : (⟨3, ![8, 2048, 256]⟩ : Shape).Idx → EReal) (ab : (⟨3, ![8, 2048, 512]⟩ : Shape).Idx → EReal)
    (gf : (⟨3, ![8, 2048, 256]⟩ : Shape).Idx → EReal) (cs sn : (⟨2, ![2048, 2048]⟩ : Shape).Idx → EReal)
    (wf : (⟨2, ![256, 256]⟩ : Shape).Idx → EReal) (bf : (⟨1, ![256]⟩ : Shape).Idx → EReal) (w : (⟨3, ![2, 1024, 1024]⟩ : Shape).Idx → EReal)
    (md : (⟨3, ![16, 1, 3072]⟩ : Shape).Idx → EReal) (fg : (⟨1, ![1024]⟩ : Shape).Idx → EReal) (b : Fin 8) (s : Fin 2048) : Fin 1024 → EReal :=
  normed (mixed (fun k => x (ix3 b s k))
      (channels (fun q => att (ix3 b s q)) (fun q => cv (ix3 b s q)) (fun q => gcv (ix3 b s q))
        (fourier (transformAt ab cs sn b s) (fun k d => wf (ix2 k d)) (fun d => bf (ix1 d)) (fun d => gf (ix3 b s d))))
      (fun k => md (ix3 ⟨b.val, by omega⟩ 0 ⟨2048 + k.val, by omega⟩)) (fun k e => w (ix3 1 k e)))
    (fun k => fg (ix1 k))

end Cert.OutProj

end
-- ==== Proof.OutProj.KernelPoint.lean ====
/- One grid point of the output projection read at an index: the folded inputs, the interleaved rows of the Fourier branch, and
   the block stored, each the function of the blocks read that it is to hold. -/
module

public import proofs.«01_k».proof.Proof.OutProj.Spec
public import proofs.«01_k».proof.Proof.OutProj.Kernel
public import Idealize.ShloMosaic.Lib.KernelVsHost
public import Idealize.ShloMosaic.Lib.MatmulPlain
public import Idealize.ShloMosaic.Lib.ValueLayout
public import Idealize.ShloMosaic.Lib.ValueLayoutCasts
public import Idealize.ShloMosaic.Lib.Pipeline.ValueKit
public import Idealize.ShloMosaic.Lib.Pipeline.ReadBack

@[expose] public section

set_option maxRecDepth 16384

noncomputable section

namespace Cert.Kernel3Ideal.OutProj

open Cert.Kernel3Ideal Cert.Kernel3Ideal.Gen Cert.InProj Cert.OutProj Idealize.ShloMosaic

/-! ## Arrays read whole, and stored whole -/

theorem ld_all2 {a b : ℕ} {φ : EltTy} (X : Vec Ideal ⟨2, ![a, b]⟩ φ) : View.ld X (all2 a b) = X :=
  funext fun x => congrArg X (ext2 (by show 0 + 1 * (x 0).val = (x 0).val; omega) (by show 0 + 1 * (x 1).val = (x 1).val; omega))

theorem ld_all3 {a b d : ℕ} {φ : EltTy} (X : Vec Ideal ⟨3, ![a, b, d]⟩ φ) : View.ld X (all3 a b d) = X :=
  funext fun x => congrArg X (ext3 (by show 0 + 1 * (x 0).val = (x 0).val; omega) (by show 0 + 1 * (x 1).val = (x 1).val; omega)
    (by show 0 + 1 * (x 2).val = (x 2).val; omega))

theorem canon_all3 {a b d : ℕ} {φ : EltTy} (v : Vec Ideal ⟨3, ![a, b, d]⟩ φ) :
    View.canon (Val := Elt Ideal) (s := ⟨3, ![a, b, d]⟩) (e := φ) [⟨all3 a b d, v⟩] = v := by
  funext y
  refine View.canon_apply_of_pieces v _ (fun p hp => ?_) y ⟨_, List.mem_singleton.mpr rfl, ?_⟩
  · rw [List.mem_singleton] at hp
    subst hp
    intro x
    exact congrArg v (ext3 (by show (x 0).val = 0 + 1 * (x 0).val; omega) (by show (x 1).val = 0 + 1 * (x 1).val; omega)
      (by show (x 2).val = 0 + 1 * (x 2).val; omega))
  · show y ∈ (all3 a b d).set
    rw [Rect.mem_set_unit]
    intro k
    match k with
    | ⟨0, _⟩ => exact ⟨Nat.zero_le _, by show (y 0).val < 0 + a; have : (y 0).val < a := (y 0).isLt; omega⟩
    | ⟨1, _⟩ => exact ⟨Nat.zero_le _, by show (y 1).val < 0 + b; have : (y 1).val < b := (y 1).isLt; omega⟩
    | ⟨2, _⟩ => exact ⟨Nat.zero_le _, by show (y 2).val < 0 + d; have : (y 2).val < d := (y 2).isLt; omega⟩

theorem canon_all2 {a b : ℕ} {φ : EltTy} (v : Vec Ideal ⟨2, ![a, b]⟩ φ) :
    View.canon (Val := Elt Ideal) (s := ⟨2, ![a, b]⟩) (e := φ) [⟨all2 a b, v⟩] = v := by
  funext y
  refine View.canon_apply_of_pieces v _ (fun p hp => ?_) y ⟨_, List.mem_singleton.mpr rfl, ?_⟩
  · rw [List.mem_singleton] at hp
    subst hp
    intro x
    exact congrArg v (ext2 (by show (x 0).val = 0 + 1 * (x 0).val; omega) (by show (x 1).val = 0 + 1 * (x 1).val; omega))
  · show y ∈ (all2 a b).set
    rw [Rect.mem_set_unit]
    intro k
    match k with
    | ⟨0, _⟩ => exact ⟨Nat.zero_le _, by show (y 0).val < 0 + a; have : (y 0).val < a := (y 0).isLt; omega⟩
    | ⟨1, _⟩ => exact ⟨Nat.zero_le _, by show (y 1).val < 0 + b; have : (y 1).val < b := (y 1).isLt; omega⟩

/-- A column repeated along a row reads the column. -/
theorem column_at {a b : ℕ} (v : (⟨2, ![a, 1]⟩ : Shape).Idx → EReal) (h : (⟨2, ![a, 1]⟩ : Shape).Broadcasts ⟨2, ![a, b]⟩)
    (p : Fin a) (c : Fin b) : broadcastTo ⟨2, ![a, b]⟩ v h (ix2 p c) = v (ix2 p 0) := by
  refine broadcastTo_apply v h (ix2 p c) (ix2 p 0) fun ax => ?_
  match ax with
  | ⟨0, _⟩ =>
    show p.val = if a = 1 then 0 else p.val
    split
    · have := p.isLt; omega
    · rfl
  | ⟨1, _⟩ => rfl

/-- A product into zero, at an index. -/
theorem product_at {m k n : ℕ} {φ : FTy} (d : DotDims ⟨2, ![m, k]⟩ ⟨2, ![k, n]⟩ ⟨2, ![m, n]⟩) (hd : d = DotDims.plain m k n)
    (x : FVec Ideal ⟨2, ![m, k]⟩ φ) (y : FVec Ideal ⟨2, ![k, n]⟩ φ) (r : Fin m) (c : Fin n) :
    matmul d none x y (constant (F := Ideal) ⟨2, ![m, n]⟩ .f32 0x00000000#32) (ix2 r c) = ∑ j : Fin k, x (ix2 r j) * y (ix2 j c) := by
  subst hd
  refine (Ideal.matmul_plain_apply none x y _ r c).trans ?_
  have e : constant (F := Ideal) (⟨2, ![m, n]⟩ : Shape) .f32 0x00000000#32 (ix2 r c) = (0 : EReal) := word_zero
  exact (congrArg (· + _) e).trans (zero_add _)

/-- The mean of the squares of a row of a block. -/
theorem meanSquare_at (v : FVec Ideal S1024x1024 .f32) (r : Fin 1024) :
    divf (shapeCast S1024x1 (multiReduction (F := Ideal) .add [1] S1024 (mulf v v) 0x00000000#32 reduces_S1024x1024_S1024 (.inl rfl) rfl) shapeCasts_S1024_S1024x1)
      (broadcast S1024x1 (Scalar.ofBits (F := Ideal) .f32 0x44800000#32)) (ix2 r 0) = meanSquare fun k => v (ix2 r k) := by
  unfold meanSquare
  rw [ValueIdx.divf_apply]
  refine congrArg (fun a : EReal => Ideal.div a (Ideal.ofBits .f32 0x44800000#32)) ?_
  refine (ValueIdx.shapeCast_a_a1_apply _ shapeCasts_S1024_S1024x1 r 0).trans ?_
  have h : multiReduction (F := Ideal) .add [1] S1024 (mulf v v) 0x00000000#32 reduces_S1024x1024_S1024 (.inl rfl) rfl (ix1 r)
      = ∑ k : Fin 1024, mulf v v (reduces_S1024x1024_S1024.lift (ix1 r) k) :=
    Ideal.multiReduction_add_single (s := S1024x1024) (t := S1024) (a := 1) (φ := .f32) (mulf v v) 0x00000000#32 reduces_S1024x1024_S1024 (.inl rfl) rfl (ix1 r)
  exact h.trans (Finset.sum_congr rfl fun c _ => congrArg (mulf v v) (ext2 rfl rfl))

/-- A run of rows of an array of two axes. -/
theorem ld_rows2 {a b o n : ℕ} (h : o + n ≤ a) {φ : EltTy} (X : Vec Ideal ⟨2, ![a, b]⟩ φ) (r : Fin n) (c : Fin b) :
    (View.ld X (rows2 a b o n h) : Vec Ideal ⟨2, ![n, b]⟩ φ) (ix2 r c) = X (ix2 ⟨o + r.val, by omega⟩ c) :=
  congrArg X (ext2 (by show o + 1 * r.val = o + r.val; omega) (by show 0 + 1 * c.val = c.val; omega))

/-! ## The folded inputs -/

/-- Two runs of columns stored side by side. -/
theorem columns_left (u v : Vec Ideal S1024x256 .bf16) (s : Fin 1024) (k : Fin 256) :
    View.canon (Val := Elt Ideal) (s := S1024x512) (e := .bf16)
      [⟨columns2 1024 512 256 256 (by omega), v⟩, ⟨columns2 1024 512 0 256 (by omega), u⟩] (ix2 s ⟨k.val, by omega⟩) = u (ix2 s k)
    ∧ View.canon (Val := Elt Ideal) (s := S1024x512) (e := .bf16)
      [⟨columns2 1024 512 256 256 (by omega), v⟩, ⟨columns2 1024 512 0 256 (by omega), u⟩] (ix2 s ⟨256 + k.val, by omega⟩) = v (ix2 s k) := by
  have key : ∀ y : S1024x512.Idx, View.canon (Val := Elt Ideal) (s := S1024x512) (e := .bf16)
      [⟨columns2 1024 512 256 256 (by omega), v⟩, ⟨columns2 1024 512 0 256 (by omega), u⟩] y
      = (if h : (y 1).val < 256 then u (ix2 (y 0) ⟨(y 1).val, h⟩)
        else v (ix2 (y 0) ⟨(y 1).val - 256, by have : (y 1).val < 512 := (y 1).isLt; omega⟩) : EReal) := by
    intro y
    have hy0 : (y 0).val < 1024 := (y 0).isLt
    have hy1 : (y 1).val < 512 := (y 1).isLt
    refine View.canon_apply_of_pieces (Val := Elt Ideal) (e := .bf16) (fun y : S1024x512.Idx => (if h : (y 1).val < 256 then u (ix2 (y 0) ⟨(y 1).val, h⟩)
        else v (ix2 (y 0) ⟨(y 1).val - 256, by have : (y 1).val < 512 := (y 1).isLt; omega⟩) : EReal)) _ ?_ y ?_
    · intro p hp
      simp only [List.mem_cons, List.not_mem_nil, or_false] at hp
      rcases hp with rfl | rfl
      · intro x
        have hx : (x 1).val < 256 := (x 1).isLt
        have e1 : ((columns2 1024 512 256 256 (by omega)).emb x 1).val = 256 + (x 1).val := by
          show 256 + 1 * (x 1).val = 256 + (x 1).val; omega
        dsimp only
        rw [dif_neg (by rw [e1]; omega)]
        exact congrArg v (ext2 (by show (x 0).val = 0 + 1 * (x 0).val; omega) (by show (x 1).val = 256 + 1 * (x 1).val - 256; omega))
      · intro x
        have hx : (x 1).val < 256 := (x 1).isLt
        have e1 : ((columns2 1024 512 0 256 (by omega)).emb x 1).val = (x 1).val := by
          show 0 + 1 * (x 1).val = (x 1).val; omega
        dsimp only
        rw [dif_pos (by rw [e1]; omega)]
        exact congrArg u (ext2 (by show (x 0).val = 0 + 1 * (x 0).val; omega) (by show (x 1).val = 0 + 1 * (x 1).val; omega))
    · by_cases h : (y 1).val < 256
      · refine ⟨_, List.mem_cons_of_mem _ (List.mem_singleton.mpr rfl), ?_⟩
        show y ∈ (columns2 1024 512 0 256 (by omega)).set
        rw [Rect.mem_set_unit]
        intro a
        match a with
        | ⟨0, _⟩ => exact ⟨Nat.zero_le _, by show (y 0).val < 0 + 1024; omega⟩
        | ⟨1, _⟩ => exact ⟨Nat.zero_le _, by show (y 1).val < 0 + 256; omega⟩
      · refine ⟨_, List.mem_cons_self, ?_⟩
        show y ∈ (columns2 1024 512 256 256 (by omega)).set
        rw [Rect.mem_set_unit]
        intro a
        match a with
        | ⟨0, _⟩ => exact ⟨Nat.zero_le _, by show (y 0).val < 0 + 1024; omega⟩
        | ⟨1, _⟩ => exact ⟨by show 256 ≤ (y 1).val; omega, by show (y 1).val < 256 + 256; omega⟩
  refine ⟨(key _).trans (dif_pos k.isLt), (key _).trans ((dif_neg (by show ¬256 + k.val < 256; omega)).trans ?_)⟩
  exact congrArg v (ext2 rfl (by show 256 + k.val - 256 = k.val; omega))

section

variable (X4 : Vec Ideal S1x2048x512 .bf16) (X8 X9 : Vec Ideal S1024x256 .f32)

/-- A half of the spectral input. -/
theorem half_at (j : Fin 2) (s : Fin 1024) (k : Fin 512) :
    shapeCast S1024x512 (View.ld X4 (halfRect j) : Vec Ideal S1x1024x512 .bf16) shapeCasts_S1x1024x512_S1024x512 (ix2 s k)
      = X4 (ix3 0 ⟨1024 * j.val + s.val, by omega⟩ k) := by
  refine (ValueIdx.shapeCast_1ab_ab_apply (View.ld X4 (halfRect j) : Vec Ideal S1x1024x512 .bf16) shapeCasts_S1x1024x512_S1024x512 s k).trans ?_
  exact congrArg X4 (ext3 (by show 0 + 1 * 0 = 0; omega) (by show 1024 * j.val + 1 * s.val = 1024 * j.val + s.val; omega)
    (by show 0 + 1 * k.val = k.val; omega))

/-- A run of columns of an array of two axes. -/
theorem slice_at {a b n : ℕ} (P : (⟨2, ![a, b]⟩ : Shape).Idx → EReal) (o : ℕ) (h : (⟨2, ![a, b]⟩ : Shape).Slices ![0, o] ⟨2, ![a, n]⟩)
    (r : Fin a) (k : Fin n) (hk : o + k.val < b) :
    extractStridedSlice ⟨2, ![a, n]⟩ ![0, o] P h (ix2 r k) = P (ix2 r ⟨o + k.val, hk⟩) :=
  extractStridedSlice_apply _ _ h (ix2 r k) (ix2 r ⟨o + k.val, hk⟩) (fun a => match a with
    | ⟨0, _⟩ => by show r.val = 0 + r.val; omega
    | ⟨1, _⟩ => rfl)

/-- The halves' difference, in the first channels and in the last. -/
theorem diff_at (s : Fin 1024) (k : Fin 256) :
    k0_pay5 (View.ld X4 (halfRect 0)) (View.ld X4 (halfRect 1)) (ix2 s k)
      = (X4 (ix3 0 ⟨s.val, by omega⟩ ⟨k.val, by omega⟩) - X4 (ix3 0 ⟨1024 + s.val, by omega⟩ ⟨k.val, by omega⟩) : EReal)
    ∧ k0_pay6 (View.ld X4 (halfRect 0)) (View.ld X4 (halfRect 1)) (ix2 s k)
      = (X4 (ix3 0 ⟨s.val, by omega⟩ ⟨256 + k.val, by omega⟩) - X4 (ix3 0 ⟨1024 + s.val, by omega⟩ ⟨256 + k.val, by omega⟩) : EReal) := by
  constructor
  · unfold k0_pay5
    refine (slice_at _ 0 slices_S1024x512_o0_0_S1024x256 s k (by omega)).trans ?_
    refine (congrArg₂ (fun x y : EReal => x - y) (half_at X4 0 s _) (half_at X4 1 s _)).trans ?_
    exact congrArg₂ (fun x y : EReal => x - y)
      (congrArg X4 (ext3 rfl (by show 1024 * 0 + s.val = s.val; omega) (by show 0 + k.val = k.val; omega)))
      (congrArg X4 (ext3 rfl (by show 1024 * 1 + s.val = 1024 + s.val; omega) (by show 0 + k.val = k.val; omega)))
  · unfold k0_pay6
    refine (slice_at _ 256 slices_S1024x512_o0_256_S1024x256 s k (by omega)).trans ?_
    refine (congrArg₂ (fun x y : EReal => x - y) (half_at X4 0 s _) (half_at X4 1 s _)).trans ?_
    exact congrArg₂ (fun x y : EReal => x - y)
      (congrArg X4 (ext3 rfl (by show 1024 * 0 + s.val = s.val; omega) rfl))
      (congrArg X4 (ext3 rfl (by show 1024 * 1 + s.val = 1024 + s.val; omega) rfl))

/-- The halves' sum. -/
theorem sum_at (s : Fin 1024) (k : Fin 512) :
    k0_pay3 (View.ld X4 (halfRect 0)) (View.ld X4 (halfRect 1)) (ix2 s k)
      = (X4 (ix3 0 ⟨s.val, by omega⟩ k) + X4 (ix3 0 ⟨1024 + s.val, by omega⟩ k) : EReal) := by
  refine (congrArg₂ (fun x y : EReal => x + y) (half_at X4 0 s k) (half_at X4 1 s k)).trans ?_
  exact congrArg₂ (fun x y : EReal => x + y)
    (congrArg X4 (ext3 rfl (by show 1024 * 0 + s.val = s.val; omega) rfl))
    (congrArg X4 (ext3 rfl (by show 1024 * 1 + s.val = 1024 + s.val; omega) rfl))

theorem cos_left (s : Fin 1024) (k : Fin 256) : View.canon (cosPieces X4 X8 X9) (ix2 s ⟨k.val, by omega⟩)
    = (X4 (ix3 0 ⟨s.val, by omega⟩ ⟨k.val, by omega⟩) + X4 (ix3 0 ⟨1024 + s.val, by omega⟩ ⟨k.val, by omega⟩) : EReal) := by
  unfold cosPieces
  refine (columns_left _ _ s k).1.trans ?_
  unfold k0_pay9
  rw [shapeCast_self]
  refine (slice_at _ 0 slices_S1024x512_o0_0_S1024x256 s k (by omega)).trans ((sum_at X4 s _).trans ?_)
  exact congrArg₂ (fun x y : EReal => x + y) (congrArg X4 (ext3 rfl rfl (by show 0 + k.val = k.val; omega)))
    (congrArg X4 (ext3 rfl rfl (by show 0 + k.val = k.val; omega)))

theorem sin_left (s : Fin 1024) (k : Fin 256) : View.canon (sinPieces X4 X8 X9) (ix2 s ⟨k.val, by omega⟩)
    = (X4 (ix3 0 ⟨s.val, by omega⟩ ⟨256 + k.val, by omega⟩) + X4 (ix3 0 ⟨1024 + s.val, by omega⟩ ⟨256 + k.val, by omega⟩) : EReal) := by
  unfold sinPieces
  refine (columns_left _ _ s k).1.trans ?_
  unfold k0_pay11
  rw [shapeCast_self]
  exact (slice_at _ 256 slices_S1024x512_o0_256_S1024x256 s k (by omega)).trans (sum_at X4 s _)

theorem cos_right (s : Fin 1024) (k : Fin 256) : View.canon (cosPieces X4 X8 X9) (ix2 s ⟨256 + k.val, by omega⟩)
    = (X8 (ix2 s k) * (X4 (ix3 0 ⟨s.val, by omega⟩ ⟨k.val, by omega⟩) - X4 (ix3 0 ⟨1024 + s.val, by omega⟩ ⟨k.val, by omega⟩))
      - X9 (ix2 s k) * (X4 (ix3 0 ⟨s.val, by omega⟩ ⟨256 + k.val, by omega⟩) - X4 (ix3 0 ⟨1024 + s.val, by omega⟩ ⟨256 + k.val, by omega⟩)) : EReal) := by
  unfold cosPieces
  refine (columns_left _ _ s k).2.trans ?_
  unfold k0_pay10 k0_pay7 k0_pay8
  rw [shapeCast_self, shapeCast_self, shapeCast_self, ld_all2, ld_all2]
  exact congrArg₂ (fun x y : EReal => x - y) (congrArg (fun x : EReal => X8 (ix2 s k) * x) (diff_at X4 s k).1)
    (congrArg (fun x : EReal => X9 (ix2 s k) * x) (diff_at X4 s k).2)

theorem sin_right (s : Fin 1024) (k : Fin 256) : View.canon (sinPieces X4 X8 X9) (ix2 s ⟨256 + k.val, by omega⟩)
    = (X9 (ix2 s k) * (X4 (ix3 0 ⟨s.val, by omega⟩ ⟨k.val, by omega⟩) - X4 (ix3 0 ⟨1024 + s.val, by omega⟩ ⟨k.val, by omega⟩))
      + X8 (ix2 s k) * (X4 (ix3 0 ⟨s.val, by omega⟩ ⟨256 + k.val, by omega⟩) - X4 (ix3 0 ⟨1024 + s.val, by omega⟩ ⟨256 + k.val, by omega⟩)) : EReal) := by
  unfold sinPieces
  refine (columns_left _ _ s k).2.trans ?_
  unfold k0_pay12 k0_pay7 k0_pay8
  rw [shapeCast_self, shapeCast_self, shapeCast_self, ld_all2, ld_all2]
  exact congrArg₂ (fun x y : EReal => x + y) (congrArg (fun x : EReal => X9 (ix2 s k) * x) (diff_at X4 s k).1)
    (congrArg (fun x : EReal => X8 (ix2 s k) * x) (diff_at X4 s k).2)

end

/-- The kept weights are the weights' block. -/
theorem weights_at (X12 : Vec Ideal S1x1024x1024 .f32) (k e : Fin 1024) :
    View.canon (weightPieces X12) (ix2 k e) = X12 (ix3 0 k e) := by
  unfold weightPieces
  refine (congrFun (canon_all2 (a := 1024) (b := 1024) (φ := .bf16) _) (ix2 k e)).trans ?_
  unfold k0_pay13
  rw [ld_all3, shapeCast_self]
  exact ValueIdx.shapeCast_1ab_ab_apply X12 shapeCasts_S1x1024x1024_S1024x1024 k e

/-! ## The Fourier branch's rows -/

section

variable (i : grid0.Coords) (X6 X7 : Vec Ideal S1024x1024 .bf16) (X10 : Vec Ideal S256x256 .bf16) (C S : Vec Ideal S1024x512 .bf16)

/-- The tables' row of a tile's row. -/
abbrev tableRow (r : Fin 512) : Fin 1024 := ⟨512 * (i 1).val + r.val, by have : (i 1).val < 2 := (i 1).isLt; omega⟩

theorem tableRows_at (X : Vec Ideal S1024x1024 .bf16) (r : Fin 512) (n : Fin 1024) :
    (View.ld X (tableRect i) : Vec Ideal S512x1024 .bf16) (ix2 r n) = X (ix2 (tableRow i r) n) := by
  refine congrArg X (ext2 ?_ ?_)
  · show (k0_off1 i) 0 + 1 * r.val = 512 * (i 1).val + r.val
    rw [k0_off1_eq]
    show 512 * (i 1).val + 1 * r.val = 512 * (i 1).val + r.val
    omega
  · show (k0_off1 i) 1 + 1 * n.val = n.val
    rw [k0_off1_eq]
    show 0 + 1 * n.val = n.val
    omega

/-- A transformed channel, from the folded inputs. -/
def folded (r : Fin 512) (k : Fin 512) : EReal :=
  (∑ n : Fin 1024, X6 (ix2 (tableRow i r) n) * C (ix2 n k)) - ∑ n : Fin 1024, X7 (ix2 (tableRow i r) n) * S (ix2 n k)

theorem spectrum_at (r k : Fin 512) : spectrum i X6 X7 C S (ix2 r k) = folded i X6 X7 C S r k := by
  unfold spectrum k0_pay14 folded
  rw [ld_all2, ld_all2, shapeCast_self, shapeCast_self]
  refine congrArg₂ (fun x y : EReal => x - y) ((product_at _ rfl _ _ r k).trans ?_) ((product_at _ rfl _ _ r k).trans ?_)
  · exact Finset.sum_congr rfl fun n _ => congrArg (fun x : EReal => x * C (ix2 n k)) (tableRows_at i X6 r n)
  · exact Finset.sum_congr rfl fun n _ => congrArg (fun x : EReal => x * S (ix2 n k)) (tableRows_at i X7 r n)

/-- A row of the Fourier branch before its bias: row `2 r + p` of the tile. -/
def branch (r : Fin 512) (p : Fin 2) (d : Fin 256) : EReal :=
  ∑ k : Fin 256, folded i X6 X7 C S r ⟨256 * p.val + k.val, by omega⟩ * X10 (ix2 k d)

/-- A lane tile of the product of a half of the transform with the branch's weights. -/
theorem lane_at (p l : Fin 2) (o o' : ℕ) (ho : o = 256 * p.val) (ho' : o' = 128 * l.val) (h : S512x512.Slices ![0, o] S512x256) (h' : S512x256.Slices ![0, o'] S512x128)
    (r : Fin 512) (d : Fin 128) :
    shapeCast S1x512x128 (extractStridedSlice S512x128 ![0, o'] (matmul (F := Ideal) (φ₁ := .bf16) (φ₂ := .bf16) dot_S512x256_S256x256_S512x256_1_0_0_1_n_n none
      (extractStridedSlice S512x256 ![0, o] (spectrum i X6 X7 C S) h) (shapeCast S256x256 (X10 : FVec Ideal S256x256 .bf16) shapeCasts_S256x256_S256x256)
      (constant S512x256 .f32 0x00000000#32) : FVec Ideal S512x256 .f32) h') shapeCasts_S512x128_S1x512x128 (ix3 0 r d)
      = branch i X6 X7 X10 C S r p ⟨128 * l.val + d.val, by omega⟩ := by
  subst ho ho'
  refine (ValueIdx.shapeCast_ab_1ab_apply _ _ 0 r d).trans ((slice_at _ _ h' r d (by omega)).trans ?_)
  rw [shapeCast_self]
  unfold branch
  refine (product_at _ rfl _ _ r _).trans (Finset.sum_congr rfl fun k _ => congrArg (fun x : EReal => x * X10 (ix2 k _)) ?_)
  exact (slice_at _ _ h r k (by omega)).trans (spectrum_at i X6 X7 C S r _)

/-- A stored lane tile agrees with the branch's rows at the places it is stored to. -/
theorem piece_at (l p : Fin 2) (v : Vec Ideal S1x512x128 .f32)
    (hv : ∀ r d, v (ix3 0 r d) = branch i X6 X7 X10 C S r p ⟨128 * l.val + d.val, by omega⟩) (x : S1x512x128.Idx) :
    v x = branch i X6 X7 X10 C S
      ⟨((stridedRect l p).emb x 1).val / 2, by have : ((stridedRect l p).emb x 1).val < 1024 := ((stridedRect l p).emb x 1).isLt; omega⟩
      ⟨((stridedRect l p).emb x 1).val % 2, by omega⟩
      ⟨128 * ((stridedRect l p).emb x 0).val + ((stridedRect l p).emb x 2).val, by
        have : ((stridedRect l p).emb x 0).val < 2 := ((stridedRect l p).emb x 0).isLt
        have : ((stridedRect l p).emb x 2).val < 128 := ((stridedRect l p).emb x 2).isLt
        omega⟩ := by
  have hx0 : (x 0).val < 1 := (x 0).isLt
  have hx1 : (x 1).val < 512 := (x 1).isLt
  have hx2 : (x 2).val < 128 := (x 2).isLt
  have e0 : ((stridedRect l p).emb x 0).val = l.val := by show l.val + 1 * (x 0).val = l.val; omega
  have e1 : ((stridedRect l p).emb x 1).val = p.val + 2 * (x 1).val := rfl
  have e2 : ((stridedRect l p).emb x 2).val = (x 2).val := by show 0 + 1 * (x 2).val = (x 2).val; omega
  have hx : x = ix3 0 ⟨(x 1).val, hx1⟩ ⟨(x 2).val, hx2⟩ := ext3 (by show (x 0).val = 0; omega) rfl rfl
  refine (congrArg v hx).trans ((hv _ _).trans ?_)
  congr 1
  · exact Fin.ext (by show (x 1).val = ((stridedRect l p).emb x 1).val / 2; omega)
  · exact Fin.ext (by show p.val = ((stridedRect l p).emb x 1).val % 2; omega)
  · exact Fin.ext (by show 128 * l.val + (x 2).val = 128 * ((stridedRect l p).emb x 0).val + ((stridedRect l p).emb x 2).val; omega)

/-- The interleaved rows. -/
theorem rows_at (l : Fin 2) (r : Fin 1024) (d : Fin 128) :
    View.canon (rowPieces i X6 X7 X10 C S) (ix3 l r d)
      = branch i X6 X7 X10 C S ⟨r.val / 2, by omega⟩ ⟨r.val % 2, by omega⟩ ⟨128 * l.val + d.val, by omega⟩ := by
  refine View.canon_apply_of_pieces (Val := Elt Ideal) (e := .f32) (fun y : S2x1024x128.Idx => branch i X6 X7 X10 C S
      ⟨(y 1).val / 2, by have : (y 1).val < 1024 := (y 1).isLt; omega⟩ ⟨(y 1).val % 2, by omega⟩
      ⟨128 * (y 0).val + (y 2).val, by
        have : (y 0).val < 2 := (y 0).isLt
        have : (y 2).val < 128 := (y 2).isLt
        omega⟩) _ ?_ (ix3 l r d) ?_
  · intro q hq
    unfold rowPieces at hq
    simp only [List.mem_cons, List.not_mem_nil, or_false] at hq
    rw [ld_all2] at hq
    rcases hq with rfl | rfl | rfl | rfl
    · exact piece_at i X6 X7 X10 C S 1 1 _ (lane_at i X6 X7 X10 C S 1 1 256 128 rfl rfl slices_S512x512_o0_256_S512x256 slices_S512x256_o0_128_S512x128)
    · exact piece_at i X6 X7 X10 C S 0 1 _ (lane_at i X6 X7 X10 C S 1 0 256 0 rfl rfl slices_S512x512_o0_256_S512x256 slices_S512x256_o0_0_S512x128)
    · exact piece_at i X6 X7 X10 C S 1 0 _ (lane_at i X6 X7 X10 C S 0 1 0 128 rfl rfl slices_S512x512_o0_0_S512x256 slices_S512x256_o0_128_S512x128)
    · exact piece_at i X6 X7 X10 C S 0 0 _ (lane_at i X6 X7 X10 C S 0 0 0 0 rfl rfl slices_S512x512_o0_0_S512x256 slices_S512x256_o0_0_S512x128)
  · have cover : ∀ l p : Fin 2, ∃ q ∈ rowPieces i X6 X7 X10 C S, q.1 = stridedRect l p := by
      intro l p
      unfold rowPieces
      match l, p with
      | 0, 0 => simp
      | 0, 1 => simp
      | 1, 0 => simp
      | 1, 1 => simp
    obtain ⟨q, hq, e⟩ := cover l ⟨r.val % 2, by omega⟩
    refine ⟨q, hq, ?_⟩
    rw [e, LoadRect.mem_set]
    intro a
    match a with
    | ⟨0, _⟩ => exact ⟨0, by show 0 < 1; omega, by show l.val = l.val + 1 * 0; omega⟩
    | ⟨1, _⟩ => exact ⟨r.val / 2, by show r.val / 2 < 512; omega, by show r.val = r.val % 2 + 2 * (r.val / 2); omega⟩
    | ⟨2, _⟩ => exact ⟨d.val, by show d.val < 128; omega, by show d.val = 0 + 1 * d.val; omega⟩

end

/-! ## The block stored -/

section

variable (R : Vec Ideal S2x1024x128 .f32) (X0 : Vec Ideal S1x1024x1024 .f32) (X1 : Vec Ideal S1x1024x512 .bf16) (X2 X3 X5 : Vec Ideal S1x1024x256 .bf16)
  (X11 : Vec Ideal S1x256 .f32) (X13 : Vec Ideal S1x1x1024 .f32) (X14 : Vec Ideal S1x1024 .f32) (W : Vec Ideal S1024x1024 .bf16)

theorem laneRows_at (l : Fin 2) (r : Fin 1024) (d : Fin 128) :
    shapeCast S1024x128 (View.ld R (laneRect l) : Vec Ideal S1x1024x128 .f32) shapeCasts_S1x1024x128_S1024x128 (ix2 r d) = R (ix3 l r d) := by
  refine (ValueIdx.shapeCast_1ab_ab_apply (View.ld R (laneRect l) : Vec Ideal S1x1024x128 .f32) shapeCasts_S1x1024x128_S1024x128 r d).trans ?_
  exact congrArg R (ext3 (by show l.val + 1 * 0 = l.val; omega) (by show 0 + 1 * r.val = r.val; omega) (by show 0 + 1 * d.val = d.val; omega))

/-- The gated Fourier branch of a row, from the interleaved rows. -/
theorem fourier_at (f : Fin 1024 → Fin 256 → EReal) (hR : ∀ (l : Fin 2) r (d : Fin 128), R (ix3 l r d) = f r ⟨128 * l.val + d.val, by omega⟩)
    (r : Fin 1024) (d : Fin 256) :
    k0_pay22 (View.ld R (laneRect 0)) (View.ld R (laneRect 1)) (View.ld X11 (all2 1 256)) (View.ld X5 (all3 1 1024 256)) (ix2 r d)
      = ((f r d + X11 (ix2 0 d)) * X5 (ix3 0 r d) : EReal) := by
  unfold k0_pay22
  rw [ld_all2, ld_all3, shapeCast_self]
  refine congrArg₂ (fun a b : EReal => a * b) (congrArg₂ (fun a b : EReal => a + b) ?_ ?_) ?_
  · by_cases h : d.val < 128
    · refine (concatenate_pair_apply_left (1 : Fin S1024x256.rank) (shapeCast S1024x128 (View.ld R (laneRect 0) : Vec Ideal S1x1024x128 .f32) shapeCasts_S1x1024x128_S1024x128)
        (shapeCast S1024x128 (View.ld R (laneRect 1) : Vec Ideal S1x1024x128 .f32) shapeCasts_S1x1024x128_S1024x128) concatenates_S1024x128_S1024x128_S1024x256_d1 (ix2 r d) rfl (ix2 r ⟨d.val, h⟩) (fun b => match b with
        | ⟨0, _⟩ => rfl
        | ⟨1, _⟩ => rfl)).trans ?_
      refine (laneRows_at R 0 r _).trans ((hR 0 r _).trans (congrArg (f r) (Fin.ext ?_)))
      show 128 * 0 + d.val = d.val
      omega
    · refine (concatenate_pair_apply_right (1 : Fin S1024x256.rank) (shapeCast S1024x128 (View.ld R (laneRect 0) : Vec Ideal S1x1024x128 .f32) shapeCasts_S1x1024x128_S1024x128)
        (shapeCast S1024x128 (View.ld R (laneRect 1) : Vec Ideal S1x1024x128 .f32) shapeCasts_S1x1024x128_S1024x128) concatenates_S1024x128_S1024x128_S1024x256_d1 (ix2 r d) rfl rfl (ix2 r ⟨d.val - 128, by omega⟩) (fun b hb => match b, hb with
        | ⟨0, _⟩, _ => rfl
        | ⟨1, _⟩, hb => absurd rfl hb) (by show d.val - 128 + 128 = d.val; omega)).trans ?_
      refine (laneRows_at R 1 r _).trans ((hR 1 r _).trans (congrArg (f r) (Fin.ext ?_)))
      show 128 * 1 + (d.val - 128) = d.val
      omega
  · exact ValueIdx.broadcastTo_1b_ab_apply X11 _ r d
  · exact ValueIdx.shapeCast_1ab_ab_apply X5 shapeCasts_S1x1024x256_S1024x256 r d

/-- Attention's channels and the gated convolution's, side by side. -/
theorem joined_at (cg : FVec Ideal S1024x256 .bf16) (r : Fin 1024) (q : Fin 768) :
    concatenate S1024x768 1 [⟨S1024x512, shapeCast S1024x512 X1 shapeCasts_S1x1024x512_S1024x512⟩, ⟨S1024x256, cg⟩] concatenates_S1024x512_S1024x256_S1024x768_d1 (ix2 r q)
      = (if h : q.val < 512 then X1 (ix3 0 r ⟨q.val, h⟩) else cg (ix2 r ⟨q.val - 512, by omega⟩) : EReal) := by
  by_cases h : q.val < 512
  · rw [dif_pos h]
    refine (concatenate_pair_apply_left (1 : Fin S1024x768.rank) (shapeCast S1024x512 X1 shapeCasts_S1x1024x512_S1024x512) cg
      concatenates_S1024x512_S1024x256_S1024x768_d1 (ix2 r q) rfl (ix2 r ⟨q.val, h⟩) (fun b => match b with
      | ⟨0, _⟩ => rfl
      | ⟨1, _⟩ => rfl)).trans ?_
    exact ValueIdx.shapeCast_1ab_ab_apply X1 shapeCasts_S1x1024x512_S1024x512 r _
  · rw [dif_neg h]
    exact concatenate_pair_apply_right (1 : Fin S1024x768.rank) (shapeCast S1024x512 X1 shapeCasts_S1x1024x512_S1024x512) cg
      concatenates_S1024x512_S1024x256_S1024x768_d1 (ix2 r q) rfl rfl (ix2 r ⟨q.val - 512, by omega⟩) (fun b hb => match b, hb with
      | ⟨0, _⟩, _ => rfl
      | ⟨1, _⟩, hb => absurd rfl hb) (by show q.val - 512 + 512 = q.val; omega)

/-- A row divided by the root of its mean square and scaled. -/
theorem normed_at (O : FVec Ideal S1024x1024 .f32) (X14 : Vec Ideal S1x1024 .f32) (r e : Fin 1024) (o : Fin 1024 → EReal) (hO : ∀ k, O (ix2 r k) = o k) :
    mulf (F := Ideal) (mulf O (broadcastTo S1024x1024 (rsqrt (addf
      (divf (shapeCast S1024x1 (multiReduction (F := Ideal) .add [1] S1024 (mulf O O) 0x00000000#32 reduces_S1024x1024_S1024 (.inl rfl) rfl) shapeCasts_S1024_S1024x1)
        (broadcast S1024x1 (Scalar.ofBits (F := Ideal) .f32 0x44800000#32)))
      (broadcast S1024x1 (Scalar.ofBits (F := Ideal) .f32 0x358637BD#32)))) broadcasts_S1024x1_S1024x1024))
      (broadcastTo S1024x1024 X14 broadcasts_S1x1024_S1024x1024) (ix2 r e)
      = normed o (fun k => X14 (ix2 0 k)) e := by
  unfold normed
  refine congrArg₂ (fun a b : EReal => a * b) (congrArg₂ (fun a b : EReal => a * b) (hO e) ?_) ?_
  · refine (column_at _ _ r e).trans (congrArg Ideal.rsqrt (congrArg (fun a : EReal => a + _) ?_))
    exact (meanSquare_at O r).trans (congrArg meanSquare (funext hO))
  · exact ValueIdx.broadcastTo_1b_ab_apply X14 _ r e

/-- A row of the block stored. -/
theorem out_at (f : Fin 1024 → Fin 256 → EReal) (hR : ∀ (l : Fin 2) r (d : Fin 128), R (ix3 l r d) = f r ⟨128 * l.val + d.val, by omega⟩)
    (r e : Fin 1024) :
    View.canon (outPieces X0 X1 X2 X3 X5 X11 X13 X14 R W) (ix3 0 r e)
      = normed (mixed (fun k => X0 (ix3 0 r k))
          (channels (fun q => X1 (ix3 0 r q)) (fun q => X2 (ix3 0 r q)) (fun q => X3 (ix3 0 r q)) (fun d => (f r d + X11 (ix2 0 d)) * X5 (ix3 0 r d)))
          (fun k => X13 (ix3 0 0 k)) (fun k e => W (ix2 k e))) (fun k => X14 (ix2 0 k)) e := by
  unfold outPieces
  refine (congrFun (canon_all3 (a := 1) (b := 1024) (d := 1024) (φ := .f32) _) (ix3 0 r e)).trans ?_
  have hz := fourier_at R X5 X11 f hR r
  generalize k0_pay22 (View.ld R (laneRect 0)) (View.ld R (laneRect 1)) (View.ld X11 (all2 1 256)) (View.ld X5 (all3 1 1024 256)) = Z at hz ⊢
  unfold k0_pay24 k0_pay23
  rw [ld_all3, ld_all3, ld_all3, ld_all3, ld_all3, ld_all2]
  refine (ValueIdx.shapeCast_ab_1ab_apply _ _ 0 r e).trans ?_
  rw [shapeCast_self]
  have hO : ∀ k : Fin 1024, addf (shapeCast S1024x1024 X0 shapeCasts_S1x1024x1024_S1024x1024)
      (mulf (broadcastTo S1024x1024 (shapeCast S1x1024 X13 shapeCasts_S1x1x1024_S1x1024) broadcasts_S1x1024_S1024x1024)
        (addf (matmul (F := Ideal) (φ₁ := .bf16) (φ₂ := .bf16) dot_S1024x768_S768x1024_S1024x1024_1_0_0_1_n_n none
            (concatenate S1024x768 1 [⟨S1024x512, shapeCast S1024x512 X1 shapeCasts_S1x1024x512_S1024x512⟩,
              ⟨S1024x256, mulf (F := Ideal) (shapeCast S1024x256 X2 shapeCasts_S1x1024x256_S1024x256) (shapeCast S1024x256 X3 shapeCasts_S1x1024x256_S1024x256)⟩] concatenates_S1024x512_S1024x256_S1024x768_d1)
            (View.ld W (rows2 1024 1024 0 768 (by omega))) (constant S1024x1024 .f32 0x00000000#32))
          (matmul (F := Ideal) (φ₁ := .bf16) (φ₂ := .bf16) dot_S1024x256_S256x1024_S1024x1024_1_0_0_1_n_n none Z (View.ld W (rows2 1024 1024 768 256 (by omega))) (constant S1024x1024 .f32 0x00000000#32)))) (ix2 r k)
      = mixed (fun k => X0 (ix3 0 r k))
          (channels (fun q => X1 (ix3 0 r q)) (fun q => X2 (ix3 0 r q)) (fun q => X3 (ix3 0 r q)) (fun d => (f r d + X11 (ix2 0 d)) * X5 (ix3 0 r d)))
          (fun k => X13 (ix3 0 0 k)) (fun k e => W (ix2 k e)) k := by
    intro k
    unfold mixed
    refine congrArg₂ (fun a b : EReal => a + b) (ValueIdx.shapeCast_1ab_ab_apply X0 shapeCasts_S1x1024x1024_S1024x1024 r k)
      (congrArg₂ (fun a b : EReal => a * b) ?_ ?_)
    · exact (ValueIdx.broadcastTo_1b_ab_apply _ _ r k).trans (ValueIdx.shapeCast_1ab_ab_apply X13 shapeCasts_S1x1x1024_S1x1024 0 k)
    · rw [sum_channels]
      refine congrArg₂ (fun a b : EReal => a + b) ((product_at _ rfl _ _ r k).trans ?_) ((product_at _ rfl _ _ r k).trans ?_)
      · refine Finset.sum_congr rfl fun q _ => congrArg₂ (fun a b : EReal => a * b) ?_ ?_
        · refine (joined_at X1 _ r q).trans ?_
          unfold channels
          by_cases h : q.val < 512
          · rw [dif_pos h, dif_pos h]
          · rw [dif_neg h, dif_neg h, dif_pos q.isLt]
            exact congrArg₂ (fun a b : EReal => a * b) (ValueIdx.shapeCast_1ab_ab_apply X2 shapeCasts_S1x1024x256_S1024x256 r _)
              (ValueIdx.shapeCast_1ab_ab_apply X3 shapeCasts_S1x1024x256_S1024x256 r _)
        · exact (ld_rows2 _ W q k).trans (congrArg W (ext2 (by show 0 + q.val = q.val; omega) rfl))
      · refine Finset.sum_congr rfl fun q _ => congrArg₂ (fun a b : EReal => a * b) ?_ (ld_rows2 _ W q k)
        refine (hz q).trans ?_
        unfold channels
        rw [dif_neg (by show ¬768 + q.val < 512; omega), dif_neg (by show ¬768 + q.val < 768; omega)]
        have hq : (⟨768 + q.val - 768, by omega⟩ : Fin 256) = q := Fin.ext (by show 768 + q.val - 768 = q.val; omega)
        dsimp only
        rw [hq]
  exact normed_at _ X14 r e _ hO

end

end Cert.Kernel3Ideal.OutProj

end
-- ==== Proof.OutProj.BlocksAt.lean ====
/- What the output projection finds in its blocks at a grid point: the rows, the tables the host cuts out, the weights and the
   gate the point works on. -/
module

public import proofs.«01_k».proof.Proof.OutProj.KernelPoint
public import proofs.«01_k».proof.Proof.Gen.Kernel3Ideal.Frame.Runs
public import Idealize.ShloMosaic.Lib.Claim
public import Idealize.ShloMosaic.Lib.ValueLayout
public import Idealize.ShloMosaic.Lib.StableHlo.ReadAt
public import Idealize.ShloMosaic.Lib.Pipeline.ValueKit

@[expose] public section

set_option maxRecDepth 16384

noncomputable section

namespace Cert.Kernel3Ideal.OutProj

open Cert.Kernel3Ideal Cert.Kernel3Ideal.Gen Cert.InProj Cert.OutProj Idealize.ShloMosaic Idealize.ShloMosaic.TcCoe Idealize.ShloMosaic.Pipeline

theorem index0 : ∀ t : Fin cfg0.N, win0_0.index t = ![t.val / 2, t.val % 2, 0] := (by decide +kernel : ∀ t : Fin grid0.N, _)
theorem index1 : ∀ t : Fin cfg0.N, win0_1.index t = ![t.val / 2, t.val % 2, 0] := (by decide +kernel : ∀ t : Fin grid0.N, _)
theorem index2 : ∀ t : Fin cfg0.N, win0_2.index t = ![t.val / 2, t.val % 2, 0] := (by decide +kernel : ∀ t : Fin grid0.N, _)
theorem index3 : ∀ t : Fin cfg0.N, win0_3.index t = ![t.val / 2, t.val % 2, 0] := (by decide +kernel : ∀ t : Fin grid0.N, _)
theorem index4 : ∀ t : Fin cfg0.N, win0_4.index t = ![t.val / 2, 0, 0] := (by decide +kernel : ∀ t : Fin grid0.N, _)
theorem index5 : ∀ t : Fin cfg0.N, win0_5.index t = ![t.val / 2, t.val % 2, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![1, 0, 0] := (by decide +kernel : ∀ t : Fin grid0.N, _)
theorem index13 : ∀ t : Fin cfg0.N, win0_13.index t = ![t.val / 2, 0, 2] := (by decide +kernel : ∀ t : Fin grid0.N, _)
theorem index14 : ∀ t : Fin cfg0.N, win0_14.index t = ![0, 0] := (by decide +kernel : ∀ t : Fin grid0.N, _)
theorem tile_coord : ∀ t : Fin cfg0.N, (grid0.coords t 1).val = t.val % 2 := (by decide +kernel : ∀ t : Fin grid0.N, _)

/-- The sequence a grid point works on, and the position of row `r` of its block. -/
def batch (t : Fin cfg0.N) : Fin 8 := ⟨t.val / 2, by have := t.isLt; have h : cfg0.N = 16 := N_0; omega⟩
def position (t : Fin cfg0.N) (r : Fin 1024) : Fin 2048 := ⟨1024 * (t.val % 2) + r.val, by omega⟩

variable (m : (ℓ : Loc nD τ sig) → Buf (Elt Ideal) ℓ) (c : Dev nD)

/-! ## What the host lays out -/

/-- The even rows of a table, its first half of columns. -/
theorem evenRows_at (T : (⟨2, ![2048, 2048]⟩ : Shape).Idx → EReal) (n s : Fin 1024) :
    Host.slice S1024x1024 ![0, 0] ![2, 1] T slicesBy_S2048x2048_S1024x1024_0s2_0s1 (ix2 n s) = T (ix2 ⟨2 * n.val, by omega⟩ ⟨s.val, by omega⟩) :=
  congrArg T (ext2 (by show 0 + 2 * n.val = 2 * n.val; omega) (by show 0 + 1 * s.val = s.val; omega))

/-- The first row of angles, down a column and repeated along the lanes. -/
theorem turn_at (T : (⟨2, ![2048, 2048]⟩ : Shape).Idx → EReal) (s : Fin 1024) (k : Fin 256) :
    broadcastInDim S1024x256 ![0, 1] bcast_S1024x1_S1024x256_0_1 (broadcastInDim S1024x1 ![0] bcast_S1024_S1024x1_0
      (shapeCast S1024 (extractStridedSlice S1x1024 ![1, 0] T slices_S2048x2048_S1x1024_1_0) shapeCasts_S1x1024_S1024)) (ix2 s k)
      = T (ix2 1 ⟨s.val, by omega⟩) := by
  refine (broadcastInDim_apply _ _ _ (ix2 s k) (ix2 s (0 : Fin 1)) (fun a => match a with | ⟨0, _⟩ => rfl | ⟨1, _⟩ => rfl)).trans ?_
  refine (broadcastInDim_apply _ _ _ (ix2 s (0 : Fin 1)) (ix1 s) (fun a => match a with | ⟨0, _⟩ => rfl)).trans ?_
  refine (ValueIdx.shapeCast_1a_a_apply _ _ s).trans ?_
  exact congrArg T (ext2 rfl (by show 0 + s.val = s.val; omega))

theorem cosHalf_host (n s : Fin 1024) : V m c main_v1 (ix2 n s) = m ((c : Thread nD τ).loc main_arg6) (ix2 ⟨2 * n.val, by omega⟩ ⟨s.val, by omega⟩) := by
  unfold V
  after_reads_simp
  exact evenRows_at _ n s

theorem sinHalf_host (n s : Fin 1024) : V m c main_v3 (ix2 n s) = m ((c : Thread nD τ).loc main_arg7) (ix2 ⟨2 * n.val, by omega⟩ ⟨s.val, by omega⟩) := by
  unfold V
  after_reads_simp
  exact evenRows_at _ n s

theorem cosTurn_host (s : Fin 1024) (k : Fin 256) : V m c main_v7 (ix2 s k) = m ((c : Thread nD τ).loc main_arg6) (ix2 1 ⟨s.val, by omega⟩) := by
  unfold V
  after_reads_simp
  exact turn_at _ s k

theorem sinTurn_host (s : Fin 1024) (k : Fin 256) : V m c main_v11 (ix2 s k) = m ((c : Thread nD τ).loc main_arg7) (ix2 1 ⟨s.val, by omega⟩) := by
  unfold V
  after_reads_simp
  exact turn_at _ s k

theorem branchWeights_host (k d : Fin 256) : V m c main_v12 (ix2 k d) = m ((c : Thread nD τ).loc main_arg8) (ix2 k d) := by
  unfold V
  after_reads_simp
  rfl

theorem bias_host (d : Fin 256) : V m c main_v13 (ix2 0 d) = m ((c : Thread nD τ).loc main_arg9) (ix1 d) := by
  unfold V
  after_reads_simp
  exact ValueIdx.shapeCast_a_1a_apply _ _ _ _

theorem gain_host (k : Fin 1024) : V m c main_v14 (ix2 0 k) = m ((c : Thread nD τ).loc main_arg12) (ix1 k) := by
  unfold V
  after_reads_simp
  exact ValueIdx.shapeCast_a_1a_apply _ _ _ _

/-! ## The blocks -/

variable (t : Fin cfg0.N)

theorem x_block (r : Fin 1024) (k : Fin 1024) :
    iblk m c 0 t (ix3 0 r k) = m ((c : Thread nD τ).loc main_arg0) (ix3 (batch t) (position t r) k) := by
  rw [← V_main_arg0 m c]
  show V m c main_arg0 ((win0_0.blk t).view.emb (ix3 0 r k)) = _
  refine congrArg (V m c main_arg0) ?_
  blk_ext [index0, batch, position]

theorem att_block (r : Fin 1024) (k : Fin 512) :
    iblk m c 1 t (ix3 0 r k) = m ((c : Thread nD τ).loc main_arg1) (ix3 (batch t) (position t r) k) := by
  rw [← V_main_arg1 m c]
  show V m c main_arg1 ((win0_1.blk t).view.emb (ix3 0 r k)) = _
  refine congrArg (V m c main_arg1) ?_
  blk_ext [index1, batch, position]

theorem cv_block (r : Fin 1024) (k : Fin 256) :
    iblk m c 2 t (ix3 0 r k) = m ((c : Thread nD τ).loc main_arg2) (ix3 (batch t) (position t r) k) := by
  rw [← V_main_arg2 m c]
  show V m c main_arg2 ((win0_2.blk t).view.emb (ix3 0 r k)) = _
  refine congrArg (V m c main_arg2) ?_
  blk_ext [index2, batch, position]

theorem gcv_block (r : Fin 1024) (k : Fin 256) :
    iblk m c 3 t (ix3 0 r k) = m ((c : Thread nD τ).loc main_arg3) (ix3 (batch t) (position t r) k) := by
  rw [← V_main_arg3 m c]
  show V m c main_arg3 ((win0_3.blk t).view.emb (ix3 0 r k)) = _
  refine congrArg (V m c main_arg3) ?_
  blk_ext [index3, batch, position]

theorem gf_block (r : Fin 1024) (k : Fin 256) :
    iblk m c 5 t (ix3 0 r k) = m ((c : Thread nD τ).loc main_arg5) (ix3 (batch t) (position t r) k) := by
  rw [← V_main_arg5 m c]
  show V m c main_arg5 ((win0_5.blk t).view.emb (ix3 0 r k)) = _
  refine congrArg (V m c main_arg5) ?_
  blk_ext [index5, batch, position]

theorem ab_block (p : Fin 2048) (k : Fin 512) :
    iblk m c 4 t (ix3 0 p k) = m ((c : Thread nD τ).loc main_arg4) (ix3 (batch t) p k) := by
  rw [← V_main_arg4 m c]
  show V m c main_arg4 ((win0_4.blk t).view.emb (ix3 0 p k)) = _
  refine congrArg (V m c main_arg4) ?_
  blk_ext [index4, batch]

theorem cosHalf_block (n s : Fin 1024) :
    iblk m c 6 t (ix2 n s) = m ((c : Thread nD τ).loc main_arg6) (ix2 ⟨2 * n.val, by omega⟩ ⟨s.val, by omega⟩) := by
  refine Eq.trans ?_ (cosHalf_host m c n s)
  show V m c main_v1 ((win0_6.blk t).view.emb (ix2 n s)) = _
  refine congrArg (V m c main_v1) ?_
  blk_ext [index6]

theorem sinHalf_block (n s : Fin 1024) :
    iblk m c 7 t (ix2 n s) = m ((c : Thread nD τ).loc main_arg7) (ix2 ⟨2 * n.val, by omega⟩ ⟨s.val, by omega⟩) := by
  refine Eq.trans ?_ (sinHalf_host m c n s)
  show V m c main_v3 ((win0_7.blk t).view.emb (ix2 n s)) = _
  refine congrArg (V m c main_v3) ?_
  blk_ext [index7]

theorem cosTurn_block (s : Fin 1024) (k : Fin 256) :
    iblk m c 8 t (ix2 s k) = m ((c : Thread nD τ).loc main_arg6) (ix2 1 ⟨s.val, by omega⟩) := by
  refine Eq.trans ?_ (cosTurn_host m c s k)
  show V m c main_v7 ((win0_8.blk t).view.emb (ix2 s k)) = _
  refine congrArg (V m c main_v7) ?_
  blk_ext [index8]

theorem sinTurn_block (s : Fin 1024) (k : Fin 256) :
    iblk m c 9 t (ix2 s k) = m ((c : Thread nD τ).loc main_arg7) (ix2 1 ⟨s.val, by omega⟩) := by
  refine Eq.trans ?_ (sinTurn_host m c s k)
  show V m c main_v11 ((win0_9.blk t).view.emb (ix2 s k)) = _
  refine congrArg (V m c main_v11) ?_
  blk_ext [index9]

theorem branchWeights_block (k d : Fin 256) :
    iblk m c 10 t (ix2 k d) = m ((c : Thread nD τ).loc main_arg8) (ix2 k d) := by
  refine Eq.trans ?_ (branchWeights_host m c k d)
  show V m c main_v12 ((win0_10.blk t).view.emb (ix2 k d)) = _
  refine congrArg (V m c main_v12) ?_
  blk_ext [index10]

theorem bias_block (d : Fin 256) :
    iblk m c 11 t (ix2 0 d) = m ((c : Thread nD τ).loc main_arg9) (ix1 d) := by
  refine Eq.trans ?_ (bias_host m c d)
  show V m c main_v13 ((win0_11.blk t).view.emb (ix2 0 d)) = _
  refine congrArg (V m c main_v13) ?_
  blk_ext [index11]

theorem weights_block (k e : Fin 1024) :
    iblk m c 12 t (ix3 0 k e) = m ((c : Thread nD τ).loc main_arg10) (ix3 1 k e) := by
  rw [← V_main_arg10 m c]
  show V m c main_arg10 ((win0_12.blk t).view.emb (ix3 0 k e)) = _
  refine congrArg (V m c main_arg10) ?_
  blk_ext [index12]

theorem gate_block (k : Fin 1024) :
    iblk m c 13 t (ix3 0 0 k) = m ((c : Thread nD τ).loc main_arg11) (ix3 ⟨(batch t).val, by omega⟩ 0 ⟨2048 + k.val, by omega⟩) := by
  rw [← V_main_arg11 m c]
  show V m c main_arg11 ((win0_13.blk t).view.emb (ix3 0 0 k)) = _
  refine congrArg (V m c main_arg11) ?_
  blk_ext [index13, batch]

theorem gain_block (k : Fin 1024) :
    iblk m c 14 t (ix2 0 k) = m ((c : Thread nD τ).loc main_arg12) (ix1 k) := by
  refine Eq.trans ?_ (gain_host m c k)
  show V m c main_v14 ((win0_14.blk t).view.emb (ix2 0 k)) = _
  refine congrArg (V m c main_v14) ?_
  blk_ext [index14]

end Cert.Kernel3Ideal.OutProj

end
-- ==== Proof.OutProj.PointsAt.lean ====
/- What a grid point leaves: the kept weights are the weights, the folded inputs are those of the point's sequence, and the block
   stored holds the rows of the positions the point works on. -/
module

public import proofs.«01_k».proof.Proof.OutProj.Outs
public import proofs.«01_k».proof.Proof.OutProj.BlocksAt

@[expose] public section

set_option maxRecDepth 16384

noncomputable section

namespace Cert.Kernel3Ideal.OutProj

open Cert.Kernel3Ideal Cert.Kernel3Ideal.Gen Cert.InProj Cert.OutProj Idealize.ShloMosaic Idealize.ShloMosaic.TcCoe

attribute [local irreducible] outsAt0 cosPieces sinPieces weightPieces iblk

variable (m : (ℓ : Loc nD τ sig) → Buf (Elt Ideal) ℓ) (c : Dev nD)

/-- The spectral input and the tables, from the kernel's arguments. -/
abbrev spectral : (⟨3, ![8, 2048, 512]⟩ : Shape).Idx → EReal := m ((c : Thread nD τ).loc main_arg4)
abbrev cosines : (⟨2, ![2048, 2048]⟩ : Shape).Idx → EReal := m ((c : Thread nD τ).loc main_arg6)
abbrev sines : (⟨2, ![2048, 2048]⟩ : Shape).Idx → EReal := m ((c : Thread nD τ).loc main_arg7)

/-- The halves' sum, and their difference, of a channel of the spectral input. -/
abbrev halvesSum (b : Fin 8) (s : Fin 1024) (k : Fin 512) : EReal :=
  spectral m c (ix3 b ⟨s.val, by omega⟩ k) + spectral m c (ix3 b ⟨1024 + s.val, by omega⟩ k)
abbrev halvesDiff (b : Fin 8) (s : Fin 1024) (k : Fin 512) : EReal :=
  spectral m c (ix3 b ⟨s.val, by omega⟩ k) - spectral m c (ix3 b ⟨1024 + s.val, by omega⟩ k)

/-- `C` and `S` are the folded inputs of sequence `b`. -/
structure Folded (b : Fin 8) (C S : Vec Ideal S1024x512 .bf16) : Prop where
  cosLeft : ∀ (s : Fin 1024) (k : Fin 256), C (ix2 s ⟨k.val, by omega⟩) = halvesSum m c b s ⟨k.val, by omega⟩
  sinLeft : ∀ (s : Fin 1024) (k : Fin 256), S (ix2 s ⟨k.val, by omega⟩) = halvesSum m c b s ⟨256 + k.val, by omega⟩
  cosRight : ∀ (s : Fin 1024) (k : Fin 256), C (ix2 s ⟨256 + k.val, by omega⟩)
    = cosines m c (ix2 1 ⟨s.val, by omega⟩) * halvesDiff m c b s ⟨k.val, by omega⟩ - sines m c (ix2 1 ⟨s.val, by omega⟩) * halvesDiff m c b s ⟨256 + k.val, by omega⟩
  sinRight : ∀ (s : Fin 1024) (k : Fin 256), S (ix2 s ⟨256 + k.val, by omega⟩)
    = sines m c (ix2 1 ⟨s.val, by omega⟩) * halvesDiff m c b s ⟨k.val, by omega⟩ + cosines m c (ix2 1 ⟨s.val, by omega⟩) * halvesDiff m c b s ⟨256 + k.val, by omega⟩

/-- The folded halves of a block are the folded inputs of the sequence the block holds. -/
theorem folded_block (b : Fin 8) {X4 : Vec Ideal S1x2048x512 .bf16} {X8 X9 : Vec Ideal S1024x256 .f32}
    (h4 : ∀ (p : Fin 2048) (k : Fin 512), X4 (ix3 0 p k) = spectral m c (ix3 b p k))
    (h8 : ∀ (s : Fin 1024) (k : Fin 256), X8 (ix2 s k) = cosines m c (ix2 1 ⟨s.val, by omega⟩))
    (h9 : ∀ (s : Fin 1024) (k : Fin 256), X9 (ix2 s k) = sines m c (ix2 1 ⟨s.val, by omega⟩)) :
    Folded m c b (View.canon (cosPieces X4 X8 X9)) (View.canon (sinPieces X4 X8 X9)) where
  cosLeft s k := (cos_left X4 X8 X9 s k).trans (by rw [h4, h4])
  sinLeft s k := (sin_left X4 X8 X9 s k).trans (by rw [h4, h4])
  cosRight s k := (cos_right X4 X8 X9 s k).trans (by rw [h4, h4, h4, h4, h8, h9])
  sinRight s k := (sin_right X4 X8 X9 s k).trans (by rw [h4, h4, h4, h4, h8, h9])

/-- What a point folds are its sequence's inputs. -/
theorem folds (t : Fin cfg0.N) : Folded m c (batch t) (cosAt m c t) (sinAt m c t) := by
  unfold cosAt sinAt
  exact folded_block m c (batch t) (ab_block m c t) (cosTurn_block m c t) (sinTurn_block m c t)

theorem weightsAt_at (t : Fin cfg0.N) (k e : Fin 1024) : weightsAt m c t (ix2 k e) = m ((c : Thread nD τ).loc main_arg10) (ix3 1 k e) := by
  unfold weightsAt
  exact (weights_at _ k e).trans (weights_block m c t k e)

theorem prev_eq (t u : Fin cfg0.N) (h : u.val = t.val - 1) : prev m c t = outsAt0 m c u.val u.isLt := by
  obtain rfl : u = ⟨t.val - 1, Nat.lt_of_le_of_lt (Nat.sub_le _ _) t.isLt⟩ := Fin.ext h
  rfl

/-- The four parts of what a point leaves. -/
theorem parts {α β γ δ : Type} {o : α × β × γ × δ} {x : α} {y : β} {z : γ} {w : δ} (h : o = (x, y, z, w)) :
    o.1 = x ∧ o.2.1 = y ∧ o.2.2.1 = z ∧ o.2.2.2 = w := by
  subst h
  exact ⟨rfl, rfl, rfl, rfl⟩

/-- The kept weights are the weights after every point. -/
theorem kept_at (n : ℕ) (t : Fin cfg0.N) (hn : t.val = n) (k e : Fin 1024) :
    (outsAt0 m c t.val t.isLt).2.2.2 (ix2 k e) = m ((c : Thread nD τ).loc main_arg10) (ix3 1 k e) := by
  induction n generalizing t with
  | zero =>
    have h := (parts (point_A m c t (by omega) (by omega))).2.2.2
    rw [h, weightsAt_at m c t k e]
  | succ n ih =>
    have hu : n < cfg0.N := Nat.lt_of_succ_lt (lt_of_eq_of_lt hn.symm t.isLt)
    have hp : prev m c t = outsAt0 m c (⟨n, hu⟩ : Fin cfg0.N).val hu := prev_eq m c t ⟨n, hu⟩ (by show n = t.val - 1; omega)
    by_cases h0 : t.val % 16 = 0
    · have h := (parts (point_A m c t h0 (by omega))).2.2.2
      rw [h, weightsAt_at m c t k e]
    · by_cases h1 : t.val % 2 = 0
      · have h := (parts (point_C m c t h0 h1)).2.2.2
        rw [h, hp, ih ⟨n, hu⟩ rfl]
      · have h := (parts (point_B m c t h0 h1)).2.2.2
        rw [h, hp, ih ⟨n, hu⟩ rfl]

/-- After a first tile the folded inputs are its sequence's. -/
theorem folded_first (t : Fin cfg0.N) (h1 : t.val % 2 = 0) :
    Folded m c (batch t) (outsAt0 m c t.val t.isLt).2.1 (outsAt0 m c t.val t.isLt).2.2.1 := by
  by_cases h0 : t.val % 16 = 0
  · have h := parts (point_A m c t h0 h1)
    rw [h.2.1, h.2.2.1]
    exact folds m c t
  · have h := parts (point_C m c t h0 h1)
    rw [h.2.1, h.2.2.1]
    exact folds m c t

/-- What a point stores comes from its sequence's folded inputs and the weights. -/
theorem point_at (t : Fin cfg0.N) : ∃ C S W, (outsAt0 m c t.val t.isLt).1 = storedAt m c t C S W ∧ Folded m c (batch t) C S
    ∧ ∀ k e : Fin 1024, W (ix2 k e) = m ((c : Thread nD τ).loc main_arg10) (ix3 1 k e) := by
  have hlt : t.val - 1 < cfg0.N := Nat.lt_of_le_of_lt (Nat.sub_le _ _) t.isLt
  have hprev : prev m c t = outsAt0 m c (⟨t.val - 1, hlt⟩ : Fin cfg0.N).val hlt := prev_eq m c t ⟨t.val - 1, hlt⟩ rfl
  have hkept (k e : Fin 1024) : (prev m c t).2.2.2 (ix2 k e) = m ((c : Thread nD τ).loc main_arg10) (ix3 1 k e) := by
    rw [hprev, kept_at m c _ ⟨t.val - 1, hlt⟩ rfl k e]
  by_cases h1 : t.val % 2 = 0
  · by_cases h0 : t.val % 16 = 0
    · exact ⟨cosAt m c t, sinAt m c t, weightsAt m c t, (parts (point_A m c t h0 h1)).1, folds m c t, weightsAt_at m c t⟩
    · exact ⟨cosAt m c t, sinAt m c t, (prev m c t).2.2.2, (parts (point_C m c t h0 h1)).1, folds m c t, hkept⟩
  · have h0 : ¬t.val % 16 = 0 := by omega
    have hb : batch ⟨t.val - 1, hlt⟩ = batch t := Fin.ext (by show (t.val - 1) / 2 = t.val / 2; omega)
    have h := folded_first m c ⟨t.val - 1, hlt⟩ (by show (t.val - 1) % 2 = 0; omega)
    rw [hb, ← hprev] at h
    exact ⟨(prev m c t).2.1, (prev m c t).2.2.1, (prev m c t).2.2.2, (parts (point_B m c t h0 h1)).1, h, hkept⟩

/-- The folded sums are the transform's. -/
theorem folded_transform (hT : PositionTables (spectral m c) (cosines m c) (sines m c)) (t : Fin cfg0.N) {C S : Vec Ideal S1024x512 .bf16}
    (hF : Folded m c (batch t) C S) (r : Fin 512) (p : Fin 2) (k : Fin 256) (n : Fin 2048) (hn : n.val = 2 * (tableRow (grid0.coords t) r).val + p.val) :
    folded (grid0.coords t) (iblk m c 6 t) (iblk m c 7 t) C S r ⟨256 * p.val + k.val, by omega⟩
      = transformAt (spectral m c) (cosines m c) (sines m c) (batch t) n k := by
  unfold folded transformAt
  generalize tableRow (grid0.coords t) r = j at hn ⊢
  have hj : 2 * j.val + 1 < 2048 := Nat.lt_of_lt_of_le (Nat.add_lt_add_left (by decide : 1 < 2) _) (Nat.mul_le_mul_left 2 j.isLt)
  match p, hn with
  | 0, hn =>
    obtain rfl : n = ⟨2 * j.val, Nat.lt_of_succ_lt hj⟩ := Fin.ext hn
    have hk : (⟨256 * (0 : Fin 2).val + k.val, by omega⟩ : Fin 512) = ⟨k.val, by omega⟩ := Fin.ext (by show 256 * 0 + k.val = k.val; omega)
    refine Eq.trans ?_ (transform_even (fun s => hT.ab_real _) (fun s => hT.ab_real _) (fun s => hT.cs_real _) (fun s => hT.sn_real _)
      (hT.cs_even j) (hT.sn_even j))
    refine congrArg₂ (fun x y : EReal => x - y) (Finset.sum_congr rfl fun s _ => congrArg₂ (fun x y : EReal => x * y) (cosHalf_block m c t j s) ?_)
      (Finset.sum_congr rfl fun s _ => congrArg₂ (fun x y : EReal => x * y) (sinHalf_block m c t j s) ?_)
    · rw [hk]; exact hF.cosLeft s k
    · rw [hk]; exact hF.sinLeft s k
  | 1, hn =>
    obtain rfl : n = ⟨2 * j.val + 1, hj⟩ := Fin.ext hn
    refine Eq.trans ?_ (transform_odd (fun s => hT.ab_real _) (fun s => hT.ab_real _) (fun s => hT.cs_real _) (fun s => hT.sn_real _)
      (fun s => hT.cs_real _) (fun s => hT.sn_real _) (fun s => hT.cs_real _) (fun s => hT.sn_real _)
      (hT.cs_odd j) (hT.sn_odd j) (hT.cs_turn j) (hT.sn_turn j))
    exact congrArg₂ (fun x y : EReal => x - y)
      (Finset.sum_congr rfl fun s _ => congrArg₂ (fun x y : EReal => x * y) (cosHalf_block m c t j s) (hF.cosRight s k))
      (Finset.sum_congr rfl fun s _ => congrArg₂ (fun x y : EReal => x * y) (sinHalf_block m c t j s) (hF.sinRight s k))

/-- The result's row of a position, from the kernel's arguments. -/
abbrev resultRow (b : Fin 8) (s : Fin 2048) : Fin 1024 → EReal :=
  resultAt (m ((c : Thread nD τ).loc main_arg0)) (m ((c : Thread nD τ).loc main_arg1)) (m ((c : Thread nD τ).loc main_arg2)) (m ((c : Thread nD τ).loc main_arg3))
    (spectral m c) (m ((c : Thread nD τ).loc main_arg5)) (cosines m c) (sines m c) (m ((c : Thread nD τ).loc main_arg8)) (m ((c : Thread nD τ).loc main_arg9))
    (m ((c : Thread nD τ).loc main_arg10)) (m ((c : Thread nD τ).loc main_arg11)) (m ((c : Thread nD τ).loc main_arg12)) b s

/-- The block a point stores holds the rows of its positions. -/
theorem rows_of_point (hT : PositionTables (spectral m c) (cosines m c) (sines m c)) (t : Fin cfg0.N) (r e : Fin 1024) :
    (outsAt0 m c t.val t.isLt).1 (ix3 0 r e) = resultRow m c (batch t) (position t r) e := by
  obtain ⟨C, S, W, h, hF, hW⟩ := point_at m c t
  rw [h]
  refine (out_at _ _ _ _ _ _ _ _ _ _ (fun r d => branch (grid0.coords t) (iblk m c 6 t) (iblk m c 7 t) (iblk m c 10 t) C S
    ⟨r.val / 2, by omega⟩ ⟨r.val % 2, by omega⟩ d) (fun l r d => rows_at _ _ _ _ C S l r d) r e).trans ?_
  have hf : (fun d => (branch (grid0.coords t) (iblk m c 6 t) (iblk m c 7 t) (iblk m c 10 t) C S ⟨r.val / 2, by omega⟩ ⟨r.val % 2, by omega⟩ d
      + iblk m c 11 t (ix2 0 d)) * iblk m c 5 t (ix3 0 r d) : Fin 256 → EReal)
      = fourier (transformAt (spectral m c) (cosines m c) (sines m c) (batch t) (position t r)) (fun k d => m ((c : Thread nD τ).loc main_arg8) (ix2 k d))
        (fun d => m ((c : Thread nD τ).loc main_arg9) (ix1 d)) (fun d => m ((c : Thread nD τ).loc main_arg5) (ix3 (batch t) (position t r) d)) := by
    funext d
    refine congrArg₂ (fun x y : EReal => x * y) (congrArg₂ (fun x y : EReal => x + y) ?_ (bias_block m c t d)) (gf_block m c t r d)
    unfold branch
    refine Finset.sum_congr rfl fun k _ => congrArg₂ (fun x y : EReal => x * y) ?_ (branchWeights_block m c t k d)
    refine folded_transform m c hT t hF _ _ k (position t r) ?_
    show 1024 * (t.val % 2) + r.val = 2 * (512 * (grid0.coords t 1).val + r.val / 2) + r.val % 2
    rw [tile_coord]
    omega
  unfold resultRow resultAt
  rw [hf, show (fun k => iblk m c 0 t (ix3 0 r k)) = _ from funext fun k => x_block m c t r k,
    show (fun k => iblk m c 1 t (ix3 0 r k)) = _ from funext fun k => att_block m c t r k,
    show (fun k => iblk m c 2 t (ix3 0 r k)) = _ from funext fun k => cv_block m c t r k,
    show (fun k => iblk m c 3 t (ix3 0 r k)) = _ from funext fun k => gcv_block m c t r k,
    show (fun k => iblk m c 13 t (ix3 0 0 k)) = _ from funext fun k => gate_block m c t k,
    show (fun k => iblk m c 14 t (ix2 0 k)) = _ from funext fun k => gain_block m c t k,
    show (fun k e => W (ix2 k e)) = _ from funext fun k => funext fun e => hW k e]

theorem point_lt (b : Fin 8) (s : Fin 2048) : 2 * b.val + s.val / 1024 < cfg0.N := by
  have h : cfg0.N = 16 := N_0
  omega

/-- The point whose blocks hold position `s` of sequence `b`. -/
abbrev pointOf (b : Fin 8) (s : Fin 2048) : Fin cfg0.N := ⟨2 * b.val + s.val / 1024, point_lt b s⟩

theorem batch_pointOf (b : Fin 8) (s : Fin 2048) : batch (pointOf b s) = b :=
  Fin.ext (by show (2 * b.val + s.val / 1024) / 2 = b.val; omega)

theorem position_pointOf (b : Fin 8) (s : Fin 2048) : position (pointOf b s) ⟨s.val % 1024, by omega⟩ = s :=
  Fin.ext (by show 1024 * ((2 * b.val + s.val / 1024) % 2) + s.val % 1024 = s.val; omega)

/-! ## The result the kernel ends with -/

theorem result_final (hT : PositionTables (spectral m c) (cosines m c) (sines m c)) (b : Fin 8) (s : Fin 2048) (e : Fin 1024) :
    Value.G15 m c (ix3 b s e) = resultRow m c b s e := by
  have hp : Value.pt15Of (ix3 b s e) = 2 * b.val + s.val / 1024 := by
    show 2 * (b.val / 1 - 0) + 1 * (s.val / 1024 - 0) + 1 * (e.val / 1024 - 0) = _
    omega
  have hl : Value.loc15Of (ix3 b s e) = ix3 0 ⟨s.val % 1024, by omega⟩ e := ext3 (Nat.mod_one _) rfl (Nat.mod_eq_of_lt e.isLt)
  have hlt := point_lt b s
  unfold Value.G15
  rw [dif_pos (hp ▸ hlt), Value.fold0_congr m c _ _ _ (by omega) hp, ← Value.outsAt0_sweep m c _ hlt, hl]
  refine (rows_of_point m c hT (pointOf b s) ⟨s.val % 1024, by omega⟩ e).trans ?_
  rw [batch_pointOf, position_pointOf]

end Cert.Kernel3Ideal.OutProj

end
-- ==== Proof.OutProj.RefOut.lean ====
/- The reference read at an index: its result is the specification's. -/
module

public import proofs.«01_k».proof.Proof.Gen.Reference3Ideal.Read
public import proofs.«01_k».proof.Proof.OutProj.Spec
public import Idealize.ShloMosaic.Lib.Pipeline.Value
public import Idealize.ShloMosaic.Lib.KernelVsHost

@[expose] public section

set_option maxRecDepth 16384

noncomputable section

namespace Cert.Reference3Ideal.OutProj

open Cert.Reference3Ideal Cert.Reference3Ideal.Gen Cert.Reference3Ideal.Read Cert.InProj Cert.OutProj Idealize.ShloMosaic

variable (x0 : (⟨S8x2048x1024, .f32⟩ : BufTy).Contents (Elt Ideal)) (x1 : (⟨S8x2048x512, .bf16⟩ : BufTy).Contents (Elt Ideal))
  (x2 x3 : (⟨S8x2048x256, .bf16⟩ : BufTy).Contents (Elt Ideal)) (x4 : (⟨S8x2048x512, .bf16⟩ : BufTy).Contents (Elt Ideal))
  (x5 : (⟨S8x2048x256, .bf16⟩ : BufTy).Contents (Elt Ideal)) (x6 x7 : (⟨S2048x2048, .f32⟩ : BufTy).Contents (Elt Ideal))
  (x8 : (⟨S256x256, .f32⟩ : BufTy).Contents (Elt Ideal)) (x9 : (⟨S256, .f32⟩ : BufTy).Contents (Elt Ideal))
  (x10 : (⟨S2x1024x1024, .f32⟩ : BufTy).Contents (Elt Ideal)) (x11 : (⟨S16x1x3072, .f32⟩ : BufTy).Contents (Elt Ideal))
  (x12 : (⟨S1024, .f32⟩ : BufTy).Contents (Elt Ideal))

/-! ## The Fourier branch -/

theorem v8_at (b : Fin 8) (s : Fin 2048) (k : Fin 256) : val_main_v8 (F := Ideal) x4 x6 x7 (ix3 b s k) = transformAt x4 x6 x7 b s k := by
  rw [val_main_v8_apply, val_main_v3_apply, val_main_v7_apply, val_main_v2_apply, val_main_v6_apply]
  unfold transformAt transform
  refine congrArg₂ (fun x y : EReal => x - y) (Finset.sum_congr rfl fun n _ => ?_) (Finset.sum_congr rfl fun n _ => ?_)
  · have hl : idx_main_v0 (lidx_main_v2 (idx_main_v3 (ix3 b s k)) n) = ix3 b n ⟨k.val, by omega⟩ := ext3 rfl rfl rfl
    have hr : ridx_main_v2 (idx_main_v3 (ix3 b s k)) n = ix2 s n := ext2 rfl rfl
    rw [val_main_v1_apply, val_main_v0_apply, hl, hr]
    rfl
  · have hl : idx_main_v4 (lidx_main_v6 (idx_main_v7 (ix3 b s k)) n) = ix3 b n ⟨256 + k.val, by omega⟩ := ext3 rfl rfl rfl
    have hr : ridx_main_v6 (idx_main_v7 (ix3 b s k)) n = ix2 s n := ext2 rfl rfl
    rw [val_main_v5_apply, val_main_v4_apply, hl, hr]
    rfl

/-- The Fourier branch of a position. -/
abbrev fourierRow (b : Fin 8) (s : Fin 2048) : Fin 256 → EReal :=
  fourier (transformAt x4 x6 x7 b s) (fun k d => x8 (ix2 k d)) (fun d => x9 (ix1 d)) (fun d => x5 (ix3 b s d))

theorem v14_at (b : Fin 8) (s : Fin 2048) (d : Fin 256) :
    val_main_v14 (F := Ideal) x4 x5 x6 x7 x8 x9 (ix3 b s d) = fourierRow x4 x5 x6 x7 x8 x9 b s d := by
  rw [val_main_v14_apply, val_main_v12_apply, val_main_v9_apply, val_main_v11_apply, val_main_v10_apply, val_main_v13_apply]
  have hb : idx_main_v10 (idx_main_v11 (ix3 b s d)) = ix1 d := funext fun a => Fin.ext (match a with | ⟨0, _⟩ => rfl)
  rw [hb]
  unfold fourierRow fourier
  refine congrArg (fun x : EReal => (x + x9 (ix1 d)) * x5 (ix3 b s d)) (Finset.sum_congr rfl fun k _ => ?_)
  have hl : lidx_main_v9 (ix3 b s d) k = ix3 b s k := ext3 rfl rfl rfl
  have hr : ridx_main_v9 (ix3 b s d) k = ix2 k d := ext2 rfl rfl
  rw [hl, hr, v8_at]

/-! ## The channels and the mixed row -/

/-- The channels of a position. -/
abbrev channelsRow (b : Fin 8) (s : Fin 2048) : Fin 1024 → EReal :=
  channels (fun q => x1 (ix3 b s q)) (fun q => x2 (ix3 b s q)) (fun q => x3 (ix3 b s q)) (fourierRow x4 x5 x6 x7 x8 x9 b s)

theorem v19_at (b : Fin 8) (s : Fin 2048) (q : Fin 1024) :
    val_main_v19 (F := Ideal) x1 x2 x3 x4 x5 x6 x7 x8 x9 (ix3 b s q) = channelsRow x1 x2 x3 x4 x5 x6 x7 x8 x9 b s q := by
  unfold val_main_v19 channelsRow channels
  by_cases h0 : q.val < 512
  · rw [dif_pos h0]
    refine (concatenate_apply_piece 2 _ _ (ix3 b s q) 0 (by show 0 < 3; decide) S8x2048x512 (val_main_v15 (F := Ideal) x1) rfl rfl 0 rfl
      (ix3 b s ⟨q.val, h0⟩) (fun a ha => ?_) (Nat.zero_add _)).trans (val_main_v15_apply x1 _)
    match a with
    | ⟨0, _⟩ => rfl
    | ⟨1, _⟩ => rfl
    | ⟨2, _⟩ => exact absurd rfl ha
  · rw [dif_neg h0]
    by_cases h1 : q.val < 768
    · rw [dif_pos h1]
      refine (concatenate_apply_piece 2 _ _ (ix3 b s q) 1 (by show 1 < 3; decide) S8x2048x256 (val_main_v18 (F := Ideal) x2 x3) rfl rfl 512 rfl
        (ix3 b s ⟨q.val - 512, by omega⟩) (fun a ha => ?_) (by show 512 + (q.val - 512) = q.val; omega)).trans (val_main_v18_apply x2 x3 _)
      match a with
      | ⟨0, _⟩ => rfl
      | ⟨1, _⟩ => rfl
      | ⟨2, _⟩ => exact absurd rfl ha
    · rw [dif_neg h1]
      refine (concatenate_apply_piece 2 _ _ (ix3 b s q) 2 (by show 2 < 3; decide) S8x2048x256 (val_main_v14 (F := Ideal) x4 x5 x6 x7 x8 x9) rfl rfl 768 rfl
        (ix3 b s ⟨q.val - 768, by omega⟩) (fun a ha => ?_) (by show 768 + (q.val - 768) = q.val; omega)).trans (v14_at _ _ _ _ _ _ _ _ _)
      match a with
      | ⟨0, _⟩ => rfl
      | ⟨1, _⟩ => rfl
      | ⟨2, _⟩ => exact absurd rfl ha

/-- The row before it is normalised. -/
abbrev mixedRow (b : Fin 8) (s : Fin 2048) : Fin 1024 → EReal :=
  mixed (fun k => x0 (ix3 b s k)) (channelsRow x1 x2 x3 x4 x5 x6 x7 x8 x9 b s)
    (fun k => x11 (ix3 ⟨b.val, by omega⟩ 0 ⟨2048 + k.val, by omega⟩)) (fun k e => x10 (ix3 1 k e))

theorem v26_at (b : Fin 8) (s : Fin 2048) (e : Fin 1024) :
    val_main_v26 (F := Ideal) x0 x1 x2 x3 x4 x5 x6 x7 x8 x9 x10 x11 (ix3 b s e) = mixedRow x0 x1 x2 x3 x4 x5 x6 x7 x8 x9 x10 x11 b s e := by
  rw [val_main_v26_apply, val_main_v25_apply, val_main_v24_apply, val_main_v20_apply, val_main_v23_apply]
  have hg : idx_main_v20 (idx_main_v24 (ix3 b s e)) = ix3 ⟨b.val, by omega⟩ 0 ⟨2048 + e.val, by omega⟩ := ext3 rfl rfl rfl
  rw [hg]
  unfold mixedRow mixed
  refine congrArg (fun y : EReal => x0 (ix3 b s e) + x11 (ix3 ⟨b.val, by omega⟩ 0 ⟨2048 + e.val, by omega⟩) * y) (Finset.sum_congr rfl fun q _ => ?_)
  have hl : lidx_main_v23 (ix3 b s e) q = ix3 b s q := ext3 rfl rfl rfl
  have hr : idx_main_v21 (idx_main_v22 (ridx_main_v23 (ix3 b s e) q)) = ix3 1 q e := by
    refine ext3 rfl ?_ ?_
    · show (q.val * 1024 + e.val) / 1024 % 1024 = q.val
      omega
    · show (q.val * 1024 + e.val) % 1024 = e.val
      omega
  rw [hl, val_main_v22_apply, val_main_v21_apply, hr, v19_at]

/-! ## The result -/

theorem v31_at (b : Fin 8) (s : Fin 2048) :
    val_main_v31 (F := Ideal) x0 x1 x2 x3 x4 x5 x6 x7 x8 x9 x10 x11 (ix3 b s 0) = meanSquare (mixedRow x0 x1 x2 x3 x4 x5 x6 x7 x8 x9 x10 x11 b s) := by
  rw [val_main_v31_apply, val_main_v29_apply, val_main_v30_apply, val_main_v28_apply]
  have e : val_main_cst (F := Ideal) (Shape.Idx.first h_S_) = (0 : EReal) := word_zero
  rw [e, zero_add]
  have hi : ∀ k, idx_main_v28 (idx_main_v29 (ix3 b s 0)) k = ix3 b s k := fun k => ext3 rfl rfl rfl
  simp only [hi, val_main_v27_apply, v26_at]
  rfl

theorem v39_at (b : Fin 8) (s : Fin 2048) (e : Fin 1024) :
    val_main_v39 (F := Ideal) x0 x1 x2 x3 x4 x5 x6 x7 x8 x9 x10 x11 x12 (ix3 b s e) = resultAt x0 x1 x2 x3 x4 x5 x6 x7 x8 x9 x10 x11 x12 b s e := by
  rw [val_main_v39_apply, val_main_v36_apply, val_main_v35_apply, val_main_v34_apply, val_main_v33_apply, val_main_v32_apply,
    val_main_v38_apply, val_main_v37_apply]
  have h35 : idx_main_v35 (ix3 b s e) = ix3 b s 0 := ext3 rfl rfl rfl
  have h37 : idx_main_v37 (idx_main_v38 (ix3 b s e)) = ix1 e := funext fun a => Fin.ext (match a with | ⟨0, _⟩ => rfl)
  rw [h35, h37, v31_at, v26_at]
  rfl

end Cert.Reference3Ideal.OutProj

end
-- ==== Proof.OutProj.Tables.lean ====
/- The precondition read: arrays that pass its comparisons are finite and related as the folding needs. -/
module

public import proofs.«01_k».proof.Proof.Gen.Pre_position_tables
public import proofs.«01_k».proof.Proof.OutProj.Spec
public import Idealize.ShloMosaic.Lib.KernelVsHost

@[expose] public section

set_option maxRecDepth 16384

noncomputable section

namespace Cert.OutProj

open Cert.Pre_position_tables Cert.Pre_position_tables.Gen Cert.InProj Idealize.ShloMosaic

theorem word_inf : Ideal.ofBits .f32 0x7F800000#32 = (⊤ : EReal) := by
  simp [Ideal.ofBits, Ideal.ieee, -EReal.coe_mul]

/-- A number whose absolute value is below `⊤` is real. -/
theorem real_of_abs_lt (x : EReal) (h : BitVec.ofBool (decide (max x (-x) < Ideal.ofBits .f32 0x7F800000#32)) = 1#1) : ∃ r : ℝ, x = r := by
  rw [word_inf] at h
  have hlt : max x (-x) < ⊤ := by
    by_contra hn
    rw [decide_eq_false hn] at h
    exact absurd h (by decide)
  refine ⟨x.toReal, (EReal.coe_toReal ?_ ?_).symm⟩
  · exact ne_top_of_lt ((le_max_left _ _).trans_lt hlt)
  · rintro rfl
    simp at hlt

/-- Numbers that compare equal are equal. -/
theorem eq_of_compare (x y : EReal) (h : BitVec.ofBool (decide (x = y)) = 1#1) : x = y := by
  by_contra hn
  rw [decide_eq_false hn] at h
  exact absurd h (by decide)

/-- A quarter of a table: every other row from `o`, half the columns from `p`. -/
theorem quarter_at (x : FVec Ideal S2048x2048 .f32) (o p : ℕ) (ho : o < 2) (hp : p + 1024 ≤ 2048)
    (h : S2048x2048.SlicesBy (![o, p] : Fin 2 → Nat) ![2, 1] S1024x1024) (n s : Fin 1024) :
    Host.slice S1024x1024 ![o, p] ![2, 1] x h (ix2 n s) = x (ix2 ⟨2 * n.val + o, by omega⟩ ⟨p + s.val, by omega⟩) :=
  congrArg x (ext2 (by show o + 2 * n.val = 2 * n.val + o; omega) (by show p + 1 * s.val = p + s.val; omega))

/-- The first row's angles, at every row. -/
theorem turn_at (x : FVec Ideal S2048x2048 .f32) (n s : Fin 1024) :
    broadcastInDim S1024x1024 ![0, 1] bcast_S1x1024_S1024x1024_0_1 (extractStridedSlice S1x1024 ![1, 0] x slices_S2048x2048_S1x1024_1_0) (ix2 n s)
      = x (ix2 1 ⟨s.val, by omega⟩) := by
  refine (broadcastInDim_apply _ bcast_S1x1024_S1024x1024_0_1 _ (ix2 n s) (ix2 0 s) (fun a => match a with
    | ⟨0, _⟩ => rfl
    | ⟨1, _⟩ => by show s.val = if (1024 : Nat) = 1 then 0 else s.val; rw [if_neg (by decide)])).trans ?_
  exact congrArg x (ext2 rfl (by show 0 + s.val = s.val; omega))

/-- Arrays that pass the precondition are position tables. -/
theorem tables_of_pre (a0 : FVec Ideal S8x2048x1024 .f32) (a1 : FVec Ideal S8x2048x512 .bf16) (a2 a3 : FVec Ideal S8x2048x256 .bf16)
    (a4 : FVec Ideal S8x2048x512 .bf16) (a5 : FVec Ideal S8x2048x256 .bf16) (a6 a7 : FVec Ideal S2048x2048 .f32) (a8 : FVec Ideal S256x256 .f32)
    (a9 : FVec Ideal S256 .f32) (a10 : FVec Ideal S2x1024x1024 .f32) (a11 : FVec Ideal S16x1x3072 .f32) (a12 : FVec Ideal S1024 .f32)
    (h : (fn a0 a1 a2 a3 a4 a5 a6 a7 a8 a9 a10 a11 a12).1 = (fun _ => 1#1)
      ∧ (fn a0 a1 a2 a3 a4 a5 a6 a7 a8 a9 a10 a11 a12).2.1 = (fun _ => 1#1)
      ∧ (fn a0 a1 a2 a3 a4 a5 a6 a7 a8 a9 a10 a11 a12).2.2.1 = (fun _ => 1#1)
      ∧ (fn a0 a1 a2 a3 a4 a5 a6 a7 a8 a9 a10 a11 a12).2.2.2.1 = (fun _ => 1#1)
      ∧ (fn a0 a1 a2 a3 a4 a5 a6 a7 a8 a9 a10 a11 a12).2.2.2.2.1 = (fun _ => 1#1)
      ∧ (fn a0 a1 a2 a3 a4 a5 a6 a7 a8 a9 a10 a11 a12).2.2.2.2.2.1 = (fun _ => 1#1)
      ∧ (fn a0 a1 a2 a3 a4 a5 a6 a7 a8 a9 a10 a11 a12).2.2.2.2.2.2.1 = (fun _ => 1#1)
      ∧ (fn a0 a1 a2 a3 a4 a5 a6 a7 a8 a9 a10 a11 a12).2.2.2.2.2.2.2.1 = (fun _ => 1#1)
      ∧ (fn a0 a1 a2 a3 a4 a5 a6 a7 a8 a9 a10 a11 a12).2.2.2.2.2.2.2.2 = (fun _ => 1#1)) :
    PositionTables a4 a6 a7 := by
  obtain ⟨h0, h1, h2, h3, h4, h5, h6, h7, h8⟩ := h
  unfold fn fn_part1 at h0 h1 h2 h3 h4 h5 h6 h7 h8
  dsimp only at h0 h1 h2 h3 h4 h5 h6 h7 h8
  exact
    { ab_real := fun i => real_of_abs_lt _ (congrFun h0 i)
      cs_real := fun i => real_of_abs_lt _ (congrFun h1 i)
      sn_real := fun i => real_of_abs_lt _ (congrFun h2 i)
      cs_even := fun n s => by
        have e := eq_of_compare _ _ (congrFun h3 (ix2 n s))
        rw [quarter_at a6 0 1024 (by decide) (by decide), quarter_at a6 0 0 (by decide) (by decide)] at e
        simpa only [Nat.add_zero, Nat.zero_add] using e
      sn_even := fun n s => by
        have e := eq_of_compare _ _ (congrFun h4 (ix2 n s))
        rw [quarter_at a7 0 1024 (by decide) (by decide), quarter_at a7 0 0 (by decide) (by decide)] at e
        simpa only [Nat.add_zero, Nat.zero_add] using e
      cs_odd := fun n s => by
        have e := (eq_of_compare _ _ (congrFun h5 (ix2 n s))).trans (congrArg (fun x : EReal => -x) (quarter_at a6 1 0 (by decide) (by decide) _ n s))
        rw [quarter_at a6 1 1024 (by decide) (by decide)] at e
        simpa only [Nat.add_zero, Nat.zero_add] using e
      sn_odd := fun n s => by
        have e := (eq_of_compare _ _ (congrFun h6 (ix2 n s))).trans (congrArg (fun x : EReal => -x) (quarter_at a7 1 0 (by decide) (by decide) _ n s))
        rw [quarter_at a7 1 1024 (by decide) (by decide)] at e
        simpa only [Nat.add_zero, Nat.zero_add] using e
      cs_turn := fun n s => by
        have e := (eq_of_compare _ _ (congrFun h7 (ix2 n s))).trans (congrArg₂ (fun x y : EReal => x - y)
          (congrArg₂ (fun x y : EReal => x * y) (quarter_at a6 0 0 (by decide) (by decide) _ n s) (turn_at a6 n s))
          (congrArg₂ (fun x y : EReal => x * y) (quarter_at a7 0 0 (by decide) (by decide) _ n s) (turn_at a7 n s)))
        rw [quarter_at a6 1 0 (by decide) (by decide)] at e
        simpa only [Nat.add_zero, Nat.zero_add] using e
      sn_turn := fun n s => by
        have e := (eq_of_compare _ _ (congrFun h8 (ix2 n s))).trans (congrArg₂ (fun x y : EReal => x + y)
          (congrArg₂ (fun x y : EReal => x * y) (quarter_at a7 0 0 (by decide) (by decide) _ n s) (turn_at a6 n s))
          (congrArg₂ (fun x y : EReal => x * y) (quarter_at a6 0 0 (by decide) (by decide) _ n s) (turn_at a7 n s)))
        rw [quarter_at a7 1 0 (by decide) (by decide)] at e
        simpa only [Nat.add_zero, Nat.zero_add] using e }

end Cert.OutProj

end
-- ==== Proof.OutProj.Agree.lean ====
/- The claim: under the precondition the result the kernel ends with is the reference's of the same arguments. -/
module

public import proofs.«01_k».proof.Proof.OutProj.PointsAt
public import proofs.«01_k».proof.Proof.OutProj.RefOut
public import proofs.«01_k».proof.Proof.OutProj.Tables

@[expose] public section

noncomputable section

namespace Cert.Kernel3Ideal.OutProj

open Cert.Kernel3Ideal Cert.Kernel3Ideal.Gen Cert.Reference3Ideal.Read Cert.InProj Cert.OutProj Idealize.ShloMosaic Idealize.ShloMosaic.TcCoe

variable (m : (ℓ : Loc nD τ sig) → Buf (Elt Ideal) ℓ) (c : Dev nD)

/-- The result is the reference's of the same arguments, where the tables are position tables. -/
theorem result_agrees (hT : PositionTables (spectral m c) (cosines m c) (sines m c)) :
    Value.G15 m c = val_main_v39 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9))
      (m ((c : Thread nD τ).loc main_arg10)) (m ((c : Thread nD τ).loc main_arg11)) (m ((c : Thread nD τ).loc main_arg12)) :=
  arrays_ext fun b s e => (result_final m c hT b s e).trans (Cert.Reference3Ideal.OutProj.v39_at _ _ _ _ _ _ _ _ _ _ _ _ _ b s e).symm

end Cert.Kernel3Ideal.OutProj

end
-- ==== Proof.lean ====
/- The certificate, of three kernels: the attention with its convolution, the input projection, and the output projection
   with the last norm. Each runs and leaves its arguments, and so do its idealization and its reference; the constants the
   idealization names read as stated; and the idealized kernel's results are the reference's. The modules under Proof/Attn,
   Proof/InProj and Proof/OutProj hold the argument; here the claims are put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite_scores
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Pre_position_tables
public import proofs.«01_k».proof.Proof.Attn.Agree
public import proofs.«01_k».proof.Proof.InProj.Agree
public import proofs.«01_k».proof.Proof.OutProj.Agree
public import Idealize.ShloMosaic.Adequacy
public import Idealize.ShloMosaic.Lib.Claim
public import Idealize.ShloMosaic.Lib.Quiescent
public import Idealize.ShloMosaic.Init

@[expose] public section

noncomputable section

namespace Cert.Proof

open Idealize.ShloMosaic Idealize.SL.Sem

/-- The reference runs, leaves its arguments and, declaring no semaphore, ends with every counter at zero. -/
theorem reference_frame : Cert.quiescent_ReferenceIdeal := fun m g _ =>
  θ_run_mono (Cert.ReferenceIdeal.Value.run (F := Ideal) m g) fun r h =>
    ⟨fun c => (h c).2.2, sem_eq_zero_of_no_sems (by decide) r.2⟩

/-- The two named constants read as what the idealization says: the mask's value as `⊥`, `log2 e` as `(log 2)⁻¹`. -/
theorem constants : Cert.preserves_Kernel_KernelIdeal :=
  ⟨IdealRules.named_const.statement Cert.KernelIdeal.κ "mask" .f32 0xF149F2CA#32 ⊥ rfl,
   IdealRules.named_const.statement Cert.KernelIdeal.κ "log2e" .f32 0x3FB8AA3B#32 (((Real.log 2)⁻¹ : ℝ) : EReal) rfl⟩

/-- From equal arguments with finite scores, the kernel and the reference leave equal attention and convolution. -/
theorem agrees : Cert.algebraic_KernelIdeal_ReferenceIdeal_pre_finite_scores := by
  intro m g m' g' hpre hagree
  refine ⟨Cert.KernelIdeal.Value.G13 m, Cert.KernelIdeal.Value.G14 m, Cert.KernelIdeal.Value.run m g,
    θ_run_mono (Cert.ReferenceIdeal.Value.run (F := Ideal) m' g') fun r h c => ?_⟩
  obtain ⟨e0, e1, e2, e3, e4, e5, e6, e7, e8, e9, e10, e11⟩ := hagree c
  refine ⟨?_, ?_, (h c).2.2⟩
  · rw [Cert.KernelIdeal.Attn.att_agrees m c hpre, ← e0, ← e1, ← e2, ← e3, ← e4, ← e5, ← e6]
    exact (h c).1.trans (Cert.ReferenceIdeal.Read.val_main_v298_eq _)
  · rw [Cert.KernelIdeal.Attn.conv_agrees m c, ← e7, ← e8, ← e9, ← e10, ← e11]
    exact (h c).2.1.trans (Cert.ReferenceIdeal.Read.val_main_v300_eq _)

/-! ## The input projection -/

/-- The projection's reference runs, leaves its arguments and ends with every counter at zero. -/
theorem reference2_frame : Cert.quiescent_Reference2Ideal := fun m g _ =>
  θ_run_mono (Cert.Reference2Ideal.Value.run (F := Ideal) m g) fun r h =>
    ⟨fun c => (h c).2.2.2.2.2.2, sem_eq_zero_of_no_sems (by decide) r.2⟩

/-- From equal arguments, the projection and its reference leave equal queries, gates, transform and convolution input. -/
theorem agrees2 : Cert.algebraic_Kernel2Ideal_Reference2Ideal := by
  intro m g m' g' _ hagree
  refine ⟨Cert.Kernel2Ideal.Value.G7 m, Cert.Kernel2Ideal.Value.G10 m, Cert.Kernel2Ideal.Value.G11 m, Cert.Kernel2Ideal.Value.G12 m,
    Cert.Kernel2Ideal.Value.G13 m, Cert.Kernel2Ideal.Value.G14 m,
    θ_run_mono (Cert.Kernel2Ideal.Value.run m g) fun r h c =>
      ⟨(h c).1, (h c).2.2.2.1, (h c).2.2.2.2.1, (h c).2.2.2.2.2.1, (h c).2.2.2.2.2.2.1, (h c).2.2.2.2.2.2.2⟩,
    θ_run_mono (Cert.Reference2Ideal.Value.run (F := Ideal) m' g') fun r h c => ?_⟩
  obtain ⟨e0, e1, e2, e3, e4, e5, e6⟩ := hagree c
  obtain ⟨h0, h1, h2, h3, h4, h5, ha⟩ := h c
  refine ⟨?_, ?_, ?_, ?_, ?_, ?_, ha⟩
  · rw [Cert.Kernel2Ideal.InProj.query_agrees m c, ← e0, ← e1, ← e2, ← e3, ← e4, ← e5]
    exact h0.trans (Cert.Reference2Ideal.Read.val_main_v82_eq _ _)
  · rw [Cert.Kernel2Ideal.InProj.gatt_agrees m c, ← e0, ← e1, ← e2, ← e3]
    exact h1.trans (Cert.Reference2Ideal.Read.val_main_v83_eq _ _ _ _)
  · rw [Cert.Kernel2Ideal.InProj.gcv_agrees m c, ← e0, ← e1, ← e2, ← e3]
    exact h2.trans (Cert.Reference2Ideal.Read.val_main_v84_eq _ _ _ _)
  · rw [Cert.Kernel2Ideal.InProj.ab_agrees m c, ← e0, ← e1, ← e2, ← e3, ← e6]
    exact h3.trans (Cert.Reference2Ideal.Read.val_main_v85_eq _ _ _ _ _)
  · rw [Cert.Kernel2Ideal.InProj.gf_agrees m c, ← e0, ← e1, ← e2, ← e3]
    exact h4.trans (Cert.Reference2Ideal.Read.val_main_v86_eq _ _ _ _)
  · rw [Cert.Kernel2Ideal.InProj.uc_agrees m c, ← e0, ← e1, ← e2, ← e3]
    exact h5.trans (Cert.Reference2Ideal.Read.val_main_v87_eq _ _ _ _)

/-! ## The output projection -/

/-- The output projection's reference runs, leaves its arguments and ends with every counter at zero. -/
theorem reference3_frame : Cert.quiescent_Reference3Ideal := fun m g _ =>
  θ_run_mono (Cert.Reference3Ideal.Value.run (F := Ideal) m g) fun r h =>
    ⟨fun c => (h c).2, sem_eq_zero_of_no_sems (by decide) r.2⟩

/-- From equal arguments with the tables of a transform over the positions, the output projection and its reference leave
    equal results. -/
theorem agrees3 : Cert.algebraic_Kernel3Ideal_Reference3Ideal_pre_position_tables := by
  intro m g m' g' hpre hagree
  refine ⟨Cert.Kernel3Ideal.Value.G15 m, Cert.Kernel3Ideal.Value.run m g,
    θ_run_mono (Cert.Reference3Ideal.Value.run (F := Ideal) m' g') fun r h c => ?_⟩
  obtain ⟨e0, e1, e2, e3, e4, e5, e6, e7, e8, e9, e10, e11, e12⟩ := hagree c
  refine ⟨?_, (h c).2⟩
  have hT := Cert.OutProj.tables_of_pre _ _ _ _ _ _ _ _ _ _ _ _ _ (hpre c)
  rw [Cert.Kernel3Ideal.OutProj.result_agrees m c hT, ← e0, ← e1, ← e2, ← e3, ← e4, ← e5, ← e6, ← e7, ← e8, ← e9, ← e10, ← e11, ← e12]
  exact (h c).1.trans (Cert.Reference3Ideal.Read.val_main_v39_eq _ _)

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
   Cert.Reference2Ideal.Gen.facts, Cert.Kernel3.Gen.facts, Cert.Kernel3Ideal.Gen.facts, Cert.Reference3Ideal.Gen.facts,
   Cert.Pre_finite_scores.Gen.facts, Cert.Pre_position_tables.Gen.facts,
   fun m g _ => Cert.Kernel.Gen.frame m g,
   fun m g _ => Cert.KernelIdeal.Gen.frame m g,
   fun m g _ => Cert.KernelIdeal.Gen.frame m g,
   reference_frame,
   fun m g _ => reference_frame m g trivial,
   fun m g _ => Cert.Kernel2.Gen.frame m g,
   fun m g _ => Cert.Kernel2Ideal.Gen.frame m g,
   reference2_frame,
   fun m g _ => Cert.Kernel3.Gen.frame m g,
   fun m g _ => Cert.Kernel3Ideal.Gen.frame m g,
   fun m g _ => Cert.Kernel3Ideal.Gen.frame m g,
   reference3_frame,
   fun m g _ => reference3_frame m g trivial,
   constants,
   agrees,
   trivial,
   agrees2,
   trivial,
   agrees3⟩

end Cert.Proof

end
